-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))) = (fun _ => 1#1)

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_mem_finite [hPre_mem_finite : Cert.Pre_mem_finite.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_mem_finite.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_mem_finite [hPre_mem_finite : Cert.Pre_mem_finite.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_mem_finite.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1))) = (fun _ => 1#1)

def Pre_MemSample (m : (ℓ : Loc Cert.MemSample.nD Cert.MemSample.τ Cert.MemSample.sig) → Buf (Elt Bits) ℓ) : Prop :=
  True

def Pre_MemSampleIdeal (m : (ℓ : Loc Cert.MemSampleIdeal.nD Cert.MemSampleIdeal.τ Cert.MemSampleIdeal.sig) → Buf (Elt Ideal) ℓ) : Prop :=
  True

def Pre_MemSampleIdeal_mem_sample_finite [hPre_mem_sample_finite : Cert.Pre_mem_sample_finite.Facts] (m : (ℓ : Loc Cert.MemSampleIdeal.nD Cert.MemSampleIdeal.τ Cert.MemSampleIdeal.sig) → Buf (Elt Ideal) ℓ) : Prop :=
  ∀ c : Dev Cert.MemSampleIdeal.nD,
    (Cert.Pre_mem_sample_finite.fn (F := Ideal) (m ((c.tc : Thread Cert.MemSampleIdeal.nD Cert.MemSampleIdeal.τ).loc Cert.MemSampleIdeal.main_arg0)) (m ((c.tc : Thread Cert.MemSampleIdeal.nD Cert.MemSampleIdeal.τ).loc Cert.MemSampleIdeal.main_arg1)) (m ((c.tc : Thread Cert.MemSampleIdeal.nD Cert.MemSampleIdeal.τ).loc Cert.MemSampleIdeal.main_arg2))) = (fun _ => 1#1)

def Pre_MemSampleRefIdeal (m : (ℓ : Loc Cert.MemSampleRefIdeal.nD Cert.MemSampleRefIdeal.τ Cert.MemSampleRefIdeal.sig) → Buf (Elt Ideal) ℓ) : Prop :=
  True

def Pre_MemSampleRefIdeal_mem_sample_finite [hPre_mem_sample_finite : Cert.Pre_mem_sample_finite.Facts] (m : (ℓ : Loc Cert.MemSampleRefIdeal.nD Cert.MemSampleRefIdeal.τ Cert.MemSampleRefIdeal.sig) → Buf (Elt Ideal) ℓ) : Prop :=
  ∀ c : Dev Cert.MemSampleRefIdeal.nD,
    (Cert.Pre_mem_sample_finite.fn (F := Ideal) (m ((c.tc : Thread Cert.MemSampleRefIdeal.nD Cert.MemSampleRefIdeal.τ).loc Cert.MemSampleRefIdeal.main_arg0)) (m ((c.tc : Thread Cert.MemSampleRefIdeal.nD Cert.MemSampleRefIdeal.τ).loc Cert.MemSampleRefIdeal.main_arg1)) (m ((c.tc : Thread Cert.MemSampleRefIdeal.nD Cert.MemSampleRefIdeal.τ).loc Cert.MemSampleRefIdeal.main_arg2))) = (fun _ => 1#1)

def Pre_BandSample (m : (ℓ : Loc Cert.BandSample.nD Cert.BandSample.τ Cert.BandSample.sig) → Buf (Elt Bits) ℓ) : Prop :=
  True

def Pre_BandSampleIdeal (m : (ℓ : Loc Cert.BandSampleIdeal.nD Cert.BandSampleIdeal.τ Cert.BandSampleIdeal.sig) → Buf (Elt Ideal) ℓ) : Prop :=
  True

def Pre_BandSampleIdeal_band_sample_finite [hPre_band_sample_finite : Cert.Pre_band_sample_finite.Facts] (m : (ℓ : Loc Cert.BandSampleIdeal.nD Cert.BandSampleIdeal.τ Cert.BandSampleIdeal.sig) → Buf (Elt Ideal) ℓ) : Prop :=
  ∀ c : Dev Cert.BandSampleIdeal.nD,
    (Cert.Pre_band_sample_finite.fn (F := Ideal) (m ((c.tc : Thread Cert.BandSampleIdeal.nD Cert.BandSampleIdeal.τ).loc Cert.BandSampleIdeal.main_arg0)) (m ((c.tc : Thread Cert.BandSampleIdeal.nD Cert.BandSampleIdeal.τ).loc Cert.BandSampleIdeal.main_arg1)) (m ((c.tc : Thread Cert.BandSampleIdeal.nD Cert.BandSampleIdeal.τ).loc Cert.BandSampleIdeal.main_arg2)) (m ((c.tc : Thread Cert.BandSampleIdeal.nD Cert.BandSampleIdeal.τ).loc Cert.BandSampleIdeal.main_arg3))) = (fun _ => 1#1)

def Pre_BandSampleRefIdeal (m : (ℓ : Loc Cert.BandSampleRefIdeal.nD Cert.BandSampleRefIdeal.τ Cert.BandSampleRefIdeal.sig) → Buf (Elt Ideal) ℓ) : Prop :=
  True

def Pre_BandSampleRefIdeal_band_sample_finite [hPre_band_sample_finite : Cert.Pre_band_sample_finite.Facts] (m : (ℓ : Loc Cert.BandSampleRefIdeal.nD Cert.BandSampleRefIdeal.τ Cert.BandSampleRefIdeal.sig) → Buf (Elt Ideal) ℓ) : Prop :=
  ∀ c : Dev Cert.BandSampleRefIdeal.nD,
    (Cert.Pre_band_sample_finite.fn (F := Ideal) (m ((c.tc : Thread Cert.BandSampleRefIdeal.nD Cert.BandSampleRefIdeal.τ).loc Cert.BandSampleRefIdeal.main_arg0)) (m ((c.tc : Thread Cert.BandSampleRefIdeal.nD Cert.BandSampleRefIdeal.τ).loc Cert.BandSampleRefIdeal.main_arg1)) (m ((c.tc : Thread Cert.BandSampleRefIdeal.nD Cert.BandSampleRefIdeal.τ).loc Cert.BandSampleRefIdeal.main_arg2)) (m ((c.tc : Thread Cert.BandSampleRefIdeal.nD Cert.BandSampleRefIdeal.τ).loc Cert.BandSampleRefIdeal.main_arg3))) = (fun _ => 1#1)

def Pre_KvProduct (m : (ℓ : Loc Cert.KvProduct.nD Cert.KvProduct.τ Cert.KvProduct.sig) → Buf (Elt Bits) ℓ) : Prop :=
  True

def Pre_KvProductIdeal (m : (ℓ : Loc Cert.KvProductIdeal.nD Cert.KvProductIdeal.τ Cert.KvProductIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_InAProduct (m : (ℓ : Loc Cert.InAProduct.nD Cert.InAProduct.τ Cert.InAProduct.sig) → Buf (Elt Bits) ℓ) : Prop :=
  True

def Pre_InAProductIdeal (m : (ℓ : Loc Cert.InAProductIdeal.nD Cert.InAProductIdeal.τ Cert.InAProductIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InBProduct (m : (ℓ : Loc Cert.InBProduct.nD Cert.InBProduct.τ Cert.InBProduct.sig) → Buf (Elt Bits) ℓ) : Prop :=
  True

def Pre_InBProductIdeal (m : (ℓ : Loc Cert.InBProductIdeal.nD Cert.InBProductIdeal.τ Cert.InBProductIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_QueryProduct (m : (ℓ : Loc Cert.QueryProduct.nD Cert.QueryProduct.τ Cert.QueryProduct.sig) → Buf (Elt Bits) ℓ) : Prop :=
  True

def Pre_QueryProductIdeal (m : (ℓ : Loc Cert.QueryProductIdeal.nD Cert.QueryProductIdeal.τ Cert.QueryProductIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_InASample (m : (ℓ : Loc Cert.InASample.nD Cert.InASample.τ Cert.InASample.sig) → Buf (Elt Bits) ℓ) : Prop :=
  True

def Pre_InASampleIdeal (m : (ℓ : Loc Cert.InASampleIdeal.nD Cert.InASampleIdeal.τ Cert.InASampleIdeal.sig) → Buf (Elt Ideal) ℓ) : Prop :=
  True

def Pre_InASampleRefIdeal (m : (ℓ : Loc Cert.InASampleRefIdeal.nD Cert.InASampleRefIdeal.τ Cert.InASampleRefIdeal.sig) → Buf (Elt Ideal) ℓ) : Prop :=
  True

def Pre_InBSample (m : (ℓ : Loc Cert.InBSample.nD Cert.InBSample.τ Cert.InBSample.sig) → Buf (Elt Bits) ℓ) : Prop :=
  True

def Pre_InBSampleIdeal (m : (ℓ : Loc Cert.InBSampleIdeal.nD Cert.InBSampleIdeal.τ Cert.InBSampleIdeal.sig) → Buf (Elt Ideal) ℓ) : Prop :=
  True

def Pre_InBSampleRefIdeal (m : (ℓ : Loc Cert.InBSampleRefIdeal.nD Cert.InBSampleRefIdeal.τ Cert.InBSampleRefIdeal.sig) → Buf (Elt Ideal) ℓ) : Prop :=
  True

def Pre_QuerySample (m : (ℓ : Loc Cert.QuerySample.nD Cert.QuerySample.τ Cert.QuerySample.sig) → Buf (Elt Bits) ℓ) : Prop :=
  True

def Pre_QuerySampleIdeal (m : (ℓ : Loc Cert.QuerySampleIdeal.nD Cert.QuerySampleIdeal.τ Cert.QuerySampleIdeal.sig) → Buf (Elt Ideal) ℓ) : Prop :=
  True

def Pre_QuerySampleRefIdeal (m : (ℓ : Loc Cert.QuerySampleRefIdeal.nD Cert.QuerySampleRefIdeal.τ Cert.QuerySampleRefIdeal.sig) → Buf (Elt Ideal) ℓ) : Prop :=
  True

def Pre_InBWeight (m : (ℓ : Loc Cert.InBWeight.nD Cert.InBWeight.τ Cert.InBWeight.sig) → Buf (Elt Bits) ℓ) : Prop :=
  True

def Pre_InBWeightIdeal (m : (ℓ : Loc Cert.InBWeightIdeal.nD Cert.InBWeightIdeal.τ Cert.InBWeightIdeal.sig) → Buf (Elt Ideal) ℓ) : Prop :=
  True

def Pre_InBWeightRefIdeal (m : (ℓ : Loc Cert.InBWeightRefIdeal.nD Cert.InBWeightRefIdeal.τ Cert.InBWeightRefIdeal.sig) → Buf (Elt Ideal) ℓ) : Prop :=
  True

def Pre_KvWeightFirst (m : (ℓ : Loc Cert.KvWeightFirst.nD Cert.KvWeightFirst.τ Cert.KvWeightFirst.sig) → Buf (Elt Bits) ℓ) : Prop :=
  True

def Pre_KvWeightFirstIdeal (m : (ℓ : Loc Cert.KvWeightFirstIdeal.nD Cert.KvWeightFirstIdeal.τ Cert.KvWeightFirstIdeal.sig) → Buf (Elt Ideal) ℓ) : Prop :=
  True

def Pre_KvWeightFirstRefIdeal (m : (ℓ : Loc Cert.KvWeightFirstRefIdeal.nD Cert.KvWeightFirstRefIdeal.τ Cert.KvWeightFirstRefIdeal.sig) → Buf (Elt Ideal) ℓ) : Prop :=
  True

def Pre_KvWeightSecond (m : (ℓ : Loc Cert.KvWeightSecond.nD Cert.KvWeightSecond.τ Cert.KvWeightSecond.sig) → Buf (Elt Bits) ℓ) : Prop :=
  True

def Pre_KvWeightSecondIdeal (m : (ℓ : Loc Cert.KvWeightSecondIdeal.nD Cert.KvWeightSecondIdeal.τ Cert.KvWeightSecondIdeal.sig) → Buf (Elt Ideal) ℓ) : Prop :=
  True

def Pre_KvWeightSecondRefIdeal (m : (ℓ : Loc Cert.KvWeightSecondRefIdeal.nD Cert.KvWeightSecondRefIdeal.τ Cert.KvWeightSecondRefIdeal.sig) → Buf (Elt Ideal) ℓ) : Prop :=
  True

def Pre_InAWeight (m : (ℓ : Loc Cert.InAWeight.nD Cert.InAWeight.τ Cert.InAWeight.sig) → Buf (Elt Bits) ℓ) : Prop :=
  True

def Pre_InAWeightIdeal (m : (ℓ : Loc Cert.InAWeightIdeal.nD Cert.InAWeightIdeal.τ Cert.InAWeightIdeal.sig) → Buf (Elt Ideal) ℓ) : Prop :=
  True

def Pre_InAWeightRefIdeal (m : (ℓ : Loc Cert.InAWeightRefIdeal.nD Cert.InAWeightRefIdeal.τ Cert.InAWeightRefIdeal.sig) → Buf (Elt Ideal) ℓ) : Prop :=
  True

def Pre_SguSample (m : (ℓ : Loc Cert.SguSample.nD Cert.SguSample.τ Cert.SguSample.sig) → Buf (Elt Bits) ℓ) : Prop :=
  True

def Pre_SguSampleIdeal (m : (ℓ : Loc Cert.SguSampleIdeal.nD Cert.SguSampleIdeal.τ Cert.SguSampleIdeal.sig) → Buf (Elt Ideal) ℓ) : Prop :=
  True

def Pre_SguSampleRefIdeal (m : (ℓ : Loc Cert.SguSampleRefIdeal.nD Cert.SguSampleRefIdeal.τ Cert.SguSampleRefIdeal.sig) → Buf (Elt Ideal) ℓ) : Prop :=
  True

def Pre_SguPrompt (m : (ℓ : Loc Cert.SguPrompt.nD Cert.SguPrompt.τ Cert.SguPrompt.sig) → Buf (Elt Bits) ℓ) : Prop :=
  True

def Pre_SguPromptIdeal (m : (ℓ : Loc Cert.SguPromptIdeal.nD Cert.SguPromptIdeal.τ Cert.SguPromptIdeal.sig) → Buf (Elt Ideal) ℓ) : Prop :=
  True

def Pre_SguPromptRefIdeal (m : (ℓ : Loc Cert.SguPromptRefIdeal.nD Cert.SguPromptRefIdeal.τ Cert.SguPromptRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnIdeal_pre_mem_finite [hMemAttnIdeal : Cert.MemAttnIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_mem_finite m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MemAttnRefIdeal_pre_mem_finite [hMemAttnRefIdeal : Cert.MemAttnRefIdeal.Facts] [hPre_mem_finite : Cert.Pre_mem_finite.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_mem_finite m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_MemSample [hMemSample : Cert.MemSample.Facts] : Prop :=
  ∀ (m : (ℓ : Loc Cert.MemSample.nD Cert.MemSample.τ Cert.MemSample.sig) → Buf (Elt Bits) ℓ) (g : Dev Cert.MemSample.nD → PrngReg), Pre_MemSample m →
    θ_run (Cert.MemSample.defs (F := Bits)) (onTc (τ := Cert.MemSample.τ) (Cert.MemSample.main (F := Bits))) ⟨m, fun _ => 0, g⟩ (fun r => (∀ c : Dev Cert.MemSample.nD,
      r.2.mem ((c.tc : Thread Cert.MemSample.nD Cert.MemSample.τ).loc Cert.MemSample.main_arg0) = m ((c.tc : Thread Cert.MemSample.nD Cert.MemSample.τ).loc Cert.MemSample.main_arg0)
      ∧ r.2.mem ((c.tc : Thread Cert.MemSample.nD Cert.MemSample.τ).loc Cert.MemSample.main_arg1) = m ((c.tc : Thread Cert.MemSample.nD Cert.MemSample.τ).loc Cert.MemSample.main_arg1)
      ∧ r.2.mem ((c.tc : Thread Cert.MemSample.nD Cert.MemSample.τ).loc Cert.MemSample.main_arg2) = m ((c.tc : Thread Cert.MemSample.nD Cert.MemSample.τ).loc Cert.MemSample.main_arg2))
      ∧ r.2.sem = fun _ => 0)

def quiescent_MemSampleIdeal [hMemSampleIdeal : Cert.MemSampleIdeal.Facts] : Prop :=
  ∀ (m : (ℓ : Loc Cert.MemSampleIdeal.nD Cert.MemSampleIdeal.τ Cert.MemSampleIdeal.sig) → Buf (Elt Ideal) ℓ) (g : Dev Cert.MemSampleIdeal.nD → PrngReg), Pre_MemSampleIdeal m →
    θ_run (Cert.MemSampleIdeal.defs (F := Ideal)) (onTc (τ := Cert.MemSampleIdeal.τ) (Cert.MemSampleIdeal.main (F := Ideal))) ⟨m, fun _ => 0, g⟩ (fun r => (∀ c : Dev Cert.MemSampleIdeal.nD,
      r.2.mem ((c.tc : Thread Cert.MemSampleIdeal.nD Cert.MemSampleIdeal.τ).loc Cert.MemSampleIdeal.main_arg0) = m ((c.tc : Thread Cert.MemSampleIdeal.nD Cert.MemSampleIdeal.τ).loc Cert.MemSampleIdeal.main_arg0)
      ∧ r.2.mem ((c.tc : Thread Cert.MemSampleIdeal.nD Cert.MemSampleIdeal.τ).loc Cert.MemSampleIdeal.main_arg1) = m ((c.tc : Thread Cert.MemSampleIdeal.nD Cert.MemSampleIdeal.τ).loc Cert.MemSampleIdeal.main_arg1)
      ∧ r.2.mem ((c.tc : Thread Cert.MemSampleIdeal.nD Cert.MemSampleIdeal.τ).loc Cert.MemSampleIdeal.main_arg2) = m ((c.tc : Thread Cert.MemSampleIdeal.nD Cert.MemSampleIdeal.τ).loc Cert.MemSampleIdeal.main_arg2))
      ∧ r.2.sem = fun _ => 0)

def quiescent_MemSampleIdeal_pre_mem_sample_finite [hMemSampleIdeal : Cert.MemSampleIdeal.Facts] [hPre_mem_sample_finite : Cert.Pre_mem_sample_finite.Facts] : Prop :=
  ∀ (m : (ℓ : Loc Cert.MemSampleIdeal.nD Cert.MemSampleIdeal.τ Cert.MemSampleIdeal.sig) → Buf (Elt Ideal) ℓ) (g : Dev Cert.MemSampleIdeal.nD → PrngReg), Pre_MemSampleIdeal_mem_sample_finite m →
    θ_run (Cert.MemSampleIdeal.defs (F := Ideal)) (onTc (τ := Cert.MemSampleIdeal.τ) (Cert.MemSampleIdeal.main (F := Ideal))) ⟨m, fun _ => 0, g⟩ (fun r => (∀ c : Dev Cert.MemSampleIdeal.nD,
      r.2.mem ((c.tc : Thread Cert.MemSampleIdeal.nD Cert.MemSampleIdeal.τ).loc Cert.MemSampleIdeal.main_arg0) = m ((c.tc : Thread Cert.MemSampleIdeal.nD Cert.MemSampleIdeal.τ).loc Cert.MemSampleIdeal.main_arg0)
      ∧ r.2.mem ((c.tc : Thread Cert.MemSampleIdeal.nD Cert.MemSampleIdeal.τ).loc Cert.MemSampleIdeal.main_arg1) = m ((c.tc : Thread Cert.MemSampleIdeal.nD Cert.MemSampleIdeal.τ).loc Cert.MemSampleIdeal.main_arg1)
      ∧ r.2.mem ((c.tc : Thread Cert.MemSampleIdeal.nD Cert.MemSampleIdeal.τ).loc Cert.MemSampleIdeal.main_arg2) = m ((c.tc : Thread Cert.MemSampleIdeal.nD Cert.MemSampleIdeal.τ).loc Cert.MemSampleIdeal.main_arg2))
      ∧ r.2.sem = fun _ => 0)

def quiescent_MemSampleRefIdeal [hMemSampleRefIdeal : Cert.MemSampleRefIdeal.Facts] : Prop :=
  ∀ (m : (ℓ : Loc Cert.MemSampleRefIdeal.nD Cert.MemSampleRefIdeal.τ Cert.MemSampleRefIdeal.sig) → Buf (Elt Ideal) ℓ) (g : Dev Cert.MemSampleRefIdeal.nD → PrngReg), Pre_MemSampleRefIdeal m →
    θ_run (Cert.MemSampleRefIdeal.defs (F := Ideal)) (onTc (τ := Cert.MemSampleRefIdeal.τ) (Cert.MemSampleRefIdeal.main (F := Ideal))) ⟨m, fun _ => 0, g⟩ (fun r => (∀ c : Dev Cert.MemSampleRefIdeal.nD,
      r.2.mem ((c.tc : Thread Cert.MemSampleRefIdeal.nD Cert.MemSampleRefIdeal.τ).loc Cert.MemSampleRefIdeal.main_arg0) = m ((c.tc : Thread Cert.MemSampleRefIdeal.nD Cert.MemSampleRefIdeal.τ).loc Cert.MemSampleRefIdeal.main_arg0)
      ∧ r.2.mem ((c.tc : Thread Cert.MemSampleRefIdeal.nD Cert.MemSampleRefIdeal.τ).loc Cert.MemSampleRefIdeal.main_arg1) = m ((c.tc : Thread Cert.MemSampleRefIdeal.nD Cert.MemSampleRefIdeal.τ).loc Cert.MemSampleRefIdeal.main_arg1)
      ∧ r.2.mem ((c.tc : Thread Cert.MemSampleRefIdeal.nD Cert.MemSampleRefIdeal.τ).loc Cert.MemSampleRefIdeal.main_arg2) = m ((c.tc : Thread Cert.MemSampleRefIdeal.nD Cert.MemSampleRefIdeal.τ).loc Cert.MemSampleRefIdeal.main_arg2))
      ∧ r.2.sem = fun _ => 0)

def quiescent_MemSampleRefIdeal_pre_mem_sample_finite [hMemSampleRefIdeal : Cert.MemSampleRefIdeal.Facts] [hPre_mem_sample_finite : Cert.Pre_mem_sample_finite.Facts] : Prop :=
  ∀ (m : (ℓ : Loc Cert.MemSampleRefIdeal.nD Cert.MemSampleRefIdeal.τ Cert.MemSampleRefIdeal.sig) → Buf (Elt Ideal) ℓ) (g : Dev Cert.MemSampleRefIdeal.nD → PrngReg), Pre_MemSampleRefIdeal_mem_sample_finite m →
    θ_run (Cert.MemSampleRefIdeal.defs (F := Ideal)) (onTc (τ := Cert.MemSampleRefIdeal.τ) (Cert.MemSampleRefIdeal.main (F := Ideal))) ⟨m, fun _ => 0, g⟩ (fun r => (∀ c : Dev Cert.MemSampleRefIdeal.nD,
      r.2.mem ((c.tc : Thread Cert.MemSampleRefIdeal.nD Cert.MemSampleRefIdeal.τ).loc Cert.MemSampleRefIdeal.main_arg0) = m ((c.tc : Thread Cert.MemSampleRefIdeal.nD Cert.MemSampleRefIdeal.τ).loc Cert.MemSampleRefIdeal.main_arg0)
      ∧ r.2.mem ((c.tc : Thread Cert.MemSampleRefIdeal.nD Cert.MemSampleRefIdeal.τ).loc Cert.MemSampleRefIdeal.main_arg1) = m ((c.tc : Thread Cert.MemSampleRefIdeal.nD Cert.MemSampleRefIdeal.τ).loc Cert.MemSampleRefIdeal.main_arg1)
      ∧ r.2.mem ((c.tc : Thread Cert.MemSampleRefIdeal.nD Cert.MemSampleRefIdeal.τ).loc Cert.MemSampleRefIdeal.main_arg2) = m ((c.tc : Thread Cert.MemSampleRefIdeal.nD Cert.MemSampleRefIdeal.τ).loc Cert.MemSampleRefIdeal.main_arg2))
      ∧ r.2.sem = fun _ => 0)

def quiescent_BandSample [hBandSample : Cert.BandSample.Facts] : Prop :=
  ∀ (m : (ℓ : Loc Cert.BandSample.nD Cert.BandSample.τ Cert.BandSample.sig) → Buf (Elt Bits) ℓ) (g : Dev Cert.BandSample.nD → PrngReg), Pre_BandSample m →
    θ_run (Cert.BandSample.defs (F := Bits)) (onTc (τ := Cert.BandSample.τ) (Cert.BandSample.main (F := Bits))) ⟨m, fun _ => 0, g⟩ (fun r => (∀ c : Dev Cert.BandSample.nD,
      r.2.mem ((c.tc : Thread Cert.BandSample.nD Cert.BandSample.τ).loc Cert.BandSample.main_arg0) = m ((c.tc : Thread Cert.BandSample.nD Cert.BandSample.τ).loc Cert.BandSample.main_arg0)
      ∧ r.2.mem ((c.tc : Thread Cert.BandSample.nD Cert.BandSample.τ).loc Cert.BandSample.main_arg1) = m ((c.tc : Thread Cert.BandSample.nD Cert.BandSample.τ).loc Cert.BandSample.main_arg1)
      ∧ r.2.mem ((c.tc : Thread Cert.BandSample.nD Cert.BandSample.τ).loc Cert.BandSample.main_arg2) = m ((c.tc : Thread Cert.BandSample.nD Cert.BandSample.τ).loc Cert.BandSample.main_arg2)
      ∧ r.2.mem ((c.tc : Thread Cert.BandSample.nD Cert.BandSample.τ).loc Cert.BandSample.main_arg3) = m ((c.tc : Thread Cert.BandSample.nD Cert.BandSample.τ).loc Cert.BandSample.main_arg3))
      ∧ r.2.sem = fun _ => 0)

def quiescent_BandSampleIdeal [hBandSampleIdeal : Cert.BandSampleIdeal.Facts] : Prop :=
  ∀ (m : (ℓ : Loc Cert.BandSampleIdeal.nD Cert.BandSampleIdeal.τ Cert.BandSampleIdeal.sig) → Buf (Elt Ideal) ℓ) (g : Dev Cert.BandSampleIdeal.nD → PrngReg), Pre_BandSampleIdeal m →
    θ_run (Cert.BandSampleIdeal.defs (F := Ideal)) (onTc (τ := Cert.BandSampleIdeal.τ) (Cert.BandSampleIdeal.main (F := Ideal))) ⟨m, fun _ => 0, g⟩ (fun r => (∀ c : Dev Cert.BandSampleIdeal.nD,
      r.2.mem ((c.tc : Thread Cert.BandSampleIdeal.nD Cert.BandSampleIdeal.τ).loc Cert.BandSampleIdeal.main_arg0) = m ((c.tc : Thread Cert.BandSampleIdeal.nD Cert.BandSampleIdeal.τ).loc Cert.BandSampleIdeal.main_arg0)
      ∧ r.2.mem ((c.tc : Thread Cert.BandSampleIdeal.nD Cert.BandSampleIdeal.τ).loc Cert.BandSampleIdeal.main_arg1) = m ((c.tc : Thread Cert.BandSampleIdeal.nD Cert.BandSampleIdeal.τ).loc Cert.BandSampleIdeal.main_arg1)
      ∧ r.2.mem ((c.tc : Thread Cert.BandSampleIdeal.nD Cert.BandSampleIdeal.τ).loc Cert.BandSampleIdeal.main_arg2) = m ((c.tc : Thread Cert.BandSampleIdeal.nD Cert.BandSampleIdeal.τ).loc Cert.BandSampleIdeal.main_arg2)
      ∧ r.2.mem ((c.tc : Thread Cert.BandSampleIdeal.nD Cert.BandSampleIdeal.τ).loc Cert.BandSampleIdeal.main_arg3) = m ((c.tc : Thread Cert.BandSampleIdeal.nD Cert.BandSampleIdeal.τ).loc Cert.BandSampleIdeal.main_arg3))
      ∧ r.2.sem = fun _ => 0)

def quiescent_BandSampleIdeal_pre_band_sample_finite [hBandSampleIdeal : Cert.BandSampleIdeal.Facts] [hPre_band_sample_finite : Cert.Pre_band_sample_finite.Facts] : Prop :=
  ∀ (m : (ℓ : Loc Cert.BandSampleIdeal.nD Cert.BandSampleIdeal.τ Cert.BandSampleIdeal.sig) → Buf (Elt Ideal) ℓ) (g : Dev Cert.BandSampleIdeal.nD → PrngReg), Pre_BandSampleIdeal_band_sample_finite m →
    θ_run (Cert.BandSampleIdeal.defs (F := Ideal)) (onTc (τ := Cert.BandSampleIdeal.τ) (Cert.BandSampleIdeal.main (F := Ideal))) ⟨m, fun _ => 0, g⟩ (fun r => (∀ c : Dev Cert.BandSampleIdeal.nD,
      r.2.mem ((c.tc : Thread Cert.BandSampleIdeal.nD Cert.BandSampleIdeal.τ).loc Cert.BandSampleIdeal.main_arg0) = m ((c.tc : Thread Cert.BandSampleIdeal.nD Cert.BandSampleIdeal.τ).loc Cert.BandSampleIdeal.main_arg0)
      ∧ r.2.mem ((c.tc : Thread Cert.BandSampleIdeal.nD Cert.BandSampleIdeal.τ).loc Cert.BandSampleIdeal.main_arg1) = m ((c.tc : Thread Cert.BandSampleIdeal.nD Cert.BandSampleIdeal.τ).loc Cert.BandSampleIdeal.main_arg1)
      ∧ r.2.mem ((c.tc : Thread Cert.BandSampleIdeal.nD Cert.BandSampleIdeal.τ).loc Cert.BandSampleIdeal.main_arg2) = m ((c.tc : Thread Cert.BandSampleIdeal.nD Cert.BandSampleIdeal.τ).loc Cert.BandSampleIdeal.main_arg2)
      ∧ r.2.mem ((c.tc : Thread Cert.BandSampleIdeal.nD Cert.BandSampleIdeal.τ).loc Cert.BandSampleIdeal.main_arg3) = m ((c.tc : Thread Cert.BandSampleIdeal.nD Cert.BandSampleIdeal.τ).loc Cert.BandSampleIdeal.main_arg3))
      ∧ r.2.sem = fun _ => 0)

def quiescent_BandSampleRefIdeal [hBandSampleRefIdeal : Cert.BandSampleRefIdeal.Facts] : Prop :=
  ∀ (m : (ℓ : Loc Cert.BandSampleRefIdeal.nD Cert.BandSampleRefIdeal.τ Cert.BandSampleRefIdeal.sig) → Buf (Elt Ideal) ℓ) (g : Dev Cert.BandSampleRefIdeal.nD → PrngReg), Pre_BandSampleRefIdeal m →
    θ_run (Cert.BandSampleRefIdeal.defs (F := Ideal)) (onTc (τ := Cert.BandSampleRefIdeal.τ) (Cert.BandSampleRefIdeal.main (F := Ideal))) ⟨m, fun _ => 0, g⟩ (fun r => (∀ c : Dev Cert.BandSampleRefIdeal.nD,
      r.2.mem ((c.tc : Thread Cert.BandSampleRefIdeal.nD Cert.BandSampleRefIdeal.τ).loc Cert.BandSampleRefIdeal.main_arg0) = m ((c.tc : Thread Cert.BandSampleRefIdeal.nD Cert.BandSampleRefIdeal.τ).loc Cert.BandSampleRefIdeal.main_arg0)
      ∧ r.2.mem ((c.tc : Thread Cert.BandSampleRefIdeal.nD Cert.BandSampleRefIdeal.τ).loc Cert.BandSampleRefIdeal.main_arg1) = m ((c.tc : Thread Cert.BandSampleRefIdeal.nD Cert.BandSampleRefIdeal.τ).loc Cert.BandSampleRefIdeal.main_arg1)
      ∧ r.2.mem ((c.tc : Thread Cert.BandSampleRefIdeal.nD Cert.BandSampleRefIdeal.τ).loc Cert.BandSampleRefIdeal.main_arg2) = m ((c.tc : Thread Cert.BandSampleRefIdeal.nD Cert.BandSampleRefIdeal.τ).loc Cert.BandSampleRefIdeal.main_arg2)
      ∧ r.2.mem ((c.tc : Thread Cert.BandSampleRefIdeal.nD Cert.BandSampleRefIdeal.τ).loc Cert.BandSampleRefIdeal.main_arg3) = m ((c.tc : Thread Cert.BandSampleRefIdeal.nD Cert.BandSampleRefIdeal.τ).loc Cert.BandSampleRefIdeal.main_arg3))
      ∧ r.2.sem = fun _ => 0)

def quiescent_BandSampleRefIdeal_pre_band_sample_finite [hBandSampleRefIdeal : Cert.BandSampleRefIdeal.Facts] [hPre_band_sample_finite : Cert.Pre_band_sample_finite.Facts] : Prop :=
  ∀ (m : (ℓ : Loc Cert.BandSampleRefIdeal.nD Cert.BandSampleRefIdeal.τ Cert.BandSampleRefIdeal.sig) → Buf (Elt Ideal) ℓ) (g : Dev Cert.BandSampleRefIdeal.nD → PrngReg), Pre_BandSampleRefIdeal_band_sample_finite m →
    θ_run (Cert.BandSampleRefIdeal.defs (F := Ideal)) (onTc (τ := Cert.BandSampleRefIdeal.τ) (Cert.BandSampleRefIdeal.main (F := Ideal))) ⟨m, fun _ => 0, g⟩ (fun r => (∀ c : Dev Cert.BandSampleRefIdeal.nD,
      r.2.mem ((c.tc : Thread Cert.BandSampleRefIdeal.nD Cert.BandSampleRefIdeal.τ).loc Cert.BandSampleRefIdeal.main_arg0) = m ((c.tc : Thread Cert.BandSampleRefIdeal.nD Cert.BandSampleRefIdeal.τ).loc Cert.BandSampleRefIdeal.main_arg0)
      ∧ r.2.mem ((c.tc : Thread Cert.BandSampleRefIdeal.nD Cert.BandSampleRefIdeal.τ).loc Cert.BandSampleRefIdeal.main_arg1) = m ((c.tc : Thread Cert.BandSampleRefIdeal.nD Cert.BandSampleRefIdeal.τ).loc Cert.BandSampleRefIdeal.main_arg1)
      ∧ r.2.mem ((c.tc : Thread Cert.BandSampleRefIdeal.nD Cert.BandSampleRefIdeal.τ).loc Cert.BandSampleRefIdeal.main_arg2) = m ((c.tc : Thread Cert.BandSampleRefIdeal.nD Cert.BandSampleRefIdeal.τ).loc Cert.BandSampleRefIdeal.main_arg2)
      ∧ r.2.mem ((c.tc : Thread Cert.BandSampleRefIdeal.nD Cert.BandSampleRefIdeal.τ).loc Cert.BandSampleRefIdeal.main_arg3) = m ((c.tc : Thread Cert.BandSampleRefIdeal.nD Cert.BandSampleRefIdeal.τ).loc Cert.BandSampleRefIdeal.main_arg3))
      ∧ r.2.sem = fun _ => 0)

def quiescent_KvProduct [hKvProduct : Cert.KvProduct.Facts] : Prop :=
  ∀ (m : (ℓ : Loc Cert.KvProduct.nD Cert.KvProduct.τ Cert.KvProduct.sig) → Buf (Elt Bits) ℓ) (g : Dev Cert.KvProduct.nD → PrngReg), Pre_KvProduct m →
    θ_run (Cert.KvProduct.defs (F := Bits)) (onTc (τ := Cert.KvProduct.τ) (Cert.KvProduct.main (F := Bits))) ⟨m, fun _ => 0, g⟩ (fun r => (∀ c : Dev Cert.KvProduct.nD,
      r.2.mem ((c.tc : Thread Cert.KvProduct.nD Cert.KvProduct.τ).loc Cert.KvProduct.main_arg0) = m ((c.tc : Thread Cert.KvProduct.nD Cert.KvProduct.τ).loc Cert.KvProduct.main_arg0)
      ∧ r.2.mem ((c.tc : Thread Cert.KvProduct.nD Cert.KvProduct.τ).loc Cert.KvProduct.main_arg1) = m ((c.tc : Thread Cert.KvProduct.nD Cert.KvProduct.τ).loc Cert.KvProduct.main_arg1))
      ∧ r.2.sem = fun _ => 0)

def quiescent_KvProductIdeal [hKvProductIdeal : Cert.KvProductIdeal.Facts] : Prop :=
  ∀ (m : (ℓ : Loc Cert.KvProductIdeal.nD Cert.KvProductIdeal.τ Cert.KvProductIdeal.sig) → Buf (Elt Ideal) ℓ) (g : Dev Cert.KvProductIdeal.nD → PrngReg), Pre_KvProductIdeal m →
    θ_run (Cert.KvProductIdeal.defs (F := Ideal)) (onTc (τ := Cert.KvProductIdeal.τ) (Cert.KvProductIdeal.main (F := Ideal))) ⟨m, fun _ => 0, g⟩ (fun r => (∀ c : Dev Cert.KvProductIdeal.nD,
      r.2.mem ((c.tc : Thread Cert.KvProductIdeal.nD Cert.KvProductIdeal.τ).loc Cert.KvProductIdeal.main_arg0) = m ((c.tc : Thread Cert.KvProductIdeal.nD Cert.KvProductIdeal.τ).loc Cert.KvProductIdeal.main_arg0)
      ∧ r.2.mem ((c.tc : Thread Cert.KvProductIdeal.nD Cert.KvProductIdeal.τ).loc Cert.KvProductIdeal.main_arg1) = m ((c.tc : Thread Cert.KvProductIdeal.nD Cert.KvProductIdeal.τ).loc Cert.KvProductIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_InAProduct [hInAProduct : Cert.InAProduct.Facts] : Prop :=
  ∀ (m : (ℓ : Loc Cert.InAProduct.nD Cert.InAProduct.τ Cert.InAProduct.sig) → Buf (Elt Bits) ℓ) (g : Dev Cert.InAProduct.nD → PrngReg), Pre_InAProduct m →
    θ_run (Cert.InAProduct.defs (F := Bits)) (onTc (τ := Cert.InAProduct.τ) (Cert.InAProduct.main (F := Bits))) ⟨m, fun _ => 0, g⟩ (fun r => (∀ c : Dev Cert.InAProduct.nD,
      r.2.mem ((c.tc : Thread Cert.InAProduct.nD Cert.InAProduct.τ).loc Cert.InAProduct.main_arg0) = m ((c.tc : Thread Cert.InAProduct.nD Cert.InAProduct.τ).loc Cert.InAProduct.main_arg0)
      ∧ r.2.mem ((c.tc : Thread Cert.InAProduct.nD Cert.InAProduct.τ).loc Cert.InAProduct.main_arg1) = m ((c.tc : Thread Cert.InAProduct.nD Cert.InAProduct.τ).loc Cert.InAProduct.main_arg1))
      ∧ r.2.sem = fun _ => 0)

def quiescent_InAProductIdeal [hInAProductIdeal : Cert.InAProductIdeal.Facts] : Prop :=
  ∀ (m : (ℓ : Loc Cert.InAProductIdeal.nD Cert.InAProductIdeal.τ Cert.InAProductIdeal.sig) → Buf (Elt Ideal) ℓ) (g : Dev Cert.InAProductIdeal.nD → PrngReg), Pre_InAProductIdeal m →
    θ_run (Cert.InAProductIdeal.defs (F := Ideal)) (onTc (τ := Cert.InAProductIdeal.τ) (Cert.InAProductIdeal.main (F := Ideal))) ⟨m, fun _ => 0, g⟩ (fun r => (∀ c : Dev Cert.InAProductIdeal.nD,
      r.2.mem ((c.tc : Thread Cert.InAProductIdeal.nD Cert.InAProductIdeal.τ).loc Cert.InAProductIdeal.main_arg0) = m ((c.tc : Thread Cert.InAProductIdeal.nD Cert.InAProductIdeal.τ).loc Cert.InAProductIdeal.main_arg0)
      ∧ r.2.mem ((c.tc : Thread Cert.InAProductIdeal.nD Cert.InAProductIdeal.τ).loc Cert.InAProductIdeal.main_arg1) = m ((c.tc : Thread Cert.InAProductIdeal.nD Cert.InAProductIdeal.τ).loc Cert.InAProductIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InBProduct [hInBProduct : Cert.InBProduct.Facts] : Prop :=
  ∀ (m : (ℓ : Loc Cert.InBProduct.nD Cert.InBProduct.τ Cert.InBProduct.sig) → Buf (Elt Bits) ℓ) (g : Dev Cert.InBProduct.nD → PrngReg), Pre_InBProduct m →
    θ_run (Cert.InBProduct.defs (F := Bits)) (onTc (τ := Cert.InBProduct.τ) (Cert.InBProduct.main (F := Bits))) ⟨m, fun _ => 0, g⟩ (fun r => (∀ c : Dev Cert.InBProduct.nD,
      r.2.mem ((c.tc : Thread Cert.InBProduct.nD Cert.InBProduct.τ).loc Cert.InBProduct.main_arg0) = m ((c.tc : Thread Cert.InBProduct.nD Cert.InBProduct.τ).loc Cert.InBProduct.main_arg0)
      ∧ r.2.mem ((c.tc : Thread Cert.InBProduct.nD Cert.InBProduct.τ).loc Cert.InBProduct.main_arg1) = m ((c.tc : Thread Cert.InBProduct.nD Cert.InBProduct.τ).loc Cert.InBProduct.main_arg1))
      ∧ r.2.sem = fun _ => 0)

def quiescent_InBProductIdeal [hInBProductIdeal : Cert.InBProductIdeal.Facts] : Prop :=
  ∀ (m : (ℓ : Loc Cert.InBProductIdeal.nD Cert.InBProductIdeal.τ Cert.InBProductIdeal.sig) → Buf (Elt Ideal) ℓ) (g : Dev Cert.InBProductIdeal.nD → PrngReg), Pre_InBProductIdeal m →
    θ_run (Cert.InBProductIdeal.defs (F := Ideal)) (onTc (τ := Cert.InBProductIdeal.τ) (Cert.InBProductIdeal.main (F := Ideal))) ⟨m, fun _ => 0, g⟩ (fun r => (∀ c : Dev Cert.InBProductIdeal.nD,
      r.2.mem ((c.tc : Thread Cert.InBProductIdeal.nD Cert.InBProductIdeal.τ).loc Cert.InBProductIdeal.main_arg0) = m ((c.tc : Thread Cert.InBProductIdeal.nD Cert.InBProductIdeal.τ).loc Cert.InBProductIdeal.main_arg0)
      ∧ r.2.mem ((c.tc : Thread Cert.InBProductIdeal.nD Cert.InBProductIdeal.τ).loc Cert.InBProductIdeal.main_arg1) = m ((c.tc : Thread Cert.InBProductIdeal.nD Cert.InBProductIdeal.τ).loc Cert.InBProductIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_QueryProduct [hQueryProduct : Cert.QueryProduct.Facts] : Prop :=
  ∀ (m : (ℓ : Loc Cert.QueryProduct.nD Cert.QueryProduct.τ Cert.QueryProduct.sig) → Buf (Elt Bits) ℓ) (g : Dev Cert.QueryProduct.nD → PrngReg), Pre_QueryProduct m →
    θ_run (Cert.QueryProduct.defs (F := Bits)) (onTc (τ := Cert.QueryProduct.τ) (Cert.QueryProduct.main (F := Bits))) ⟨m, fun _ => 0, g⟩ (fun r => (∀ c : Dev Cert.QueryProduct.nD,
      r.2.mem ((c.tc : Thread Cert.QueryProduct.nD Cert.QueryProduct.τ).loc Cert.QueryProduct.main_arg0) = m ((c.tc : Thread Cert.QueryProduct.nD Cert.QueryProduct.τ).loc Cert.QueryProduct.main_arg0)
      ∧ r.2.mem ((c.tc : Thread Cert.QueryProduct.nD Cert.QueryProduct.τ).loc Cert.QueryProduct.main_arg1) = m ((c.tc : Thread Cert.QueryProduct.nD Cert.QueryProduct.τ).loc Cert.QueryProduct.main_arg1))
      ∧ r.2.sem = fun _ => 0)

def quiescent_QueryProductIdeal [hQueryProductIdeal : Cert.QueryProductIdeal.Facts] : Prop :=
  ∀ (m : (ℓ : Loc Cert.QueryProductIdeal.nD Cert.QueryProductIdeal.τ Cert.QueryProductIdeal.sig) → Buf (Elt Ideal) ℓ) (g : Dev Cert.QueryProductIdeal.nD → PrngReg), Pre_QueryProductIdeal m →
    θ_run (Cert.QueryProductIdeal.defs (F := Ideal)) (onTc (τ := Cert.QueryProductIdeal.τ) (Cert.QueryProductIdeal.main (F := Ideal))) ⟨m, fun _ => 0, g⟩ (fun r => (∀ c : Dev Cert.QueryProductIdeal.nD,
      r.2.mem ((c.tc : Thread Cert.QueryProductIdeal.nD Cert.QueryProductIdeal.τ).loc Cert.QueryProductIdeal.main_arg0) = m ((c.tc : Thread Cert.QueryProductIdeal.nD Cert.QueryProductIdeal.τ).loc Cert.QueryProductIdeal.main_arg0)
      ∧ r.2.mem ((c.tc : Thread Cert.QueryProductIdeal.nD Cert.QueryProductIdeal.τ).loc Cert.QueryProductIdeal.main_arg1) = m ((c.tc : Thread Cert.QueryProductIdeal.nD Cert.QueryProductIdeal.τ).loc Cert.QueryProductIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_InASample [hInASample : Cert.InASample.Facts] : Prop :=
  ∀ (m : (ℓ : Loc Cert.InASample.nD Cert.InASample.τ Cert.InASample.sig) → Buf (Elt Bits) ℓ) (g : Dev Cert.InASample.nD → PrngReg), Pre_InASample m →
    θ_run (Cert.InASample.defs (F := Bits)) (onTc (τ := Cert.InASample.τ) (Cert.InASample.main (F := Bits))) ⟨m, fun _ => 0, g⟩ (fun r => (∀ c : Dev Cert.InASample.nD,
      r.2.mem ((c.tc : Thread Cert.InASample.nD Cert.InASample.τ).loc Cert.InASample.main_arg0) = m ((c.tc : Thread Cert.InASample.nD Cert.InASample.τ).loc Cert.InASample.main_arg0)
      ∧ r.2.mem ((c.tc : Thread Cert.InASample.nD Cert.InASample.τ).loc Cert.InASample.main_arg1) = m ((c.tc : Thread Cert.InASample.nD Cert.InASample.τ).loc Cert.InASample.main_arg1))
      ∧ r.2.sem = fun _ => 0)

def quiescent_InASampleIdeal [hInASampleIdeal : Cert.InASampleIdeal.Facts] : Prop :=
  ∀ (m : (ℓ : Loc Cert.InASampleIdeal.nD Cert.InASampleIdeal.τ Cert.InASampleIdeal.sig) → Buf (Elt Ideal) ℓ) (g : Dev Cert.InASampleIdeal.nD → PrngReg), Pre_InASampleIdeal m →
    θ_run (Cert.InASampleIdeal.defs (F := Ideal)) (onTc (τ := Cert.InASampleIdeal.τ) (Cert.InASampleIdeal.main (F := Ideal))) ⟨m, fun _ => 0, g⟩ (fun r => (∀ c : Dev Cert.InASampleIdeal.nD,
      r.2.mem ((c.tc : Thread Cert.InASampleIdeal.nD Cert.InASampleIdeal.τ).loc Cert.InASampleIdeal.main_arg0) = m ((c.tc : Thread Cert.InASampleIdeal.nD Cert.InASampleIdeal.τ).loc Cert.InASampleIdeal.main_arg0)
      ∧ r.2.mem ((c.tc : Thread Cert.InASampleIdeal.nD Cert.InASampleIdeal.τ).loc Cert.InASampleIdeal.main_arg1) = m ((c.tc : Thread Cert.InASampleIdeal.nD Cert.InASampleIdeal.τ).loc Cert.InASampleIdeal.main_arg1))
      ∧ r.2.sem = fun _ => 0)

def quiescent_InASampleRefIdeal [hInASampleRefIdeal : Cert.InASampleRefIdeal.Facts] : Prop :=
  ∀ (m : (ℓ : Loc Cert.InASampleRefIdeal.nD Cert.InASampleRefIdeal.τ Cert.InASampleRefIdeal.sig) → Buf (Elt Ideal) ℓ) (g : Dev Cert.InASampleRefIdeal.nD → PrngReg), Pre_InASampleRefIdeal m →
    θ_run (Cert.InASampleRefIdeal.defs (F := Ideal)) (onTc (τ := Cert.InASampleRefIdeal.τ) (Cert.InASampleRefIdeal.main (F := Ideal))) ⟨m, fun _ => 0, g⟩ (fun r => (∀ c : Dev Cert.InASampleRefIdeal.nD,
      r.2.mem ((c.tc : Thread Cert.InASampleRefIdeal.nD Cert.InASampleRefIdeal.τ).loc Cert.InASampleRefIdeal.main_arg0) = m ((c.tc : Thread Cert.InASampleRefIdeal.nD Cert.InASampleRefIdeal.τ).loc Cert.InASampleRefIdeal.main_arg0)
      ∧ r.2.mem ((c.tc : Thread Cert.InASampleRefIdeal.nD Cert.InASampleRefIdeal.τ).loc Cert.InASampleRefIdeal.main_arg1) = m ((c.tc : Thread Cert.InASampleRefIdeal.nD Cert.InASampleRefIdeal.τ).loc Cert.InASampleRefIdeal.main_arg1))
      ∧ r.2.sem = fun _ => 0)

def quiescent_InBSample [hInBSample : Cert.InBSample.Facts] : Prop :=
  ∀ (m : (ℓ : Loc Cert.InBSample.nD Cert.InBSample.τ Cert.InBSample.sig) → Buf (Elt Bits) ℓ) (g : Dev Cert.InBSample.nD → PrngReg), Pre_InBSample m →
    θ_run (Cert.InBSample.defs (F := Bits)) (onTc (τ := Cert.InBSample.τ) (Cert.InBSample.main (F := Bits))) ⟨m, fun _ => 0, g⟩ (fun r => (∀ c : Dev Cert.InBSample.nD,
      r.2.mem ((c.tc : Thread Cert.InBSample.nD Cert.InBSample.τ).loc Cert.InBSample.main_arg0) = m ((c.tc : Thread Cert.InBSample.nD Cert.InBSample.τ).loc Cert.InBSample.main_arg0)
      ∧ r.2.mem ((c.tc : Thread Cert.InBSample.nD Cert.InBSample.τ).loc Cert.InBSample.main_arg1) = m ((c.tc : Thread Cert.InBSample.nD Cert.InBSample.τ).loc Cert.InBSample.main_arg1))
      ∧ r.2.sem = fun _ => 0)

def quiescent_InBSampleIdeal [hInBSampleIdeal : Cert.InBSampleIdeal.Facts] : Prop :=
  ∀ (m : (ℓ : Loc Cert.InBSampleIdeal.nD Cert.InBSampleIdeal.τ Cert.InBSampleIdeal.sig) → Buf (Elt Ideal) ℓ) (g : Dev Cert.InBSampleIdeal.nD → PrngReg), Pre_InBSampleIdeal m →
    θ_run (Cert.InBSampleIdeal.defs (F := Ideal)) (onTc (τ := Cert.InBSampleIdeal.τ) (Cert.InBSampleIdeal.main (F := Ideal))) ⟨m, fun _ => 0, g⟩ (fun r => (∀ c : Dev Cert.InBSampleIdeal.nD,
      r.2.mem ((c.tc : Thread Cert.InBSampleIdeal.nD Cert.InBSampleIdeal.τ).loc Cert.InBSampleIdeal.main_arg0) = m ((c.tc : Thread Cert.InBSampleIdeal.nD Cert.InBSampleIdeal.τ).loc Cert.InBSampleIdeal.main_arg0)
      ∧ r.2.mem ((c.tc : Thread Cert.InBSampleIdeal.nD Cert.InBSampleIdeal.τ).loc Cert.InBSampleIdeal.main_arg1) = m ((c.tc : Thread Cert.InBSampleIdeal.nD Cert.InBSampleIdeal.τ).loc Cert.InBSampleIdeal.main_arg1))
      ∧ r.2.sem = fun _ => 0)

def quiescent_InBSampleRefIdeal [hInBSampleRefIdeal : Cert.InBSampleRefIdeal.Facts] : Prop :=
  ∀ (m : (ℓ : Loc Cert.InBSampleRefIdeal.nD Cert.InBSampleRefIdeal.τ Cert.InBSampleRefIdeal.sig) → Buf (Elt Ideal) ℓ) (g : Dev Cert.InBSampleRefIdeal.nD → PrngReg), Pre_InBSampleRefIdeal m →
    θ_run (Cert.InBSampleRefIdeal.defs (F := Ideal)) (onTc (τ := Cert.InBSampleRefIdeal.τ) (Cert.InBSampleRefIdeal.main (F := Ideal))) ⟨m, fun _ => 0, g⟩ (fun r => (∀ c : Dev Cert.InBSampleRefIdeal.nD,
      r.2.mem ((c.tc : Thread Cert.InBSampleRefIdeal.nD Cert.InBSampleRefIdeal.τ).loc Cert.InBSampleRefIdeal.main_arg0) = m ((c.tc : Thread Cert.InBSampleRefIdeal.nD Cert.InBSampleRefIdeal.τ).loc Cert.InBSampleRefIdeal.main_arg0)
      ∧ r.2.mem ((c.tc : Thread Cert.InBSampleRefIdeal.nD Cert.InBSampleRefIdeal.τ).loc Cert.InBSampleRefIdeal.main_arg1) = m ((c.tc : Thread Cert.InBSampleRefIdeal.nD Cert.InBSampleRefIdeal.τ).loc Cert.InBSampleRefIdeal.main_arg1))
      ∧ r.2.sem = fun _ => 0)

def quiescent_QuerySample [hQuerySample : Cert.QuerySample.Facts] : Prop :=
  ∀ (m : (ℓ : Loc Cert.QuerySample.nD Cert.QuerySample.τ Cert.QuerySample.sig) → Buf (Elt Bits) ℓ) (g : Dev Cert.QuerySample.nD → PrngReg), Pre_QuerySample m →
    θ_run (Cert.QuerySample.defs (F := Bits)) (onTc (τ := Cert.QuerySample.τ) (Cert.QuerySample.main (F := Bits))) ⟨m, fun _ => 0, g⟩ (fun r => (∀ c : Dev Cert.QuerySample.nD,
      r.2.mem ((c.tc : Thread Cert.QuerySample.nD Cert.QuerySample.τ).loc Cert.QuerySample.main_arg0) = m ((c.tc : Thread Cert.QuerySample.nD Cert.QuerySample.τ).loc Cert.QuerySample.main_arg0)
      ∧ r.2.mem ((c.tc : Thread Cert.QuerySample.nD Cert.QuerySample.τ).loc Cert.QuerySample.main_arg1) = m ((c.tc : Thread Cert.QuerySample.nD Cert.QuerySample.τ).loc Cert.QuerySample.main_arg1))
      ∧ r.2.sem = fun _ => 0)

def quiescent_QuerySampleIdeal [hQuerySampleIdeal : Cert.QuerySampleIdeal.Facts] : Prop :=
  ∀ (m : (ℓ : Loc Cert.QuerySampleIdeal.nD Cert.QuerySampleIdeal.τ Cert.QuerySampleIdeal.sig) → Buf (Elt Ideal) ℓ) (g : Dev Cert.QuerySampleIdeal.nD → PrngReg), Pre_QuerySampleIdeal m →
    θ_run (Cert.QuerySampleIdeal.defs (F := Ideal)) (onTc (τ := Cert.QuerySampleIdeal.τ) (Cert.QuerySampleIdeal.main (F := Ideal))) ⟨m, fun _ => 0, g⟩ (fun r => (∀ c : Dev Cert.QuerySampleIdeal.nD,
      r.2.mem ((c.tc : Thread Cert.QuerySampleIdeal.nD Cert.QuerySampleIdeal.τ).loc Cert.QuerySampleIdeal.main_arg0) = m ((c.tc : Thread Cert.QuerySampleIdeal.nD Cert.QuerySampleIdeal.τ).loc Cert.QuerySampleIdeal.main_arg0)
      ∧ r.2.mem ((c.tc : Thread Cert.QuerySampleIdeal.nD Cert.QuerySampleIdeal.τ).loc Cert.QuerySampleIdeal.main_arg1) = m ((c.tc : Thread Cert.QuerySampleIdeal.nD Cert.QuerySampleIdeal.τ).loc Cert.QuerySampleIdeal.main_arg1))
      ∧ r.2.sem = fun _ => 0)

def quiescent_QuerySampleRefIdeal [hQuerySampleRefIdeal : Cert.QuerySampleRefIdeal.Facts] : Prop :=
  ∀ (m : (ℓ : Loc Cert.QuerySampleRefIdeal.nD Cert.QuerySampleRefIdeal.τ Cert.QuerySampleRefIdeal.sig) → Buf (Elt Ideal) ℓ) (g : Dev Cert.QuerySampleRefIdeal.nD → PrngReg), Pre_QuerySampleRefIdeal m →
    θ_run (Cert.QuerySampleRefIdeal.defs (F := Ideal)) (onTc (τ := Cert.QuerySampleRefIdeal.τ) (Cert.QuerySampleRefIdeal.main (F := Ideal))) ⟨m, fun _ => 0, g⟩ (fun r => (∀ c : Dev Cert.QuerySampleRefIdeal.nD,
      r.2.mem ((c.tc : Thread Cert.QuerySampleRefIdeal.nD Cert.QuerySampleRefIdeal.τ).loc Cert.QuerySampleRefIdeal.main_arg0) = m ((c.tc : Thread Cert.QuerySampleRefIdeal.nD Cert.QuerySampleRefIdeal.τ).loc Cert.QuerySampleRefIdeal.main_arg0)
      ∧ r.2.mem ((c.tc : Thread Cert.QuerySampleRefIdeal.nD Cert.QuerySampleRefIdeal.τ).loc Cert.QuerySampleRefIdeal.main_arg1) = m ((c.tc : Thread Cert.QuerySampleRefIdeal.nD Cert.QuerySampleRefIdeal.τ).loc Cert.QuerySampleRefIdeal.main_arg1))
      ∧ r.2.sem = fun _ => 0)

def quiescent_InBWeight [hInBWeight : Cert.InBWeight.Facts] : Prop :=
  ∀ (m : (ℓ : Loc Cert.InBWeight.nD Cert.InBWeight.τ Cert.InBWeight.sig) → Buf (Elt Bits) ℓ) (g : Dev Cert.InBWeight.nD → PrngReg), Pre_InBWeight m →
    θ_run (Cert.InBWeight.defs (F := Bits)) (onTc (τ := Cert.InBWeight.τ) (Cert.InBWeight.main (F := Bits))) ⟨m, fun _ => 0, g⟩ (fun r => (∀ c : Dev Cert.InBWeight.nD,
      r.2.mem ((c.tc : Thread Cert.InBWeight.nD Cert.InBWeight.τ).loc Cert.InBWeight.main_arg0) = m ((c.tc : Thread Cert.InBWeight.nD Cert.InBWeight.τ).loc Cert.InBWeight.main_arg0))
      ∧ r.2.sem = fun _ => 0)

def quiescent_InBWeightIdeal [hInBWeightIdeal : Cert.InBWeightIdeal.Facts] : Prop :=
  ∀ (m : (ℓ : Loc Cert.InBWeightIdeal.nD Cert.InBWeightIdeal.τ Cert.InBWeightIdeal.sig) → Buf (Elt Ideal) ℓ) (g : Dev Cert.InBWeightIdeal.nD → PrngReg), Pre_InBWeightIdeal m →
    θ_run (Cert.InBWeightIdeal.defs (F := Ideal)) (onTc (τ := Cert.InBWeightIdeal.τ) (Cert.InBWeightIdeal.main (F := Ideal))) ⟨m, fun _ => 0, g⟩ (fun r => (∀ c : Dev Cert.InBWeightIdeal.nD,
      r.2.mem ((c.tc : Thread Cert.InBWeightIdeal.nD Cert.InBWeightIdeal.τ).loc Cert.InBWeightIdeal.main_arg0) = m ((c.tc : Thread Cert.InBWeightIdeal.nD Cert.InBWeightIdeal.τ).loc Cert.InBWeightIdeal.main_arg0))
      ∧ r.2.sem = fun _ => 0)

def quiescent_InBWeightRefIdeal [hInBWeightRefIdeal : Cert.InBWeightRefIdeal.Facts] : Prop :=
  ∀ (m : (ℓ : Loc Cert.InBWeightRefIdeal.nD Cert.InBWeightRefIdeal.τ Cert.InBWeightRefIdeal.sig) → Buf (Elt Ideal) ℓ) (g : Dev Cert.InBWeightRefIdeal.nD → PrngReg), Pre_InBWeightRefIdeal m →
    θ_run (Cert.InBWeightRefIdeal.defs (F := Ideal)) (onTc (τ := Cert.InBWeightRefIdeal.τ) (Cert.InBWeightRefIdeal.main (F := Ideal))) ⟨m, fun _ => 0, g⟩ (fun r => (∀ c : Dev Cert.InBWeightRefIdeal.nD,
      r.2.mem ((c.tc : Thread Cert.InBWeightRefIdeal.nD Cert.InBWeightRefIdeal.τ).loc Cert.InBWeightRefIdeal.main_arg0) = m ((c.tc : Thread Cert.InBWeightRefIdeal.nD Cert.InBWeightRefIdeal.τ).loc Cert.InBWeightRefIdeal.main_arg0))
      ∧ r.2.sem = fun _ => 0)

def quiescent_KvWeightFirst [hKvWeightFirst : Cert.KvWeightFirst.Facts] : Prop :=
  ∀ (m : (ℓ : Loc Cert.KvWeightFirst.nD Cert.KvWeightFirst.τ Cert.KvWeightFirst.sig) → Buf (Elt Bits) ℓ) (g : Dev Cert.KvWeightFirst.nD → PrngReg), Pre_KvWeightFirst m →
    θ_run (Cert.KvWeightFirst.defs (F := Bits)) (onTc (τ := Cert.KvWeightFirst.τ) (Cert.KvWeightFirst.main (F := Bits))) ⟨m, fun _ => 0, g⟩ (fun r => (∀ c : Dev Cert.KvWeightFirst.nD,
      r.2.mem ((c.tc : Thread Cert.KvWeightFirst.nD Cert.KvWeightFirst.τ).loc Cert.KvWeightFirst.main_arg0) = m ((c.tc : Thread Cert.KvWeightFirst.nD Cert.KvWeightFirst.τ).loc Cert.KvWeightFirst.main_arg0))
      ∧ r.2.sem = fun _ => 0)

def quiescent_KvWeightFirstIdeal [hKvWeightFirstIdeal : Cert.KvWeightFirstIdeal.Facts] : Prop :=
  ∀ (m : (ℓ : Loc Cert.KvWeightFirstIdeal.nD Cert.KvWeightFirstIdeal.τ Cert.KvWeightFirstIdeal.sig) → Buf (Elt Ideal) ℓ) (g : Dev Cert.KvWeightFirstIdeal.nD → PrngReg), Pre_KvWeightFirstIdeal m →
    θ_run (Cert.KvWeightFirstIdeal.defs (F := Ideal)) (onTc (τ := Cert.KvWeightFirstIdeal.τ) (Cert.KvWeightFirstIdeal.main (F := Ideal))) ⟨m, fun _ => 0, g⟩ (fun r => (∀ c : Dev Cert.KvWeightFirstIdeal.nD,
      r.2.mem ((c.tc : Thread Cert.KvWeightFirstIdeal.nD Cert.KvWeightFirstIdeal.τ).loc Cert.KvWeightFirstIdeal.main_arg0) = m ((c.tc : Thread Cert.KvWeightFirstIdeal.nD Cert.KvWeightFirstIdeal.τ).loc Cert.KvWeightFirstIdeal.main_arg0))
      ∧ r.2.sem = fun _ => 0)

def quiescent_KvWeightFirstRefIdeal [hKvWeightFirstRefIdeal : Cert.KvWeightFirstRefIdeal.Facts] : Prop :=
  ∀ (m : (ℓ : Loc Cert.KvWeightFirstRefIdeal.nD Cert.KvWeightFirstRefIdeal.τ Cert.KvWeightFirstRefIdeal.sig) → Buf (Elt Ideal) ℓ) (g : Dev Cert.KvWeightFirstRefIdeal.nD → PrngReg), Pre_KvWeightFirstRefIdeal m →
    θ_run (Cert.KvWeightFirstRefIdeal.defs (F := Ideal)) (onTc (τ := Cert.KvWeightFirstRefIdeal.τ) (Cert.KvWeightFirstRefIdeal.main (F := Ideal))) ⟨m, fun _ => 0, g⟩ (fun r => (∀ c : Dev Cert.KvWeightFirstRefIdeal.nD,
      r.2.mem ((c.tc : Thread Cert.KvWeightFirstRefIdeal.nD Cert.KvWeightFirstRefIdeal.τ).loc Cert.KvWeightFirstRefIdeal.main_arg0) = m ((c.tc : Thread Cert.KvWeightFirstRefIdeal.nD Cert.KvWeightFirstRefIdeal.τ).loc Cert.KvWeightFirstRefIdeal.main_arg0))
      ∧ r.2.sem = fun _ => 0)

def quiescent_KvWeightSecond [hKvWeightSecond : Cert.KvWeightSecond.Facts] : Prop :=
  ∀ (m : (ℓ : Loc Cert.KvWeightSecond.nD Cert.KvWeightSecond.τ Cert.KvWeightSecond.sig) → Buf (Elt Bits) ℓ) (g : Dev Cert.KvWeightSecond.nD → PrngReg), Pre_KvWeightSecond m →
    θ_run (Cert.KvWeightSecond.defs (F := Bits)) (onTc (τ := Cert.KvWeightSecond.τ) (Cert.KvWeightSecond.main (F := Bits))) ⟨m, fun _ => 0, g⟩ (fun r => (∀ c : Dev Cert.KvWeightSecond.nD,
      r.2.mem ((c.tc : Thread Cert.KvWeightSecond.nD Cert.KvWeightSecond.τ).loc Cert.KvWeightSecond.main_arg0) = m ((c.tc : Thread Cert.KvWeightSecond.nD Cert.KvWeightSecond.τ).loc Cert.KvWeightSecond.main_arg0))
      ∧ r.2.sem = fun _ => 0)

def quiescent_KvWeightSecondIdeal [hKvWeightSecondIdeal : Cert.KvWeightSecondIdeal.Facts] : Prop :=
  ∀ (m : (ℓ : Loc Cert.KvWeightSecondIdeal.nD Cert.KvWeightSecondIdeal.τ Cert.KvWeightSecondIdeal.sig) → Buf (Elt Ideal) ℓ) (g : Dev Cert.KvWeightSecondIdeal.nD → PrngReg), Pre_KvWeightSecondIdeal m →
    θ_run (Cert.KvWeightSecondIdeal.defs (F := Ideal)) (onTc (τ := Cert.KvWeightSecondIdeal.τ) (Cert.KvWeightSecondIdeal.main (F := Ideal))) ⟨m, fun _ => 0, g⟩ (fun r => (∀ c : Dev Cert.KvWeightSecondIdeal.nD,
      r.2.mem ((c.tc : Thread Cert.KvWeightSecondIdeal.nD Cert.KvWeightSecondIdeal.τ).loc Cert.KvWeightSecondIdeal.main_arg0) = m ((c.tc : Thread Cert.KvWeightSecondIdeal.nD Cert.KvWeightSecondIdeal.τ).loc Cert.KvWeightSecondIdeal.main_arg0))
      ∧ r.2.sem = fun _ => 0)

def quiescent_KvWeightSecondRefIdeal [hKvWeightSecondRefIdeal : Cert.KvWeightSecondRefIdeal.Facts] : Prop :=
  ∀ (m : (ℓ : Loc Cert.KvWeightSecondRefIdeal.nD Cert.KvWeightSecondRefIdeal.τ Cert.KvWeightSecondRefIdeal.sig) → Buf (Elt Ideal) ℓ) (g : Dev Cert.KvWeightSecondRefIdeal.nD → PrngReg), Pre_KvWeightSecondRefIdeal m →
    θ_run (Cert.KvWeightSecondRefIdeal.defs (F := Ideal)) (onTc (τ := Cert.KvWeightSecondRefIdeal.τ) (Cert.KvWeightSecondRefIdeal.main (F := Ideal))) ⟨m, fun _ => 0, g⟩ (fun r => (∀ c : Dev Cert.KvWeightSecondRefIdeal.nD,
      r.2.mem ((c.tc : Thread Cert.KvWeightSecondRefIdeal.nD Cert.KvWeightSecondRefIdeal.τ).loc Cert.KvWeightSecondRefIdeal.main_arg0) = m ((c.tc : Thread Cert.KvWeightSecondRefIdeal.nD Cert.KvWeightSecondRefIdeal.τ).loc Cert.KvWeightSecondRefIdeal.main_arg0))
      ∧ r.2.sem = fun _ => 0)

def quiescent_InAWeight [hInAWeight : Cert.InAWeight.Facts] : Prop :=
  ∀ (m : (ℓ : Loc Cert.InAWeight.nD Cert.InAWeight.τ Cert.InAWeight.sig) → Buf (Elt Bits) ℓ) (g : Dev Cert.InAWeight.nD → PrngReg), Pre_InAWeight m →
    θ_run (Cert.InAWeight.defs (F := Bits)) (onTc (τ := Cert.InAWeight.τ) (Cert.InAWeight.main (F := Bits))) ⟨m, fun _ => 0, g⟩ (fun r => (∀ c : Dev Cert.InAWeight.nD,
      r.2.mem ((c.tc : Thread Cert.InAWeight.nD Cert.InAWeight.τ).loc Cert.InAWeight.main_arg0) = m ((c.tc : Thread Cert.InAWeight.nD Cert.InAWeight.τ).loc Cert.InAWeight.main_arg0))
      ∧ r.2.sem = fun _ => 0)

def quiescent_InAWeightIdeal [hInAWeightIdeal : Cert.InAWeightIdeal.Facts] : Prop :=
  ∀ (m : (ℓ : Loc Cert.InAWeightIdeal.nD Cert.InAWeightIdeal.τ Cert.InAWeightIdeal.sig) → Buf (Elt Ideal) ℓ) (g : Dev Cert.InAWeightIdeal.nD → PrngReg), Pre_InAWeightIdeal m →
    θ_run (Cert.InAWeightIdeal.defs (F := Ideal)) (onTc (τ := Cert.InAWeightIdeal.τ) (Cert.InAWeightIdeal.main (F := Ideal))) ⟨m, fun _ => 0, g⟩ (fun r => (∀ c : Dev Cert.InAWeightIdeal.nD,
      r.2.mem ((c.tc : Thread Cert.InAWeightIdeal.nD Cert.InAWeightIdeal.τ).loc Cert.InAWeightIdeal.main_arg0) = m ((c.tc : Thread Cert.InAWeightIdeal.nD Cert.InAWeightIdeal.τ).loc Cert.InAWeightIdeal.main_arg0))
      ∧ r.2.sem = fun _ => 0)

def quiescent_InAWeightRefIdeal [hInAWeightRefIdeal : Cert.InAWeightRefIdeal.Facts] : Prop :=
  ∀ (m : (ℓ : Loc Cert.InAWeightRefIdeal.nD Cert.InAWeightRefIdeal.τ Cert.InAWeightRefIdeal.sig) → Buf (Elt Ideal) ℓ) (g : Dev Cert.InAWeightRefIdeal.nD → PrngReg), Pre_InAWeightRefIdeal m →
    θ_run (Cert.InAWeightRefIdeal.defs (F := Ideal)) (onTc (τ := Cert.InAWeightRefIdeal.τ) (Cert.InAWeightRefIdeal.main (F := Ideal))) ⟨m, fun _ => 0, g⟩ (fun r => (∀ c : Dev Cert.InAWeightRefIdeal.nD,
      r.2.mem ((c.tc : Thread Cert.InAWeightRefIdeal.nD Cert.InAWeightRefIdeal.τ).loc Cert.InAWeightRefIdeal.main_arg0) = m ((c.tc : Thread Cert.InAWeightRefIdeal.nD Cert.InAWeightRefIdeal.τ).loc Cert.InAWeightRefIdeal.main_arg0))
      ∧ r.2.sem = fun _ => 0)

def quiescent_SguSample [hSguSample : Cert.SguSample.Facts] : Prop :=
  ∀ (m : (ℓ : Loc Cert.SguSample.nD Cert.SguSample.τ Cert.SguSample.sig) → Buf (Elt Bits) ℓ) (g : Dev Cert.SguSample.nD → PrngReg), Pre_SguSample m →
    θ_run (Cert.SguSample.defs (F := Bits)) (onTc (τ := Cert.SguSample.τ) (Cert.SguSample.main (F := Bits))) ⟨m, fun _ => 0, g⟩ (fun r => (∀ c : Dev Cert.SguSample.nD,
      r.2.mem ((c.tc : Thread Cert.SguSample.nD Cert.SguSample.τ).loc Cert.SguSample.main_arg0) = m ((c.tc : Thread Cert.SguSample.nD Cert.SguSample.τ).loc Cert.SguSample.main_arg0)
      ∧ r.2.mem ((c.tc : Thread Cert.SguSample.nD Cert.SguSample.τ).loc Cert.SguSample.main_arg1) = m ((c.tc : Thread Cert.SguSample.nD Cert.SguSample.τ).loc Cert.SguSample.main_arg1)
      ∧ r.2.mem ((c.tc : Thread Cert.SguSample.nD Cert.SguSample.τ).loc Cert.SguSample.main_arg2) = m ((c.tc : Thread Cert.SguSample.nD Cert.SguSample.τ).loc Cert.SguSample.main_arg2)
      ∧ r.2.mem ((c.tc : Thread Cert.SguSample.nD Cert.SguSample.τ).loc Cert.SguSample.main_arg3) = m ((c.tc : Thread Cert.SguSample.nD Cert.SguSample.τ).loc Cert.SguSample.main_arg3)
      ∧ r.2.mem ((c.tc : Thread Cert.SguSample.nD Cert.SguSample.τ).loc Cert.SguSample.main_arg4) = m ((c.tc : Thread Cert.SguSample.nD Cert.SguSample.τ).loc Cert.SguSample.main_arg4))
      ∧ r.2.sem = fun _ => 0)

def quiescent_SguSampleIdeal [hSguSampleIdeal : Cert.SguSampleIdeal.Facts] : Prop :=
  ∀ (m : (ℓ : Loc Cert.SguSampleIdeal.nD Cert.SguSampleIdeal.τ Cert.SguSampleIdeal.sig) → Buf (Elt Ideal) ℓ) (g : Dev Cert.SguSampleIdeal.nD → PrngReg), Pre_SguSampleIdeal m →
    θ_run (Cert.SguSampleIdeal.defs (F := Ideal)) (onTc (τ := Cert.SguSampleIdeal.τ) (Cert.SguSampleIdeal.main (F := Ideal))) ⟨m, fun _ => 0, g⟩ (fun r => (∀ c : Dev Cert.SguSampleIdeal.nD,
      r.2.mem ((c.tc : Thread Cert.SguSampleIdeal.nD Cert.SguSampleIdeal.τ).loc Cert.SguSampleIdeal.main_arg0) = m ((c.tc : Thread Cert.SguSampleIdeal.nD Cert.SguSampleIdeal.τ).loc Cert.SguSampleIdeal.main_arg0)
      ∧ r.2.mem ((c.tc : Thread Cert.SguSampleIdeal.nD Cert.SguSampleIdeal.τ).loc Cert.SguSampleIdeal.main_arg1) = m ((c.tc : Thread Cert.SguSampleIdeal.nD Cert.SguSampleIdeal.τ).loc Cert.SguSampleIdeal.main_arg1)
      ∧ r.2.mem ((c.tc : Thread Cert.SguSampleIdeal.nD Cert.SguSampleIdeal.τ).loc Cert.SguSampleIdeal.main_arg2) = m ((c.tc : Thread Cert.SguSampleIdeal.nD Cert.SguSampleIdeal.τ).loc Cert.SguSampleIdeal.main_arg2)
      ∧ r.2.mem ((c.tc : Thread Cert.SguSampleIdeal.nD Cert.SguSampleIdeal.τ).loc Cert.SguSampleIdeal.main_arg3) = m ((c.tc : Thread Cert.SguSampleIdeal.nD Cert.SguSampleIdeal.τ).loc Cert.SguSampleIdeal.main_arg3)
      ∧ r.2.mem ((c.tc : Thread Cert.SguSampleIdeal.nD Cert.SguSampleIdeal.τ).loc Cert.SguSampleIdeal.main_arg4) = m ((c.tc : Thread Cert.SguSampleIdeal.nD Cert.SguSampleIdeal.τ).loc Cert.SguSampleIdeal.main_arg4))
      ∧ r.2.sem = fun _ => 0)

def quiescent_SguSampleRefIdeal [hSguSampleRefIdeal : Cert.SguSampleRefIdeal.Facts] : Prop :=
  ∀ (m : (ℓ : Loc Cert.SguSampleRefIdeal.nD Cert.SguSampleRefIdeal.τ Cert.SguSampleRefIdeal.sig) → Buf (Elt Ideal) ℓ) (g : Dev Cert.SguSampleRefIdeal.nD → PrngReg), Pre_SguSampleRefIdeal m →
    θ_run (Cert.SguSampleRefIdeal.defs (F := Ideal)) (onTc (τ := Cert.SguSampleRefIdeal.τ) (Cert.SguSampleRefIdeal.main (F := Ideal))) ⟨m, fun _ => 0, g⟩ (fun r => (∀ c : Dev Cert.SguSampleRefIdeal.nD,
      r.2.mem ((c.tc : Thread Cert.SguSampleRefIdeal.nD Cert.SguSampleRefIdeal.τ).loc Cert.SguSampleRefIdeal.main_arg0) = m ((c.tc : Thread Cert.SguSampleRefIdeal.nD Cert.SguSampleRefIdeal.τ).loc Cert.SguSampleRefIdeal.main_arg0)
      ∧ r.2.mem ((c.tc : Thread Cert.SguSampleRefIdeal.nD Cert.SguSampleRefIdeal.τ).loc Cert.SguSampleRefIdeal.main_arg1) = m ((c.tc : Thread Cert.SguSampleRefIdeal.nD Cert.SguSampleRefIdeal.τ).loc Cert.SguSampleRefIdeal.main_arg1)
      ∧ r.2.mem ((c.tc : Thread Cert.SguSampleRefIdeal.nD Cert.SguSampleRefIdeal.τ).loc Cert.SguSampleRefIdeal.main_arg2) = m ((c.tc : Thread Cert.SguSampleRefIdeal.nD Cert.SguSampleRefIdeal.τ).loc Cert.SguSampleRefIdeal.main_arg2)
      ∧ r.2.mem ((c.tc : Thread Cert.SguSampleRefIdeal.nD Cert.SguSampleRefIdeal.τ).loc Cert.SguSampleRefIdeal.main_arg3) = m ((c.tc : Thread Cert.SguSampleRefIdeal.nD Cert.SguSampleRefIdeal.τ).loc Cert.SguSampleRefIdeal.main_arg3)
      ∧ r.2.mem ((c.tc : Thread Cert.SguSampleRefIdeal.nD Cert.SguSampleRefIdeal.τ).loc Cert.SguSampleRefIdeal.main_arg4) = m ((c.tc : Thread Cert.SguSampleRefIdeal.nD Cert.SguSampleRefIdeal.τ).loc Cert.SguSampleRefIdeal.main_arg4))
      ∧ r.2.sem = fun _ => 0)

def quiescent_SguPrompt [hSguPrompt : Cert.SguPrompt.Facts] : Prop :=
  ∀ (m : (ℓ : Loc Cert.SguPrompt.nD Cert.SguPrompt.τ Cert.SguPrompt.sig) → Buf (Elt Bits) ℓ) (g : Dev Cert.SguPrompt.nD → PrngReg), Pre_SguPrompt m →
    θ_run (Cert.SguPrompt.defs (F := Bits)) (onTc (τ := Cert.SguPrompt.τ) (Cert.SguPrompt.main (F := Bits))) ⟨m, fun _ => 0, g⟩ (fun r => (∀ c : Dev Cert.SguPrompt.nD,
      r.2.mem ((c.tc : Thread Cert.SguPrompt.nD Cert.SguPrompt.τ).loc Cert.SguPrompt.main_arg0) = m ((c.tc : Thread Cert.SguPrompt.nD Cert.SguPrompt.τ).loc Cert.SguPrompt.main_arg0)
      ∧ r.2.mem ((c.tc : Thread Cert.SguPrompt.nD Cert.SguPrompt.τ).loc Cert.SguPrompt.main_arg1) = m ((c.tc : Thread Cert.SguPrompt.nD Cert.SguPrompt.τ).loc Cert.SguPrompt.main_arg1)
      ∧ r.2.mem ((c.tc : Thread Cert.SguPrompt.nD Cert.SguPrompt.τ).loc Cert.SguPrompt.main_arg2) = m ((c.tc : Thread Cert.SguPrompt.nD Cert.SguPrompt.τ).loc Cert.SguPrompt.main_arg2)
      ∧ r.2.mem ((c.tc : Thread Cert.SguPrompt.nD Cert.SguPrompt.τ).loc Cert.SguPrompt.main_arg3) = m ((c.tc : Thread Cert.SguPrompt.nD Cert.SguPrompt.τ).loc Cert.SguPrompt.main_arg3)
      ∧ r.2.mem ((c.tc : Thread Cert.SguPrompt.nD Cert.SguPrompt.τ).loc Cert.SguPrompt.main_arg4) = m ((c.tc : Thread Cert.SguPrompt.nD Cert.SguPrompt.τ).loc Cert.SguPrompt.main_arg4))
      ∧ r.2.sem = fun _ => 0)

def quiescent_SguPromptIdeal [hSguPromptIdeal : Cert.SguPromptIdeal.Facts] : Prop :=
  ∀ (m : (ℓ : Loc Cert.SguPromptIdeal.nD Cert.SguPromptIdeal.τ Cert.SguPromptIdeal.sig) → Buf (Elt Ideal) ℓ) (g : Dev Cert.SguPromptIdeal.nD → PrngReg), Pre_SguPromptIdeal m →
    θ_run (Cert.SguPromptIdeal.defs (F := Ideal)) (onTc (τ := Cert.SguPromptIdeal.τ) (Cert.SguPromptIdeal.main (F := Ideal))) ⟨m, fun _ => 0, g⟩ (fun r => (∀ c : Dev Cert.SguPromptIdeal.nD,
      r.2.mem ((c.tc : Thread Cert.SguPromptIdeal.nD Cert.SguPromptIdeal.τ).loc Cert.SguPromptIdeal.main_arg0) = m ((c.tc : Thread Cert.SguPromptIdeal.nD Cert.SguPromptIdeal.τ).loc Cert.SguPromptIdeal.main_arg0)
      ∧ r.2.mem ((c.tc : Thread Cert.SguPromptIdeal.nD Cert.SguPromptIdeal.τ).loc Cert.SguPromptIdeal.main_arg1) = m ((c.tc : Thread Cert.SguPromptIdeal.nD Cert.SguPromptIdeal.τ).loc Cert.SguPromptIdeal.main_arg1)
      ∧ r.2.mem ((c.tc : Thread Cert.SguPromptIdeal.nD Cert.SguPromptIdeal.τ).loc Cert.SguPromptIdeal.main_arg2) = m ((c.tc : Thread Cert.SguPromptIdeal.nD Cert.SguPromptIdeal.τ).loc Cert.SguPromptIdeal.main_arg2)
      ∧ r.2.mem ((c.tc : Thread Cert.SguPromptIdeal.nD Cert.SguPromptIdeal.τ).loc Cert.SguPromptIdeal.main_arg3) = m ((c.tc : Thread Cert.SguPromptIdeal.nD Cert.SguPromptIdeal.τ).loc Cert.SguPromptIdeal.main_arg3)
      ∧ r.2.mem ((c.tc : Thread Cert.SguPromptIdeal.nD Cert.SguPromptIdeal.τ).loc Cert.SguPromptIdeal.main_arg4) = m ((c.tc : Thread Cert.SguPromptIdeal.nD Cert.SguPromptIdeal.τ).loc Cert.SguPromptIdeal.main_arg4))
      ∧ r.2.sem = fun _ => 0)

def quiescent_SguPromptRefIdeal [hSguPromptRefIdeal : Cert.SguPromptRefIdeal.Facts] : Prop :=
  ∀ (m : (ℓ : Loc Cert.SguPromptRefIdeal.nD Cert.SguPromptRefIdeal.τ Cert.SguPromptRefIdeal.sig) → Buf (Elt Ideal) ℓ) (g : Dev Cert.SguPromptRefIdeal.nD → PrngReg), Pre_SguPromptRefIdeal m →
    θ_run (Cert.SguPromptRefIdeal.defs (F := Ideal)) (onTc (τ := Cert.SguPromptRefIdeal.τ) (Cert.SguPromptRefIdeal.main (F := Ideal))) ⟨m, fun _ => 0, g⟩ (fun r => (∀ c : Dev Cert.SguPromptRefIdeal.nD,
      r.2.mem ((c.tc : Thread Cert.SguPromptRefIdeal.nD Cert.SguPromptRefIdeal.τ).loc Cert.SguPromptRefIdeal.main_arg0) = m ((c.tc : Thread Cert.SguPromptRefIdeal.nD Cert.SguPromptRefIdeal.τ).loc Cert.SguPromptRefIdeal.main_arg0)
      ∧ r.2.mem ((c.tc : Thread Cert.SguPromptRefIdeal.nD Cert.SguPromptRefIdeal.τ).loc Cert.SguPromptRefIdeal.main_arg1) = m ((c.tc : Thread Cert.SguPromptRefIdeal.nD Cert.SguPromptRefIdeal.τ).loc Cert.SguPromptRefIdeal.main_arg1)
      ∧ r.2.mem ((c.tc : Thread Cert.SguPromptRefIdeal.nD Cert.SguPromptRefIdeal.τ).loc Cert.SguPromptRefIdeal.main_arg2) = m ((c.tc : Thread Cert.SguPromptRefIdeal.nD Cert.SguPromptRefIdeal.τ).loc Cert.SguPromptRefIdeal.main_arg2)
      ∧ r.2.mem ((c.tc : Thread Cert.SguPromptRefIdeal.nD Cert.SguPromptRefIdeal.τ).loc Cert.SguPromptRefIdeal.main_arg3) = m ((c.tc : Thread Cert.SguPromptRefIdeal.nD Cert.SguPromptRefIdeal.τ).loc Cert.SguPromptRefIdeal.main_arg3)
      ∧ r.2.mem ((c.tc : Thread Cert.SguPromptRefIdeal.nD Cert.SguPromptRefIdeal.τ).loc Cert.SguPromptRefIdeal.main_arg4) = m ((c.tc : Thread Cert.SguPromptRefIdeal.nD Cert.SguPromptRefIdeal.τ).loc Cert.SguPromptRefIdeal.main_arg4))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5))
      ∧ r.2.sem = fun _ => 0)

def preserves_Band_BandIdeal : Prop :=
  IdealRules.named_const.Statement Cert.BandIdeal.κ "mask" .f32 0xF149F2CA#32 ⊥

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v7)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v7) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v61) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_MemAttn_MemAttnIdeal : Prop :=
  True

def algebraic_MemAttnIdeal_MemAttnRefIdeal_pre_mem_finite [hMemAttnIdeal : Cert.MemAttnIdeal.Facts] [hMemAttnRefIdeal : Cert.MemAttnRefIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_mem_finite m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v23) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_MemSample_MemSampleIdeal : Prop :=
  True

def algebraic_MemSampleIdeal_MemSampleRefIdeal_pre_mem_sample_finite [hMemSampleIdeal : Cert.MemSampleIdeal.Facts] [hMemSampleRefIdeal : Cert.MemSampleRefIdeal.Facts] [hPre_mem_sample_finite : Cert.Pre_mem_sample_finite.Facts] : Prop :=
  ∀ (m : (ℓ : Loc Cert.MemSampleIdeal.nD Cert.MemSampleIdeal.τ Cert.MemSampleIdeal.sig) → Buf (Elt Ideal) ℓ) (g : Dev Cert.MemSampleIdeal.nD → PrngReg)
    (m' : (ℓ : Loc Cert.MemSampleRefIdeal.nD Cert.MemSampleRefIdeal.τ Cert.MemSampleRefIdeal.sig) → Buf (Elt Ideal) ℓ) (g' : Dev Cert.MemSampleRefIdeal.nD → PrngReg), Pre_MemSampleIdeal_mem_sample_finite m →
    (∀ c : Dev Cert.MemSampleIdeal.nD,
      m' ((c.tc : Thread Cert.MemSampleRefIdeal.nD Cert.MemSampleRefIdeal.τ).loc Cert.MemSampleRefIdeal.main_arg0) = m ((c.tc : Thread Cert.MemSampleIdeal.nD Cert.MemSampleIdeal.τ).loc Cert.MemSampleIdeal.main_arg0)
      ∧ m' ((c.tc : Thread Cert.MemSampleRefIdeal.nD Cert.MemSampleRefIdeal.τ).loc Cert.MemSampleRefIdeal.main_arg1) = m ((c.tc : Thread Cert.MemSampleIdeal.nD Cert.MemSampleIdeal.τ).loc Cert.MemSampleIdeal.main_arg1)
      ∧ m' ((c.tc : Thread Cert.MemSampleRefIdeal.nD Cert.MemSampleRefIdeal.τ).loc Cert.MemSampleRefIdeal.main_arg2) = m ((c.tc : Thread Cert.MemSampleIdeal.nD Cert.MemSampleIdeal.τ).loc Cert.MemSampleIdeal.main_arg2)) →
    ∃ (v0 : (c : Dev Cert.MemSampleIdeal.nD) → Buf (Elt Ideal) ((c.tc : Thread Cert.MemSampleIdeal.nD Cert.MemSampleIdeal.τ).loc Cert.MemSampleIdeal.main_v2)),
      θ_run (Cert.MemSampleIdeal.defs (F := Ideal)) (onTc (τ := Cert.MemSampleIdeal.τ) (Cert.MemSampleIdeal.main (F := Ideal))) ⟨m, fun _ => 0, g⟩ (fun r => ∀ c : Dev Cert.MemSampleIdeal.nD,
          r.2.mem ((c.tc : Thread Cert.MemSampleIdeal.nD Cert.MemSampleIdeal.τ).loc Cert.MemSampleIdeal.main_v2) = v0 c
          ∧ r.2.mem ((c.tc : Thread Cert.MemSampleIdeal.nD Cert.MemSampleIdeal.τ).loc Cert.MemSampleIdeal.main_arg0) = m ((c.tc : Thread Cert.MemSampleIdeal.nD Cert.MemSampleIdeal.τ).loc Cert.MemSampleIdeal.main_arg0)
          ∧ r.2.mem ((c.tc : Thread Cert.MemSampleIdeal.nD Cert.MemSampleIdeal.τ).loc Cert.MemSampleIdeal.main_arg1) = m ((c.tc : Thread Cert.MemSampleIdeal.nD Cert.MemSampleIdeal.τ).loc Cert.MemSampleIdeal.main_arg1)
          ∧ r.2.mem ((c.tc : Thread Cert.MemSampleIdeal.nD Cert.MemSampleIdeal.τ).loc Cert.MemSampleIdeal.main_arg2) = m ((c.tc : Thread Cert.MemSampleIdeal.nD Cert.MemSampleIdeal.τ).loc Cert.MemSampleIdeal.main_arg2))
      ∧ θ_run (Cert.MemSampleRefIdeal.defs (F := Ideal)) (onTc (τ := Cert.MemSampleRefIdeal.τ) (Cert.MemSampleRefIdeal.main (F := Ideal))) ⟨m', fun _ => 0, g'⟩ (fun r => ∀ c : Dev Cert.MemSampleRefIdeal.nD,
          r.2.mem ((c.tc : Thread Cert.MemSampleRefIdeal.nD Cert.MemSampleRefIdeal.τ).loc Cert.MemSampleRefIdeal.main_v19) = v0 c
          ∧ r.2.mem ((c.tc : Thread Cert.MemSampleRefIdeal.nD Cert.MemSampleRefIdeal.τ).loc Cert.MemSampleRefIdeal.main_arg0) = m' ((c.tc : Thread Cert.MemSampleRefIdeal.nD Cert.MemSampleRefIdeal.τ).loc Cert.MemSampleRefIdeal.main_arg0)
          ∧ r.2.mem ((c.tc : Thread Cert.MemSampleRefIdeal.nD Cert.MemSampleRefIdeal.τ).loc Cert.MemSampleRefIdeal.main_arg1) = m' ((c.tc : Thread Cert.MemSampleRefIdeal.nD Cert.MemSampleRefIdeal.τ).loc Cert.MemSampleRefIdeal.main_arg1)
          ∧ r.2.mem ((c.tc : Thread Cert.MemSampleRefIdeal.nD Cert.MemSampleRefIdeal.τ).loc Cert.MemSampleRefIdeal.main_arg2) = m' ((c.tc : Thread Cert.MemSampleRefIdeal.nD Cert.MemSampleRefIdeal.τ).loc Cert.MemSampleRefIdeal.main_arg2))

def preserves_BandSample_BandSampleIdeal : Prop :=
  True

def algebraic_BandSampleIdeal_BandSampleRefIdeal_pre_band_sample_finite [hBandSampleIdeal : Cert.BandSampleIdeal.Facts] [hBandSampleRefIdeal : Cert.BandSampleRefIdeal.Facts] [hPre_band_sample_finite : Cert.Pre_band_sample_finite.Facts] : Prop :=
  ∀ (m : (ℓ : Loc Cert.BandSampleIdeal.nD Cert.BandSampleIdeal.τ Cert.BandSampleIdeal.sig) → Buf (Elt Ideal) ℓ) (g : Dev Cert.BandSampleIdeal.nD → PrngReg)
    (m' : (ℓ : Loc Cert.BandSampleRefIdeal.nD Cert.BandSampleRefIdeal.τ Cert.BandSampleRefIdeal.sig) → Buf (Elt Ideal) ℓ) (g' : Dev Cert.BandSampleRefIdeal.nD → PrngReg), Pre_BandSampleIdeal_band_sample_finite m →
    (∀ c : Dev Cert.BandSampleIdeal.nD,
      m' ((c.tc : Thread Cert.BandSampleRefIdeal.nD Cert.BandSampleRefIdeal.τ).loc Cert.BandSampleRefIdeal.main_arg0) = m ((c.tc : Thread Cert.BandSampleIdeal.nD Cert.BandSampleIdeal.τ).loc Cert.BandSampleIdeal.main_arg0)
      ∧ m' ((c.tc : Thread Cert.BandSampleRefIdeal.nD Cert.BandSampleRefIdeal.τ).loc Cert.BandSampleRefIdeal.main_arg1) = m ((c.tc : Thread Cert.BandSampleIdeal.nD Cert.BandSampleIdeal.τ).loc Cert.BandSampleIdeal.main_arg1)
      ∧ m' ((c.tc : Thread Cert.BandSampleRefIdeal.nD Cert.BandSampleRefIdeal.τ).loc Cert.BandSampleRefIdeal.main_arg2) = m ((c.tc : Thread Cert.BandSampleIdeal.nD Cert.BandSampleIdeal.τ).loc Cert.BandSampleIdeal.main_arg2)
      ∧ m' ((c.tc : Thread Cert.BandSampleRefIdeal.nD Cert.BandSampleRefIdeal.τ).loc Cert.BandSampleRefIdeal.main_arg3) = m ((c.tc : Thread Cert.BandSampleIdeal.nD Cert.BandSampleIdeal.τ).loc Cert.BandSampleIdeal.main_arg3)) →
    ∃ (v0 : (c : Dev Cert.BandSampleIdeal.nD) → Buf (Elt Ideal) ((c.tc : Thread Cert.BandSampleIdeal.nD Cert.BandSampleIdeal.τ).loc Cert.BandSampleIdeal.main_v9)),
      θ_run (Cert.BandSampleIdeal.defs (F := Ideal)) (onTc (τ := Cert.BandSampleIdeal.τ) (Cert.BandSampleIdeal.main (F := Ideal))) ⟨m, fun _ => 0, g⟩ (fun r => ∀ c : Dev Cert.BandSampleIdeal.nD,
          r.2.mem ((c.tc : Thread Cert.BandSampleIdeal.nD Cert.BandSampleIdeal.τ).loc Cert.BandSampleIdeal.main_v9) = v0 c
          ∧ r.2.mem ((c.tc : Thread Cert.BandSampleIdeal.nD Cert.BandSampleIdeal.τ).loc Cert.BandSampleIdeal.main_arg0) = m ((c.tc : Thread Cert.BandSampleIdeal.nD Cert.BandSampleIdeal.τ).loc Cert.BandSampleIdeal.main_arg0)
          ∧ r.2.mem ((c.tc : Thread Cert.BandSampleIdeal.nD Cert.BandSampleIdeal.τ).loc Cert.BandSampleIdeal.main_arg1) = m ((c.tc : Thread Cert.BandSampleIdeal.nD Cert.BandSampleIdeal.τ).loc Cert.BandSampleIdeal.main_arg1)
          ∧ r.2.mem ((c.tc : Thread Cert.BandSampleIdeal.nD Cert.BandSampleIdeal.τ).loc Cert.BandSampleIdeal.main_arg2) = m ((c.tc : Thread Cert.BandSampleIdeal.nD Cert.BandSampleIdeal.τ).loc Cert.BandSampleIdeal.main_arg2)
          ∧ r.2.mem ((c.tc : Thread Cert.BandSampleIdeal.nD Cert.BandSampleIdeal.τ).loc Cert.BandSampleIdeal.main_arg3) = m ((c.tc : Thread Cert.BandSampleIdeal.nD Cert.BandSampleIdeal.τ).loc Cert.BandSampleIdeal.main_arg3))
      ∧ θ_run (Cert.BandSampleRefIdeal.defs (F := Ideal)) (onTc (τ := Cert.BandSampleRefIdeal.τ) (Cert.BandSampleRefIdeal.main (F := Ideal))) ⟨m', fun _ => 0, g'⟩ (fun r => ∀ c : Dev Cert.BandSampleRefIdeal.nD,
          r.2.mem ((c.tc : Thread Cert.BandSampleRefIdeal.nD Cert.BandSampleRefIdeal.τ).loc Cert.BandSampleRefIdeal.main_v50) = v0 c
          ∧ r.2.mem ((c.tc : Thread Cert.BandSampleRefIdeal.nD Cert.BandSampleRefIdeal.τ).loc Cert.BandSampleRefIdeal.main_arg0) = m' ((c.tc : Thread Cert.BandSampleRefIdeal.nD Cert.BandSampleRefIdeal.τ).loc Cert.BandSampleRefIdeal.main_arg0)
          ∧ r.2.mem ((c.tc : Thread Cert.BandSampleRefIdeal.nD Cert.BandSampleRefIdeal.τ).loc Cert.BandSampleRefIdeal.main_arg1) = m' ((c.tc : Thread Cert.BandSampleRefIdeal.nD Cert.BandSampleRefIdeal.τ).loc Cert.BandSampleRefIdeal.main_arg1)
          ∧ r.2.mem ((c.tc : Thread Cert.BandSampleRefIdeal.nD Cert.BandSampleRefIdeal.τ).loc Cert.BandSampleRefIdeal.main_arg2) = m' ((c.tc : Thread Cert.BandSampleRefIdeal.nD Cert.BandSampleRefIdeal.τ).loc Cert.BandSampleRefIdeal.main_arg2)
          ∧ r.2.mem ((c.tc : Thread Cert.BandSampleRefIdeal.nD Cert.BandSampleRefIdeal.τ).loc Cert.BandSampleRefIdeal.main_arg3) = m' ((c.tc : Thread Cert.BandSampleRefIdeal.nD Cert.BandSampleRefIdeal.τ).loc Cert.BandSampleRefIdeal.main_arg3))

def preserves_KvProduct_KvProductIdeal : Prop :=
  True

def algebraic_KvProductIdeal_KvRefIdeal [hKvProductIdeal : Cert.KvProductIdeal.Facts] [hKvRefIdeal : Cert.KvRefIdeal.Facts] : Prop :=
  ∀ (m : (ℓ : Loc Cert.KvProductIdeal.nD Cert.KvProductIdeal.τ Cert.KvProductIdeal.sig) → Buf (Elt Ideal) ℓ) (g : Dev Cert.KvProductIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvProductIdeal m →
    (∀ c : Dev Cert.KvProductIdeal.nD,
      m' ((c.tc : Thread Cert.KvRefIdeal.nD Cert.KvRefIdeal.τ).loc Cert.KvRefIdeal.main_arg0) = m ((c.tc : Thread Cert.KvProductIdeal.nD Cert.KvProductIdeal.τ).loc Cert.KvProductIdeal.main_arg0)
      ∧ m' ((c.tc : Thread Cert.KvRefIdeal.nD Cert.KvRefIdeal.τ).loc Cert.KvRefIdeal.main_arg1) = m ((c.tc : Thread Cert.KvProductIdeal.nD Cert.KvProductIdeal.τ).loc Cert.KvProductIdeal.main_arg1)) →
    ∃ (v0 : (c : Dev Cert.KvProductIdeal.nD) → Buf (Elt Ideal) ((c.tc : Thread Cert.KvProductIdeal.nD Cert.KvProductIdeal.τ).loc Cert.KvProductIdeal.main_v1)),
      θ_run (Cert.KvProductIdeal.defs (F := Ideal)) (onTc (τ := Cert.KvProductIdeal.τ) (Cert.KvProductIdeal.main (F := Ideal))) ⟨m, fun _ => 0, g⟩ (fun r => ∀ c : Dev Cert.KvProductIdeal.nD,
          r.2.mem ((c.tc : Thread Cert.KvProductIdeal.nD Cert.KvProductIdeal.τ).loc Cert.KvProductIdeal.main_v1) = v0 c
          ∧ r.2.mem ((c.tc : Thread Cert.KvProductIdeal.nD Cert.KvProductIdeal.τ).loc Cert.KvProductIdeal.main_arg0) = m ((c.tc : Thread Cert.KvProductIdeal.nD Cert.KvProductIdeal.τ).loc Cert.KvProductIdeal.main_arg0)
          ∧ r.2.mem ((c.tc : Thread Cert.KvProductIdeal.nD Cert.KvProductIdeal.τ).loc Cert.KvProductIdeal.main_arg1) = m ((c.tc : Thread Cert.KvProductIdeal.nD Cert.KvProductIdeal.τ).loc Cert.KvProductIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_InAProduct_InAProductIdeal : Prop :=
  True

def algebraic_InAProductIdeal_InARefIdeal [hInAProductIdeal : Cert.InAProductIdeal.Facts] [hInARefIdeal : Cert.InARefIdeal.Facts] : Prop :=
  ∀ (m : (ℓ : Loc Cert.InAProductIdeal.nD Cert.InAProductIdeal.τ Cert.InAProductIdeal.sig) → Buf (Elt Ideal) ℓ) (g : Dev Cert.InAProductIdeal.nD → PrngReg)
    (m' : (ℓ : Loc Cert.InARefIdeal.nD Cert.InARefIdeal.τ Cert.InARefIdeal.sig) → Buf (Elt Ideal) ℓ) (g' : Dev Cert.InARefIdeal.nD → PrngReg), Pre_InAProductIdeal m →
    (∀ c : Dev Cert.InAProductIdeal.nD,
      m' ((c.tc : Thread Cert.InARefIdeal.nD Cert.InARefIdeal.τ).loc Cert.InARefIdeal.main_arg0) = m ((c.tc : Thread Cert.InAProductIdeal.nD Cert.InAProductIdeal.τ).loc Cert.InAProductIdeal.main_arg0)
      ∧ m' ((c.tc : Thread Cert.InARefIdeal.nD Cert.InARefIdeal.τ).loc Cert.InARefIdeal.main_arg1) = m ((c.tc : Thread Cert.InAProductIdeal.nD Cert.InAProductIdeal.τ).loc Cert.InAProductIdeal.main_arg1)) →
    ∃ (v0 : (c : Dev Cert.InAProductIdeal.nD) → Buf (Elt Ideal) ((c.tc : Thread Cert.InAProductIdeal.nD Cert.InAProductIdeal.τ).loc Cert.InAProductIdeal.main_v1)),
      θ_run (Cert.InAProductIdeal.defs (F := Ideal)) (onTc (τ := Cert.InAProductIdeal.τ) (Cert.InAProductIdeal.main (F := Ideal))) ⟨m, fun _ => 0, g⟩ (fun r => ∀ c : Dev Cert.InAProductIdeal.nD,
          r.2.mem ((c.tc : Thread Cert.InAProductIdeal.nD Cert.InAProductIdeal.τ).loc Cert.InAProductIdeal.main_v1) = v0 c
          ∧ r.2.mem ((c.tc : Thread Cert.InAProductIdeal.nD Cert.InAProductIdeal.τ).loc Cert.InAProductIdeal.main_arg0) = m ((c.tc : Thread Cert.InAProductIdeal.nD Cert.InAProductIdeal.τ).loc Cert.InAProductIdeal.main_arg0)
          ∧ r.2.mem ((c.tc : Thread Cert.InAProductIdeal.nD Cert.InAProductIdeal.τ).loc Cert.InAProductIdeal.main_arg1) = m ((c.tc : Thread Cert.InAProductIdeal.nD Cert.InAProductIdeal.τ).loc Cert.InAProductIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v2) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InBProduct_InBProductIdeal : Prop :=
  True

def algebraic_InBProductIdeal_InBRefIdeal [hInBProductIdeal : Cert.InBProductIdeal.Facts] [hInBRefIdeal : Cert.InBRefIdeal.Facts] : Prop :=
  ∀ (m : (ℓ : Loc Cert.InBProductIdeal.nD Cert.InBProductIdeal.τ Cert.InBProductIdeal.sig) → Buf (Elt Ideal) ℓ) (g : Dev Cert.InBProductIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBProductIdeal m →
    (∀ c : Dev Cert.InBProductIdeal.nD,
      m' ((c.tc : Thread Cert.InBRefIdeal.nD Cert.InBRefIdeal.τ).loc Cert.InBRefIdeal.main_arg0) = m ((c.tc : Thread Cert.InBProductIdeal.nD Cert.InBProductIdeal.τ).loc Cert.InBProductIdeal.main_arg0)
      ∧ m' ((c.tc : Thread Cert.InBRefIdeal.nD Cert.InBRefIdeal.τ).loc Cert.InBRefIdeal.main_arg1) = m ((c.tc : Thread Cert.InBProductIdeal.nD Cert.InBProductIdeal.τ).loc Cert.InBProductIdeal.main_arg1)) →
    ∃ (v0 : (c : Dev Cert.InBProductIdeal.nD) → Buf (Elt Ideal) ((c.tc : Thread Cert.InBProductIdeal.nD Cert.InBProductIdeal.τ).loc Cert.InBProductIdeal.main_v1)),
      θ_run (Cert.InBProductIdeal.defs (F := Ideal)) (onTc (τ := Cert.InBProductIdeal.τ) (Cert.InBProductIdeal.main (F := Ideal))) ⟨m, fun _ => 0, g⟩ (fun r => ∀ c : Dev Cert.InBProductIdeal.nD,
          r.2.mem ((c.tc : Thread Cert.InBProductIdeal.nD Cert.InBProductIdeal.τ).loc Cert.InBProductIdeal.main_v1) = v0 c
          ∧ r.2.mem ((c.tc : Thread Cert.InBProductIdeal.nD Cert.InBProductIdeal.τ).loc Cert.InBProductIdeal.main_arg0) = m ((c.tc : Thread Cert.InBProductIdeal.nD Cert.InBProductIdeal.τ).loc Cert.InBProductIdeal.main_arg0)
          ∧ r.2.mem ((c.tc : Thread Cert.InBProductIdeal.nD Cert.InBProductIdeal.τ).loc Cert.InBProductIdeal.main_arg1) = m ((c.tc : Thread Cert.InBProductIdeal.nD Cert.InBProductIdeal.τ).loc Cert.InBProductIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v2) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_QueryProduct_QueryProductIdeal : Prop :=
  True

def algebraic_QueryProductIdeal_QueryRefIdeal [hQueryProductIdeal : Cert.QueryProductIdeal.Facts] [hQueryRefIdeal : Cert.QueryRefIdeal.Facts] : Prop :=
  ∀ (m : (ℓ : Loc Cert.QueryProductIdeal.nD Cert.QueryProductIdeal.τ Cert.QueryProductIdeal.sig) → Buf (Elt Ideal) ℓ) (g : Dev Cert.QueryProductIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryProductIdeal m →
    (∀ c : Dev Cert.QueryProductIdeal.nD,
      m' ((c.tc : Thread Cert.QueryRefIdeal.nD Cert.QueryRefIdeal.τ).loc Cert.QueryRefIdeal.main_arg0) = m ((c.tc : Thread Cert.QueryProductIdeal.nD Cert.QueryProductIdeal.τ).loc Cert.QueryProductIdeal.main_arg0)
      ∧ m' ((c.tc : Thread Cert.QueryRefIdeal.nD Cert.QueryRefIdeal.τ).loc Cert.QueryRefIdeal.main_arg1) = m ((c.tc : Thread Cert.QueryProductIdeal.nD Cert.QueryProductIdeal.τ).loc Cert.QueryProductIdeal.main_arg1)) →
    ∃ (v0 : (c : Dev Cert.QueryProductIdeal.nD) → Buf (Elt Ideal) ((c.tc : Thread Cert.QueryProductIdeal.nD Cert.QueryProductIdeal.τ).loc Cert.QueryProductIdeal.main_v0)),
      θ_run (Cert.QueryProductIdeal.defs (F := Ideal)) (onTc (τ := Cert.QueryProductIdeal.τ) (Cert.QueryProductIdeal.main (F := Ideal))) ⟨m, fun _ => 0, g⟩ (fun r => ∀ c : Dev Cert.QueryProductIdeal.nD,
          r.2.mem ((c.tc : Thread Cert.QueryProductIdeal.nD Cert.QueryProductIdeal.τ).loc Cert.QueryProductIdeal.main_v0) = v0 c
          ∧ r.2.mem ((c.tc : Thread Cert.QueryProductIdeal.nD Cert.QueryProductIdeal.τ).loc Cert.QueryProductIdeal.main_arg0) = m ((c.tc : Thread Cert.QueryProductIdeal.nD Cert.QueryProductIdeal.τ).loc Cert.QueryProductIdeal.main_arg0)
          ∧ r.2.mem ((c.tc : Thread Cert.QueryProductIdeal.nD Cert.QueryProductIdeal.τ).loc Cert.QueryProductIdeal.main_arg1) = m ((c.tc : Thread Cert.QueryProductIdeal.nD Cert.QueryProductIdeal.τ).loc Cert.QueryProductIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v2) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_InASample_InASampleIdeal : Prop :=
  True

def algebraic_InASampleIdeal_InASampleRefIdeal [hInASampleIdeal : Cert.InASampleIdeal.Facts] [hInASampleRefIdeal : Cert.InASampleRefIdeal.Facts] : Prop :=
  ∀ (m : (ℓ : Loc Cert.InASampleIdeal.nD Cert.InASampleIdeal.τ Cert.InASampleIdeal.sig) → Buf (Elt Ideal) ℓ) (g : Dev Cert.InASampleIdeal.nD → PrngReg)
    (m' : (ℓ : Loc Cert.InASampleRefIdeal.nD Cert.InASampleRefIdeal.τ Cert.InASampleRefIdeal.sig) → Buf (Elt Ideal) ℓ) (g' : Dev Cert.InASampleRefIdeal.nD → PrngReg), Pre_InASampleIdeal m →
    (∀ c : Dev Cert.InASampleIdeal.nD,
      m' ((c.tc : Thread Cert.InASampleRefIdeal.nD Cert.InASampleRefIdeal.τ).loc Cert.InASampleRefIdeal.main_arg0) = m ((c.tc : Thread Cert.InASampleIdeal.nD Cert.InASampleIdeal.τ).loc Cert.InASampleIdeal.main_arg0)
      ∧ m' ((c.tc : Thread Cert.InASampleRefIdeal.nD Cert.InASampleRefIdeal.τ).loc Cert.InASampleRefIdeal.main_arg1) = m ((c.tc : Thread Cert.InASampleIdeal.nD Cert.InASampleIdeal.τ).loc Cert.InASampleIdeal.main_arg1)) →
    ∃ (v0 : (c : Dev Cert.InASampleIdeal.nD) → Buf (Elt Ideal) ((c.tc : Thread Cert.InASampleIdeal.nD Cert.InASampleIdeal.τ).loc Cert.InASampleIdeal.main_v1)),
      θ_run (Cert.InASampleIdeal.defs (F := Ideal)) (onTc (τ := Cert.InASampleIdeal.τ) (Cert.InASampleIdeal.main (F := Ideal))) ⟨m, fun _ => 0, g⟩ (fun r => ∀ c : Dev Cert.InASampleIdeal.nD,
          r.2.mem ((c.tc : Thread Cert.InASampleIdeal.nD Cert.InASampleIdeal.τ).loc Cert.InASampleIdeal.main_v1) = v0 c
          ∧ r.2.mem ((c.tc : Thread Cert.InASampleIdeal.nD Cert.InASampleIdeal.τ).loc Cert.InASampleIdeal.main_arg0) = m ((c.tc : Thread Cert.InASampleIdeal.nD Cert.InASampleIdeal.τ).loc Cert.InASampleIdeal.main_arg0)
          ∧ r.2.mem ((c.tc : Thread Cert.InASampleIdeal.nD Cert.InASampleIdeal.τ).loc Cert.InASampleIdeal.main_arg1) = m ((c.tc : Thread Cert.InASampleIdeal.nD Cert.InASampleIdeal.τ).loc Cert.InASampleIdeal.main_arg1))
      ∧ θ_run (Cert.InASampleRefIdeal.defs (F := Ideal)) (onTc (τ := Cert.InASampleRefIdeal.τ) (Cert.InASampleRefIdeal.main (F := Ideal))) ⟨m', fun _ => 0, g'⟩ (fun r => ∀ c : Dev Cert.InASampleRefIdeal.nD,
          r.2.mem ((c.tc : Thread Cert.InASampleRefIdeal.nD Cert.InASampleRefIdeal.τ).loc Cert.InASampleRefIdeal.main_v2) = v0 c
          ∧ r.2.mem ((c.tc : Thread Cert.InASampleRefIdeal.nD Cert.InASampleRefIdeal.τ).loc Cert.InASampleRefIdeal.main_arg0) = m' ((c.tc : Thread Cert.InASampleRefIdeal.nD Cert.InASampleRefIdeal.τ).loc Cert.InASampleRefIdeal.main_arg0)
          ∧ r.2.mem ((c.tc : Thread Cert.InASampleRefIdeal.nD Cert.InASampleRefIdeal.τ).loc Cert.InASampleRefIdeal.main_arg1) = m' ((c.tc : Thread Cert.InASampleRefIdeal.nD Cert.InASampleRefIdeal.τ).loc Cert.InASampleRefIdeal.main_arg1))

def preserves_InBSample_InBSampleIdeal : Prop :=
  True

def algebraic_InBSampleIdeal_InBSampleRefIdeal [hInBSampleIdeal : Cert.InBSampleIdeal.Facts] [hInBSampleRefIdeal : Cert.InBSampleRefIdeal.Facts] : Prop :=
  ∀ (m : (ℓ : Loc Cert.InBSampleIdeal.nD Cert.InBSampleIdeal.τ Cert.InBSampleIdeal.sig) → Buf (Elt Ideal) ℓ) (g : Dev Cert.InBSampleIdeal.nD → PrngReg)
    (m' : (ℓ : Loc Cert.InBSampleRefIdeal.nD Cert.InBSampleRefIdeal.τ Cert.InBSampleRefIdeal.sig) → Buf (Elt Ideal) ℓ) (g' : Dev Cert.InBSampleRefIdeal.nD → PrngReg), Pre_InBSampleIdeal m →
    (∀ c : Dev Cert.InBSampleIdeal.nD,
      m' ((c.tc : Thread Cert.InBSampleRefIdeal.nD Cert.InBSampleRefIdeal.τ).loc Cert.InBSampleRefIdeal.main_arg0) = m ((c.tc : Thread Cert.InBSampleIdeal.nD Cert.InBSampleIdeal.τ).loc Cert.InBSampleIdeal.main_arg0)
      ∧ m' ((c.tc : Thread Cert.InBSampleRefIdeal.nD Cert.InBSampleRefIdeal.τ).loc Cert.InBSampleRefIdeal.main_arg1) = m ((c.tc : Thread Cert.InBSampleIdeal.nD Cert.InBSampleIdeal.τ).loc Cert.InBSampleIdeal.main_arg1)) →
    ∃ (v0 : (c : Dev Cert.InBSampleIdeal.nD) → Buf (Elt Ideal) ((c.tc : Thread Cert.InBSampleIdeal.nD Cert.InBSampleIdeal.τ).loc Cert.InBSampleIdeal.main_v1)),
      θ_run (Cert.InBSampleIdeal.defs (F := Ideal)) (onTc (τ := Cert.InBSampleIdeal.τ) (Cert.InBSampleIdeal.main (F := Ideal))) ⟨m, fun _ => 0, g⟩ (fun r => ∀ c : Dev Cert.InBSampleIdeal.nD,
          r.2.mem ((c.tc : Thread Cert.InBSampleIdeal.nD Cert.InBSampleIdeal.τ).loc Cert.InBSampleIdeal.main_v1) = v0 c
          ∧ r.2.mem ((c.tc : Thread Cert.InBSampleIdeal.nD Cert.InBSampleIdeal.τ).loc Cert.InBSampleIdeal.main_arg0) = m ((c.tc : Thread Cert.InBSampleIdeal.nD Cert.InBSampleIdeal.τ).loc Cert.InBSampleIdeal.main_arg0)
          ∧ r.2.mem ((c.tc : Thread Cert.InBSampleIdeal.nD Cert.InBSampleIdeal.τ).loc Cert.InBSampleIdeal.main_arg1) = m ((c.tc : Thread Cert.InBSampleIdeal.nD Cert.InBSampleIdeal.τ).loc Cert.InBSampleIdeal.main_arg1))
      ∧ θ_run (Cert.InBSampleRefIdeal.defs (F := Ideal)) (onTc (τ := Cert.InBSampleRefIdeal.τ) (Cert.InBSampleRefIdeal.main (F := Ideal))) ⟨m', fun _ => 0, g'⟩ (fun r => ∀ c : Dev Cert.InBSampleRefIdeal.nD,
          r.2.mem ((c.tc : Thread Cert.InBSampleRefIdeal.nD Cert.InBSampleRefIdeal.τ).loc Cert.InBSampleRefIdeal.main_v2) = v0 c
          ∧ r.2.mem ((c.tc : Thread Cert.InBSampleRefIdeal.nD Cert.InBSampleRefIdeal.τ).loc Cert.InBSampleRefIdeal.main_arg0) = m' ((c.tc : Thread Cert.InBSampleRefIdeal.nD Cert.InBSampleRefIdeal.τ).loc Cert.InBSampleRefIdeal.main_arg0)
          ∧ r.2.mem ((c.tc : Thread Cert.InBSampleRefIdeal.nD Cert.InBSampleRefIdeal.τ).loc Cert.InBSampleRefIdeal.main_arg1) = m' ((c.tc : Thread Cert.InBSampleRefIdeal.nD Cert.InBSampleRefIdeal.τ).loc Cert.InBSampleRefIdeal.main_arg1))

def preserves_QuerySample_QuerySampleIdeal : Prop :=
  True

def algebraic_QuerySampleIdeal_QuerySampleRefIdeal [hQuerySampleIdeal : Cert.QuerySampleIdeal.Facts] [hQuerySampleRefIdeal : Cert.QuerySampleRefIdeal.Facts] : Prop :=
  ∀ (m : (ℓ : Loc Cert.QuerySampleIdeal.nD Cert.QuerySampleIdeal.τ Cert.QuerySampleIdeal.sig) → Buf (Elt Ideal) ℓ) (g : Dev Cert.QuerySampleIdeal.nD → PrngReg)
    (m' : (ℓ : Loc Cert.QuerySampleRefIdeal.nD Cert.QuerySampleRefIdeal.τ Cert.QuerySampleRefIdeal.sig) → Buf (Elt Ideal) ℓ) (g' : Dev Cert.QuerySampleRefIdeal.nD → PrngReg), Pre_QuerySampleIdeal m →
    (∀ c : Dev Cert.QuerySampleIdeal.nD,
      m' ((c.tc : Thread Cert.QuerySampleRefIdeal.nD Cert.QuerySampleRefIdeal.τ).loc Cert.QuerySampleRefIdeal.main_arg0) = m ((c.tc : Thread Cert.QuerySampleIdeal.nD Cert.QuerySampleIdeal.τ).loc Cert.QuerySampleIdeal.main_arg0)
      ∧ m' ((c.tc : Thread Cert.QuerySampleRefIdeal.nD Cert.QuerySampleRefIdeal.τ).loc Cert.QuerySampleRefIdeal.main_arg1) = m ((c.tc : Thread Cert.QuerySampleIdeal.nD Cert.QuerySampleIdeal.τ).loc Cert.QuerySampleIdeal.main_arg1)) →
    ∃ (v0 : (c : Dev Cert.QuerySampleIdeal.nD) → Buf (Elt Ideal) ((c.tc : Thread Cert.QuerySampleIdeal.nD Cert.QuerySampleIdeal.τ).loc Cert.QuerySampleIdeal.main_v0)),
      θ_run (Cert.QuerySampleIdeal.defs (F := Ideal)) (onTc (τ := Cert.QuerySampleIdeal.τ) (Cert.QuerySampleIdeal.main (F := Ideal))) ⟨m, fun _ => 0, g⟩ (fun r => ∀ c : Dev Cert.QuerySampleIdeal.nD,
          r.2.mem ((c.tc : Thread Cert.QuerySampleIdeal.nD Cert.QuerySampleIdeal.τ).loc Cert.QuerySampleIdeal.main_v0) = v0 c
          ∧ r.2.mem ((c.tc : Thread Cert.QuerySampleIdeal.nD Cert.QuerySampleIdeal.τ).loc Cert.QuerySampleIdeal.main_arg0) = m ((c.tc : Thread Cert.QuerySampleIdeal.nD Cert.QuerySampleIdeal.τ).loc Cert.QuerySampleIdeal.main_arg0)
          ∧ r.2.mem ((c.tc : Thread Cert.QuerySampleIdeal.nD Cert.QuerySampleIdeal.τ).loc Cert.QuerySampleIdeal.main_arg1) = m ((c.tc : Thread Cert.QuerySampleIdeal.nD Cert.QuerySampleIdeal.τ).loc Cert.QuerySampleIdeal.main_arg1))
      ∧ θ_run (Cert.QuerySampleRefIdeal.defs (F := Ideal)) (onTc (τ := Cert.QuerySampleRefIdeal.τ) (Cert.QuerySampleRefIdeal.main (F := Ideal))) ⟨m', fun _ => 0, g'⟩ (fun r => ∀ c : Dev Cert.QuerySampleRefIdeal.nD,
          r.2.mem ((c.tc : Thread Cert.QuerySampleRefIdeal.nD Cert.QuerySampleRefIdeal.τ).loc Cert.QuerySampleRefIdeal.main_v2) = v0 c
          ∧ r.2.mem ((c.tc : Thread Cert.QuerySampleRefIdeal.nD Cert.QuerySampleRefIdeal.τ).loc Cert.QuerySampleRefIdeal.main_arg0) = m' ((c.tc : Thread Cert.QuerySampleRefIdeal.nD Cert.QuerySampleRefIdeal.τ).loc Cert.QuerySampleRefIdeal.main_arg0)
          ∧ r.2.mem ((c.tc : Thread Cert.QuerySampleRefIdeal.nD Cert.QuerySampleRefIdeal.τ).loc Cert.QuerySampleRefIdeal.main_arg1) = m' ((c.tc : Thread Cert.QuerySampleRefIdeal.nD Cert.QuerySampleRefIdeal.τ).loc Cert.QuerySampleRefIdeal.main_arg1))

def preserves_InBWeight_InBWeightIdeal : Prop :=
  True

def algebraic_InBWeightIdeal_InBWeightRefIdeal [hInBWeightIdeal : Cert.InBWeightIdeal.Facts] [hInBWeightRefIdeal : Cert.InBWeightRefIdeal.Facts] : Prop :=
  ∀ (m : (ℓ : Loc Cert.InBWeightIdeal.nD Cert.InBWeightIdeal.τ Cert.InBWeightIdeal.sig) → Buf (Elt Ideal) ℓ) (g : Dev Cert.InBWeightIdeal.nD → PrngReg)
    (m' : (ℓ : Loc Cert.InBWeightRefIdeal.nD Cert.InBWeightRefIdeal.τ Cert.InBWeightRefIdeal.sig) → Buf (Elt Ideal) ℓ) (g' : Dev Cert.InBWeightRefIdeal.nD → PrngReg), Pre_InBWeightIdeal m →
    (∀ c : Dev Cert.InBWeightIdeal.nD,
      m' ((c.tc : Thread Cert.InBWeightRefIdeal.nD Cert.InBWeightRefIdeal.τ).loc Cert.InBWeightRefIdeal.main_arg0) = m ((c.tc : Thread Cert.InBWeightIdeal.nD Cert.InBWeightIdeal.τ).loc Cert.InBWeightIdeal.main_arg0)) →
    ∃ (v0 : (c : Dev Cert.InBWeightIdeal.nD) → Buf (Elt Ideal) ((c.tc : Thread Cert.InBWeightIdeal.nD Cert.InBWeightIdeal.τ).loc Cert.InBWeightIdeal.main_v0)),
      θ_run (Cert.InBWeightIdeal.defs (F := Ideal)) (onTc (τ := Cert.InBWeightIdeal.τ) (Cert.InBWeightIdeal.main (F := Ideal))) ⟨m, fun _ => 0, g⟩ (fun r => ∀ c : Dev Cert.InBWeightIdeal.nD,
          r.2.mem ((c.tc : Thread Cert.InBWeightIdeal.nD Cert.InBWeightIdeal.τ).loc Cert.InBWeightIdeal.main_v0) = v0 c
          ∧ r.2.mem ((c.tc : Thread Cert.InBWeightIdeal.nD Cert.InBWeightIdeal.τ).loc Cert.InBWeightIdeal.main_arg0) = m ((c.tc : Thread Cert.InBWeightIdeal.nD Cert.InBWeightIdeal.τ).loc Cert.InBWeightIdeal.main_arg0))
      ∧ θ_run (Cert.InBWeightRefIdeal.defs (F := Ideal)) (onTc (τ := Cert.InBWeightRefIdeal.τ) (Cert.InBWeightRefIdeal.main (F := Ideal))) ⟨m', fun _ => 0, g'⟩ (fun r => ∀ c : Dev Cert.InBWeightRefIdeal.nD,
          r.2.mem ((c.tc : Thread Cert.InBWeightRefIdeal.nD Cert.InBWeightRefIdeal.τ).loc Cert.InBWeightRefIdeal.main_v1) = v0 c
          ∧ r.2.mem ((c.tc : Thread Cert.InBWeightRefIdeal.nD Cert.InBWeightRefIdeal.τ).loc Cert.InBWeightRefIdeal.main_arg0) = m' ((c.tc : Thread Cert.InBWeightRefIdeal.nD Cert.InBWeightRefIdeal.τ).loc Cert.InBWeightRefIdeal.main_arg0))

def preserves_KvWeightFirst_KvWeightFirstIdeal : Prop :=
  True

def algebraic_KvWeightFirstIdeal_KvWeightFirstRefIdeal [hKvWeightFirstIdeal : Cert.KvWeightFirstIdeal.Facts] [hKvWeightFirstRefIdeal : Cert.KvWeightFirstRefIdeal.Facts] : Prop :=
  ∀ (m : (ℓ : Loc Cert.KvWeightFirstIdeal.nD Cert.KvWeightFirstIdeal.τ Cert.KvWeightFirstIdeal.sig) → Buf (Elt Ideal) ℓ) (g : Dev Cert.KvWeightFirstIdeal.nD → PrngReg)
    (m' : (ℓ : Loc Cert.KvWeightFirstRefIdeal.nD Cert.KvWeightFirstRefIdeal.τ Cert.KvWeightFirstRefIdeal.sig) → Buf (Elt Ideal) ℓ) (g' : Dev Cert.KvWeightFirstRefIdeal.nD → PrngReg), Pre_KvWeightFirstIdeal m →
    (∀ c : Dev Cert.KvWeightFirstIdeal.nD,
      m' ((c.tc : Thread Cert.KvWeightFirstRefIdeal.nD Cert.KvWeightFirstRefIdeal.τ).loc Cert.KvWeightFirstRefIdeal.main_arg0) = m ((c.tc : Thread Cert.KvWeightFirstIdeal.nD Cert.KvWeightFirstIdeal.τ).loc Cert.KvWeightFirstIdeal.main_arg0)) →
    ∃ (v0 : (c : Dev Cert.KvWeightFirstIdeal.nD) → Buf (Elt Ideal) ((c.tc : Thread Cert.KvWeightFirstIdeal.nD Cert.KvWeightFirstIdeal.τ).loc Cert.KvWeightFirstIdeal.main_v0)),
      θ_run (Cert.KvWeightFirstIdeal.defs (F := Ideal)) (onTc (τ := Cert.KvWeightFirstIdeal.τ) (Cert.KvWeightFirstIdeal.main (F := Ideal))) ⟨m, fun _ => 0, g⟩ (fun r => ∀ c : Dev Cert.KvWeightFirstIdeal.nD,
          r.2.mem ((c.tc : Thread Cert.KvWeightFirstIdeal.nD Cert.KvWeightFirstIdeal.τ).loc Cert.KvWeightFirstIdeal.main_v0) = v0 c
          ∧ r.2.mem ((c.tc : Thread Cert.KvWeightFirstIdeal.nD Cert.KvWeightFirstIdeal.τ).loc Cert.KvWeightFirstIdeal.main_arg0) = m ((c.tc : Thread Cert.KvWeightFirstIdeal.nD Cert.KvWeightFirstIdeal.τ).loc Cert.KvWeightFirstIdeal.main_arg0))
      ∧ θ_run (Cert.KvWeightFirstRefIdeal.defs (F := Ideal)) (onTc (τ := Cert.KvWeightFirstRefIdeal.τ) (Cert.KvWeightFirstRefIdeal.main (F := Ideal))) ⟨m', fun _ => 0, g'⟩ (fun r => ∀ c : Dev Cert.KvWeightFirstRefIdeal.nD,
          r.2.mem ((c.tc : Thread Cert.KvWeightFirstRefIdeal.nD Cert.KvWeightFirstRefIdeal.τ).loc Cert.KvWeightFirstRefIdeal.main_v2) = v0 c
          ∧ r.2.mem ((c.tc : Thread Cert.KvWeightFirstRefIdeal.nD Cert.KvWeightFirstRefIdeal.τ).loc Cert.KvWeightFirstRefIdeal.main_arg0) = m' ((c.tc : Thread Cert.KvWeightFirstRefIdeal.nD Cert.KvWeightFirstRefIdeal.τ).loc Cert.KvWeightFirstRefIdeal.main_arg0))

def preserves_KvWeightSecond_KvWeightSecondIdeal : Prop :=
  True

def algebraic_KvWeightSecondIdeal_KvWeightSecondRefIdeal [hKvWeightSecondIdeal : Cert.KvWeightSecondIdeal.Facts] [hKvWeightSecondRefIdeal : Cert.KvWeightSecondRefIdeal.Facts] : Prop :=
  ∀ (m : (ℓ : Loc Cert.KvWeightSecondIdeal.nD Cert.KvWeightSecondIdeal.τ Cert.KvWeightSecondIdeal.sig) → Buf (Elt Ideal) ℓ) (g : Dev Cert.KvWeightSecondIdeal.nD → PrngReg)
    (m' : (ℓ : Loc Cert.KvWeightSecondRefIdeal.nD Cert.KvWeightSecondRefIdeal.τ Cert.KvWeightSecondRefIdeal.sig) → Buf (Elt Ideal) ℓ) (g' : Dev Cert.KvWeightSecondRefIdeal.nD → PrngReg), Pre_KvWeightSecondIdeal m →
    (∀ c : Dev Cert.KvWeightSecondIdeal.nD,
      m' ((c.tc : Thread Cert.KvWeightSecondRefIdeal.nD Cert.KvWeightSecondRefIdeal.τ).loc Cert.KvWeightSecondRefIdeal.main_arg0) = m ((c.tc : Thread Cert.KvWeightSecondIdeal.nD Cert.KvWeightSecondIdeal.τ).loc Cert.KvWeightSecondIdeal.main_arg0)) →
    ∃ (v0 : (c : Dev Cert.KvWeightSecondIdeal.nD) → Buf (Elt Ideal) ((c.tc : Thread Cert.KvWeightSecondIdeal.nD Cert.KvWeightSecondIdeal.τ).loc Cert.KvWeightSecondIdeal.main_v0)),
      θ_run (Cert.KvWeightSecondIdeal.defs (F := Ideal)) (onTc (τ := Cert.KvWeightSecondIdeal.τ) (Cert.KvWeightSecondIdeal.main (F := Ideal))) ⟨m, fun _ => 0, g⟩ (fun r => ∀ c : Dev Cert.KvWeightSecondIdeal.nD,
          r.2.mem ((c.tc : Thread Cert.KvWeightSecondIdeal.nD Cert.KvWeightSecondIdeal.τ).loc Cert.KvWeightSecondIdeal.main_v0) = v0 c
          ∧ r.2.mem ((c.tc : Thread Cert.KvWeightSecondIdeal.nD Cert.KvWeightSecondIdeal.τ).loc Cert.KvWeightSecondIdeal.main_arg0) = m ((c.tc : Thread Cert.KvWeightSecondIdeal.nD Cert.KvWeightSecondIdeal.τ).loc Cert.KvWeightSecondIdeal.main_arg0))
      ∧ θ_run (Cert.KvWeightSecondRefIdeal.defs (F := Ideal)) (onTc (τ := Cert.KvWeightSecondRefIdeal.τ) (Cert.KvWeightSecondRefIdeal.main (F := Ideal))) ⟨m', fun _ => 0, g'⟩ (fun r => ∀ c : Dev Cert.KvWeightSecondRefIdeal.nD,
          r.2.mem ((c.tc : Thread Cert.KvWeightSecondRefIdeal.nD Cert.KvWeightSecondRefIdeal.τ).loc Cert.KvWeightSecondRefIdeal.main_v2) = v0 c
          ∧ r.2.mem ((c.tc : Thread Cert.KvWeightSecondRefIdeal.nD Cert.KvWeightSecondRefIdeal.τ).loc Cert.KvWeightSecondRefIdeal.main_arg0) = m' ((c.tc : Thread Cert.KvWeightSecondRefIdeal.nD Cert.KvWeightSecondRefIdeal.τ).loc Cert.KvWeightSecondRefIdeal.main_arg0))

def preserves_InAWeight_InAWeightIdeal : Prop :=
  True

def algebraic_InAWeightIdeal_InAWeightRefIdeal [hInAWeightIdeal : Cert.InAWeightIdeal.Facts] [hInAWeightRefIdeal : Cert.InAWeightRefIdeal.Facts] : Prop :=
  ∀ (m : (ℓ : Loc Cert.InAWeightIdeal.nD Cert.InAWeightIdeal.τ Cert.InAWeightIdeal.sig) → Buf (Elt Ideal) ℓ) (g : Dev Cert.InAWeightIdeal.nD → PrngReg)
    (m' : (ℓ : Loc Cert.InAWeightRefIdeal.nD Cert.InAWeightRefIdeal.τ Cert.InAWeightRefIdeal.sig) → Buf (Elt Ideal) ℓ) (g' : Dev Cert.InAWeightRefIdeal.nD → PrngReg), Pre_InAWeightIdeal m →
    (∀ c : Dev Cert.InAWeightIdeal.nD,
      m' ((c.tc : Thread Cert.InAWeightRefIdeal.nD Cert.InAWeightRefIdeal.τ).loc Cert.InAWeightRefIdeal.main_arg0) = m ((c.tc : Thread Cert.InAWeightIdeal.nD Cert.InAWeightIdeal.τ).loc Cert.InAWeightIdeal.main_arg0)) →
    ∃ (v0 : (c : Dev Cert.InAWeightIdeal.nD) → Buf (Elt Ideal) ((c.tc : Thread Cert.InAWeightIdeal.nD Cert.InAWeightIdeal.τ).loc Cert.InAWeightIdeal.main_v0)),
      θ_run (Cert.InAWeightIdeal.defs (F := Ideal)) (onTc (τ := Cert.InAWeightIdeal.τ) (Cert.InAWeightIdeal.main (F := Ideal))) ⟨m, fun _ => 0, g⟩ (fun r => ∀ c : Dev Cert.InAWeightIdeal.nD,
          r.2.mem ((c.tc : Thread Cert.InAWeightIdeal.nD Cert.InAWeightIdeal.τ).loc Cert.InAWeightIdeal.main_v0) = v0 c
          ∧ r.2.mem ((c.tc : Thread Cert.InAWeightIdeal.nD Cert.InAWeightIdeal.τ).loc Cert.InAWeightIdeal.main_arg0) = m ((c.tc : Thread Cert.InAWeightIdeal.nD Cert.InAWeightIdeal.τ).loc Cert.InAWeightIdeal.main_arg0))
      ∧ θ_run (Cert.InAWeightRefIdeal.defs (F := Ideal)) (onTc (τ := Cert.InAWeightRefIdeal.τ) (Cert.InAWeightRefIdeal.main (F := Ideal))) ⟨m', fun _ => 0, g'⟩ (fun r => ∀ c : Dev Cert.InAWeightRefIdeal.nD,
          r.2.mem ((c.tc : Thread Cert.InAWeightRefIdeal.nD Cert.InAWeightRefIdeal.τ).loc Cert.InAWeightRefIdeal.main_v1) = v0 c
          ∧ r.2.mem ((c.tc : Thread Cert.InAWeightRefIdeal.nD Cert.InAWeightRefIdeal.τ).loc Cert.InAWeightRefIdeal.main_arg0) = m' ((c.tc : Thread Cert.InAWeightRefIdeal.nD Cert.InAWeightRefIdeal.τ).loc Cert.InAWeightRefIdeal.main_arg0))

def preserves_SguSample_SguSampleIdeal : Prop :=
  True

def algebraic_SguSampleIdeal_SguSampleRefIdeal [hSguSampleIdeal : Cert.SguSampleIdeal.Facts] [hSguSampleRefIdeal : Cert.SguSampleRefIdeal.Facts] : Prop :=
  ∀ (m : (ℓ : Loc Cert.SguSampleIdeal.nD Cert.SguSampleIdeal.τ Cert.SguSampleIdeal.sig) → Buf (Elt Ideal) ℓ) (g : Dev Cert.SguSampleIdeal.nD → PrngReg)
    (m' : (ℓ : Loc Cert.SguSampleRefIdeal.nD Cert.SguSampleRefIdeal.τ Cert.SguSampleRefIdeal.sig) → Buf (Elt Ideal) ℓ) (g' : Dev Cert.SguSampleRefIdeal.nD → PrngReg), Pre_SguSampleIdeal m →
    (∀ c : Dev Cert.SguSampleIdeal.nD,
      m' ((c.tc : Thread Cert.SguSampleRefIdeal.nD Cert.SguSampleRefIdeal.τ).loc Cert.SguSampleRefIdeal.main_arg0) = m ((c.tc : Thread Cert.SguSampleIdeal.nD Cert.SguSampleIdeal.τ).loc Cert.SguSampleIdeal.main_arg0)
      ∧ m' ((c.tc : Thread Cert.SguSampleRefIdeal.nD Cert.SguSampleRefIdeal.τ).loc Cert.SguSampleRefIdeal.main_arg1) = m ((c.tc : Thread Cert.SguSampleIdeal.nD Cert.SguSampleIdeal.τ).loc Cert.SguSampleIdeal.main_arg1)
      ∧ m' ((c.tc : Thread Cert.SguSampleRefIdeal.nD Cert.SguSampleRefIdeal.τ).loc Cert.SguSampleRefIdeal.main_arg2) = m ((c.tc : Thread Cert.SguSampleIdeal.nD Cert.SguSampleIdeal.τ).loc Cert.SguSampleIdeal.main_arg2)
      ∧ m' ((c.tc : Thread Cert.SguSampleRefIdeal.nD Cert.SguSampleRefIdeal.τ).loc Cert.SguSampleRefIdeal.main_arg3) = m ((c.tc : Thread Cert.SguSampleIdeal.nD Cert.SguSampleIdeal.τ).loc Cert.SguSampleIdeal.main_arg3)
      ∧ m' ((c.tc : Thread Cert.SguSampleRefIdeal.nD Cert.SguSampleRefIdeal.τ).loc Cert.SguSampleRefIdeal.main_arg4) = m ((c.tc : Thread Cert.SguSampleIdeal.nD Cert.SguSampleIdeal.τ).loc Cert.SguSampleIdeal.main_arg4)) →
    ∃ (v0 : (c : Dev Cert.SguSampleIdeal.nD) → Buf (Elt Ideal) ((c.tc : Thread Cert.SguSampleIdeal.nD Cert.SguSampleIdeal.τ).loc Cert.SguSampleIdeal.main_v7_0)) (v1 : (c : Dev Cert.SguSampleIdeal.nD) → Buf (Elt Ideal) ((c.tc : Thread Cert.SguSampleIdeal.nD Cert.SguSampleIdeal.τ).loc Cert.SguSampleIdeal.main_v7_1)),
      θ_run (Cert.SguSampleIdeal.defs (F := Ideal)) (onTc (τ := Cert.SguSampleIdeal.τ) (Cert.SguSampleIdeal.main (F := Ideal))) ⟨m, fun _ => 0, g⟩ (fun r => ∀ c : Dev Cert.SguSampleIdeal.nD,
          r.2.mem ((c.tc : Thread Cert.SguSampleIdeal.nD Cert.SguSampleIdeal.τ).loc Cert.SguSampleIdeal.main_v7_0) = v0 c
          ∧ r.2.mem ((c.tc : Thread Cert.SguSampleIdeal.nD Cert.SguSampleIdeal.τ).loc Cert.SguSampleIdeal.main_v7_1) = v1 c
          ∧ r.2.mem ((c.tc : Thread Cert.SguSampleIdeal.nD Cert.SguSampleIdeal.τ).loc Cert.SguSampleIdeal.main_arg0) = m ((c.tc : Thread Cert.SguSampleIdeal.nD Cert.SguSampleIdeal.τ).loc Cert.SguSampleIdeal.main_arg0)
          ∧ r.2.mem ((c.tc : Thread Cert.SguSampleIdeal.nD Cert.SguSampleIdeal.τ).loc Cert.SguSampleIdeal.main_arg1) = m ((c.tc : Thread Cert.SguSampleIdeal.nD Cert.SguSampleIdeal.τ).loc Cert.SguSampleIdeal.main_arg1)
          ∧ r.2.mem ((c.tc : Thread Cert.SguSampleIdeal.nD Cert.SguSampleIdeal.τ).loc Cert.SguSampleIdeal.main_arg2) = m ((c.tc : Thread Cert.SguSampleIdeal.nD Cert.SguSampleIdeal.τ).loc Cert.SguSampleIdeal.main_arg2)
          ∧ r.2.mem ((c.tc : Thread Cert.SguSampleIdeal.nD Cert.SguSampleIdeal.τ).loc Cert.SguSampleIdeal.main_arg3) = m ((c.tc : Thread Cert.SguSampleIdeal.nD Cert.SguSampleIdeal.τ).loc Cert.SguSampleIdeal.main_arg3)
          ∧ r.2.mem ((c.tc : Thread Cert.SguSampleIdeal.nD Cert.SguSampleIdeal.τ).loc Cert.SguSampleIdeal.main_arg4) = m ((c.tc : Thread Cert.SguSampleIdeal.nD Cert.SguSampleIdeal.τ).loc Cert.SguSampleIdeal.main_arg4))
      ∧ θ_run (Cert.SguSampleRefIdeal.defs (F := Ideal)) (onTc (τ := Cert.SguSampleRefIdeal.τ) (Cert.SguSampleRefIdeal.main (F := Ideal))) ⟨m', fun _ => 0, g'⟩ (fun r => ∀ c : Dev Cert.SguSampleRefIdeal.nD,
          r.2.mem ((c.tc : Thread Cert.SguSampleRefIdeal.nD Cert.SguSampleRefIdeal.τ).loc Cert.SguSampleRefIdeal.main_v59) = v0 c
          ∧ r.2.mem ((c.tc : Thread Cert.SguSampleRefIdeal.nD Cert.SguSampleRefIdeal.τ).loc Cert.SguSampleRefIdeal.main_v60) = v1 c
          ∧ r.2.mem ((c.tc : Thread Cert.SguSampleRefIdeal.nD Cert.SguSampleRefIdeal.τ).loc Cert.SguSampleRefIdeal.main_arg0) = m' ((c.tc : Thread Cert.SguSampleRefIdeal.nD Cert.SguSampleRefIdeal.τ).loc Cert.SguSampleRefIdeal.main_arg0)
          ∧ r.2.mem ((c.tc : Thread Cert.SguSampleRefIdeal.nD Cert.SguSampleRefIdeal.τ).loc Cert.SguSampleRefIdeal.main_arg1) = m' ((c.tc : Thread Cert.SguSampleRefIdeal.nD Cert.SguSampleRefIdeal.τ).loc Cert.SguSampleRefIdeal.main_arg1)
          ∧ r.2.mem ((c.tc : Thread Cert.SguSampleRefIdeal.nD Cert.SguSampleRefIdeal.τ).loc Cert.SguSampleRefIdeal.main_arg2) = m' ((c.tc : Thread Cert.SguSampleRefIdeal.nD Cert.SguSampleRefIdeal.τ).loc Cert.SguSampleRefIdeal.main_arg2)
          ∧ r.2.mem ((c.tc : Thread Cert.SguSampleRefIdeal.nD Cert.SguSampleRefIdeal.τ).loc Cert.SguSampleRefIdeal.main_arg3) = m' ((c.tc : Thread Cert.SguSampleRefIdeal.nD Cert.SguSampleRefIdeal.τ).loc Cert.SguSampleRefIdeal.main_arg3)
          ∧ r.2.mem ((c.tc : Thread Cert.SguSampleRefIdeal.nD Cert.SguSampleRefIdeal.τ).loc Cert.SguSampleRefIdeal.main_arg4) = m' ((c.tc : Thread Cert.SguSampleRefIdeal.nD Cert.SguSampleRefIdeal.τ).loc Cert.SguSampleRefIdeal.main_arg4))

def preserves_SguPrompt_SguPromptIdeal : Prop :=
  True

def algebraic_SguPromptIdeal_SguPromptRefIdeal [hSguPromptIdeal : Cert.SguPromptIdeal.Facts] [hSguPromptRefIdeal : Cert.SguPromptRefIdeal.Facts] : Prop :=
  ∀ (m : (ℓ : Loc Cert.SguPromptIdeal.nD Cert.SguPromptIdeal.τ Cert.SguPromptIdeal.sig) → Buf (Elt Ideal) ℓ) (g : Dev Cert.SguPromptIdeal.nD → PrngReg)
    (m' : (ℓ : Loc Cert.SguPromptRefIdeal.nD Cert.SguPromptRefIdeal.τ Cert.SguPromptRefIdeal.sig) → Buf (Elt Ideal) ℓ) (g' : Dev Cert.SguPromptRefIdeal.nD → PrngReg), Pre_SguPromptIdeal m →
    (∀ c : Dev Cert.SguPromptIdeal.nD,
      m' ((c.tc : Thread Cert.SguPromptRefIdeal.nD Cert.SguPromptRefIdeal.τ).loc Cert.SguPromptRefIdeal.main_arg0) = m ((c.tc : Thread Cert.SguPromptIdeal.nD Cert.SguPromptIdeal.τ).loc Cert.SguPromptIdeal.main_arg0)
      ∧ m' ((c.tc : Thread Cert.SguPromptRefIdeal.nD Cert.SguPromptRefIdeal.τ).loc Cert.SguPromptRefIdeal.main_arg1) = m ((c.tc : Thread Cert.SguPromptIdeal.nD Cert.SguPromptIdeal.τ).loc Cert.SguPromptIdeal.main_arg1)
      ∧ m' ((c.tc : Thread Cert.SguPromptRefIdeal.nD Cert.SguPromptRefIdeal.τ).loc Cert.SguPromptRefIdeal.main_arg2) = m ((c.tc : Thread Cert.SguPromptIdeal.nD Cert.SguPromptIdeal.τ).loc Cert.SguPromptIdeal.main_arg2)
      ∧ m' ((c.tc : Thread Cert.SguPromptRefIdeal.nD Cert.SguPromptRefIdeal.τ).loc Cert.SguPromptRefIdeal.main_arg3) = m ((c.tc : Thread Cert.SguPromptIdeal.nD Cert.SguPromptIdeal.τ).loc Cert.SguPromptIdeal.main_arg3)
      ∧ m' ((c.tc : Thread Cert.SguPromptRefIdeal.nD Cert.SguPromptRefIdeal.τ).loc Cert.SguPromptRefIdeal.main_arg4) = m ((c.tc : Thread Cert.SguPromptIdeal.nD Cert.SguPromptIdeal.τ).loc Cert.SguPromptIdeal.main_arg4)) →
    ∃ (v0 : (c : Dev Cert.SguPromptIdeal.nD) → Buf (Elt Ideal) ((c.tc : Thread Cert.SguPromptIdeal.nD Cert.SguPromptIdeal.τ).loc Cert.SguPromptIdeal.main_v5)),
      θ_run (Cert.SguPromptIdeal.defs (F := Ideal)) (onTc (τ := Cert.SguPromptIdeal.τ) (Cert.SguPromptIdeal.main (F := Ideal))) ⟨m, fun _ => 0, g⟩ (fun r => ∀ c : Dev Cert.SguPromptIdeal.nD,
          r.2.mem ((c.tc : Thread Cert.SguPromptIdeal.nD Cert.SguPromptIdeal.τ).loc Cert.SguPromptIdeal.main_v5) = v0 c
          ∧ r.2.mem ((c.tc : Thread Cert.SguPromptIdeal.nD Cert.SguPromptIdeal.τ).loc Cert.SguPromptIdeal.main_arg0) = m ((c.tc : Thread Cert.SguPromptIdeal.nD Cert.SguPromptIdeal.τ).loc Cert.SguPromptIdeal.main_arg0)
          ∧ r.2.mem ((c.tc : Thread Cert.SguPromptIdeal.nD Cert.SguPromptIdeal.τ).loc Cert.SguPromptIdeal.main_arg1) = m ((c.tc : Thread Cert.SguPromptIdeal.nD Cert.SguPromptIdeal.τ).loc Cert.SguPromptIdeal.main_arg1)
          ∧ r.2.mem ((c.tc : Thread Cert.SguPromptIdeal.nD Cert.SguPromptIdeal.τ).loc Cert.SguPromptIdeal.main_arg2) = m ((c.tc : Thread Cert.SguPromptIdeal.nD Cert.SguPromptIdeal.τ).loc Cert.SguPromptIdeal.main_arg2)
          ∧ r.2.mem ((c.tc : Thread Cert.SguPromptIdeal.nD Cert.SguPromptIdeal.τ).loc Cert.SguPromptIdeal.main_arg3) = m ((c.tc : Thread Cert.SguPromptIdeal.nD Cert.SguPromptIdeal.τ).loc Cert.SguPromptIdeal.main_arg3)
          ∧ r.2.mem ((c.tc : Thread Cert.SguPromptIdeal.nD Cert.SguPromptIdeal.τ).loc Cert.SguPromptIdeal.main_arg4) = m ((c.tc : Thread Cert.SguPromptIdeal.nD Cert.SguPromptIdeal.τ).loc Cert.SguPromptIdeal.main_arg4))
      ∧ θ_run (Cert.SguPromptRefIdeal.defs (F := Ideal)) (onTc (τ := Cert.SguPromptRefIdeal.τ) (Cert.SguPromptRefIdeal.main (F := Ideal))) ⟨m', fun _ => 0, g'⟩ (fun r => ∀ c : Dev Cert.SguPromptRefIdeal.nD,
          r.2.mem ((c.tc : Thread Cert.SguPromptRefIdeal.nD Cert.SguPromptRefIdeal.τ).loc Cert.SguPromptRefIdeal.main_v56) = v0 c
          ∧ r.2.mem ((c.tc : Thread Cert.SguPromptRefIdeal.nD Cert.SguPromptRefIdeal.τ).loc Cert.SguPromptRefIdeal.main_arg0) = m' ((c.tc : Thread Cert.SguPromptRefIdeal.nD Cert.SguPromptRefIdeal.τ).loc Cert.SguPromptRefIdeal.main_arg0)
          ∧ r.2.mem ((c.tc : Thread Cert.SguPromptRefIdeal.nD Cert.SguPromptRefIdeal.τ).loc Cert.SguPromptRefIdeal.main_arg1) = m' ((c.tc : Thread Cert.SguPromptRefIdeal.nD Cert.SguPromptRefIdeal.τ).loc Cert.SguPromptRefIdeal.main_arg1)
          ∧ r.2.mem ((c.tc : Thread Cert.SguPromptRefIdeal.nD Cert.SguPromptRefIdeal.τ).loc Cert.SguPromptRefIdeal.main_arg2) = m' ((c.tc : Thread Cert.SguPromptRefIdeal.nD Cert.SguPromptRefIdeal.τ).loc Cert.SguPromptRefIdeal.main_arg2)
          ∧ r.2.mem ((c.tc : Thread Cert.SguPromptRefIdeal.nD Cert.SguPromptRefIdeal.τ).loc Cert.SguPromptRefIdeal.main_arg3) = m' ((c.tc : Thread Cert.SguPromptRefIdeal.nD Cert.SguPromptRefIdeal.τ).loc Cert.SguPromptRefIdeal.main_arg3)
          ∧ r.2.mem ((c.tc : Thread Cert.SguPromptRefIdeal.nD Cert.SguPromptRefIdeal.τ).loc Cert.SguPromptRefIdeal.main_arg4) = m' ((c.tc : Thread Cert.SguPromptRefIdeal.nD Cert.SguPromptRefIdeal.τ).loc Cert.SguPromptRefIdeal.main_arg4))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)) →
    ∃ (v0 : (c : Dev Cert.OutLnIdeal.nD) → Buf (Elt Ideal) ((c.tc : Thread Cert.OutLnIdeal.nD Cert.OutLnIdeal.τ).loc Cert.OutLnIdeal.main_v2_0)) (v1 : (c : Dev Cert.OutLnIdeal.nD) → Buf (Elt Ideal) ((c.tc : Thread Cert.OutLnIdeal.nD Cert.OutLnIdeal.τ).loc Cert.OutLnIdeal.main_v2_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v2_0) = v0 c
          ∧ r.2.mem ((c.tc : Thread Cert.OutLnIdeal.nD Cert.OutLnIdeal.τ).loc Cert.OutLnIdeal.main_v2_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v30) = v0 c
          ∧ r.2.mem ((c.tc : Thread Cert.OutLnRefIdeal.nD Cert.OutLnRefIdeal.τ).loc Cert.OutLnRefIdeal.main_v31) = v1 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5))

def Claim : Prop :=
  ∃ (hBand : Cert.Band.Facts) (hBandIdeal : Cert.BandIdeal.Facts) (hBandRefIdeal : Cert.BandRefIdeal.Facts) (hMemAttn : Cert.MemAttn.Facts) (hMemAttnIdeal : Cert.MemAttnIdeal.Facts) (hMemAttnRefIdeal : Cert.MemAttnRefIdeal.Facts) (hMemSample : Cert.MemSample.Facts) (hMemSampleIdeal : Cert.MemSampleIdeal.Facts) (hMemSampleRefIdeal : Cert.MemSampleRefIdeal.Facts) (hBandSample : Cert.BandSample.Facts) (hBandSampleIdeal : Cert.BandSampleIdeal.Facts) (hBandSampleRefIdeal : Cert.BandSampleRefIdeal.Facts) (hKvProduct : Cert.KvProduct.Facts) (hKvProductIdeal : Cert.KvProductIdeal.Facts) (hKvRefIdeal : Cert.KvRefIdeal.Facts) (hInAProduct : Cert.InAProduct.Facts) (hInAProductIdeal : Cert.InAProductIdeal.Facts) (hInARefIdeal : Cert.InARefIdeal.Facts) (hInBProduct : Cert.InBProduct.Facts) (hInBProductIdeal : Cert.InBProductIdeal.Facts) (hInBRefIdeal : Cert.InBRefIdeal.Facts) (hQueryProduct : Cert.QueryProduct.Facts) (hQueryProductIdeal : Cert.QueryProductIdeal.Facts) (hQueryRefIdeal : Cert.QueryRefIdeal.Facts) (hInASample : Cert.InASample.Facts) (hInASampleIdeal : Cert.InASampleIdeal.Facts) (hInASampleRefIdeal : Cert.InASampleRefIdeal.Facts) (hInBSample : Cert.InBSample.Facts) (hInBSampleIdeal : Cert.InBSampleIdeal.Facts) (hInBSampleRefIdeal : Cert.InBSampleRefIdeal.Facts) (hQuerySample : Cert.QuerySample.Facts) (hQuerySampleIdeal : Cert.QuerySampleIdeal.Facts) (hQuerySampleRefIdeal : Cert.QuerySampleRefIdeal.Facts) (hInBWeight : Cert.InBWeight.Facts) (hInBWeightIdeal : Cert.InBWeightIdeal.Facts) (hInBWeightRefIdeal : Cert.InBWeightRefIdeal.Facts) (hKvWeightFirst : Cert.KvWeightFirst.Facts) (hKvWeightFirstIdeal : Cert.KvWeightFirstIdeal.Facts) (hKvWeightFirstRefIdeal : Cert.KvWeightFirstRefIdeal.Facts) (hKvWeightSecond : Cert.KvWeightSecond.Facts) (hKvWeightSecondIdeal : Cert.KvWeightSecondIdeal.Facts) (hKvWeightSecondRefIdeal : Cert.KvWeightSecondRefIdeal.Facts) (hInAWeight : Cert.InAWeight.Facts) (hInAWeightIdeal : Cert.InAWeightIdeal.Facts) (hInAWeightRefIdeal : Cert.InAWeightRefIdeal.Facts) (hSguSample : Cert.SguSample.Facts) (hSguSampleIdeal : Cert.SguSampleIdeal.Facts) (hSguSampleRefIdeal : Cert.SguSampleRefIdeal.Facts) (hSguPrompt : Cert.SguPrompt.Facts) (hSguPromptIdeal : Cert.SguPromptIdeal.Facts) (hSguPromptRefIdeal : Cert.SguPromptRefIdeal.Facts) (hOutLn : Cert.OutLn.Facts) (hOutLnIdeal : Cert.OutLnIdeal.Facts) (hOutLnRefIdeal : Cert.OutLnRefIdeal.Facts) (hPre_finite : Cert.Pre_finite.Facts) (hPre_mem_finite : Cert.Pre_mem_finite.Facts) (hPre_mem_sample_finite : Cert.Pre_mem_sample_finite.Facts) (hPre_band_sample_finite : Cert.Pre_band_sample_finite.Facts),
    quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ quiescent_MemAttn (hMemAttn := hMemAttn)
    ∧ quiescent_MemAttnIdeal (hMemAttnIdeal := hMemAttnIdeal)
    ∧ quiescent_MemAttnIdeal_pre_mem_finite (hMemAttnIdeal := hMemAttnIdeal) (hPre_mem_finite := hPre_mem_finite)
    ∧ quiescent_MemAttnRefIdeal (hMemAttnRefIdeal := hMemAttnRefIdeal)
    ∧ quiescent_MemAttnRefIdeal_pre_mem_finite (hMemAttnRefIdeal := hMemAttnRefIdeal) (hPre_mem_finite := hPre_mem_finite)
    ∧ quiescent_MemSample (hMemSample := hMemSample)
    ∧ quiescent_MemSampleIdeal (hMemSampleIdeal := hMemSampleIdeal)
    ∧ quiescent_MemSampleIdeal_pre_mem_sample_finite (hMemSampleIdeal := hMemSampleIdeal) (hPre_mem_sample_finite := hPre_mem_sample_finite)
    ∧ quiescent_MemSampleRefIdeal (hMemSampleRefIdeal := hMemSampleRefIdeal)
    ∧ quiescent_MemSampleRefIdeal_pre_mem_sample_finite (hMemSampleRefIdeal := hMemSampleRefIdeal) (hPre_mem_sample_finite := hPre_mem_sample_finite)
    ∧ quiescent_BandSample (hBandSample := hBandSample)
    ∧ quiescent_BandSampleIdeal (hBandSampleIdeal := hBandSampleIdeal)
    ∧ quiescent_BandSampleIdeal_pre_band_sample_finite (hBandSampleIdeal := hBandSampleIdeal) (hPre_band_sample_finite := hPre_band_sample_finite)
    ∧ quiescent_BandSampleRefIdeal (hBandSampleRefIdeal := hBandSampleRefIdeal)
    ∧ quiescent_BandSampleRefIdeal_pre_band_sample_finite (hBandSampleRefIdeal := hBandSampleRefIdeal) (hPre_band_sample_finite := hPre_band_sample_finite)
    ∧ quiescent_KvProduct (hKvProduct := hKvProduct)
    ∧ quiescent_KvProductIdeal (hKvProductIdeal := hKvProductIdeal)
    ∧ quiescent_KvRefIdeal (hKvRefIdeal := hKvRefIdeal)
    ∧ quiescent_InAProduct (hInAProduct := hInAProduct)
    ∧ quiescent_InAProductIdeal (hInAProductIdeal := hInAProductIdeal)
    ∧ quiescent_InARefIdeal (hInARefIdeal := hInARefIdeal)
    ∧ quiescent_InBProduct (hInBProduct := hInBProduct)
    ∧ quiescent_InBProductIdeal (hInBProductIdeal := hInBProductIdeal)
    ∧ quiescent_InBRefIdeal (hInBRefIdeal := hInBRefIdeal)
    ∧ quiescent_QueryProduct (hQueryProduct := hQueryProduct)
    ∧ quiescent_QueryProductIdeal (hQueryProductIdeal := hQueryProductIdeal)
    ∧ quiescent_QueryRefIdeal (hQueryRefIdeal := hQueryRefIdeal)
    ∧ quiescent_InASample (hInASample := hInASample)
    ∧ quiescent_InASampleIdeal (hInASampleIdeal := hInASampleIdeal)
    ∧ quiescent_InASampleRefIdeal (hInASampleRefIdeal := hInASampleRefIdeal)
    ∧ quiescent_InBSample (hInBSample := hInBSample)
    ∧ quiescent_InBSampleIdeal (hInBSampleIdeal := hInBSampleIdeal)
    ∧ quiescent_InBSampleRefIdeal (hInBSampleRefIdeal := hInBSampleRefIdeal)
    ∧ quiescent_QuerySample (hQuerySample := hQuerySample)
    ∧ quiescent_QuerySampleIdeal (hQuerySampleIdeal := hQuerySampleIdeal)
    ∧ quiescent_QuerySampleRefIdeal (hQuerySampleRefIdeal := hQuerySampleRefIdeal)
    ∧ quiescent_InBWeight (hInBWeight := hInBWeight)
    ∧ quiescent_InBWeightIdeal (hInBWeightIdeal := hInBWeightIdeal)
    ∧ quiescent_InBWeightRefIdeal (hInBWeightRefIdeal := hInBWeightRefIdeal)
    ∧ quiescent_KvWeightFirst (hKvWeightFirst := hKvWeightFirst)
    ∧ quiescent_KvWeightFirstIdeal (hKvWeightFirstIdeal := hKvWeightFirstIdeal)
    ∧ quiescent_KvWeightFirstRefIdeal (hKvWeightFirstRefIdeal := hKvWeightFirstRefIdeal)
    ∧ quiescent_KvWeightSecond (hKvWeightSecond := hKvWeightSecond)
    ∧ quiescent_KvWeightSecondIdeal (hKvWeightSecondIdeal := hKvWeightSecondIdeal)
    ∧ quiescent_KvWeightSecondRefIdeal (hKvWeightSecondRefIdeal := hKvWeightSecondRefIdeal)
    ∧ quiescent_InAWeight (hInAWeight := hInAWeight)
    ∧ quiescent_InAWeightIdeal (hInAWeightIdeal := hInAWeightIdeal)
    ∧ quiescent_InAWeightRefIdeal (hInAWeightRefIdeal := hInAWeightRefIdeal)
    ∧ quiescent_SguSample (hSguSample := hSguSample)
    ∧ quiescent_SguSampleIdeal (hSguSampleIdeal := hSguSampleIdeal)
    ∧ quiescent_SguSampleRefIdeal (hSguSampleRefIdeal := hSguSampleRefIdeal)
    ∧ quiescent_SguPrompt (hSguPrompt := hSguPrompt)
    ∧ quiescent_SguPromptIdeal (hSguPromptIdeal := hSguPromptIdeal)
    ∧ quiescent_SguPromptRefIdeal (hSguPromptRefIdeal := hSguPromptRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ preserves_Band_BandIdeal
    ∧ algebraic_BandIdeal_BandRefIdeal_pre_finite (hBandIdeal := hBandIdeal) (hBandRefIdeal := hBandRefIdeal) (hPre_finite := hPre_finite)
    ∧ preserves_MemAttn_MemAttnIdeal
    ∧ algebraic_MemAttnIdeal_MemAttnRefIdeal_pre_mem_finite (hMemAttnIdeal := hMemAttnIdeal) (hMemAttnRefIdeal := hMemAttnRefIdeal) (hPre_mem_finite := hPre_mem_finite)
    ∧ preserves_MemSample_MemSampleIdeal
    ∧ algebraic_MemSampleIdeal_MemSampleRefIdeal_pre_mem_sample_finite (hMemSampleIdeal := hMemSampleIdeal) (hMemSampleRefIdeal := hMemSampleRefIdeal) (hPre_mem_sample_finite := hPre_mem_sample_finite)
    ∧ preserves_BandSample_BandSampleIdeal
    ∧ algebraic_BandSampleIdeal_BandSampleRefIdeal_pre_band_sample_finite (hBandSampleIdeal := hBandSampleIdeal) (hBandSampleRefIdeal := hBandSampleRefIdeal) (hPre_band_sample_finite := hPre_band_sample_finite)
    ∧ preserves_KvProduct_KvProductIdeal
    ∧ algebraic_KvProductIdeal_KvRefIdeal (hKvProductIdeal := hKvProductIdeal) (hKvRefIdeal := hKvRefIdeal)
    ∧ preserves_InAProduct_InAProductIdeal
    ∧ algebraic_InAProductIdeal_InARefIdeal (hInAProductIdeal := hInAProductIdeal) (hInARefIdeal := hInARefIdeal)
    ∧ preserves_InBProduct_InBProductIdeal
    ∧ algebraic_InBProductIdeal_InBRefIdeal (hInBProductIdeal := hInBProductIdeal) (hInBRefIdeal := hInBRefIdeal)
    ∧ preserves_QueryProduct_QueryProductIdeal
    ∧ algebraic_QueryProductIdeal_QueryRefIdeal (hQueryProductIdeal := hQueryProductIdeal) (hQueryRefIdeal := hQueryRefIdeal)
    ∧ preserves_InASample_InASampleIdeal
    ∧ algebraic_InASampleIdeal_InASampleRefIdeal (hInASampleIdeal := hInASampleIdeal) (hInASampleRefIdeal := hInASampleRefIdeal)
    ∧ preserves_InBSample_InBSampleIdeal
    ∧ algebraic_InBSampleIdeal_InBSampleRefIdeal (hInBSampleIdeal := hInBSampleIdeal) (hInBSampleRefIdeal := hInBSampleRefIdeal)
    ∧ preserves_QuerySample_QuerySampleIdeal
    ∧ algebraic_QuerySampleIdeal_QuerySampleRefIdeal (hQuerySampleIdeal := hQuerySampleIdeal) (hQuerySampleRefIdeal := hQuerySampleRefIdeal)
    ∧ preserves_InBWeight_InBWeightIdeal
    ∧ algebraic_InBWeightIdeal_InBWeightRefIdeal (hInBWeightIdeal := hInBWeightIdeal) (hInBWeightRefIdeal := hInBWeightRefIdeal)
    ∧ preserves_KvWeightFirst_KvWeightFirstIdeal
    ∧ algebraic_KvWeightFirstIdeal_KvWeightFirstRefIdeal (hKvWeightFirstIdeal := hKvWeightFirstIdeal) (hKvWeightFirstRefIdeal := hKvWeightFirstRefIdeal)
    ∧ preserves_KvWeightSecond_KvWeightSecondIdeal
    ∧ algebraic_KvWeightSecondIdeal_KvWeightSecondRefIdeal (hKvWeightSecondIdeal := hKvWeightSecondIdeal) (hKvWeightSecondRefIdeal := hKvWeightSecondRefIdeal)
    ∧ preserves_InAWeight_InAWeightIdeal
    ∧ algebraic_InAWeightIdeal_InAWeightRefIdeal (hInAWeightIdeal := hInAWeightIdeal) (hInAWeightRefIdeal := hInAWeightRefIdeal)
    ∧ preserves_SguSample_SguSampleIdeal
    ∧ algebraic_SguSampleIdeal_SguSampleRefIdeal (hSguSampleIdeal := hSguSampleIdeal) (hSguSampleRefIdeal := hSguSampleRefIdeal)
    ∧ preserves_SguPrompt_SguPromptIdeal
    ∧ algebraic_SguPromptIdeal_SguPromptRefIdeal (hSguPromptIdeal := hSguPromptIdeal) (hSguPromptRefIdeal := hSguPromptRefIdeal)
    ∧ preserves_OutLn_OutLnIdeal
    ∧ algebraic_OutLnIdeal_OutLnRefIdeal (hOutLnIdeal := hOutLnIdeal) (hOutLnRefIdeal := hOutLnRefIdeal)
-- ==== Pre_band_sample_finite.lean ====
abbrev S16x32x10240 : Shape := ⟨3, ![16, 32, 10240]⟩
abbrev S16x512x24x128 : Shape := ⟨4, ![16, 512, 24, 128]⟩
abbrev S24x257 : Shape := ⟨2, ![24, 257]⟩
abbrev S16x32x6144 : Shape := ⟨3, ![16, 32, 6144]⟩
abbrev S_ : Shape := ⟨0, ![]⟩

class Facts : Prop where
  slices_S16x32x10240_S16x32x6144_0_0_0 : S16x32x10240.Slices ![0, 0, 0] S16x32x6144
  bcast_S_S16x32x6144 : S_.BroadcastsInDim S16x32x6144 (![] : Fin 0 → Fin S16x32x6144.rank)
  reducesTo_S16x32x6144_S_d0_1_2 : S16x32x6144.ReducesTo [0, 1, 2] S_
  h_S_ : 0 < S_.numel
  bcast_S_S16x512x24x128 : S_.BroadcastsInDim S16x512x24x128 (![] : Fin 0 → Fin S16x512x24x128.rank)
  reducesTo_S16x512x24x128_S_d0_1_2_3 : S16x512x24x128.ReducesTo [0, 1, 2, 3] S_
  bcast_S_S24x257 : S_.BroadcastsInDim S24x257 (![] : Fin 0 → Fin S24x257.rank)
  reducesTo_S24x257_S_d0_1 : S24x257.ReducesTo [0, 1] S_

variable [Facts]

def fn {F : FTy → Type} [FloatOps F] (main_arg0 : FVec F S16x32x10240 .f32) (main_arg1 : FVec F S16x512x24x128 .f32) (main_arg2 : FVec F S16x512x24x128 .f32) (main_arg3 : FVec F S24x257 .f32) : IVec S_ 1 :=
  let main_v0 : FVec F S16x32x6144 .f32 := (extractStridedSlice S16x32x6144 ![0, 0, 0] · slices_S16x32x10240_S16x32x6144_0_0_0) main_arg0
  let main_v1 : FVec F S16x32x6144 .f32 := Host.absf main_v0
  let main_cst : FVec F S_ .f32 := constant S_ .f32 0x7F800000#32
  let main_v2 : FVec F S16x32x6144 .f32 := broadcastInDim S16x32x6144 ![] bcast_S_S16x32x6144 main_cst
  let main_v3 : IVec S16x32x6144 1 := cmpf .olt main_v1 main_v2
  let main_c : IVec S_ 1 := constantI S_ 1 1#1
  let main_v4 : IVec S_ 1 := (fun x v => Host.reduce IntOp.andi x v reducesTo_S16x32x6144_S_d0_1_2 h_S_) main_v3 main_c
  let main_v5 : FVec F S16x512x24x128 .f32 := Host.absf main_arg1
  let main_cst_0 : FVec F S_ .f32 := constant S_ .f32 0x7F800000#32
  let main_v6 : FVec F S16x512x24x128 .f32 := broadcastInDim S16x512x24x128 ![] bcast_S_S16x512x24x128 main_cst_0
  let main_v7 : IVec S16x512x24x128 1 := cmpf .olt main_v5 main_v6
  let main_c_1 : IVec S_ 1 := constantI S_ 1 1#1
  let main_v8 : IVec S_ 1 := (fun x v => Host.reduce IntOp.andi x v reducesTo_S16x512x24x128_S_d0_1_2_3 h_S_) main_v7 main_c_1
  let main_v9 : IVec S_ 1 := andi main_v4 main_v8
  let main_v10 : FVec F S24x257 .f32 := Host.absf main_arg3
  let main_cst_2 : FVec F S_ .f32 := constant S_ .f32 0x7F800000#32
  let main_v11 : FVec F S24x257 .f32 := broadcastInDim S24x257 ![] bcast_S_S24x257 main_cst_2
  let main_v12 : IVec S24x257 1 := cmpf .olt main_v10 main_v11
  let main_c_3 : IVec S_ 1 := constantI S_ 1 1#1
  let main_v13 : IVec S_ 1 := (fun x v => Host.reduce IntOp.andi x v reducesTo_S24x257_S_d0_1 h_S_) main_v12 main_c_3
  let main_v14 : IVec S_ 1 := andi main_v9 main_v13
  main_v14
-- ==== Pre_finite.lean ====
abbrev S2x4096x10240 : Shape := ⟨3, ![2, 4096, 10240]⟩
abbrev S24x257 : Shape := ⟨2, ![24, 257]⟩
abbrev S2x4096x6144 : Shape := ⟨3, ![2, 4096, 6144]⟩
abbrev S_ : Shape := ⟨0, ![]⟩

class Facts : Prop where
  slices_S2x4096x10240_S2x4096x6144_0_0_0 : S2x4096x10240.Slices ![0, 0, 0] S2x4096x6144
  bcast_S_S2x4096x6144 : S_.BroadcastsInDim S2x4096x6144 (![] : Fin 0 → Fin S2x4096x6144.rank)
  reducesTo_S2x4096x6144_S_d0_1_2 : S2x4096x6144.ReducesTo [0, 1, 2] S_
  h_S_ : 0 < S_.numel
  bcast_S_S24x257 : S_.BroadcastsInDim S24x257 (![] : Fin 0 → Fin S24x257.rank)
  reducesTo_S24x257_S_d0_1 : S24x257.ReducesTo [0, 1] S_

variable [Facts]

def fn {F : FTy → Type} [FloatOps F] (main_arg0 : FVec F S2x4096x10240 .f32) (main_arg1 : FVec F S24x257 .f32) : IVec S_ 1 :=
  let main_v0 : FVec F S2x4096x6144 .f32 := (extractStridedSlice S2x4096x6144 ![0, 0, 0] · slices_S2x4096x10240_S2x4096x6144_0_0_0) main_arg0
  let main_v1 : FVec F S2x4096x6144 .f32 := Host.absf main_v0
  let main_cst : FVec F S_ .f32 := constant S_ .f32 0x7F800000#32
  let main_v2 : FVec F S2x4096x6144 .f32 := broadcastInDim S2x4096x6144 ![] bcast_S_S2x4096x6144 main_cst
  let main_v3 : IVec S2x4096x6144 1 := cmpf .olt main_v1 main_v2
  let main_c : IVec S_ 1 := constantI S_ 1 1#1
  let main_v4 : IVec S_ 1 := (fun x v => Host.reduce IntOp.andi x v reducesTo_S2x4096x6144_S_d0_1_2 h_S_) main_v3 main_c
  let main_v5 : FVec F S24x257 .f32 := Host.absf main_arg1
  let main_cst_0 : FVec F S_ .f32 := constant S_ .f32 0x7F800000#32
  let main_v6 : FVec F S24x257 .f32 := broadcastInDim S24x257 ![] bcast_S_S24x257 main_cst_0
  let main_v7 : IVec S24x257 1 := cmpf .olt main_v5 main_v6
  let main_c_1 : IVec S_ 1 := constantI S_ 1 1#1
  let main_v8 : IVec S_ 1 := (fun x v => Host.reduce IntOp.andi x v reducesTo_S24x257_S_d0_1 h_S_) main_v7 main_c_1
  let main_v9 : IVec S_ 1 := andi main_v4 main_v8
  main_v9
-- ==== Pre_mem_finite.lean ====
abbrev S2x4096x7168 : Shape := ⟨3, ![2, 4096, 7168]⟩
abbrev S2x256x2048 : Shape := ⟨3, ![2, 256, 2048]⟩
abbrev S2x4096x1024 : Shape := ⟨3, ![2, 4096, 1024]⟩
abbrev S_ : Shape := ⟨0, ![]⟩
abbrev S2x256x1024 : Shape := ⟨3, ![2, 256, 1024]⟩

class Facts : Prop where
  slices_S2x4096x7168_S2x4096x1024_0_0_6144 : S2x4096x7168.Slices ![0, 0, 6144] S2x4096x1024
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  slices_S2x256x2048_S2x256x1024_0_0_0 : S2x256x2048.Slices ![0, 0, 0] S2x256x1024
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn {F : FTy → Type} [FloatOps F] (main_arg0 : FVec F S2x4096x7168 .f32) (main_arg1 : FVec F S2x256x2048 .f32) : IVec S_ 1 :=
  let main_v0 : FVec F S2x4096x1024 .f32 := (extractStridedSlice S2x4096x1024 ![0, 0, 6144] · slices_S2x4096x7168_S2x4096x1024_0_0_6144) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_c : IVec S_ 1 := constantI S_ 1 1#1
  let main_v4 : IVec S_ 1 := (fun x v => Host.reduce IntOp.andi x v reducesTo_S2x4096x1024_S_d0_1_2 h_S_) main_v3 main_c
  let main_v5 : FVec F S2x256x1024 .f32 := (extractStridedSlice S2x256x1024 ![0, 0, 0] · slices_S2x256x2048_S2x256x1024_0_0_0) main_arg1
  let main_v6 : FVec F S2x256x1024 .f32 := Host.absf main_v5
  let main_cst_0 : FVec F S_ .f32 := constant S_ .f32 0x7F800000#32
  let main_v7 : FVec F S2x256x1024 .f32 := broadcastInDim S2x256x1024 ![] bcast_S_S2x256x1024 main_cst_0
  let main_v8 : IVec S2x256x1024 1 := cmpf .olt main_v6 main_v7
  let main_c_1 : IVec S_ 1 := constantI S_ 1 1#1
  let main_v9 : IVec S_ 1 := (fun x v => Host.reduce IntOp.andi x v reducesTo_S2x256x1024_S_d0_1_2 h_S_) main_v8 main_c_1
  let main_v10 : IVec S_ 1 := andi main_v4 main_v9
  main_v10
-- ==== Pre_mem_sample_finite.lean ====
abbrev S16x32x7168 : Shape := ⟨3, ![16, 32, 7168]⟩
abbrev S16x256x4x256 : Shape := ⟨4, ![16, 256, 4, 256]⟩
abbrev S16x32x1024 : Shape := ⟨3, ![16, 32, 1024]⟩
abbrev S_ : Shape := ⟨0, ![]⟩

class Facts : Prop where
  slices_S16x32x7168_S16x32x1024_0_0_6144 : S16x32x7168.Slices ![0, 0, 6144] S16x32x1024
  bcast_S_S16x32x1024 : S_.BroadcastsInDim S16x32x1024 (![] : Fin 0 → Fin S16x32x1024.rank)
  reducesTo_S16x32x1024_S_d0_1_2 : S16x32x1024.ReducesTo [0, 1, 2] S_
  h_S_ : 0 < S_.numel
  bcast_S_S16x256x4x256 : S_.BroadcastsInDim S16x256x4x256 (![] : Fin 0 → Fin S16x256x4x256.rank)
  reducesTo_S16x256x4x256_S_d0_1_2_3 : S16x256x4x256.ReducesTo [0, 1, 2, 3] S_

variable [Facts]

def fn {F : FTy → Type} [FloatOps F] (main_arg0 : FVec F S16x32x7168 .f32) (main_arg1 : FVec F S16x256x4x256 .f32) (main_arg2 : FVec F S16x256x4x256 .f32) : IVec S_ 1 :=
  let main_v0 : FVec F S16x32x1024 .f32 := (extractStridedSlice S16x32x1024 ![0, 0, 6144] · slices_S16x32x7168_S16x32x1024_0_0_6144) main_arg0
  let main_v1 : FVec F S16x32x1024 .f32 := Host.absf main_v0
  let main_cst : FVec F S_ .f32 := constant S_ .f32 0x7F800000#32
  let main_v2 : FVec F S16x32x1024 .f32 := broadcastInDim S16x32x1024 ![] bcast_S_S16x32x1024 main_cst
  let main_v3 : IVec S16x32x1024 1 := cmpf .olt main_v1 main_v2
  let main_c : IVec S_ 1 := constantI S_ 1 1#1
  let main_v4 : IVec S_ 1 := (fun x v => Host.reduce IntOp.andi x v reducesTo_S16x32x1024_S_d0_1_2 h_S_) main_v3 main_c
  let main_v5 : FVec F S16x256x4x256 .f32 := Host.absf main_arg1
  let main_cst_0 : FVec F S_ .f32 := constant S_ .f32 0x7F800000#32
  let main_v6 : FVec F S16x256x4x256 .f32 := broadcastInDim S16x256x4x256 ![] bcast_S_S16x256x4x256 main_cst_0
  let main_v7 : IVec S16x256x4x256 1 := cmpf .olt main_v5 main_v6
  let main_c_1 : IVec S_ 1 := constantI S_ 1 1#1
  let main_v8 : IVec S_ 1 := (fun x v => Host.reduce IntOp.andi x v reducesTo_S16x256x4x256_S_d0_1_2_3 h_S_) main_v7 main_c_1
  let main_v9 : IVec S_ 1 := andi main_v4 main_v8
  main_v9
-- ==== Band.lean ====
abbrev S2x4096x10240 : Shape := ⟨3, ![2, 4096, 10240]⟩
abbrev S24x257 : Shape := ⟨2, ![24, 257]⟩
abbrev S24x1 : Shape := ⟨2, ![24, 1]⟩
abbrev S24x896 : Shape := ⟨2, ![24, 896]⟩
abbrev S24x895 : Shape := ⟨2, ![24, 895]⟩
abbrev S24x2048 : Shape := ⟨2, ![24, 2048]⟩
abbrev S24x1x2048 : Shape := ⟨3, ![24, 1, 2048]⟩
abbrev S2x4096x3072 : Shape := ⟨3, ![2, 4096, 3072]⟩
abbrev S1x512x512 : Shape := ⟨3, ![1, 512, 512]⟩
abbrev S4x1x2048 : Shape := ⟨3, ![4, 1, 2048]⟩
abbrev S4x512x1024 : Shape := ⟨3, ![4, 512, 1024]⟩
abbrev S512x1024 : Shape := ⟨2, ![512, 1024]⟩
abbrev S1x1x2048 : Shape := ⟨3, ![1, 1, 2048]⟩
abbrev S1x2048 : Shape := ⟨2, ![1, 2048]⟩
abbrev S512x2048 : Shape := ⟨2, ![512, 2048]⟩
abbrev S1x512x1024 : Shape := ⟨3, ![1, 512, 1024]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S2x4096x10240, .f32⟩
  | .hbm, ⟨1, _⟩ => ⟨S24x257, .f32⟩
  | .hbm, ⟨2, _⟩ => ⟨S24x1, .f32⟩
  | .hbm, ⟨3, _⟩ => ⟨S24x896, .f32⟩
  | .hbm, ⟨4, _⟩ => ⟨S24x257, .f32⟩
  | .hbm, ⟨5, _⟩ => ⟨S24x1, .f32⟩
  | .hbm, ⟨6, _⟩ => ⟨S24x895, .f32⟩
  | .hbm, ⟨7, _⟩ => ⟨S24x2048, .f32⟩
  | .hbm, ⟨8, _⟩ => ⟨S24x1x2048, .f32⟩
  | .hbm, ⟨9, _⟩ => ⟨S2x4096x3072, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S4x1x2048, .f32⟩
  | .local _ .vmem, ⟨11, _⟩ => ⟨S4x1x2048, .f32⟩
  | .local _ .vmem, ⟨12, _⟩ => ⟨S1x512x512, .bf16⟩
  | .local _ .vmem, ⟨13, _⟩ => ⟨S1x512x512, .bf16⟩
  | .local _ .vmem, ⟨14, _⟩ => ⟨S4x512x1024, .f32⟩
  | _, _ => ⟨S2x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c6_i32 : BitVec 32 := 6#32
  let v2 : BitVec 32 := Scalar.addi c6_i32 arg0
  let c0_i32_0 : BitVec 32 := 0#32
  ![arg1.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c12_i32 : BitVec 32 := 12#32
  let v2 : BitVec 32 := Scalar.addi c12_i32 arg0
  let c0_i32_0 : BitVec 32 := 0#32
  ![arg1.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== BandIdeal.lean ====
variable {F : FTy → Type} [FloatOps F] [Named F]
def κ : String → Option EReal := fun
  | "mask" => some ⊥
  | _ => none
-- ==== BandRefIdeal.lean ====
abbrev S2x4096x10240 : Shape := ⟨3, ![2, 4096, 10240]⟩
abbrev S24x257 : Shape := ⟨2, ![24, 257]⟩
abbrev S2x4096x3072 : Shape := ⟨3, ![2, 4096, 3072]⟩
abbrev S2x4096x24x128 : Shape := ⟨4, ![2, 4096, 24, 128]⟩
abbrev S4096 : Shape := ⟨1, ![4096]⟩
abbrev S64x64 : Shape := ⟨2, ![64, 64]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x24x4096x4096 : Shape := ⟨4, ![2, 24, 4096, 4096]⟩
abbrev S4096x4096x1 : Shape := ⟨3, ![4096, 4096, 1]⟩
abbrev S24x4096x4096 : Shape := ⟨3, ![24, 4096, 4096]⟩
abbrev S1x24x4096x4096 : Shape := ⟨4, ![1, 24, 4096, 4096]⟩
abbrev S1x1x4096x4096 : Shape := ⟨4, ![1, 1, 4096, 4096]⟩
abbrev S2x24x4096 : Shape := ⟨3, ![2, 24, 4096]⟩
abbrev S2x24x4096x1 : Shape := ⟨4, ![2, 24, 4096, 1]⟩
abbrev S2x24x128x4096 : Shape := ⟨4, ![2, 24, 128, 4096]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x10240, .f32⟩
  | .hbm, ⟨1, _⟩ => ⟨S24x257, .f32⟩
  | .hbm, ⟨2, _⟩ => ⟨S2x4096x3072, .f32⟩
  | .hbm, ⟨3, _⟩ => ⟨S2x4096x24x128, .f32⟩
  | .hbm, ⟨4, _⟩ => ⟨S2x4096x3072, .f32⟩
  | .hbm, ⟨5, _⟩ => ⟨S2x4096x24x128, .f32⟩
  | .hbm, ⟨6, _⟩ => ⟨S2x4096x3072, .f32⟩
  | .hbm, ⟨7, _⟩ => ⟨S2x4096x24x128, .f32⟩
  | .hbm, ⟨8, _⟩ => ⟨S4096, .i32⟩
  | .hbm, ⟨9, _⟩ => ⟨S64x64, .i32⟩
  | .hbm, ⟨10, _⟩ => ⟨S4096, .i32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S4096x1, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S2x24x4096x4096, .f32⟩
  | .hbm, ⟨38, _⟩ => ⟨S_, .f32⟩
  | .hbm, ⟨39, _⟩ => ⟨S2x24x4096x4096, .f32⟩
  | .hbm, ⟨40, _⟩ => ⟨S2x24x4096x4096, .f32⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S_, .i32⟩
  | .hbm, ⟨45, _⟩ => ⟨S4096x4096, .i32⟩
  | .hbm, ⟨46, _⟩ => ⟨S4096x4096, .i32⟩
  | .hbm, ⟨47, _⟩ => ⟨S4096x4096, .i32⟩
  | .hbm, ⟨48, _⟩ => ⟨S4096x4096x1, .i32⟩
  | .hbm, ⟨49, _⟩ => ⟨S24x4096x4096, .f32⟩
  | .hbm, ⟨50, _⟩ => ⟨S1x24x4096x4096, .f32⟩
  | .hbm, ⟨51, _⟩ => ⟨S2x24x4096x4096, .f32⟩
  | .hbm, ⟨52, _⟩ => ⟨S2x24x4096x4096, .f32⟩
  | .hbm, ⟨53, _⟩ => ⟨S1x1x4096x4096, .i1⟩
  | .hbm, ⟨54, _⟩ => ⟨S2x24x4096x4096, .i1⟩
  | .hbm, ⟨55, _⟩ => ⟨S_, .f32⟩
  | .hbm, ⟨56, _⟩ => ⟨S2x24x4096x4096, .f32⟩
  | .hbm, ⟨57, _⟩ => ⟨S2x24x4096x4096, .f32⟩
  | .hbm, ⟨58, _⟩ => ⟨S_, .f32⟩
  | .hbm, ⟨59, _⟩ => ⟨S2x24x4096, .f32⟩
  | .hbm, ⟨60, _⟩ => ⟨S_, .f32⟩
  | .hbm, ⟨61, _⟩ => ⟨S2x24x4096, .f32⟩
  | .hbm, ⟨62, _⟩ => ⟨S2x24x4096, .f32⟩
  | .hbm, ⟨63, _⟩ => ⟨S2x24x4096x1, .f32⟩
  | .hbm, ⟨64, _⟩ => ⟨S2x24x4096x4096, .f32⟩
  | .hbm, ⟨65, _⟩ => ⟨S2x24x4096x4096, .f32⟩
  | .hbm, ⟨66, _⟩ => ⟨S2x24x4096x4096, .f32⟩
  | .hbm, ⟨67, _⟩ => ⟨S_, .f32⟩
  | .hbm, ⟨68, _⟩ => ⟨S2x24x4096, .f32⟩
  | .hbm, ⟨69, _⟩ => ⟨S2x24x4096x1, .f32⟩
  | .hbm, ⟨70, _⟩ => ⟨S2x24x4096x4096, .f32⟩
  | .hbm, ⟨71, _⟩ => ⟨S2x24x4096x4096, .f32⟩
  | .hbm, ⟨72, _⟩ => ⟨S2x24x128x4096, .f32⟩
  | .hbm, ⟨73, _⟩ => ⟨S2x4096x24x128, .f32⟩
  | .hbm, ⟨74, _⟩ => ⟨S2x4096x3072, .f32⟩
  | .hbm, ⟨75, _⟩ => ⟨S2x4096x3072, .bf16⟩
  | _, _ => ⟨S2x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_1 : Ref sig .tc := ⟨.hbm, 28, rfl⟩
abbrev main_v24 : Ref sig .tc := ⟨.hbm, 29, rfl⟩
abbrev main_v25 : Ref sig .tc := ⟨.hbm, 30, rfl⟩
abbrev main_c_2 : Ref sig .tc := ⟨.hbm, 31, rfl⟩
abbrev main_v26 : Ref sig .tc := ⟨.hbm, 32, rfl⟩
abbrev main_v27 : Ref sig .tc := ⟨.hbm, 33, rfl⟩
abbrev main_c_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== MemAttn.lean ====
abbrev S2x4096x7168 : Shape := ⟨3, ![2, 4096, 7168]⟩
abbrev S2x256x2048 : Shape := ⟨3, ![2, 256, 2048]⟩
abbrev S2x4096x1024 : Shape := ⟨3, ![2, 4096, 1024]⟩
abbrev S1x512x1024 : Shape := ⟨3, ![1, 512, 1024]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2x4096x7168, .f32⟩
  | .hbm, ⟨1, _⟩ => ⟨S2x256x2048, .f32⟩
  | .hbm, ⟨2, _⟩ => ⟨S2x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x512x1024, .bf16⟩
  | .local _ .vmem, ⟨7, _⟩ => ⟨S1x512x1024, .bf16⟩
  | _, _ => ⟨S2x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S2x4096x7168 : Shape := ⟨3, ![2, 4096, 7168]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2x4096x1024 : Shape := ⟨3, ![2, 4096, 1024]⟩
abbrev S2x4096x4x256 : Shape := ⟨4, ![2, 4096, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x7168, .f32⟩
  | .hbm, ⟨1, _⟩ => ⟨S2x256x2048, .f32⟩
  | .hbm, ⟨2, _⟩ => ⟨S2x256x1024, .f32⟩
  | .hbm, ⟨3, _⟩ => ⟨S2x256x4x256, .f32⟩
  | .hbm, ⟨4, _⟩ => ⟨S2x256x1024, .f32⟩
  | .hbm, ⟨5, _⟩ => ⟨S2x256x4x256, .f32⟩
  | .hbm, ⟨6, _⟩ => ⟨S2x4096x1024, .f32⟩
  | .hbm, ⟨7, _⟩ => ⟨S2x4096x4x256, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x4x256x4096, .f32⟩
  | .hbm, ⟨27, _⟩ => ⟨S2x4096x4x256, .f32⟩
  | .hbm, ⟨28, _⟩ => ⟨S2x4096x1024, .f32⟩
  | .hbm, ⟨29, _⟩ => ⟨S2x4096x1024, .bf16⟩
  | _, _ => ⟨S2x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MemSample.lean ====
abbrev S16x32x7168 : Shape := ⟨3, ![16, 32, 7168]⟩
abbrev S16x256x4x256 : Shape := ⟨4, ![16, 256, 4, 256]⟩
abbrev S16x2048x128 : Shape := ⟨3, ![16, 2048, 128]⟩
abbrev S16x32x1024 : Shape := ⟨3, ![16, 32, 1024]⟩
abbrev S1x32x1024 : Shape := ⟨3, ![1, 32, 1024]⟩
abbrev S1x2048x128 : Shape := ⟨3, ![1, 2048, 128]⟩
abbrev S1x32x128 : Shape := ⟨3, ![1, 32, 128]⟩
abbrev S32x128 : Shape := ⟨2, ![32, 128]⟩
abbrev S1x256x128 : Shape := ⟨3, ![1, 256, 128]⟩
abbrev S256x128 : Shape := ⟨2, ![256, 128]⟩
abbrev S32x256 : Shape := ⟨2, ![32, 256]⟩
abbrev S32 : Shape := ⟨1, ![32]⟩
abbrev S32x1 : Shape := ⟨2, ![32, 1]⟩

abbrev nBuf : Space → Nat
  | .hbm => 6
  | .vmem => 8
  | .smem => 0
  | _ => 0

abbrev bufTy : (tb : Table) → Fin (tcTables nBuf tb) → BufTy
  | .hbm, ⟨0, _⟩ => ⟨S16x32x7168, .f32⟩
  | .hbm, ⟨1, _⟩ => ⟨S16x256x4x256, .f32⟩
  | .hbm, ⟨2, _⟩ => ⟨S16x256x4x256, .f32⟩
  | .hbm, ⟨3, _⟩ => ⟨S16x2048x128, .f32⟩
  | .hbm, ⟨4, _⟩ => ⟨S16x2048x128, .f32⟩
  | .hbm, ⟨5, _⟩ => ⟨S16x32x1024, .bf16⟩
  | .local _ .vmem, ⟨0, _⟩ => ⟨S1x32x1024, .f32⟩
  | .local _ .vmem, ⟨1, _⟩ => ⟨S1x32x1024, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x32x1024, .bf16⟩
  | .local _ .vmem, ⟨7, _⟩ => ⟨S1x32x1024, .bf16⟩
  | _, _ => ⟨S16x32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemSampleRefIdeal.lean ====
abbrev S16x32x7168 : Shape := ⟨3, ![16, 32, 7168]⟩
abbrev S16x256x4x256 : Shape := ⟨4, ![16, 256, 4, 256]⟩
abbrev S16x32x1024 : Shape := ⟨3, ![16, 32, 1024]⟩
abbrev S16x32x4x256 : Shape := ⟨4, ![16, 32, 4, 256]⟩
abbrev S16x4x32x256 : Shape := ⟨4, ![16, 4, 32, 256]⟩
abbrev S_ : Shape := ⟨0, ![]⟩
abbrev S16x4x32 : Shape := ⟨3, ![16, 4, 32]⟩
abbrev S16x4x32x1 : Shape := ⟨4, ![16, 4, 32, 1]⟩
abbrev S16x4x256x32 : Shape := ⟨4, ![16, 4, 256, 32]⟩

abbrev nBuf : Space → Nat
  | .hbm => 27
  | .vmem => 0
  | .smem => 0
  | _ => 0

abbrev bufTy : (tb : Table) → Fin (tcTables nBuf tb) → BufTy
  | .hbm, ⟨0, _⟩ => ⟨S16x32x7168, .f32⟩
  | .hbm, ⟨1, _⟩ => ⟨S16x256x4x256, .f32⟩
  | .hbm, ⟨2, _⟩ => ⟨S16x256x4x256, .f32⟩
  | .hbm, ⟨3, _⟩ => ⟨S16x32x1024, .f32⟩
  | .hbm, ⟨4, _⟩ => ⟨S16x32x4x256, .f32⟩
  | .hbm, ⟨5, _⟩ => ⟨S16x4x32x256, .f32⟩
  | .hbm, ⟨6, _⟩ => ⟨S_, .f32⟩
  | .hbm, ⟨7, _⟩ => ⟨S16x4x32x256, .f32⟩
  | .hbm, ⟨8, _⟩ => ⟨S16x4x32x256, .f32⟩
  | .hbm, ⟨9, _⟩ => ⟨S_, .f32⟩
  | .hbm, ⟨10, _⟩ => ⟨S16x4x32, .f32⟩
  | .hbm, ⟨11, _⟩ => ⟨S_, .f32⟩
  | .hbm, ⟨12, _⟩ => ⟨S16x4x32, .f32⟩
  | .hbm, ⟨13, _⟩ => ⟨S16x4x32, .f32⟩
  | .hbm, ⟨14, _⟩ => ⟨S16x4x32x1, .f32⟩
  | .hbm, ⟨15, _⟩ => ⟨S16x4x32x256, .f32⟩
  | .hbm, ⟨16, _⟩ => ⟨S16x4x32x256, .f32⟩
  | .hbm, ⟨17, _⟩ => ⟨S16x4x32x256, .f32⟩
  | .hbm, ⟨18, _⟩ => ⟨S_, .f32⟩
  | .hbm, ⟨19, _⟩ => ⟨S16x4x32, .f32⟩
  | .hbm, ⟨20, _⟩ => ⟨S16x4x32x1, .f32⟩
  | .hbm, ⟨21, _⟩ => ⟨S16x4x32x256, .f32⟩
  | .hbm, ⟨22, _⟩ => ⟨S16x4x32x256, .f32⟩
  | .hbm, ⟨23, _⟩ => ⟨S16x4x256x32, .f32⟩
  | .hbm, ⟨24, _⟩ => ⟨S16x32x4x256, .f32⟩
  | .hbm, ⟨25, _⟩ => ⟨S16x32x1024, .f32⟩
  | .hbm, ⟨26, _⟩ => ⟨S16x32x1024, .bf16⟩
  | _, _ => ⟨S16x32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== BandSample.lean ====
abbrev S16x32x10240 : Shape := ⟨3, ![16, 32, 10240]⟩
abbrev S16x512x24x128 : Shape := ⟨4, ![16, 512, 24, 128]⟩
abbrev S24x257 : Shape := ⟨2, ![24, 257]⟩
abbrev S16x12288x128 : Shape := ⟨3, ![16, 12288, 128]⟩
abbrev S24x1 : Shape := ⟨2, ![24, 1]⟩
abbrev S24x896 : Shape := ⟨2, ![24, 896]⟩
abbrev S24x895 : Shape := ⟨2, ![24, 895]⟩
abbrev S24x2048 : Shape := ⟨2, ![24, 2048]⟩
abbrev S24x1x2048 : Shape := ⟨3, ![24, 1, 2048]⟩
abbrev S16x32x3072 : Shape := ⟨3, ![16, 32, 3072]⟩
abbrev S1x32x3072 : Shape := ⟨3, ![1, 32, 3072]⟩
abbrev S1x12288x128 : Shape := ⟨3, ![1, 12288, 128]⟩
abbrev S24x32x544 : Shape := ⟨3, ![24, 32, 544]⟩
abbrev S1x1x2048 : Shape := ⟨3, ![1, 1, 2048]⟩
abbrev S1x2048 : Shape := ⟨2, ![1, 2048]⟩
abbrev S32x2048 : Shape := ⟨2, ![32, 2048]⟩
abbrev S32x544 : Shape := ⟨2, ![32, 544]⟩
abbrev S1x32x544 : Shape := ⟨3, ![1, 32, 544]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S32x512 : Shape := ⟨2, ![32, 512]⟩
abbrev S32x32 : Shape := ⟨2, ![32, 32]⟩
abbrev S1x32x512 : Shape := ⟨3, ![1, 32, 512]⟩
abbrev S1x32x32 : Shape := ⟨3, ![1, 32, 32]⟩
abbrev S32 : Shape := ⟨1, ![32]⟩
abbrev S32x1 : Shape := ⟨2, ![32, 1]⟩

abbrev nBuf : Space → Nat
  | .hbm => 14
  | .vmem => 14
  | .smem => 0
  | _ => 0

abbrev bufTy : (tb : Table) → Fin (tcTables nBuf tb) → BufTy
  | .hbm, ⟨0, _⟩ => ⟨S16x32x10240, .f32⟩
  | .hbm, ⟨1, _⟩ => ⟨S16x512x24x128, .f32⟩
  | .hbm, ⟨2, _⟩ => ⟨S16x512x24x128, .f32⟩
  | .hbm, ⟨3, _⟩ => ⟨S24x257, .f32⟩
  | .hbm, ⟨4, _⟩ => ⟨S16x12288x128, .f32⟩
  | .hbm, ⟨5, _⟩ => ⟨S16x12288x128, .f32⟩
  | .hbm, ⟨6, _⟩ => ⟨S24x1, .f32⟩
  | .hbm, ⟨7, _⟩ => ⟨S24x896, .f32⟩
  | .hbm, ⟨8, _⟩ => ⟨S24x257, .f32⟩
  | .hbm, ⟨9, _⟩ => ⟨S24x1, .f32⟩
  | .hbm, ⟨10, _⟩ => ⟨S24x895, .f32⟩
  | .hbm, ⟨11, _⟩ => ⟨S24x2048, .f32⟩
  | .hbm, ⟨12, _⟩ => ⟨S24x1x2048, .f32⟩
  | .hbm, ⟨13, _⟩ => ⟨S16x32x3072, .bf16⟩
  | .local _ .vmem, ⟨0, _⟩ => ⟨S1x32x3072, .f32⟩
  | .local _ .vmem, ⟨1, _⟩ => ⟨S1x32x3072, .f32⟩
  | .local _ .vmem, ⟨2, _⟩ => ⟨S1x12288x128, .f32⟩
  | .local _ .vmem, ⟨3, _⟩ => ⟨S1x12288x128, .f32⟩
  | .local _ .vmem, ⟨4, _⟩ => ⟨S1x32x3072, .f32⟩
  | .local _ .vmem, ⟨5, _⟩ => ⟨S1x32x3072, .f32⟩
  | .local _ .vmem, ⟨6, _⟩ => ⟨S1x12288x128, .f32⟩
  | .local _ .vmem, ⟨7, _⟩ => ⟨S1x12288x128, .f32⟩
  | .local _ .vmem, ⟨8, _⟩ => ⟨S1x32x3072, .f32⟩
  | .local _ .vmem, ⟨9, _⟩ => ⟨S1x32x3072, .f32⟩
  | .local _ .vmem, ⟨10, _⟩ => ⟨S24x1x2048, .f32⟩
  | .local _ .vmem, ⟨11, _⟩ => ⟨S1x32x3072, .bf16⟩
  | .local _ .vmem, ⟨12, _⟩ => ⟨S1x32x3072, .bf16⟩
  | .local _ .vmem, ⟨13, _⟩ => ⟨S24x32x544, .f32⟩
  | _, _ => ⟨S16x32x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x12288x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x32x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x12288x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x32x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S24x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S1x32x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== BandSampleRefIdeal.lean ====
abbrev S16x32x10240 : Shape := ⟨3, ![16, 32, 10240]⟩
abbrev S16x512x24x128 : Shape := ⟨4, ![16, 512, 24, 128]⟩
abbrev S24x257 : Shape := ⟨2, ![24, 257]⟩
abbrev S16x32x3072 : Shape := ⟨3, ![16, 32, 3072]⟩
abbrev S16x32x24x128 : Shape := ⟨4, ![16, 32, 24, 128]⟩
abbrev S16x544x24x128 : Shape := ⟨4, ![16, 544, 24, 128]⟩
abbrev S32 : Shape := ⟨1, ![32]⟩
abbrev S_ : Shape := ⟨0, ![]⟩
abbrev S544 : Shape := ⟨1, ![544]⟩
abbrev S32x1 : Shape := ⟨2, ![32, 1]⟩
abbrev S1x544 : Shape := ⟨2, ![1, 544]⟩
abbrev S32x544 : Shape := ⟨2, ![32, 544]⟩
abbrev S16x24x32x544 : Shape := ⟨4, ![16, 24, 32, 544]⟩
abbrev S32x544x1 : Shape := ⟨3, ![32, 544, 1]⟩
abbrev S24x32x544 : Shape := ⟨3, ![24, 32, 544]⟩
abbrev S1x24x32x544 : Shape := ⟨4, ![1, 24, 32, 544]⟩
abbrev S16x24x32 : Shape := ⟨3, ![16, 24, 32]⟩
abbrev S16x24x32x1 : Shape := ⟨4, ![16, 24, 32, 1]⟩
abbrev S16x24x128x32 : Shape := ⟨4, ![16, 24, 128, 32]⟩

abbrev nBuf : Space → Nat
  | .hbm => 65
  | .vmem => 0
  | .smem => 0
  | _ => 0

abbrev bufTy : (tb : Table) → Fin (tcTables nBuf tb) → BufTy
  | .hbm, ⟨0, _⟩ => ⟨S16x32x10240, .f32⟩
  | .hbm, ⟨1, _⟩ => ⟨S16x512x24x128, .f32⟩
  | .hbm, ⟨2, _⟩ => ⟨S16x512x24x128, .f32⟩
  | .hbm, ⟨3, _⟩ => ⟨S24x257, .f32⟩
  | .hbm, ⟨4, _⟩ => ⟨S16x32x3072, .f32⟩
  | .hbm, ⟨5, _⟩ => ⟨S16x32x24x128, .f32⟩
  | .hbm, ⟨6, _⟩ => ⟨S16x32x3072, .f32⟩
  | .hbm, ⟨7, _⟩ => ⟨S16x32x24x128, .f32⟩
  | .hbm, ⟨8, _⟩ => ⟨S16x544x24x128, .f32⟩
  | .hbm, ⟨9, _⟩ => ⟨S16x32x3072, .f32⟩
  | .hbm, ⟨10, _⟩ => ⟨S16x32x24x128, .f32⟩
  | .hbm, ⟨11, _⟩ => ⟨S16x544x24x128, .f32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S544, .i32⟩
  | .hbm, ⟨17, _⟩ => ⟨S32x1, .i32⟩
  | .hbm, ⟨18, _⟩ => ⟨S1x544, .i32⟩
  | .hbm, ⟨19, _⟩ => ⟨S32x544, .i32⟩
  | .hbm, ⟨20, _⟩ => ⟨S32x544, .i32⟩
  | .hbm, ⟨21, _⟩ => ⟨S32x544, .i32⟩
  | .hbm, ⟨22, _⟩ => ⟨S_, .i32⟩
  | .hbm, ⟨23, _⟩ => ⟨S32x544, .i32⟩
  | .hbm, ⟨24, _⟩ => ⟨S32x544, .i32⟩
  | .hbm, ⟨25, _⟩ => ⟨S_, .i32⟩
  | .hbm, ⟨26, _⟩ => ⟨S32x544, .i32⟩
  | .hbm, ⟨27, _⟩ => ⟨S32x544, .i32⟩
  | .hbm, ⟨28, _⟩ => ⟨S_, .i32⟩
  | .hbm, ⟨29, _⟩ => ⟨S32x544, .i32⟩
  | .hbm, ⟨30, _⟩ => ⟨S32x544, .i32⟩
  | .hbm, ⟨31, _⟩ => ⟨S16x24x32x544, .f32⟩
  | .hbm, ⟨32, _⟩ => ⟨S_, .f32⟩
  | .hbm, ⟨33, _⟩ => ⟨S16x24x32x544, .f32⟩
  | .hbm, ⟨34, _⟩ => ⟨S16x24x32x544, .f32⟩
  | .hbm, ⟨35, _⟩ => ⟨S_, .i32⟩
  | .hbm, ⟨36, _⟩ => ⟨S32x544, .i32⟩
  | .hbm, ⟨37, _⟩ => ⟨S32x544, .i1⟩
  | .hbm, ⟨38, _⟩ => ⟨S_, .i32⟩
  | .hbm, ⟨39, _⟩ => ⟨S32x544, .i32⟩
  | .hbm, ⟨40, _⟩ => ⟨S32x544, .i32⟩
  | .hbm, ⟨41, _⟩ => ⟨S32x544, .i32⟩
  | .hbm, ⟨42, _⟩ => ⟨S32x544x1, .i32⟩
  | .hbm, ⟨43, _⟩ => ⟨S24x32x544, .f32⟩
  | .hbm, ⟨44, _⟩ => ⟨S1x24x32x544, .f32⟩
  | .hbm, ⟨45, _⟩ => ⟨S16x24x32x544, .f32⟩
  | .hbm, ⟨46, _⟩ => ⟨S16x24x32x544, .f32⟩
  | .hbm, ⟨47, _⟩ => ⟨S_, .f32⟩
  | .hbm, ⟨48, _⟩ => ⟨S16x24x32, .f32⟩
  | .hbm, ⟨49, _⟩ => ⟨S_, .f32⟩
  | .hbm, ⟨50, _⟩ => ⟨S16x24x32, .f32⟩
  | .hbm, ⟨51, _⟩ => ⟨S16x24x32, .f32⟩
  | .hbm, ⟨52, _⟩ => ⟨S16x24x32x1, .f32⟩
  | .hbm, ⟨53, _⟩ => ⟨S16x24x32x544, .f32⟩
  | .hbm, ⟨54, _⟩ => ⟨S16x24x32x544, .f32⟩
  | .hbm, ⟨55, _⟩ => ⟨S16x24x32x544, .f32⟩
  | .hbm, ⟨56, _⟩ => ⟨S_, .f32⟩
  | .hbm, ⟨57, _⟩ => ⟨S16x24x32, .f32⟩
  | .hbm, ⟨58, _⟩ => ⟨S16x24x32x1, .f32⟩
  | .hbm, ⟨59, _⟩ => ⟨S16x24x32x544, .f32⟩
  | .hbm, ⟨60, _⟩ => ⟨S16x24x32x544, .f32⟩
  | .hbm, ⟨61, _⟩ => ⟨S16x24x128x32, .f32⟩
  | .hbm, ⟨62, _⟩ => ⟨S16x32x24x128, .f32⟩
  | .hbm, ⟨63, _⟩ => ⟨S16x32x3072, .f32⟩
  | .hbm, ⟨64, _⟩ => ⟨S16x32x3072, .bf16⟩
  | _, _ => ⟨S16x32x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== KvProduct.lean ====
abbrev S2x256x4096 : Shape := ⟨3, ![2, 256, 4096]⟩
abbrev S4096x2048 : Shape := ⟨2, ![4096, 2048]⟩
abbrev S512x4096 : Shape := ⟨2, ![512, 4096]⟩
abbrev S512x2048 : Shape := ⟨2, ![512, 2048]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x256x4096, .f32⟩
  | .hbm, ⟨1, _⟩ => ⟨S4096x2048, .bf16⟩
  | .hbm, ⟨2, _⟩ => ⟨S512x4096, .f32⟩
  | .hbm, ⟨3, _⟩ => ⟨S512x2048, .f32⟩
  | .local _ .vmem, ⟨0, _⟩ => ⟨S512x4096, .f32⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S2x256x4096 : Shape := ⟨3, ![2, 256, 4096]⟩
abbrev S4096x2048 : Shape := ⟨2, ![4096, 2048]⟩
abbrev S2x256x2048 : Shape := ⟨3, ![2, 256, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096x2048, .bf16⟩
  | .hbm, ⟨2, _⟩ => ⟨S4096x2048, .f32⟩
  | .hbm, ⟨3, _⟩ => ⟨S2x256x2048, .f32⟩
  | .hbm, ⟨4, _⟩ => ⟨S512x2048, .f32⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InAProduct.lean ====
abbrev S2x4096x4096 : Shape := ⟨3, ![2, 4096, 4096]⟩
abbrev S4096x7168 : Shape := ⟨2, ![4096, 7168]⟩
abbrev S8192x4096 : Shape := ⟨2, ![8192, 4096]⟩
abbrev S8192x7168 : Shape := ⟨2, ![8192, 7168]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S4096x7168, .bf16⟩
  | .hbm, ⟨2, _⟩ => ⟨S8192x4096, .f32⟩
  | .hbm, ⟨3, _⟩ => ⟨S8192x7168, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAProductIdeal.lean ====
abbrev S2x4096x4096 : Shape := ⟨3, ![2, 4096, 4096]⟩
abbrev S4096x7168 : Shape := ⟨2, ![4096, 7168]⟩
abbrev S8192x4096 : Shape := ⟨2, ![8192, 4096]⟩
abbrev S8192x7168 : Shape := ⟨2, ![8192, 7168]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S4096x7168, .bf16⟩
  | .hbm, ⟨2, _⟩ => ⟨S8192x4096, .f32⟩
  | .hbm, ⟨3, _⟩ => ⟨S8192x7168, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InARefIdeal.lean ====
abbrev S2x4096x4096 : Shape := ⟨3, ![2, 4096, 4096]⟩
abbrev S4096x7168 : Shape := ⟨2, ![4096, 7168]⟩
abbrev S2x4096x7168 : Shape := ⟨3, ![2, 4096, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x7168, .bf16⟩
  | .hbm, ⟨2, _⟩ => ⟨S4096x7168, .f32⟩
  | .hbm, ⟨3, _⟩ => ⟨S2x4096x7168, .f32⟩
  | .hbm, ⟨4, _⟩ => ⟨S8192x7168, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InBProduct.lean ====
abbrev S2x4096x4096 : Shape := ⟨3, ![2, 4096, 4096]⟩
abbrev S4096x10240 : Shape := ⟨2, ![4096, 10240]⟩
abbrev S8192x4096 : Shape := ⟨2, ![8192, 4096]⟩
abbrev S8192x10240 : Shape := ⟨2, ![8192, 10240]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S4096x10240, .bf16⟩
  | .hbm, ⟨2, _⟩ => ⟨S8192x4096, .f32⟩
  | .hbm, ⟨3, _⟩ => ⟨S8192x10240, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S2x4096x4096 : Shape := ⟨3, ![2, 4096, 4096]⟩
abbrev S4096x10240 : Shape := ⟨2, ![4096, 10240]⟩
abbrev S2x4096x10240 : Shape := ⟨3, ![2, 4096, 10240]⟩
abbrev S8192x10240 : Shape := ⟨2, ![8192, 10240]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x10240, .bf16⟩
  | .hbm, ⟨2, _⟩ => ⟨S4096x10240, .f32⟩
  | .hbm, ⟨3, _⟩ => ⟨S2x4096x10240, .f32⟩
  | .hbm, ⟨4, _⟩ => ⟨S8192x10240, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QueryProduct.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryProductIdeal.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InASample.lean ====
abbrev S16x32x4096 : Shape := ⟨3, ![16, 32, 4096]⟩
abbrev S4096x7168 : Shape := ⟨2, ![4096, 7168]⟩
abbrev S512x4096 : Shape := ⟨2, ![512, 4096]⟩
abbrev S512x7168 : Shape := ⟨2, ![512, 7168]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16x32x4096, .f32⟩
  | .hbm, ⟨1, _⟩ => ⟨S4096x7168, .bf16⟩
  | .hbm, ⟨2, _⟩ => ⟨S512x4096, .f32⟩
  | .hbm, ⟨3, _⟩ => ⟨S512x7168, .f32⟩
  | .local _ .vmem, ⟨0, _⟩ => ⟨S512x4096, .f32⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | _, _ => ⟨S16x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InASampleIdeal.lean ====
abbrev S16x32x4096 : Shape := ⟨3, ![16, 32, 4096]⟩
abbrev S4096x7168 : Shape := ⟨2, ![4096, 7168]⟩
abbrev S512x4096 : Shape := ⟨2, ![512, 4096]⟩
abbrev S512x7168 : Shape := ⟨2, ![512, 7168]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16x32x4096, .f32⟩
  | .hbm, ⟨1, _⟩ => ⟨S4096x7168, .bf16⟩
  | .hbm, ⟨2, _⟩ => ⟨S512x4096, .f32⟩
  | .hbm, ⟨3, _⟩ => ⟨S512x7168, .f32⟩
  | .local _ .vmem, ⟨0, _⟩ => ⟨S512x4096, .f32⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | _, _ => ⟨S16x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InASampleRefIdeal.lean ====
abbrev S16x32x4096 : Shape := ⟨3, ![16, 32, 4096]⟩
abbrev S4096x7168 : Shape := ⟨2, ![4096, 7168]⟩
abbrev S16x32x7168 : Shape := ⟨3, ![16, 32, 7168]⟩
abbrev S512x7168 : Shape := ⟨2, ![512, 7168]⟩

abbrev nBuf : Space → Nat
  | .hbm => 5
  | .vmem => 0
  | .smem => 0
  | _ => 0

abbrev bufTy : (tb : Table) → Fin (tcTables nBuf tb) → BufTy
  | .hbm, ⟨0, _⟩ => ⟨S16x32x4096, .f32⟩
  | .hbm, ⟨1, _⟩ => ⟨S4096x7168, .bf16⟩
  | .hbm, ⟨2, _⟩ => ⟨S4096x7168, .f32⟩
  | .hbm, ⟨3, _⟩ => ⟨S16x32x7168, .f32⟩
  | .hbm, ⟨4, _⟩ => ⟨S512x7168, .f32⟩
  | _, _ => ⟨S16x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InBSample.lean ====
abbrev S16x32x4096 : Shape := ⟨3, ![16, 32, 4096]⟩
abbrev S4096x10240 : Shape := ⟨2, ![4096, 10240]⟩
abbrev S512x4096 : Shape := ⟨2, ![512, 4096]⟩
abbrev S512x10240 : Shape := ⟨2, ![512, 10240]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16x32x4096, .f32⟩
  | .hbm, ⟨1, _⟩ => ⟨S4096x10240, .bf16⟩
  | .hbm, ⟨2, _⟩ => ⟨S512x4096, .f32⟩
  | .hbm, ⟨3, _⟩ => ⟨S512x10240, .f32⟩
  | .local _ .vmem, ⟨0, _⟩ => ⟨S512x4096, .f32⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | _, _ => ⟨S16x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBSampleRefIdeal.lean ====
abbrev S16x32x4096 : Shape := ⟨3, ![16, 32, 4096]⟩
abbrev S4096x10240 : Shape := ⟨2, ![4096, 10240]⟩
abbrev S16x32x10240 : Shape := ⟨3, ![16, 32, 10240]⟩
abbrev S512x10240 : Shape := ⟨2, ![512, 10240]⟩

abbrev nBuf : Space → Nat
  | .hbm => 5
  | .vmem => 0
  | .smem => 0
  | _ => 0

abbrev bufTy : (tb : Table) → Fin (tcTables nBuf tb) → BufTy
  | .hbm, ⟨0, _⟩ => ⟨S16x32x4096, .f32⟩
  | .hbm, ⟨1, _⟩ => ⟨S4096x10240, .bf16⟩
  | .hbm, ⟨2, _⟩ => ⟨S4096x10240, .f32⟩
  | .hbm, ⟨3, _⟩ => ⟨S16x32x10240, .f32⟩
  | .hbm, ⟨4, _⟩ => ⟨S512x10240, .f32⟩
  | _, _ => ⟨S16x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QuerySample.lean ====
abbrev S512x4096 : Shape := ⟨2, ![512, 4096]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S4096x2048, .bf16⟩
  | .hbm, ⟨2, _⟩ => ⟨S512x2048, .f32⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QuerySampleRefIdeal.lean ====
abbrev S512x4096 : Shape := ⟨2, ![512, 4096]⟩
abbrev S4096x2048 : Shape := ⟨2, ![4096, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x2048, .bf16⟩
  | .hbm, ⟨2, _⟩ => ⟨S512x4096, .f32⟩
  | .hbm, ⟨3, _⟩ => ⟨S4096x2048, .f32⟩
  | .hbm, ⟨4, _⟩ => ⟨S512x2048, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InBWeight.lean ====
abbrev S1x4096x10240 : Shape := ⟨3, ![1, 4096, 10240]⟩
abbrev S4096x10240 : Shape := ⟨2, ![4096, 10240]⟩
abbrev S1x128x10240 : Shape := ⟨3, ![1, 128, 10240]⟩
abbrev S128x10240 : Shape := ⟨2, ![128, 10240]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x10240, .f32⟩
  | .hbm, ⟨1, _⟩ => ⟨S4096x10240, .bf16⟩
  | .local _ .vmem, ⟨0, _⟩ => ⟨S1x128x10240, .f32⟩
  | .local _ .vmem, ⟨1, _⟩ => ⟨S1x128x10240, .f32⟩
  | .local _ .vmem, ⟨2, _⟩ => ⟨S128x10240, .bf16⟩
  | .local _ .vmem, ⟨3, _⟩ => ⟨S128x10240, .bf16⟩
  | _, _ => ⟨S1x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== InBWeightIdeal.lean ====
abbrev S1x4096x10240 : Shape := ⟨3, ![1, 4096, 10240]⟩
abbrev S4096x10240 : Shape := ⟨2, ![4096, 10240]⟩
abbrev S1x128x10240 : Shape := ⟨3, ![1, 128, 10240]⟩
abbrev S128x10240 : Shape := ⟨2, ![128, 10240]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x10240, .f32⟩
  | .hbm, ⟨1, _⟩ => ⟨S4096x10240, .bf16⟩
  | .local _ .vmem, ⟨0, _⟩ => ⟨S1x128x10240, .f32⟩
  | .local _ .vmem, ⟨1, _⟩ => ⟨S1x128x10240, .f32⟩
  | .local _ .vmem, ⟨2, _⟩ => ⟨S128x10240, .bf16⟩
  | .local _ .vmem, ⟨3, _⟩ => ⟨S128x10240, .bf16⟩
  | _, _ => ⟨S1x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== InBWeightRefIdeal.lean ====
abbrev S1x4096x10240 : Shape := ⟨3, ![1, 4096, 10240]⟩
abbrev S4096x10240 : Shape := ⟨2, ![4096, 10240]⟩

abbrev nBuf : Space → Nat
  | .hbm => 3
  | .vmem => 0
  | .smem => 0
  | _ => 0

abbrev bufTy : (tb : Table) → Fin (tcTables nBuf tb) → BufTy
  | .hbm, ⟨0, _⟩ => ⟨S1x4096x10240, .f32⟩
  | .hbm, ⟨1, _⟩ => ⟨S4096x10240, .f32⟩
  | .hbm, ⟨2, _⟩ => ⟨S4096x10240, .bf16⟩
  | _, _ => ⟨S1x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KvWeightFirst.lean ====
abbrev S2x4096x2048 : Shape := ⟨3, ![2, 4096, 2048]⟩
abbrev S4096x2048 : Shape := ⟨2, ![4096, 2048]⟩
abbrev S1x1024x2048 : Shape := ⟨3, ![1, 1024, 2048]⟩
abbrev S1024x2048 : Shape := ⟨2, ![1024, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x2048, .f32⟩
  | .hbm, ⟨1, _⟩ => ⟨S4096x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1024x2048, .bf16⟩
  | .local _ .vmem, ⟨3, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KvWeightFirstRefIdeal.lean ====
abbrev S2x4096x2048 : Shape := ⟨3, ![2, 4096, 2048]⟩
abbrev S1x4096x2048 : Shape := ⟨3, ![1, 4096, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x4096x2048, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== KvWeightSecond.lean ====
abbrev S2x4096x2048 : Shape := ⟨3, ![2, 4096, 2048]⟩
abbrev S4096x2048 : Shape := ⟨2, ![4096, 2048]⟩
abbrev S1x1024x2048 : Shape := ⟨3, ![1, 1024, 2048]⟩
abbrev S1024x2048 : Shape := ⟨2, ![1024, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x2048, .f32⟩
  | .hbm, ⟨1, _⟩ => ⟨S4096x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1024x2048, .bf16⟩
  | .local _ .vmem, ⟨3, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KvWeightSecondRefIdeal.lean ====
abbrev S2x4096x2048 : Shape := ⟨3, ![2, 4096, 2048]⟩
abbrev S1x4096x2048 : Shape := ⟨3, ![1, 4096, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x4096x2048, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== InAWeight.lean ====
abbrev S1x4096x7168 : Shape := ⟨3, ![1, 4096, 7168]⟩
abbrev S4096x7168 : Shape := ⟨2, ![4096, 7168]⟩
abbrev S1x256x7168 : Shape := ⟨3, ![1, 256, 7168]⟩
abbrev S256x7168 : Shape := ⟨2, ![256, 7168]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x7168, .f32⟩
  | .hbm, ⟨1, _⟩ => ⟨S4096x7168, .bf16⟩
  | .local _ .vmem, ⟨0, _⟩ => ⟨S1x256x7168, .f32⟩
  | .local _ .vmem, ⟨1, _⟩ => ⟨S1x256x7168, .f32⟩
  | .local _ .vmem, ⟨2, _⟩ => ⟨S256x7168, .bf16⟩
  | .local _ .vmem, ⟨3, _⟩ => ⟨S256x7168, .bf16⟩
  | _, _ => ⟨S1x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== InAWeightRefIdeal.lean ====
abbrev S1x4096x7168 : Shape := ⟨3, ![1, 4096, 7168]⟩
abbrev S4096x7168 : Shape := ⟨2, ![4096, 7168]⟩

abbrev nBuf : Space → Nat
  | .hbm => 3
  | .vmem => 0
  | .smem => 0
  | _ => 0

abbrev bufTy : (tb : Table) → Fin (tcTables nBuf tb) → BufTy
  | .hbm, ⟨0, _⟩ => ⟨S1x4096x7168, .f32⟩
  | .hbm, ⟨1, _⟩ => ⟨S4096x7168, .f32⟩
  | .hbm, ⟨2, _⟩ => ⟨S4096x7168, .bf16⟩
  | _, _ => ⟨S1x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== SguSample.lean ====
abbrev S512x7168 : Shape := ⟨2, ![512, 7168]⟩
abbrev S3072 : Shape := ⟨1, ![3072]⟩
abbrev S8x128x128 : Shape := ⟨3, ![8, 128, 128]⟩
abbrev S8x128 : Shape := ⟨2, ![8, 128]⟩
abbrev S8x32x32 : Shape := ⟨3, ![8, 32, 32]⟩
abbrev S8x32 : Shape := ⟨2, ![8, 32]⟩
abbrev S32x8 : Shape := ⟨2, ![32, 8]⟩
abbrev S32x8x384 : Shape := ⟨3, ![32, 8, 384]⟩
abbrev S32x3072 : Shape := ⟨2, ![32, 3072]⟩
abbrev S1x3072 : Shape := ⟨2, ![1, 3072]⟩
abbrev S512x3072 : Shape := ⟨2, ![512, 3072]⟩
abbrev S32 : Shape := ⟨1, ![32]⟩
abbrev S32x1 : Shape := ⟨2, ![32, 1]⟩
abbrev S32x32 : Shape := ⟨2, ![32, 32]⟩
abbrev S1x32x32 : Shape := ⟨3, ![1, 32, 32]⟩
abbrev S32x384 : Shape := ⟨2, ![32, 384]⟩

abbrev nBuf : Space → Nat
  | .hbm => 14
  | .vmem => 12
  | .smem => 0
  | _ => 0

abbrev bufTy : (tb : Table) → Fin (tcTables nBuf tb) → BufTy
  | .hbm, ⟨0, _⟩ => ⟨S512x7168, .f32⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S8x32x32, .f32⟩
  | .hbm, ⟨6, _⟩ => ⟨S8x32, .f32⟩
  | .hbm, ⟨7, _⟩ => ⟨S32x8, .f32⟩
  | .hbm, ⟨8, _⟩ => ⟨S32x8x384, .f32⟩
  | .hbm, ⟨9, _⟩ => ⟨S32x3072, .f32⟩
  | .hbm, ⟨10, _⟩ => ⟨S1x3072, .f32⟩
  | .hbm, ⟨11, _⟩ => ⟨S1x3072, .f32⟩
  | .hbm, ⟨12, _⟩ => ⟨S512x3072, .bf16⟩
  | .hbm, ⟨13, _⟩ => ⟨S512x3072, .f32⟩
  | .local _ .vmem, ⟨0, _⟩ => ⟨S32x3072, .f32⟩
  | .local _ .vmem, ⟨1, _⟩ => ⟨S32x3072, .f32⟩
  | .local _ .vmem, ⟨2, _⟩ => ⟨S32x3072, .f32⟩
  | .local _ .vmem, ⟨3, _⟩ => ⟨S32x3072, .f32⟩
  | .local _ .vmem, ⟨4, _⟩ => ⟨S1x3072, .f32⟩
  | .local _ .vmem, ⟨5, _⟩ => ⟨S1x3072, .f32⟩
  | .local _ .vmem, ⟨6, _⟩ => ⟨S8x32x32, .f32⟩
  | .local _ .vmem, ⟨7, _⟩ => ⟨S32x3072, .f32⟩
  | .local _ .vmem, ⟨8, _⟩ => ⟨S32x3072, .bf16⟩
  | .local _ .vmem, ⟨9, _⟩ => ⟨S32x3072, .bf16⟩
  | .local _ .vmem, ⟨10, _⟩ => ⟨S32x3072, .f32⟩
  | .local _ .vmem, ⟨11, _⟩ => ⟨S32x3072, .f32⟩
  | _, _ => ⟨S512x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguSampleRefIdeal.lean ====
abbrev S512x7168 : Shape := ⟨2, ![512, 7168]⟩
abbrev S3072 : Shape := ⟨1, ![3072]⟩
abbrev S8x128x128 : Shape := ⟨3, ![8, 128, 128]⟩
abbrev S8x128 : Shape := ⟨2, ![8, 128]⟩
abbrev S16x32x7168 : Shape := ⟨3, ![16, 32, 7168]⟩
abbrev S16x32x6144 : Shape := ⟨3, ![16, 32, 6144]⟩
abbrev S_ : Shape := ⟨0, ![]⟩
abbrev S16x32x3072 : Shape := ⟨3, ![16, 32, 3072]⟩
abbrev S16x32 : Shape := ⟨2, ![16, 32]⟩
abbrev S16x32x1 : Shape := ⟨3, ![16, 32, 1]⟩
abbrev S1x1x3072 : Shape := ⟨3, ![1, 1, 3072]⟩
abbrev S32x32 : Shape := ⟨2, ![32, 32]⟩
abbrev S1x32x32 : Shape := ⟨3, ![1, 32, 32]⟩
abbrev S8x32x32 : Shape := ⟨3, ![8, 32, 32]⟩
abbrev S16x1x32x8x384 : Shape := ⟨5, ![16, 1, 32, 8, 384]⟩
abbrev S8x16x1x384x32 : Shape := ⟨5, ![8, 16, 1, 384, 32]⟩
abbrev S8x32 : Shape := ⟨2, ![8, 32]⟩
abbrev S32x8 : Shape := ⟨2, ![32, 8]⟩
abbrev S1x1x32x8x1 : Shape := ⟨5, ![1, 1, 32, 8, 1]⟩
abbrev S512x3072 : Shape := ⟨2, ![512, 3072]⟩

abbrev nBuf : Space → Nat
  | .hbm => 86
  | .vmem => 0
  | .smem => 0
  | _ => 0

abbrev bufTy : (tb : Table) → Fin (tcTables nBuf tb) → BufTy
  | .hbm, ⟨0, _⟩ => ⟨S512x7168, .f32⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S16x32x7168, .f32⟩
  | .hbm, ⟨6, _⟩ => ⟨S16x32x6144, .f32⟩
  | .hbm, ⟨7, _⟩ => ⟨S16x32x6144, .f32⟩
  | .hbm, ⟨8, _⟩ => ⟨S16x32x6144, .f32⟩
  | .hbm, ⟨9, _⟩ => ⟨S_, .f32⟩
  | .hbm, ⟨10, _⟩ => ⟨S16x32x6144, .f32⟩
  | .hbm, ⟨11, _⟩ => ⟨S16x32x6144, .f32⟩
  | .hbm, ⟨12, _⟩ => ⟨S16x32x6144, .f32⟩
  | .hbm, ⟨13, _⟩ => ⟨S_, .f32⟩
  | .hbm, ⟨14, _⟩ => ⟨S16x32x6144, .f32⟩
  | .hbm, ⟨15, _⟩ => ⟨S16x32x6144, .f32⟩
  | .hbm, ⟨16, _⟩ => ⟨S16x32x6144, .f32⟩
  | .hbm, ⟨17, _⟩ => ⟨S_, .f32⟩
  | .hbm, ⟨18, _⟩ => ⟨S16x32x6144, .f32⟩
  | .hbm, ⟨19, _⟩ => ⟨S16x32x6144, .f32⟩
  | .hbm, ⟨20, _⟩ => ⟨S_, .f32⟩
  | .hbm, ⟨21, _⟩ => ⟨S16x32x6144, .f32⟩
  | .hbm, ⟨22, _⟩ => ⟨S16x32x6144, .f32⟩
  | .hbm, ⟨23, _⟩ => ⟨S16x32x6144, .f32⟩
  | .hbm, ⟨24, _⟩ => ⟨S16x32x3072, .f32⟩
  | .hbm, ⟨25, _⟩ => ⟨S16x32x3072, .f32⟩
  | .hbm, ⟨26, _⟩ => ⟨S_, .f32⟩
  | .hbm, ⟨27, _⟩ => ⟨S16x32, .f32⟩
  | .hbm, ⟨28, _⟩ => ⟨S16x32x1, .f32⟩
  | .hbm, ⟨29, _⟩ => ⟨S_, .f32⟩
  | .hbm, ⟨30, _⟩ => ⟨S16x32x1, .f32⟩
  | .hbm, ⟨31, _⟩ => ⟨S16x32x1, .f32⟩
  | .hbm, ⟨32, _⟩ => ⟨S16x32x3072, .f32⟩
  | .hbm, ⟨33, _⟩ => ⟨S16x32x3072, .f32⟩
  | .hbm, ⟨34, _⟩ => ⟨S16x32x3072, .f32⟩
  | .hbm, ⟨35, _⟩ => ⟨S_, .f32⟩
  | .hbm, ⟨36, _⟩ => ⟨S16x32, .f32⟩
  | .hbm, ⟨37, _⟩ => ⟨S16x32x1, .f32⟩
  | .hbm, ⟨38, _⟩ => ⟨S_, .f32⟩
  | .hbm, ⟨39, _⟩ => ⟨S16x32x1, .f32⟩
  | .hbm, ⟨40, _⟩ => ⟨S16x32x1, .f32⟩
  | .hbm, ⟨41, _⟩ => ⟨S16x32x3072, .f32⟩
  | .hbm, ⟨42, _⟩ => ⟨S16x32x3072, .f32⟩
  | .hbm, ⟨43, _⟩ => ⟨S_, .f32⟩
  | .hbm, ⟨44, _⟩ => ⟨S16x32x1, .f32⟩
  | .hbm, ⟨45, _⟩ => ⟨S16x32x1, .f32⟩
  | .hbm, ⟨46, _⟩ => ⟨S16x32x1, .f32⟩
  | .hbm, ⟨47, _⟩ => ⟨S16x32x3072, .f32⟩
  | .hbm, ⟨48, _⟩ => ⟨S16x32x3072, .f32⟩
  | .hbm, ⟨49, _⟩ => ⟨S1x1x3072, .f32⟩
  | .hbm, ⟨50, _⟩ => ⟨S16x32x3072, .f32⟩
  | .hbm, ⟨51, _⟩ => ⟨S16x32x3072, .f32⟩
  | .hbm, ⟨52, _⟩ => ⟨S1x1x3072, .f32⟩
  | .hbm, ⟨53, _⟩ => ⟨S16x32x3072, .f32⟩
  | .hbm, ⟨54, _⟩ => ⟨S16x32x3072, .f32⟩
  | .hbm, ⟨55, _⟩ => ⟨S_, .i1⟩
  | .hbm, ⟨56, _⟩ => ⟨S32x32, .i1⟩
  | .hbm, ⟨57, _⟩ => ⟨S32x32, .i32⟩
  | .hbm, ⟨58, _⟩ => ⟨S_, .i32⟩
  | .hbm, ⟨59, _⟩ => ⟨S32x32, .i32⟩
  | .hbm, ⟨60, _⟩ => ⟨S32x32, .i32⟩
  | .hbm, ⟨61, _⟩ => ⟨S32x32, .i32⟩
  | .hbm, ⟨62, _⟩ => ⟨S32x32, .i1⟩
  | .hbm, ⟨63, _⟩ => ⟨S_, .i1⟩
  | .hbm, ⟨64, _⟩ => ⟨S32x32, .i1⟩
  | .hbm, ⟨65, _⟩ => ⟨S32x32, .i1⟩
  | .hbm, ⟨66, _⟩ => ⟨S1x32x32, .i1⟩
  | .hbm, ⟨67, _⟩ => ⟨S8x32x32, .f32⟩
  | .hbm, ⟨68, _⟩ => ⟨S8x32x32, .f32⟩
  | .hbm, ⟨69, _⟩ => ⟨S_, .f32⟩
  | .hbm, ⟨70, _⟩ => ⟨S8x32x32, .f32⟩
  | .hbm, ⟨71, _⟩ => ⟨S8x32x32, .i1⟩
  | .hbm, ⟨72, _⟩ => ⟨S8x32x32, .f32⟩
  | .hbm, ⟨73, _⟩ => ⟨S16x1x32x8x384, .f32⟩
  | .hbm, ⟨74, _⟩ => ⟨S8x16x1x384x32, .f32⟩
  | .hbm, ⟨75, _⟩ => ⟨S16x1x32x8x384, .f32⟩
  | .hbm, ⟨76, _⟩ => ⟨S8x32, .f32⟩
  | .hbm, ⟨77, _⟩ => ⟨S32x8, .f32⟩
  | .hbm, ⟨78, _⟩ => ⟨S1x1x32x8x1, .f32⟩
  | .hbm, ⟨79, _⟩ => ⟨S16x1x32x8x384, .f32⟩
  | .hbm, ⟨80, _⟩ => ⟨S16x1x32x8x384, .f32⟩
  | .hbm, ⟨81, _⟩ => ⟨S16x32x3072, .f32⟩
  | .hbm, ⟨82, _⟩ => ⟨S16x32x3072, .f32⟩
  | .hbm, ⟨83, _⟩ => ⟨S512x3072, .f32⟩
  | .hbm, ⟨84, _⟩ => ⟨S512x3072, .bf16⟩
  | .hbm, ⟨85, _⟩ => ⟨S512x3072, .f32⟩
  | _, _ => ⟨S512x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== SguPrompt.lean ====
abbrev S8192x7168 : Shape := ⟨2, ![8192, 7168]⟩
abbrev S3072 : Shape := ⟨1, ![3072]⟩
abbrev S8x128x128 : Shape := ⟨3, ![8, 128, 128]⟩
abbrev S8x128 : Shape := ⟨2, ![8, 128]⟩
abbrev S128x8 : Shape := ⟨2, ![128, 8]⟩
abbrev S128x8x384 : Shape := ⟨3, ![128, 8, 384]⟩
abbrev S128x3072 : Shape := ⟨2, ![128, 3072]⟩
abbrev S1x3072 : Shape := ⟨2, ![1, 3072]⟩
abbrev S8192x3072 : Shape := ⟨2, ![8192, 3072]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x384 : Shape := ⟨2, ![128, 384]⟩

abbrev nBuf : Space → Nat
  | .hbm => 11
  | .vmem => 10
  | .smem => 0
  | _ => 0

abbrev bufTy : (tb : Table) → Fin (tcTables nBuf tb) → BufTy
  | .hbm, ⟨0, _⟩ => ⟨S8192x7168, .f32⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x384, .f32⟩
  | .hbm, ⟨7, _⟩ => ⟨S128x3072, .f32⟩
  | .hbm, ⟨8, _⟩ => ⟨S1x3072, .f32⟩
  | .hbm, ⟨9, _⟩ => ⟨S1x3072, .f32⟩
  | .hbm, ⟨10, _⟩ => ⟨S8192x3072, .bf16⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S1x3072, .f32⟩
  | .local _ .vmem, ⟨5, _⟩ => ⟨S1x3072, .f32⟩
  | .local _ .vmem, ⟨6, _⟩ => ⟨S8x128x128, .f32⟩
  | .local _ .vmem, ⟨7, _⟩ => ⟨S128x3072, .f32⟩
  | .local _ .vmem, ⟨8, _⟩ => ⟨S128x3072, .bf16⟩
  | .local _ .vmem, ⟨9, _⟩ => ⟨S128x3072, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguPromptRefIdeal.lean ====
abbrev S8192x7168 : Shape := ⟨2, ![8192, 7168]⟩
abbrev S3072 : Shape := ⟨1, ![3072]⟩
abbrev S8x128x128 : Shape := ⟨3, ![8, 128, 128]⟩
abbrev S8x128 : Shape := ⟨2, ![8, 128]⟩
abbrev S2x4096x7168 : Shape := ⟨3, ![2, 4096, 7168]⟩
abbrev S2x4096x6144 : Shape := ⟨3, ![2, 4096, 6144]⟩
abbrev S_ : Shape := ⟨0, ![]⟩
abbrev S2x4096x3072 : Shape := ⟨3, ![2, 4096, 3072]⟩
abbrev S2x4096 : Shape := ⟨2, ![2, 4096]⟩
abbrev S2x4096x1 : Shape := ⟨3, ![2, 4096, 1]⟩
abbrev S1x1x3072 : Shape := ⟨3, ![1, 1, 3072]⟩
abbrev S128x128 : Shape := ⟨2, ![128, 128]⟩
abbrev S1x128x128 : Shape := ⟨3, ![1, 128, 128]⟩
abbrev S2x32x128x8x384 : Shape := ⟨5, ![2, 32, 128, 8, 384]⟩
abbrev S8x2x32x384x128 : Shape := ⟨5, ![8, 2, 32, 384, 128]⟩
abbrev S128x8 : Shape := ⟨2, ![128, 8]⟩
abbrev S1x1x128x8x1 : Shape := ⟨5, ![1, 1, 128, 8, 1]⟩
abbrev S8192x3072 : Shape := ⟨2, ![8192, 3072]⟩

abbrev nBuf : Space → Nat
  | .hbm => 83
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S2x4096x7168, .f32⟩
  | .hbm, ⟨6, _⟩ => ⟨S2x4096x6144, .f32⟩
  | .hbm, ⟨7, _⟩ => ⟨S2x4096x6144, .f32⟩
  | .hbm, ⟨8, _⟩ => ⟨S2x4096x6144, .f32⟩
  | .hbm, ⟨9, _⟩ => ⟨S_, .f32⟩
  | .hbm, ⟨10, _⟩ => ⟨S2x4096x6144, .f32⟩
  | .hbm, ⟨11, _⟩ => ⟨S2x4096x6144, .f32⟩
  | .hbm, ⟨12, _⟩ => ⟨S2x4096x6144, .f32⟩
  | .hbm, ⟨13, _⟩ => ⟨S_, .f32⟩
  | .hbm, ⟨14, _⟩ => ⟨S2x4096x6144, .f32⟩
  | .hbm, ⟨15, _⟩ => ⟨S2x4096x6144, .f32⟩
  | .hbm, ⟨16, _⟩ => ⟨S2x4096x6144, .f32⟩
  | .hbm, ⟨17, _⟩ => ⟨S_, .f32⟩
  | .hbm, ⟨18, _⟩ => ⟨S2x4096x6144, .f32⟩
  | .hbm, ⟨19, _⟩ => ⟨S2x4096x6144, .f32⟩
  | .hbm, ⟨20, _⟩ => ⟨S_, .f32⟩
  | .hbm, ⟨21, _⟩ => ⟨S2x4096x6144, .f32⟩
  | .hbm, ⟨22, _⟩ => ⟨S2x4096x6144, .f32⟩
  | .hbm, ⟨23, _⟩ => ⟨S2x4096x6144, .f32⟩
  | .hbm, ⟨24, _⟩ => ⟨S2x4096x3072, .f32⟩
  | .hbm, ⟨25, _⟩ => ⟨S2x4096x3072, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x3072, .f32⟩
  | .hbm, ⟨33, _⟩ => ⟨S2x4096x3072, .f32⟩
  | .hbm, ⟨34, _⟩ => ⟨S2x4096x3072, .f32⟩
  | .hbm, ⟨35, _⟩ => ⟨S_, .f32⟩
  | .hbm, ⟨36, _⟩ => ⟨S2x4096, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x3072, .f32⟩
  | .hbm, ⟨42, _⟩ => ⟨S2x4096x3072, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x3072, .f32⟩
  | .hbm, ⟨48, _⟩ => ⟨S2x4096x3072, .f32⟩
  | .hbm, ⟨49, _⟩ => ⟨S1x1x3072, .f32⟩
  | .hbm, ⟨50, _⟩ => ⟨S2x4096x3072, .f32⟩
  | .hbm, ⟨51, _⟩ => ⟨S2x4096x3072, .f32⟩
  | .hbm, ⟨52, _⟩ => ⟨S1x1x3072, .f32⟩
  | .hbm, ⟨53, _⟩ => ⟨S2x4096x3072, .f32⟩
  | .hbm, ⟨54, _⟩ => ⟨S2x4096x3072, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S1x128x128, .i1⟩
  | .hbm, ⟨67, _⟩ => ⟨S_, .f32⟩
  | .hbm, ⟨68, _⟩ => ⟨S8x128x128, .f32⟩
  | .hbm, ⟨69, _⟩ => ⟨S8x128x128, .i1⟩
  | .hbm, ⟨70, _⟩ => ⟨S8x128x128, .f32⟩
  | .hbm, ⟨71, _⟩ => ⟨S2x32x128x8x384, .f32⟩
  | .hbm, ⟨72, _⟩ => ⟨S8x2x32x384x128, .f32⟩
  | .hbm, ⟨73, _⟩ => ⟨S2x32x128x8x384, .f32⟩
  | .hbm, ⟨74, _⟩ => ⟨S128x8, .f32⟩
  | .hbm, ⟨75, _⟩ => ⟨S1x1x128x8x1, .f32⟩
  | .hbm, ⟨76, _⟩ => ⟨S2x32x128x8x384, .f32⟩
  | .hbm, ⟨77, _⟩ => ⟨S2x32x128x8x384, .f32⟩
  | .hbm, ⟨78, _⟩ => ⟨S2x4096x3072, .f32⟩
  | .hbm, ⟨79, _⟩ => ⟨S2x4096x3072, .f32⟩
  | .hbm, ⟨80, _⟩ => ⟨S8192x3072, .f32⟩
  | .hbm, ⟨81, _⟩ => ⟨S8192x3072, .bf16⟩
  | .hbm, ⟨82, _⟩ => ⟨S8192x3072, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_call1_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== OutLn.lean ====
abbrev S8192x3072 : Shape := ⟨2, ![8192, 3072]⟩
abbrev S8192x1024 : Shape := ⟨2, ![8192, 1024]⟩
abbrev S4096x4096 : Shape := ⟨2, ![4096, 4096]⟩
abbrev S8192x4096 : Shape := ⟨2, ![8192, 4096]⟩
abbrev S4096 : Shape := ⟨1, ![4096]⟩
abbrev S1x4096 : Shape := ⟨2, ![1, 4096]⟩
abbrev S512x3072 : Shape := ⟨2, ![512, 3072]⟩
abbrev S512x1024 : Shape := ⟨2, ![512, 1024]⟩
abbrev S3072x512 : Shape := ⟨2, ![3072, 512]⟩
abbrev S1024x512 : Shape := ⟨2, ![1024, 512]⟩
abbrev S512x512 : Shape := ⟨2, ![512, 512]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S4096x4096, .bf16⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S3072x512, .bf16⟩
  | .local _ .vmem, ⟨5, _⟩ => ⟨S3072x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S1x4096, .f32⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .bf16⟩
  | .local _ .vmem, ⟨15, _⟩ => ⟨S512x4096, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 2 → Nat :=
  let c0_11 : Index := 0#32
  let arg1 : BitVec 32 := BitVec.ofNat 32 (i 1).val
  let c512_i32 : BitVec 32 := 512#32
  let v7 : BitVec 32 := Scalar.muli arg1 c512_i32
  let v8 : BitVec 32 := v7
  let v13 : Index := Scalar.indexCast v8
  ![0, v13.toNat]
def k0_cond1 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32 : BitVec 32 := 0#32
  let v17 : BitVec 1 := Scalar.cmpi .ne v16 c0_i32
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OutLnRefIdeal.lean ====
abbrev S8192x3072 : Shape := ⟨2, ![8192, 3072]⟩
abbrev S8192x1024 : Shape := ⟨2, ![8192, 1024]⟩
abbrev S4096x4096 : Shape := ⟨2, ![4096, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S4096x4096, .bf16⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S8192x4096, .bf16⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S4096x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | .hbm, ⟨43, _⟩ => ⟨S8192x4096, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.BandKernel.lean ====
module

public import proofs.«01_k».proof.Defs
public import proofs.«01_k».proof.Proof.Gen.BandIdeal.Value
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BandIdeal.Attn

open Cert.BandIdeal Cert.BandIdeal.Gen

/-- One head's bias rows: the head's table row rolled, cut and masked. -/
def biasRows (x : FVec Ideal S1x1x2048 .f32) : FVec Ideal S1x512x1024 .f32 := k0_pay6 k0_pay2 k0_pay3 k0_pay4 x

/-- One head's output block: the queries against the previous and the current block of keys. -/
def head (b : BitVec 1) (q kp kc vp vc : FVec Ideal S1x512x128 .f32) (w0 w1 : FVec Ideal S1x512x512 .f32) : FVec Ideal S1x512x128 .bf16 :=
  k0_pay15 (k0_pay12 vp) (k0_pay13 q kp w0) (k0_pay14 q kc w1) b (Named.named κ "mask" 0xF149F2CA#32) vc

/-- The carried scratch: the four heads' bias rows. -/
def scr (x : Vec Ideal S4x1x2048 .f32) : Vec Ideal S4x512x1024 .f32 :=
  View.canon (Val := Elt Ideal) (s := S4x512x1024) (e := .f32) [⟨Rect.unit ![3, 0, 0] ![1, 512, 1024] inb_S4x512x1024_S1x512x1024_3_0_0, biasRows (View.ld x (Rect.unit ![3, 0, 0] ![1, 1, 2048] inb_S4x1x2048_S1x1x2048_3_0_0))⟩,
    ⟨Rect.unit ![2, 0, 0] ![1, 512, 1024] inb_S4x512x1024_S1x512x1024_2_0_0, biasRows (View.ld x (Rect.unit ![2, 0, 0] ![1, 1, 2048] inb_S4x1x2048_S1x1x2048_2_0_0))⟩,
    ⟨Rect.unit ![1, 0, 0] ![1, 512, 1024] inb_S4x512x1024_S1x512x1024_1_0_0, biasRows (View.ld x (Rect.unit ![1, 0, 0] ![1, 1, 2048] inb_S4x1x2048_S1x1x2048_1_0_0))⟩,
    ⟨Rect.unit ![0, 0, 0] ![1, 512, 1024] inb_S4x512x1024_S1x512x1024_0_0_0, biasRows (View.ld x (Rect.unit ![0, 0, 0] ![1, 1, 2048] inb_S4x1x2048_S1x1x2048_0_0_0))⟩]

/-- The output block: the four heads side by side. -/
def out (b : BitVec 1) (q kp kc vp vc : Vec Ideal S1x512x512 .f32) (s : Vec Ideal S4x512x1024 .f32) : Vec Ideal S1x512x512 .bf16 :=
  View.canon (Val := Elt Ideal) (s := S1x512x512) (e := .bf16) [⟨Rect.unit ![0, 0, 384] ![1, 512, 128] inb_S1x512x512_S1x512x128_0_0_384,
      head b (View.ld q (Rect.unit ![0, 0, 384] ![1, 512, 128] inb_S1x512x512_S1x512x128_0_0_384)) (View.ld kp (Rect.unit ![0, 0, 384] ![1, 512, 128] inb_S1x512x512_S1x512x128_0_0_384))
        (View.ld kc (Rect.unit ![0, 0, 384] ![1, 512, 128] inb_S1x512x512_S1x512x128_0_0_384)) (View.ld vp (Rect.unit ![0, 0, 384] ![1, 512, 128] inb_S1x512x512_S1x512x128_0_0_384))
        (View.ld vc (Rect.unit ![0, 0, 384] ![1, 512, 128] inb_S1x512x512_S1x512x128_0_0_384))
        (View.ld s (Rect.unit ![3, 0, 0] ![1, 512, 512] inb_S4x512x1024_S1x512x512_3_0_0)) (View.ld s (Rect.unit ![3, 0, 512] ![1, 512, 512] inb_S4x512x1024_S1x512x512_3_0_512))⟩,
    ⟨Rect.unit ![0, 0, 256] ![1, 512, 128] inb_S1x512x512_S1x512x128_0_0_256,
      head b (View.ld q (Rect.unit ![0, 0, 256] ![1, 512, 128] inb_S1x512x512_S1x512x128_0_0_256)) (View.ld kp (Rect.unit ![0, 0, 256] ![1, 512, 128] inb_S1x512x512_S1x512x128_0_0_256))
        (View.ld kc (Rect.unit ![0, 0, 256] ![1, 512, 128] inb_S1x512x512_S1x512x128_0_0_256)) (View.ld vp (Rect.unit ![0, 0, 256] ![1, 512, 128] inb_S1x512x512_S1x512x128_0_0_256))
        (View.ld vc (Rect.unit ![0, 0, 256] ![1, 512, 128] inb_S1x512x512_S1x512x128_0_0_256))
        (View.ld s (Rect.unit ![2, 0, 0] ![1, 512, 512] inb_S4x512x1024_S1x512x512_2_0_0)) (View.ld s (Rect.unit ![2, 0, 512] ![1, 512, 512] inb_S4x512x1024_S1x512x512_2_0_512))⟩,
    ⟨Rect.unit ![0, 0, 128] ![1, 512, 128] inb_S1x512x512_S1x512x128_0_0_128,
      head b (View.ld q (Rect.unit ![0, 0, 128] ![1, 512, 128] inb_S1x512x512_S1x512x128_0_0_128)) (View.ld kp (Rect.unit ![0, 0, 128] ![1, 512, 128] inb_S1x512x512_S1x512x128_0_0_128))
        (View.ld kc (Rect.unit ![0, 0, 128] ![1, 512, 128] inb_S1x512x512_S1x512x128_0_0_128)) (View.ld vp (Rect.unit ![0, 0, 128] ![1, 512, 128] inb_S1x512x512_S1x512x128_0_0_128))
        (View.ld vc (Rect.unit ![0, 0, 128] ![1, 512, 128] inb_S1x512x512_S1x512x128_0_0_128))
        (View.ld s (Rect.unit ![1, 0, 0] ![1, 512, 512] inb_S4x512x1024_S1x512x512_1_0_0)) (View.ld s (Rect.unit ![1, 0, 512] ![1, 512, 512] inb_S4x512x1024_S1x512x512_1_0_512))⟩,
    ⟨Rect.unit ![0, 0, 0] ![1, 512, 128] inb_S1x512x512_S1x512x128_0_0_0,
      head b (View.ld q (Rect.unit ![0, 0, 0] ![1, 512, 128] inb_S1x512x512_S1x512x128_0_0_0)) (View.ld kp (Rect.unit ![0, 0, 0] ![1, 512, 128] inb_S1x512x512_S1x512x128_0_0_0))
        (View.ld kc (Rect.unit ![0, 0, 0] ![1, 512, 128] inb_S1x512x512_S1x512x128_0_0_0)) (View.ld vp (Rect.unit ![0, 0, 0] ![1, 512, 128] inb_S1x512x512_S1x512x128_0_0_0))
        (View.ld vc (Rect.unit ![0, 0, 0] ![1, 512, 128] inb_S1x512x512_S1x512x128_0_0_0))
        (View.ld s (Rect.unit ![0, 0, 0] ![1, 512, 512] inb_S4x512x1024_S1x512x512_0_0_0)) (View.ld s (Rect.unit ![0, 0, 512] ![1, 512, 512] inb_S4x512x1024_S1x512x512_0_0_512))⟩]

variable (m : (ℓ : Loc nD τ sig) → Buf (Elt Ideal) ℓ)

/-- The windows' blocks at a grid point: head group slowest, then batch, then block of queries. -/
theorem idx : ∀ t : Fin cfg0.N, win0_0.index t = ![t.val / 8 % 2, t.val % 8, t.val / 16] ∧ win0_1.index t = ![t.val / 8 % 2, t.val % 8 - 1, 6 + t.val / 16]
    ∧ win0_2.index t = ![t.val / 8 % 2, t.val % 8, 6 + t.val / 16] ∧ win0_3.index t = ![t.val / 8 % 2, t.val % 8 - 1, 12 + t.val / 16]
    ∧ win0_4.index t = ![t.val / 8 % 2, t.val % 8, 12 + t.val / 16] ∧ win0_5.index t = ![t.val / 16, 0, 0]
    ∧ win0_6.index t = ![t.val / 8 % 2, t.val % 8, t.val / 16] :=
  (by decide +kernel : ∀ t : Fin grid0.N, _)

/-- The block of queries a grid point works on. -/
theorem coord : ∀ t : Fin cfg0.N, (grid0.coords t 2).val = t.val % 8 :=
  (by decide +kernel : ∀ t : Fin grid0.N, _)

/-- Inside one group of heads the table's window stays where it is. -/
theorem iblk_pred (c : Dev nD) (t t' : Fin cfg0.N) (h : t'.val / 16 = t.val / 16) : iblk m c 5 t' = iblk m c 5 t := by
  funext y
  blk_point [iblk, V, idx t, idx t', h]

theorem scr_A (c : Dev nD) (t : Fin cfg0.N) (h0 : t.val % 16 = 0) : (outsAt0 m c t.val t.isLt).2 = scr (iblk m c 5 t) := by
  rw [outsAt0_A m c t h0]
  frame_out
  rfl

/-- The scratch holds the group's bias rows from the first point of the group on. -/
theorem scratch (c : Dev nD) : ∀ (n : ℕ) (h : n < cfg0.N), (outsAt0 m c n h).2 = scr (iblk m c 5 ⟨n, h⟩)
  | n, h => by
    by_cases h0 : n % 16 = 0
    · exact scr_A m c ⟨n, h⟩ h0
    · rw [outsAt0_B m c ⟨n, h⟩ h0]
      frame_out
      have hn : n - 1 < cfg0.N := lt_of_le_of_lt (Nat.sub_le _ _) h
      show (outsAt0 m c (n - 1) hn).2 = _
      rw [show (outsAt0 m c (n - 1) hn).2 = _ from scratch c (n - 1) hn, iblk_pred m c ⟨n, h⟩ ⟨n - 1, hn⟩ (by show (n - 1) / 16 = n / 16; omega)]
      rfl
  termination_by n => n
  decreasing_by omega

/-- What every point leaves in the output's buffer. -/
theorem out_eq (c : Dev nD) (t : Fin cfg0.N) :
    (outsAt0 m c t.val t.isLt).1 = out (Scalar.cmpi .eq (BitVec.ofNat 32 (grid0.coords t 2)) 0#32) (iblk m c 0 t) (iblk m c 1 t) (iblk m c 2 t)
      (iblk m c 3 t) (iblk m c 4 t) (scr (iblk m c 5 t)) := by
  by_cases h0 : t.val % 16 = 0
  · rw [outsAt0_A m c t h0]
    frame_out
    simp only [View.readCov_eq_canon']
    rfl
  · rw [outsAt0_B m c t h0]
    frame_out
    have hn : t.val - 1 < cfg0.N := lt_of_le_of_lt (Nat.sub_le _ _) t.isLt
    rw [scratch m c (t.val - 1) hn, iblk_pred m c t ⟨t.val - 1, hn⟩ (by show (t.val - 1) / 16 = t.val / 16; omega)]
    rw [show View.read (Elt Ideal) (View.whole cc0_scratch0) ((Memref.isWhole_whole _).unread (scr (iblk m c 5 t))) = scr (iblk m c 5 t) from
      Memref.IsWhole.read_unread (Memref.isWhole_whole _) _]
    rfl

end Cert.BandIdeal.Attn
-- ==== Proof.Softmax.lean ====
module

public import Idealize.ShloMosaic.PureOps.Ideal
public import Idealize.ShloMosaic.Lib.Pointwise
public import Mathlib.Data.EReal.Inv
public import Mathlib.Tactic.FieldSimp

@[expose] public section

noncomputable section

open Idealize.ShloMosaic

/-! Softmax over the extended reals: a quotient of weighted sums does not depend on the shift of the scores. -/

namespace Cert.Softmax

theorem exp_bot : Ideal.exp ⊥ = 0 := rfl
theorem exp_top : Ideal.exp ⊤ = ⊤ := rfl
theorem exp_coe (r : ℝ) : Ideal.exp (r : EReal) = ((Real.exp r : ℝ) : EReal) := rfl

/-- The weight of a score: its exponential, a real number when the score is not `⊤`. -/
def wt (s : EReal) : ℝ := (Ideal.exp s).toReal

theorem wt_bot : wt ⊥ = 0 := by simp [wt, exp_bot, exp_top]

theorem wt_nonneg (s : EReal) : 0 ≤ wt s := by
  induction s using EReal.rec with
  | bot => simp [wt, exp_bot, exp_top]
  | coe r => simpa [wt, exp_coe] using (Real.exp_pos r).le
  | top => simp [wt, exp_bot, exp_top]

theorem wt_pos (s : EReal) (h : s ≠ ⊤) (h' : s ≠ ⊥) : 0 < wt s := by
  induction s using EReal.rec with
  | bot => exact absurd rfl h'
  | coe r => simpa [wt, exp_coe] using Real.exp_pos r
  | top => exact absurd rfl h

/-- A shifted exponential is the weight times a positive factor. -/
theorem exp_shift (s : EReal) (h : s ≠ ⊤) (M : ℝ) : Ideal.exp (s - (M : EReal)) = ((wt s * Real.exp (-M) : ℝ) : EReal) := by
  induction s using EReal.rec with
  | bot => simp [wt, exp_bot, exp_top]
  | coe r =>
    rw [← EReal.coe_sub]
    simp only [wt, exp_coe, EReal.toReal_coe]
    rw [sub_eq_add_neg, Real.exp_add]
  | top => exact absurd rfl h

theorem coe_sum {ι : Type*} (t : Finset ι) (f : ι → ℝ) : ((∑ i ∈ t, f i : ℝ) : EReal) = ∑ i ∈ t, (f i : EReal) := by
  induction t using Finset.cons_induction with
  | empty => simp
  | cons a s ha ih => rw [Finset.sum_cons, Finset.sum_cons, EReal.coe_add, ih]

/-- A nonnegative real factor goes under a finite sum. -/
theorem mul_sum {ι : Type*} (t : Finset ι) (r : ℝ) (hr : 0 ≤ r) (f : ι → EReal) : (r : EReal) * ∑ i ∈ t, f i = ∑ i ∈ t, (r : EReal) * f i := by
  induction t using Finset.cons_induction with
  | empty => simp
  | cons a s ha ih =>
    rw [Finset.sum_cons, Finset.sum_cons, EReal.left_distrib_of_nonneg_of_ne_top (EReal.coe_nonneg.2 hr) (EReal.coe_ne_top r), ih]

theorem div_coe_pos (x : EReal) (r : ℝ) (hr : 0 < r) : Ideal.div x (r : EReal) = x * ((r⁻¹ : ℝ) : EReal) := by
  have h : (r : EReal) ≠ 0 := by exact_mod_cast hr.ne'
  simp only [Ideal.div, h, if_false]
  rw [EReal.coe_inv]

/-- The largest of finitely many scores none of which is `⊤` and one of which is not `⊥` is a real number. -/
theorem fold_max_real {ι : Type*} (t : Finset ι) (s : ι → EReal) (b : EReal) (hb : b ≠ ⊤) (h : ∀ i ∈ t, s i ≠ ⊤) (j : ι) (hj : j ∈ t) (hj' : s j ≠ ⊥) :
    ∃ M : ℝ, t.fold max b s = (M : EReal) := by
  have h1 : t.fold max b s < ⊤ := (Finset.fold_max_lt _).2 ⟨lt_top_iff_ne_top.2 hb, fun i hi => lt_top_iff_ne_top.2 (h i hi)⟩
  have h2 : s j ≤ t.fold max b s := (Finset.le_fold_max _).2 (Or.inr ⟨j, hj, le_rfl⟩)
  refine ⟨(t.fold max b s).toReal, (EReal.coe_toReal h1.ne ?_).symm⟩
  exact fun e => hj' (le_bot_iff.1 (e ▸ h2))

theorem fold_max_ne_top {ι : Type*} (t : Finset ι) (s : ι → EReal) (b : EReal) (hb : b ≠ ⊤) (h : ∀ i ∈ t, s i ≠ ⊤) : t.fold max b s ≠ ⊤ :=
  ((Finset.fold_max_lt _).2 ⟨lt_top_iff_ne_top.2 hb, fun i hi => lt_top_iff_ne_top.2 (h i hi)⟩).ne

theorem le_fold {ι : Type*} (t : Finset ι) (s : ι → EReal) (b : EReal) (j : ι) (hj : j ∈ t) : s j ≤ t.fold max b s :=
  (Finset.le_fold_max _).2 (Or.inr ⟨j, hj, le_rfl⟩)

theorem exists_real (x : EReal) (h : x ≠ ⊤) (h' : x ≠ ⊥) : ∃ M : ℝ, x = (M : EReal) := ⟨x.toReal, (EReal.coe_toReal h h').symm⟩

theorem wt_sum_pos {ι : Type*} (t : Finset ι) (s : ι → EReal) (h : ∀ i ∈ t, s i ≠ ⊤) (j : ι) (hj : j ∈ t) (hj' : s j ≠ ⊥) : 0 < ∑ i ∈ t, wt (s i) :=
  Finset.sum_pos' (fun i _ => wt_nonneg _) ⟨j, hj, wt_pos _ (h j hj) hj'⟩

/-- Normalize first, then weigh. -/
theorem normal_first {ι : Type*} (t : Finset ι) (s v : ι → EReal) (h : ∀ i ∈ t, s i ≠ ⊤) (M : ℝ) (E : ℝ) (hE : ∑ i ∈ t, wt (s i) = E) (hpos : 0 < E) :
    ∑ i ∈ t, Ideal.div (Ideal.exp (s i - (M : EReal))) (∑ k ∈ t, Ideal.exp (s k - (M : EReal))) * v i
      = ∑ i ∈ t, ((wt (s i) / E : ℝ) : EReal) * v i := by
  have e : ∑ k ∈ t, Ideal.exp (s k - (M : EReal)) = ((E * Real.exp (-M) : ℝ) : EReal) := by
    rw [← hE, Finset.sum_mul, coe_sum]
    exact Finset.sum_congr rfl fun k hk => exp_shift _ (h k hk) M
  refine Finset.sum_congr rfl fun i hi => ?_
  rw [e, div_coe_pos _ _ (mul_pos hpos (Real.exp_pos _)), exp_shift _ (h i hi) M, ← EReal.coe_mul]
  congr 2
  have := (Real.exp_pos (-M)).ne'
  field_simp

/-- Weigh first, then normalize once: the two sums of a score row kept in two parts. -/
theorem normal_last {ι : Type*} (t : Finset ι) (s v : ι → EReal) (h : ∀ i ∈ t, s i ≠ ⊤) (M : ℝ) :
    ∑ i ∈ t, Ideal.exp (s i - (M : EReal)) * v i = (Real.exp (-M) : EReal) * ∑ i ∈ t, (wt (s i) : EReal) * v i := by
  rw [mul_sum _ _ (Real.exp_pos _).le]
  refine Finset.sum_congr rfl fun i hi => ?_
  rw [exp_shift _ (h i hi) M, mul_comm (wt (s i)), EReal.coe_mul, mul_assoc]

theorem sum_exp {ι : Type*} (t : Finset ι) (s : ι → EReal) (h : ∀ i ∈ t, s i ≠ ⊤) (M : ℝ) :
    ∑ i ∈ t, Ideal.exp (s i - (M : EReal)) = ((Real.exp (-M) * ∑ i ∈ t, wt (s i) : ℝ) : EReal) := by
  rw [Finset.mul_sum, coe_sum]
  exact Finset.sum_congr rfl fun i hi => by rw [exp_shift _ (h i hi) M, mul_comm]

/-- The common normal form of a row kept in two parts. -/
theorem two_parts {ι κ : Type*} (t : Finset ι) (u : Finset κ) (s v : ι → EReal) (s' v' : κ → EReal)
    (h : ∀ i ∈ t, s i ≠ ⊤) (h' : ∀ i ∈ u, s' i ≠ ⊤) (M : ℝ) (E : ℝ) (hE : (∑ i ∈ t, wt (s i)) + ∑ i ∈ u, wt (s' i) = E) (hpos : 0 < E) :
    Ideal.div ((∑ i ∈ t, Ideal.exp (s i - (M : EReal)) * v i) + ∑ i ∈ u, Ideal.exp (s' i - (M : EReal)) * v' i)
        ((∑ i ∈ t, Ideal.exp (s i - (M : EReal))) + ∑ i ∈ u, Ideal.exp (s' i - (M : EReal)))
      = (∑ i ∈ t, ((wt (s i) / E : ℝ) : EReal) * v i) + ∑ i ∈ u, ((wt (s' i) / E : ℝ) : EReal) * v' i := by
  have hm := Real.exp_pos (-M)
  rw [sum_exp _ _ h, sum_exp _ _ h', ← EReal.coe_add, ← mul_add, hE, div_coe_pos _ _ (mul_pos hm hpos), normal_last _ _ _ h,
    normal_last _ _ _ h', ← EReal.left_distrib_of_nonneg_of_ne_top (EReal.coe_nonneg.2 hm.le) (EReal.coe_ne_top _), mul_comm, ← mul_assoc,
    ← EReal.coe_mul]
  have e : (Real.exp (-M) * E)⁻¹ * Real.exp (-M) = E⁻¹ := by field_simp
  rw [e, EReal.left_distrib_of_nonneg_of_ne_top (EReal.coe_nonneg.2 (inv_pos.2 hpos).le) (EReal.coe_ne_top _), mul_sum _ _ (inv_pos.2 hpos).le,
    mul_sum _ _ (inv_pos.2 hpos).le]
  congr 1 <;> exact Finset.sum_congr rfl fun i _ => by rw [← mul_assoc, ← EReal.coe_mul, div_eq_inv_mul]

/-- The common normal form of a row kept whole. -/
theorem one_part {ι : Type*} (t : Finset ι) (s v : ι → EReal) (h : ∀ i ∈ t, s i ≠ ⊤) (M : ℝ) (E : ℝ) (hE : ∑ i ∈ t, wt (s i) = E) (hpos : 0 < E) :
    Ideal.div (∑ i ∈ t, Ideal.exp (s i - (M : EReal)) * v i) (∑ i ∈ t, Ideal.exp (s i - (M : EReal)))
      = ∑ i ∈ t, ((wt (s i) / E : ℝ) : EReal) * v i := by
  simpa using two_parts t (∅ : Finset ι) s v s v h (by simp) M E (by simpa using hE) hpos

end Cert.Softmax

end
-- ==== Proof.BandRow.lean ====
module

public import proofs.«01_k».proof.Proof.Softmax
public import Idealize.ShloMosaic.Lib.Pointwise

@[expose] public section

noncomputable section

open Idealize.ShloMosaic

/-! One query's row of a banded softmax: all 4096 keys, of which only those of two neighbouring blocks of 512 have a score. -/

namespace Cert.Softmax

variable {A : Type*} [AddCommMonoid A]

/-- A sum over the keys whose terms vanish outside block `i` and the block before it. -/
theorem sum_two_blocks (G : Fin 4096 → A) (i : Fin 8)
    (h : ∀ k : Fin 4096, k.val / 512 ≠ i.val → k.val / 512 + 1 ≠ i.val → G k = 0) (hi : 0 < i.val) :
    ∑ k, G k = (∑ c : Fin 512, G ⟨(i.val - 1) * 512 + c.val, by omega⟩) + ∑ c : Fin 512, G ⟨i.val * 512 + c.val, by omega⟩ := by
  rw [Fin.sum_univ_tiles 8 512 rfl G]
  have e : ∀ b : Fin 8, b ∈ Finset.univ → b ≠ ⟨i.val - 1, by omega⟩ ∧ b ≠ i
      → ∑ c : Fin 512, G ⟨b.val * 512 + c.val, by omega⟩ = 0 := fun b _ hb => by
    refine Finset.sum_eq_zero fun c _ => h _ ?_ ?_
    · have := fun e => hb.2 (Fin.ext e)
      show (b.val * 512 + c.val) / 512 ≠ i.val
      omega
    · have : b.val ≠ i.val - 1 := fun e => hb.1 (Fin.ext e)
      show (b.val * 512 + c.val) / 512 + 1 ≠ i.val
      omega
  exact Finset.sum_eq_add (⟨i.val - 1, by omega⟩ : Fin 8) i (fun e => by have := congrArg Fin.val e; simp only at this; omega) e
    (fun h => absurd (Finset.mem_univ _) h) (fun h => absurd (Finset.mem_univ _) h)

/-- The same for the first block, which has no block before it. -/
theorem sum_one_block (G : Fin 4096 → A) (i : Fin 8) (h : ∀ k : Fin 4096, k.val / 512 ≠ i.val → k.val / 512 + 1 ≠ i.val → G k = 0)
    (hi : i.val = 0) : ∑ k, G k = ∑ c : Fin 512, G ⟨i.val * 512 + c.val, by omega⟩ := by
  rw [Fin.sum_univ_tiles 8 512 rfl G]
  refine Finset.sum_eq_single i (fun b _ hb => ?_) (fun h => absurd (Finset.mem_univ _) h)
  refine Finset.sum_eq_zero fun c _ => h _ ?_ ?_
  · have := fun e => hb (Fin.ext e)
    show (b.val * 512 + c.val) / 512 ≠ i.val
    omega
  · omega

/-- A row of softmax attention over two blocks of 512 keys, the weights normalized at the end. -/
def twoBlocks (b0 b1 : EReal) (s0 v0 s1 v1 : Fin 512 → EReal) : EReal :=
  Ideal.div
    ((∑ c, Ideal.exp (s0 c - max (Finset.univ.fold max b0 s0) (Finset.univ.fold max b1 s1)) * v0 c)
      + ∑ c, Ideal.exp (s1 c - max (Finset.univ.fold max b0 s0) (Finset.univ.fold max b1 s1)) * v1 c)
    ((∑ c, Ideal.exp (s0 c - max (Finset.univ.fold max b0 s0) (Finset.univ.fold max b1 s1)))
      + ∑ c, Ideal.exp (s1 c - max (Finset.univ.fold max b0 s0) (Finset.univ.fold max b1 s1)))

/-- A row of softmax attention over all 4096 keys, the weights normalized first. -/
def allKeys (b2 b3 : EReal) (S V : Fin 4096 → EReal) : EReal :=
  ∑ k, Ideal.div (Ideal.exp (S k - max b2 (Finset.univ.fold max b3 S)))
    (∑ l, Ideal.exp (S l - max b2 (Finset.univ.fold max b3 S))) * V k

/-- The row of the two blocks against the row of all keys. -/
theorem band_row (S V : Fin 4096 → EReal) (i : Fin 8) (s0 v0 s1 v1 : Fin 512 → EReal) (b0 b1 b2 b3 : EReal)
    (hb0 : b0 ≠ ⊤) (hb1 : b1 ≠ ⊤) (hb2 : b2 ≠ ⊤) (hb3 : b3 ≠ ⊤)
    (h1 : ∀ c : Fin 512, s1 c = S ⟨i.val * 512 + c.val, by omega⟩) (hv1 : ∀ c : Fin 512, v1 c = V ⟨i.val * 512 + c.val, by omega⟩)
    (h0 : 0 < i.val → ∀ c : Fin 512, s0 c = S ⟨(i.val - 1) * 512 + c.val, by omega⟩)
    (hv0 : 0 < i.val → ∀ c : Fin 512, v0 c = V ⟨(i.val - 1) * 512 + c.val, by omega⟩)
    (hz : i.val = 0 → ∀ c, s0 c = ⊥)
    (hout : ∀ k : Fin 4096, k.val / 512 ≠ i.val → k.val / 512 + 1 ≠ i.val → S k = ⊥)
    (hS : ∀ k, S k ≠ ⊤) (j : Fin 4096) (hj : j.val / 512 = i.val) (hSj : S j ≠ ⊥) :
    twoBlocks b0 b1 s0 v0 s1 v1 = allKeys b2 b3 S V := by
  unfold twoBlocks allKeys
  have t0 : ∀ c ∈ (Finset.univ : Finset (Fin 512)), s0 c ≠ ⊤ := fun c _ => by
    rcases Nat.eq_zero_or_pos i.val with hi | hi
    · rw [hz hi c]; exact bot_ne_top
    · rw [h0 hi c]; exact hS _
  have t1 : ∀ c ∈ (Finset.univ : Finset (Fin 512)), s1 c ≠ ⊤ := fun c _ => by rw [h1 c]; exact hS _
  have hjs : s1 ⟨j.val % 512, by omega⟩ = S j := by
    rw [h1]; congr 1; apply Fin.ext; show i.val * 512 + j.val % 512 = j.val; omega
  have hE : 0 < ∑ k, wt (S k) := wt_sum_pos _ S (fun k _ => hS k) j (Finset.mem_univ _) hSj
  obtain ⟨M, hM⟩ := exists_real (max (Finset.univ.fold max b0 s0) (Finset.univ.fold max b1 s1))
    (max_lt (lt_top_iff_ne_top.2 (fold_max_ne_top _ _ _ hb0 t0)) (lt_top_iff_ne_top.2 (fold_max_ne_top _ _ _ hb1 t1))).ne
    (fun e => hSj (le_bot_iff.1 (by
      rw [← e, ← hjs]
      exact (le_fold _ s1 b1 _ (Finset.mem_univ _)).trans (le_max_right _ _))))
  obtain ⟨N, hN⟩ := exists_real (max b2 (Finset.univ.fold max b3 S))
    (max_lt (lt_top_iff_ne_top.2 hb2) (lt_top_iff_ne_top.2 (fold_max_ne_top _ _ _ hb3 fun k _ => hS k))).ne
    (fun e => hSj (le_bot_iff.1 (by
      rw [← e]
      exact (le_fold _ S b3 _ (Finset.mem_univ _)).trans (le_max_right _ _))))
  rw [hM, hN, normal_first _ S V (fun k _ => hS k) N _ rfl hE]
  have wz : ∀ k : Fin 4096, k.val / 512 ≠ i.val → k.val / 512 + 1 ≠ i.val → wt (S k) = 0 := fun k a b => by
    rw [hout k a b, wt_bot]
  have gz : ∀ k : Fin 4096, k.val / 512 ≠ i.val → k.val / 512 + 1 ≠ i.val
      → ((wt (S k) / ∑ l, wt (S l) : ℝ) : EReal) * V k = 0 := fun k a b => by
    rw [wz k a b, zero_div, EReal.coe_zero, zero_mul]
  have e1 : ∑ c, wt (s1 c) = ∑ c : Fin 512, wt (S ⟨i.val * 512 + c.val, by omega⟩) := Finset.sum_congr rfl fun c _ => by rw [h1]
  rcases Nat.eq_zero_or_pos i.val with hi | hi
  · have z0 : ∑ c, wt (s0 c) = 0 := Finset.sum_eq_zero fun c _ => by rw [hz hi c, wt_bot]
    rw [two_parts _ _ s0 v0 s1 v1 t0 t1 M (∑ k, wt (S k)) (by rw [z0, zero_add, e1, sum_one_block _ i wz hi]) hE,
      sum_one_block _ i gz hi]
    have y0 : ∑ c, ((wt (s0 c) / ∑ l, wt (S l) : ℝ) : EReal) * v0 c = 0 := Finset.sum_eq_zero fun c _ => by
      rw [hz hi c, wt_bot, zero_div, EReal.coe_zero, zero_mul]
    rw [y0, zero_add]
    exact Finset.sum_congr rfl fun c _ => by rw [h1, hv1]
  · have e0 : ∑ c, wt (s0 c) = ∑ c : Fin 512, wt (S ⟨(i.val - 1) * 512 + c.val, by omega⟩) :=
      Finset.sum_congr rfl fun c _ => by rw [h0 hi]
    rw [two_parts _ _ s0 v0 s1 v1 t0 t1 M (∑ k, wt (S k)) (by rw [e0, e1, sum_two_blocks _ i wz hi]) hE,
      sum_two_blocks _ i gz hi]
    congr 1
    · exact Finset.sum_congr rfl fun c _ => by rw [h0 hi, hv0 hi]
    · exact Finset.sum_congr rfl fun c _ => by rw [h1, hv1]

end Cert.Softmax

end
-- ==== Proof.BandHead.lean ====
module

public import proofs.«01_k».proof.Proof.BandKernel
public import proofs.«01_k».proof.Proof.BandRow

@[expose] public section

set_option maxRecDepth 16384

noncomputable section

open Idealize.ShloMosaic Idealize.ShloMosaic.TcCoe Idealize.SL.Sem
open Idealize.ShloMosaic.Pipeline (Dat)

namespace Cert.BandIdeal.Attn

open Cert.BandIdeal Cert.BandIdeal.Gen

/-- A column's chunk, as the program counts it. -/
theorem chunk_col (r : Fin 512) (j : Fin 1024) : k0_pay2 (ix2 r j) = BitVec.ofNat 32 (j.val / 64) := by
  have h : ∀ j : Fin 1024, k0_pay2 (ix2 (0 : Fin 512) j) = BitVec.ofNat 32 (j.val / 64) := by decide +kernel
  exact h j

/-- A row's chunk, as the program counts it. -/
theorem chunk_row (r : Fin 512) (j : Fin 1024) :
    Scalar.select (k0_pay4 (ix2 r j)) (k0_pay3 (ix2 r j) - 1#32) (k0_pay3 (ix2 r j)) = BitVec.ofNat 32 (r.val / 64) := by
  have h : ∀ r : Fin 512, Scalar.select (k0_pay4 (ix2 r (0 : Fin 1024))) (k0_pay3 (ix2 r (0 : Fin 1024)) - 1#32) (k0_pay3 (ix2 r (0 : Fin 1024))) = BitVec.ofNat 32 (r.val / 64) := by decide +kernel
  exact h r

theorem ahead_at (r : Fin 512) (j : Fin 1024) :
    k0_pay5 k0_pay2 k0_pay3 k0_pay4 (ix2 r j) = BitVec.ofNat 32 (j.val / 64) - BitVec.ofNat 32 (r.val / 64) := by
  rw [← chunk_col r j, ← chunk_row r j]
  rfl

theorem rot_at (x : FVec Ideal S1x1x2048 .f32) (r : Fin 512) (j : Fin 1024) :
    extractStridedSlice S512x1024 ![0, 512] (dynamicRotate 1 0#32 (some (1, 0)) (broadcastTo S512x2048 (shapeCast S1x2048 (shapeCast S1x2048 x shapeCasts_S1x1x2048_S1x2048) shapeCasts_S1x2048_S1x2048) broadcasts_S1x2048_S512x2048) rotates_S512x2048_d1s1a0) slices_S512x2048_o0_512_S512x1024 (ix2 r j)
      = x (ix3 0 0 ⟨512 + j.val - r.val, by omega⟩) := by
  have e : ∀ y : FVec Ideal S512x2048 .f32, extractStridedSlice S512x1024 ![0, 512] (dynamicRotate 1 0#32 (some (1, 0)) y rotates_S512x2048_d1s1a0) slices_S512x2048_o0_512_S512x1024 (ix2 r j)
      = y (ix2 r ⟨512 + j.val - r.val, by omega⟩) := by
    intro y
    unfold extractStridedSlice dynamicRotate
    refine congrArg y (funext fun a => ?_)
    fin_cases a
    · exact (if_neg (by decide)).trans (Fin.ext (by show 0 + r.val = r.val; omega))
    · apply Fin.ext
      show (512 + j.val + 2048 - (0 + 1 * (0 + r.val)) % 2048) % 2048 = 512 + j.val - r.val
      omega
  rw [e]
  pointwise

theorem cast_at (y : FVec Ideal S512x1024 .f32) (r : Fin 512) (j : Fin 1024) :
    shapeCast S1x512x1024 y shapeCasts_S512x1024_S1x512x1024 (ix3 0 r j) = y (ix2 r j) := by
  pointwise

theorem mask_bot : (Named.named κ "mask" 0xF149F2CA#32 : Ideal .f32) = (⊥ : EReal) := rfl

/-- One entry of a head's bias rows. -/
theorem bias_at (x : FVec Ideal S1x1x2048 .f32) (r : Fin 512) (j : Fin 1024) :
    biasRows x (ix3 0 r j) = if r.val / 64 ≤ j.val / 64 ∧ j.val / 64 ≤ r.val / 64 + 8 then x (ix3 0 0 ⟨512 + j.val - r.val, by omega⟩) else ⊥ := by
  unfold biasRows k0_pay6
  dsimp only
  rw [cast_at]
  have hs : ∀ (a : Fin 16) (b : Fin 8), (Scalar.cmpi .sge (BitVec.ofNat 32 a.val - BitVec.ofNat 32 b.val) 0#32 = if b.val ≤ a.val then 1#1 else 0#1)
      ∧ (Scalar.cmpi .sle (BitVec.ofNat 32 a.val - BitVec.ofNat 32 b.val) 8#32 = if a.val ≤ b.val + 8 then 1#1 else 0#1) := by decide +kernel
  obtain ⟨h1, h2⟩ := hs ⟨j.val / 64, by omega⟩ ⟨r.val / 64, by omega⟩
  show Scalar.select (Scalar.cmpi .sge (k0_pay5 k0_pay2 k0_pay3 k0_pay4 (ix2 r j)) 0#32)
    (Scalar.select (Scalar.cmpi .sle (k0_pay5 k0_pay2 k0_pay3 k0_pay4 (ix2 r j)) 8#32) (extractStridedSlice S512x1024 ![0, 512] (dynamicRotate 1 0#32 (some (1, 0)) (broadcastTo S512x2048 (shapeCast S1x2048 (shapeCast S1x2048 x shapeCasts_S1x1x2048_S1x2048) shapeCasts_S1x2048_S1x2048) broadcasts_S1x2048_S512x2048) rotates_S512x2048_d1s1a0) slices_S512x2048_o0_512_S512x1024 (ix2 r j)) (Named.named κ "mask" 0xF149F2CA#32)) (Named.named κ "mask" 0xF149F2CA#32) = _
  rw [ahead_at, h1, h2, rot_at, mask_bot]
  dsimp only
  by_cases p1 : r.val / 64 ≤ j.val / 64 <;> by_cases p2 : j.val / 64 ≤ r.val / 64 + 8 <;> simp only [p1, p2, if_true, if_false, and_true, and_false, true_and, false_and] <;> rfl

theorem head_at (b : BitVec 1) (q kp kc vp vc : FVec Ideal S1x512x128 .f32) (w0 w1 : FVec Ideal S1x512x512 .f32) (r : Fin 512) (d : Fin 128) :
    head b q kp kc vp vc w0 w1 (ix3 0 r d) = Cert.Softmax.twoBlocks (Ideal.ofBits FTy.f32 0xFF800000#32) (Ideal.ofBits FTy.f32 0xFF800000#32)
      (fun c => Scalar.select b ⊥ ((∑ e : Fin 128, q (ix3 0 r e) * kp (ix3 0 c e)) * Ideal.ofBits FTy.f32 0x3DB504F3#32 + w0 (ix3 0 r c))) (fun c => vp (ix3 0 c d))
      (fun c => (∑ e : Fin 128, q (ix3 0 r e) * kc (ix3 0 c e)) * Ideal.ofBits FTy.f32 0x3DB504F3#32 + w1 (ix3 0 r c)) (fun c => vc (ix3 0 c d)) := by
  rw [← mask_bot]
  pointwise [head, k0_pay15, k0_pay12, k0_pay13, k0_pay14, k0_pay11, Cert.Softmax.twoBlocks]

/-- A head's columns of a block, read at an index. -/
theorem ld_cols (x : Vec Ideal S1x512x512 .f32) (o : ℕ) (inb : ∀ a, (![0, 0, o] : Fin 3 → ℕ) a + (![1, 512, 128] : Fin 3 → ℕ) a ≤ S1x512x512.size a) (r : Fin 512) (e : Fin 128) (E : Fin 512)
    (hE : o + e.val = E.val) :
    View.ld x (Rect.unit ![0, 0, o] ![1, 512, 128] inb) (ix3 (0 : Fin 1) r e) = x (ix3 (0 : Fin 1) r E) := by
  refine congrArg x (funext fun a => Fin.ext ?_)
  fin_cases a
  · rfl
  · show 0 + 1 * r.val = r.val; omega
  · show o + 1 * e.val = E.val; omega

/-- A head's half of the scratch, read at an index. -/
theorem ld_half (x : Vec Ideal S4x512x1024 .f32) (n o : ℕ) (inb : ∀ a, (![n, 0, o] : Fin 3 → ℕ) a + (![1, 512, 512] : Fin 3 → ℕ) a ≤ S4x512x1024.size a) (h : Fin 4) (hn : n = h.val)
    (r : Fin 512) (e : Fin 512) (E : Fin 1024) (hE : o + e.val = E.val) :
    View.ld x (Rect.unit ![n, 0, o] ![1, 512, 512] inb) (ix3 (0 : Fin 1) r e) = x (ix3 h r E) := by
  refine congrArg x (funext fun a => Fin.ext ?_)
  fin_cases a
  · exact hn
  · show 0 + 1 * r.val = r.val; omega
  · show o + 1 * e.val = E.val; omega

/-- A head's table row, read at an index. -/
theorem ld_table (x : Vec Ideal S4x1x2048 .f32) (n : ℕ) (inb : ∀ a, (![n, 0, 0] : Fin 3 → ℕ) a + (![1, 1, 2048] : Fin 3 → ℕ) a ≤ S4x1x2048.size a) (h : Fin 4) (hn : n = h.val) (e : Fin 2048) :
    View.ld x (Rect.unit ![n, 0, 0] ![1, 1, 2048] inb) (ix3 (0 : Fin 1) (0 : Fin 1) e) = x (ix3 h (0 : Fin 1) e) := by
  refine congrArg x (funext fun a => Fin.ext ?_)
  fin_cases a
  · exact hn
  · rfl
  · show 0 + 1 * e.val = e.val; omega

/-- A head's bias rows from its row of the table. -/
theorem scr_piece (x : Vec Ideal S4x1x2048 .f32) (n : ℕ) (inb : ∀ a, (![n, 0, 0] : Fin 3 → ℕ) a + (![1, 1, 2048] : Fin 3 → ℕ) a ≤ S4x1x2048.size a) (h : Fin 4) (r : Fin 512) (j : Fin 1024) (y : S1x512x1024.Idx)
    (h0 : h.val = n + (y 0).val) (y0 : (y 0).val < 1) (h1 : r.val = (y 1).val) (h2 : j.val = (y 2).val) :
    biasRows (View.ld x (Rect.unit ![n, 0, 0] ![1, 1, 2048] inb)) y
      = if r.val / 64 ≤ j.val / 64 ∧ j.val / 64 ≤ r.val / 64 + 8 then x (ix3 h 0 ⟨512 + j.val - r.val, by omega⟩) else ⊥ := by
  have e : y = ix3 0 r j := by
    have e0 : y 0 = (0 : Fin 1) := Fin.ext (by show (y 0).val = 0; omega)
    have e1 : y 1 = r := Fin.ext h1.symm
    have e2 : y 2 = j := Fin.ext h2.symm
    exact (eq_ix3 y).trans (by rw [e0, e1, e2])
  subst e
  refine (bias_at _ r j).trans ?_
  rw [ld_table x n inb h (by omega)]

/-- The carried scratch, read at a head, a row and a column. -/
theorem scr_at (x : Vec Ideal S4x1x2048 .f32) (h : Fin 4) (r : Fin 512) (j : Fin 1024) :
    scr x (ix3 h r j) = if r.val / 64 ≤ j.val / 64 ∧ j.val / 64 ≤ r.val / 64 + 8 then x (ix3 h 0 ⟨512 + j.val - r.val, by omega⟩) else ⊥ := by
  unfold scr
  canon_tiles y hy
  · exact scr_piece x 3 _ h r j y hy0 y0_lt hy1 hy2
  · exact scr_piece x 2 _ h r j y hy0 y0_lt hy1 hy2
  · exact scr_piece x 1 _ h r j y hy0 y0_lt hy1 hy2
  · exact scr_piece x 0 _ h r j y (hy0.trans (Nat.zero_add _).symm) y0_lt hy1 hy2

/-- One row of one head's attention at a point, from the point's blocks. -/
def point (b : BitVec 1) (q kp kc vp vc : Vec Ideal S1x512x512 .f32) (s : Vec Ideal S4x512x1024 .f32) (h : Fin 4) (r : Fin 512) (d : Fin 128) : EReal :=
  Cert.Softmax.twoBlocks (Ideal.ofBits FTy.f32 0xFF800000#32) (Ideal.ofBits FTy.f32 0xFF800000#32)
    (fun c => Scalar.select b ⊥ ((∑ e : Fin 128, q (ix3 0 r ⟨h.val * 128 + e.val, by omega⟩) * kp (ix3 0 c ⟨h.val * 128 + e.val, by omega⟩)) * Ideal.ofBits FTy.f32 0x3DB504F3#32 + s (ix3 h r ⟨c.val, by omega⟩)))
    (fun c => vp (ix3 0 c ⟨h.val * 128 + d.val, by omega⟩))
    (fun c => (∑ e : Fin 128, q (ix3 0 r ⟨h.val * 128 + e.val, by omega⟩) * kc (ix3 0 c ⟨h.val * 128 + e.val, by omega⟩)) * Ideal.ofBits FTy.f32 0x3DB504F3#32 + s (ix3 h r ⟨512 + c.val, by omega⟩))
    (fun c => vc (ix3 0 c ⟨h.val * 128 + d.val, by omega⟩))

theorem out_piece (b : BitVec 1) (q kp kc vp vc : Vec Ideal S1x512x512 .f32) (s : Vec Ideal S4x512x1024 .f32) (n o : ℕ)
    (inb : ∀ a, (![0, 0, o] : Fin 3 → ℕ) a + (![1, 512, 128] : Fin 3 → ℕ) a ≤ S1x512x512.size a)
    (inb0 : ∀ a, (![n, 0, 0] : Fin 3 → ℕ) a + (![1, 512, 512] : Fin 3 → ℕ) a ≤ S4x512x1024.size a)
    (inb1 : ∀ a, (![n, 0, 512] : Fin 3 → ℕ) a + (![1, 512, 512] : Fin 3 → ℕ) a ≤ S4x512x1024.size a)
    (h : Fin 4) (r : Fin 512) (d : Fin 128) (y : S1x512x128.Idx) (hn : o = n * 128) (hn4 : n < 4)
    (y0 : (y 0).val < 1) (h1 : r.val = (y 1).val) (y2 : (y 2).val < 128) (h2 : h.val * 128 + d.val = o + (y 2).val) :
    head b (View.ld q (Rect.unit ![0, 0, o] ![1, 512, 128] inb)) (View.ld kp (Rect.unit ![0, 0, o] ![1, 512, 128] inb)) (View.ld kc (Rect.unit ![0, 0, o] ![1, 512, 128] inb))
      (View.ld vp (Rect.unit ![0, 0, o] ![1, 512, 128] inb)) (View.ld vc (Rect.unit ![0, 0, o] ![1, 512, 128] inb))
      (View.ld s (Rect.unit ![n, 0, 0] ![1, 512, 512] inb0)) (View.ld s (Rect.unit ![n, 0, 512] ![1, 512, 512] inb1)) y
      = point b q kp kc vp vc s h r d := by
  have e : y = ix3 0 r d := by
    have e0 : y 0 = (0 : Fin 1) := Fin.ext (by show (y 0).val = 0; omega)
    have e1 : y 1 = r := Fin.ext h1.symm
    have e2 : y 2 = d := Fin.ext (by omega)
    exact (eq_ix3 y).trans (by rw [e0, e1, e2])
  have hh : n = h.val := by omega
  have hc : ∀ (x : Vec Ideal S1x512x512 .f32) (r : Fin 512) (e : Fin 128), View.ld x (Rect.unit ![0, 0, o] ![1, 512, 128] inb) (ix3 0 r e) = x (ix3 0 r ⟨h.val * 128 + e.val, by omega⟩) :=
    fun x r e => ld_cols x o inb r e _ (by show o + e.val = h.val * 128 + e.val; omega)
  subst e
  refine (head_at _ _ _ _ _ _ _ _ r d).trans ?_
  unfold point
  have hd : ∀ (k : Vec Ideal S1x512x512 .f32) (c : Fin 512),
      (∑ e : Fin 128, (View.ld q (Rect.unit ![0, 0, o] ![1, 512, 128] inb) (ix3 0 r e) : EReal) * View.ld k (Rect.unit ![0, 0, o] ![1, 512, 128] inb) (ix3 0 c e))
        = ∑ e : Fin 128, (q (ix3 0 r ⟨h.val * 128 + e.val, by omega⟩) : EReal) * k (ix3 0 c ⟨h.val * 128 + e.val, by omega⟩) :=
    fun k c => Finset.sum_congr rfl fun e _ => congrArg₂ (· * ·) (hc q r e) (hc k c e)
  have g0 := fun c : Fin 512 => congrArg (Scalar.select b (⊥ : EReal)) (congrArg₂ (· + ·) (congrArg (· * Ideal.ofBits FTy.f32 0x3DB504F3#32) (hd kp c))
    (ld_half s n 0 inb0 h hh r c ⟨c.val, by omega⟩ (by show 0 + c.val = c.val; omega)))
  have g1 := fun c : Fin 512 => congrArg₂ (· + ·) (congrArg (· * Ideal.ofBits FTy.f32 0x3DB504F3#32) (hd kc c))
    (ld_half s n 512 inb1 h hh r c ⟨512 + c.val, by omega⟩ rfl)
  exact congr (congr (congr (congrArg (Cert.Softmax.twoBlocks _ _) (funext g0)) (funext fun c => hc vp c d)) (funext g1)) (funext fun c => hc vc c d)

theorem out_at (b : BitVec 1) (q kp kc vp vc : Vec Ideal S1x512x512 .f32) (s : Vec Ideal S4x512x1024 .f32) (h : Fin 4) (r : Fin 512) (d : Fin 128) :
    out b q kp kc vp vc s (ix3 0 r ⟨h.val * 128 + d.val, by omega⟩) = point b q kp kc vp vc s h r d := by
  unfold out
  canon_tiles y hy
  · exact out_piece b q kp kc vp vc s 3 384 _ _ _ h r d y rfl (by omega) y0_lt hy1 y2_lt hy2
  · exact out_piece b q kp kc vp vc s 2 256 _ _ _ h r d y rfl (by omega) y0_lt hy1 y2_lt hy2
  · exact out_piece b q kp kc vp vc s 1 128 _ _ _ h r d y rfl (by omega) y0_lt hy1 y2_lt hy2
  · exact out_piece b q kp kc vp vc s 0 0 _ _ _ h r d y rfl (by omega) y0_lt hy1 y2_lt (hy2.trans (Nat.zero_add _).symm)

end Cert.BandIdeal.Attn
-- ==== Proof.BandSpec.lean ====
module

public import proofs.«01_k».proof.Proof.BandRow
public import Idealize.ShloMosaic.Lib.Pointwise

@[expose] public section

noncomputable section

open Idealize.ShloMosaic

namespace Cert.Band

/-- The projected rows: queries, keys, values and the attention's other columns. -/
abbrev Rows := FVec Ideal ⟨3, ![2, 4096, 10240]⟩ .f32
/-- The relative-position bias of every head. -/
abbrev Bias := FVec Ideal ⟨2, ![24, 257]⟩ .f32

/-- Column `n` of head `h` in the part of the columns that begins at `o`. -/
def col (o : ℕ) (h : Fin 24) (n : Fin 128) (ho : o ≤ 6144) : Fin 10240 := ⟨o + h.val * 128 + n.val, by omega⟩

/-- The bias's column for a query and a key: their distance, clipped to 128 either way. -/
def rel (q k : Fin 4096) : Fin 257 := ⟨min (q.val + 128 - k.val) 256, by omega⟩

/-- A query's score against a key: in the band the scaled product and the bias, outside it nothing. -/
def score (X : Rows) (R : Bias) (b : Fin 2) (h : Fin 24) (q k : Fin 4096) : EReal :=
  if k.val / 64 ≤ q.val / 64 ∧ q.val / 64 ≤ k.val / 64 + 8 then
    (∑ e : Fin 128, X (ix3 b q (col 0 h e (by omega))) * X (ix3 b k (col 3072 h e (by omega)))) * Ideal.ofBits .f32 0x3DB504F3#32 + R (ix2 h (rel q k))
  else ⊥

/-- The lower end of the range, where every maximum starts. -/
theorem low : Ideal.ofBits .f32 0xFF800000#32 = ⊥ := by
  simp [Ideal.ofBits, Ideal.ieee]

/-- A query's attention over all keys. -/
def attend (X : Rows) (R : Bias) (b : Fin 2) (h : Fin 24) (q : Fin 4096) (d : Fin 128) : EReal :=
  Softmax.allKeys (Ideal.ofBits .f32 0xFF800000#32) (Ideal.ofBits .f32 0xFF800000#32) (score X R b h q) fun k => X (ix3 b k (col 6144 h d (by omega)))

end Cert.Band
-- ==== Proof.BandTable.lean ====
module

public import proofs.«01_k».proof.Proof.Gen.BandIdeal.Value
public import Idealize.ShloMosaic.Lib.Claim
public import Idealize.ShloMosaic.Lib.StableHlo.RunClose
public import proofs.«01_k».proof.Proof.BandSpec

@[expose] public section

set_option maxRecDepth 16384

noncomputable section

open Idealize.ShloMosaic Idealize.ShloMosaic.TcCoe Idealize.SL.Sem

namespace Cert.BandIdeal.Attn

open Cert.BandIdeal Cert.BandIdeal.Gen Cert.Band

/-- The host's table of the bias, laid out by distance. -/
def table (a : Bias) : FVec Ideal S24x1x2048 .f32 :=
  broadcastInDim S24x1x2048 ![0, 2] bcast_S24x2048_S24x1x2048_0_2
    (concatenate S24x2048 1 [⟨S24x896, broadcastInDim S24x896 ![0, 1] bcast_S24x1_S24x896_0_1 (extractStridedSlice S24x1 ![0, 256] a slices_S24x257_S24x1_0_256)⟩,
      ⟨S24x257, Host.reverse [1] a⟩,
      ⟨S24x895, broadcastInDim S24x895 ![0, 1] bcast_S24x1_S24x895_0_1 (extractStridedSlice S24x1 ![0, 0] a slices_S24x257_S24x1_0_0)⟩] concatenates_S24x896_S24x257_S24x895_S24x2048_d1)

set_option maxHeartbeats 2000000 in
/-- The host's line leaves the table of the bias where the kernel's window reads. -/
theorem entry (σ : Valuation τ sig (Elt Ideal)) : StableHlo.after hostOps0 σ (main_v6 : Ref sig .tc) = table (σ (main_arg1 : Ref sig .tc)) := by
  unfold hostOps0 table
  after_results_entrywise (rounds := 1) []

end Cert.BandIdeal.Attn
-- ==== Proof.BandPoint.lean ====
module

public import proofs.«01_k».proof.Proof.BandHead
public import proofs.«01_k».proof.Proof.BandSpec
public import proofs.«01_k».proof.Proof.BandTable

@[expose] public section

set_option maxRecDepth 16384

noncomputable section

open Idealize.ShloMosaic Idealize.ShloMosaic.TcCoe Idealize.SL.Sem
open Idealize.ShloMosaic.Pipeline (Dat)

namespace Cert.BandIdeal.Attn

open Cert.BandIdeal Cert.BandIdeal.Gen Cert.Band

variable (m : (ℓ : Loc nD τ sig) → Buf (Elt Ideal) ℓ)

/-- The rows a device was given. -/
abbrev X (c : Dev nD) : Rows := m ((c : Thread nD τ).loc main_arg0)
/-- The bias a device was given. -/
abbrev R (c : Dev nD) : Bias := m ((c : Thread nD τ).loc main_arg1)

/-- The batch, the block of queries and the head of a grid point's slice. -/
def bat (t : Fin cfg0.N) : Fin 2 := ⟨t.val / 8 % 2, by omega⟩
def blk (t : Fin cfg0.N) : Fin 8 := ⟨t.val % 8, by omega⟩
def hd (t : Fin cfg0.N) (h : Fin 4) : Fin 24 := ⟨t.val / 16 * 4 + h.val, by have : t.val < 96 := t.isLt; omega⟩

theorem q_at (c : Dev nD) (t : Fin cfg0.N) (h : Fin 4) (r : Fin 512) (e : Fin 128) (k : Fin 4096) (hk : k.val = t.val % 8 * 512 + r.val) :
    iblk m c 0 t (ix3 0 r ⟨h.val * 128 + e.val, by omega⟩) = X m c (ix3 (bat t) k (col 0 (hd t h) e (by omega))) := by
  unfold bat col hd
  blk_ext [iblk, V, idx t]

theorem kp_at (c : Dev nD) (t : Fin cfg0.N) (h : Fin 4) (r : Fin 512) (e : Fin 128) (k : Fin 4096) (hk : k.val = (t.val % 8 - 1) * 512 + r.val) :
    iblk m c 1 t (ix3 0 r ⟨h.val * 128 + e.val, by omega⟩) = X m c (ix3 (bat t) k (col 3072 (hd t h) e (by omega))) := by
  unfold bat col hd
  blk_ext [iblk, V, idx t]

theorem kc_at (c : Dev nD) (t : Fin cfg0.N) (h : Fin 4) (r : Fin 512) (e : Fin 128) (k : Fin 4096) (hk : k.val = t.val % 8 * 512 + r.val) :
    iblk m c 2 t (ix3 0 r ⟨h.val * 128 + e.val, by omega⟩) = X m c (ix3 (bat t) k (col 3072 (hd t h) e (by omega))) := by
  unfold bat col hd
  blk_ext [iblk, V, idx t]

theorem vp_at (c : Dev nD) (t : Fin cfg0.N) (h : Fin 4) (r : Fin 512) (e : Fin 128) (k : Fin 4096) (hk : k.val = (t.val % 8 - 1) * 512 + r.val) :
    iblk m c 3 t (ix3 0 r ⟨h.val * 128 + e.val, by omega⟩) = X m c (ix3 (bat t) k (col 6144 (hd t h) e (by omega))) := by
  unfold bat col hd
  blk_ext [iblk, V, idx t]

theorem vc_at (c : Dev nD) (t : Fin cfg0.N) (h : Fin 4) (r : Fin 512) (e : Fin 128) (k : Fin 4096) (hk : k.val = t.val % 8 * 512 + r.val) :
    iblk m c 4 t (ix3 0 r ⟨h.val * 128 + e.val, by omega⟩) = X m c (ix3 (bat t) k (col 6144 (hd t h) e (by omega))) := by
  unfold bat col hd
  blk_ext [iblk, V, idx t]

theorem table_at (a : Bias) (H : Fin 24) (x : Fin 2048) :
    table a (ix3 H 0 x) = a (ix2 H ⟨min (1152 - x.val) 256, by omega⟩) := by
  pointwise [table]
  by_cases h1 : x.val < 896
  · rw [dif_pos h1]
    exact congrArg a (congrArg (ix2 H) (Fin.ext (by show 256 = min (1152 - x.val) 256; omega)))
  · rw [dif_neg h1]
    by_cases h2 : x.val - 896 < 257
    · rw [dif_pos h2]
      exact congrArg a (congrArg₂ ix2 (if_neg (by decide)) ((if_pos (by decide)).trans
        (Fin.ext (by show 257 - (x.val - 896 + 1) = min (1152 - x.val) 256; omega))))
    · rw [dif_neg h2]
      exact congrArg a (congrArg (ix2 H) (Fin.ext (by show 0 = min (1152 - x.val) 256; omega)))

/-- The table's window is over the host's table. -/
theorem table_eq (c : Dev nD) : V m c main_v6 = table (R m c) := entry (fun b => m (c, b))

theorem tab_at (c : Dev nD) (t : Fin cfg0.N) (h : Fin 4) (x : Fin 2048) :
    iblk m c 5 t (ix3 h 0 x) = R m c (ix2 (hd t h) ⟨min (1152 - x.val) 256, by omega⟩) := by
  have e2 : iblk m c 5 t (ix3 h 0 x) = V m c main_v6 (ix3 (hd t h) 0 x) := by
    unfold hd
    blk_ext [iblk, idx t]
  rw [e2, table_eq, table_at]

/-- The scratch's entry against the current block's key is the bias of the distance, masked by the band. -/
theorem bias_cur (c : Dev nD) (t : Fin cfg0.N) (h : Fin 4) (r e : Fin 512) (q k : Fin 4096) (hq : q.val = t.val % 8 * 512 + r.val) (hk : k.val = t.val % 8 * 512 + e.val) :
    scr (iblk m c 5 t) (ix3 h r ⟨512 + e.val, by omega⟩)
      = if k.val / 64 ≤ q.val / 64 ∧ q.val / 64 ≤ k.val / 64 + 8 then R m c (ix2 (hd t h) (rel q k)) else ⊥ := by
  rw [scr_at, tab_at]
  refine if_congr (by show r.val / 64 ≤ (512 + e.val) / 64 ∧ (512 + e.val) / 64 ≤ r.val / 64 + 8 ↔ _; omega) ?_ rfl
  exact congrArg (R m c) (congrArg (ix2 (hd t h)) (Fin.ext (by
    show min (1152 - (512 + (512 + e.val) - r.val)) 256 = min (q.val + 128 - k.val) 256
    omega)))

/-- The same against the previous block's key. -/
theorem bias_prev (c : Dev nD) (t : Fin cfg0.N) (h : Fin 4) (r e : Fin 512) (q k : Fin 4096) (hi : 0 < t.val % 8) (hq : q.val = t.val % 8 * 512 + r.val) (hk : k.val = (t.val % 8 - 1) * 512 + e.val) :
    scr (iblk m c 5 t) (ix3 h r ⟨e.val, by omega⟩)
      = if k.val / 64 ≤ q.val / 64 ∧ q.val / 64 ≤ k.val / 64 + 8 then R m c (ix2 (hd t h) (rel q k)) else ⊥ := by
  rw [scr_at, tab_at]
  refine if_congr (by show r.val / 64 ≤ e.val / 64 ∧ e.val / 64 ≤ r.val / 64 + 8 ↔ _; omega) ?_ rfl
  exact congrArg (R m c) (congrArg (ix2 (hd t h)) (Fin.ext (by
    show min (1152 - (512 + e.val - r.val)) 256 = min (q.val + 128 - k.val) 256
    omega)))

/-- A sum with a masked term is a masked sum. -/
theorem add_mask (p : Prop) [Decidable p] (x y : EReal) : x + (if p then y else ⊥) = if p then x + y else ⊥ := by
  split
  · rfl
  · exact EReal.add_bot x

/-- The first block of queries has no previous block. -/
theorem first : ∀ i : Fin 8, Scalar.cmpi .eq (BitVec.ofNat 32 i.val) 0#32 = if i.val = 0 then 1#1 else 0#1 := by decide

/-- A grid point's row of a head is that query's attention over all keys. -/
theorem point_at (c : Dev nD) (t : Fin cfg0.N) (h : Fin 4) (r : Fin 512) (d : Fin 128) (q : Fin 4096) (hq : q.val = t.val % 8 * 512 + r.val)
    (hS : ∀ k, score (X m c) (R m c) (bat t) (hd t h) q k ≠ ⊤) (hd' : score (X m c) (R m c) (bat t) (hd t h) q q ≠ ⊥) :
    point (Scalar.cmpi .eq (BitVec.ofNat 32 (grid0.coords t 2)) 0#32) (iblk m c 0 t) (iblk m c 1 t) (iblk m c 2 t)
      (iblk m c 3 t) (iblk m c 4 t) (scr (iblk m c 5 t)) h r d = attend (X m c) (R m c) (bat t) (hd t h) q d := by
  have hb : Scalar.cmpi .eq (BitVec.ofNat 32 (grid0.coords t 2)) 0#32 = if t.val % 8 = 0 then 1#1 else 0#1 := by
    rw [coord]
    exact first (blk t)
  rw [hb]
  unfold point attend
  refine Softmax.band_row (score (X m c) (R m c) (bat t) (hd t h) q) _ (blk t) _ _ _ _ _ _ _ _ ?_ ?_ ?_ ?_ ?_ ?_ ?_ ?_ ?_ ?_ hS q ?_ hd'
  iterate 4 exact low ▸ bot_ne_top
  · intro e
    rw [bias_cur m c t h r e q ⟨(blk t).val * 512 + e.val, by have := (blk t).isLt; omega⟩ hq rfl, add_mask]
    refine if_congr Iff.rfl (congrArg (· + _) (congrArg (· * _) (Finset.sum_congr rfl fun n _ => ?_))) rfl
    exact congrArg₂ (· * ·) (q_at m c t h r n q hq) (kc_at m c t h e n _ rfl)
  · intro e
    exact vc_at m c t h e d _ rfl
  · intro hi e
    have hi' : ¬ t.val % 8 = 0 := Nat.pos_iff_ne_zero.1 hi
    rw [if_neg hi', ValueIdx.select_zero]
    rw [bias_prev m c t h r e q ⟨((blk t).val - 1) * 512 + e.val, by have := (blk t).isLt; omega⟩ hi hq rfl, add_mask]
    refine if_congr Iff.rfl (congrArg (· + _) (congrArg (· * _) (Finset.sum_congr rfl fun n _ => ?_))) rfl
    exact congrArg₂ (· * ·) (q_at m c t h r n q hq) (kp_at m c t h e n _ rfl)
  · intro _ e
    exact vp_at m c t h e d _ rfl
  · intro hi e
    have hi' : t.val % 8 = 0 := hi
    rw [if_pos hi', ValueIdx.select_one]
  · intro k h1 h2
    have h1' : k.val / 512 ≠ t.val % 8 := h1
    have h2' : k.val / 512 + 1 ≠ t.val % 8 := h2
    exact if_neg (by omega)
  · show q.val / 512 = t.val % 8
    omega

end Cert.BandIdeal.Attn
-- ==== Proof.BandGather.lean ====
module

public import proofs.«01_k».proof.Proof.Gen.BandRefIdeal.Run
public import Idealize.ShloMosaic.Lib.Pointwise

@[expose] public section

set_option maxRecDepth 16384

noncomputable section

open Idealize.ShloMosaic

namespace Cert.BandRefIdeal.Attn

open Cert.BandRefIdeal Cert.BandRefIdeal.Gen

/-- The columns of a table taken at an array of column numbers, read at an index: the table at the number there,
    read as a signed integer and kept inside the table. -/
theorem gather_at (x : FVec Ideal S24x257 .f32) (i : IVec S4096x4096x1 32) (h : Fin 24) (q k : Fin 4096) :
    Host.gather gather_S24x257_S4096x4096x1_S24x4096x4096_0_1_n_n_1_2_241 x i (ix3 h q k)
      = x (ix2 h ⟨min (i (ix3 q k (0 : Fin 1))).toInt.toNat 256, by omega⟩) := by
  unfold Host.gather
  refine congrArg x (funext fun a => Fin.ext ?_)
  generalize hG : gather_S24x257_S4096x4096x1_S24x4096x4096_0_1_n_n_1_2_241 = G
  show G.start (ix3 h q k) i a + G.batchCoord (ix3 h q k) a + G.offCoord (ix3 h q k) a = _
  subst hG
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin S24x257.rank) ∉ gather_S24x257_S4096x4096x1_S24x4096x4096_0_1_n_n_1_2_241.startIndexMap from by decide), Nat.zero_add]
    unfold GatherDims.offCoord
    rw [dif_pos ((GatherDims.mem_sKept _ _).mpr ⟨show (0 : Fin 2) ∉ ([1] : List (Fin 2)) by decide, List.not_mem_nil⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin S24x257.rank) ∈ gather_S24x257_S4096x4096x1_S24x4096x4096_0_1_n_n_1_2_241.startIndexMap from List.mem_singleton.mpr rfl)]
    refine congrArg (fun z => min (i z).toInt.toNat 256) (funext fun b => Fin.ext ?_)
    match b with
    | ⟨0, _⟩ => rfl
    | ⟨1, _⟩ => rfl
    | ⟨2, _⟩ => rfl

end Cert.BandRefIdeal.Attn
-- ==== Proof.RowMax.lean ====
module

public import Idealize.ShloMosaic.Lib.Pointwise

@[expose] public section

set_option maxRecDepth 16384

noncomputable section

open Idealize.ShloMosaic

namespace Cert.Softmax

/-- The largest of a last axis, from any start. -/
theorem reduce_max {p a n k : ℕ} (S : FVec Ideal ⟨4, ![p, a, n, k]⟩ .f32) (w : FVec Ideal ⟨0, ![]⟩ .f32) (h : Shape.ReducesTo ⟨4, ![p, a, n, k]⟩ [3] ⟨3, ![p, a, n]⟩)
    (hu : 0 < Shape.numel ⟨0, ![]⟩) (x : Fin p) (y : Fin a) (z : Fin n) :
    Host.reduce FloatOps.maximumf S w h hu (ix3 x y z) = Finset.univ.fold max (w (Shape.Idx.first hu)) fun l : Fin k => S (ix4 x y z l) := by
  simp only [pointwise]

/-- The same under the maximum with a constant. -/
theorem row_max {p a n k : ℕ} (S : FVec Ideal ⟨4, ![p, a, n, k]⟩ .f32) (w w' : BitVec 32) (hb : Shape.BroadcastsInDim ⟨0, ![]⟩ ⟨3, ![p, a, n]⟩ ![])
    (h : Shape.ReducesTo ⟨4, ![p, a, n, k]⟩ [3] ⟨3, ![p, a, n]⟩) (hu : 0 < Shape.numel ⟨0, ![]⟩) (x : Fin p) (y : Fin a) (z : Fin n) :
    maximumf (broadcastInDim ⟨3, ![p, a, n]⟩ ![] hb (constant ⟨0, ![]⟩ .f32 w)) (Host.reduce FloatOps.maximumf S (constant ⟨0, ![]⟩ .f32 w') h hu) (ix3 x y z)
      = max (Ideal.ofBits .f32 w) (Finset.univ.fold max (Ideal.ofBits .f32 w') fun l : Fin k => S (ix4 x y z l)) :=
  congrArg (max (Ideal.ofBits .f32 w)) (reduce_max S (constant ⟨0, ![]⟩ .f32 w') h hu x y z)

end Cert.Softmax
-- ==== Proof.BandRef.lean ====
module

public import proofs.«01_k».proof.Proof.BandGather
public import proofs.«01_k».proof.Proof.BandSpec
public import proofs.«01_k».proof.Proof.RowMax

@[expose] public section

set_option maxRecDepth 16384

noncomputable section

open Idealize.ShloMosaic

namespace Cert.BandRefIdeal.Attn

open Cert.BandRefIdeal Cert.BandRefIdeal.Gen Cert.Band

/-- The difference of two rows' numbers. -/
def diff (n : IVec S4096 32) : IVec S4096x4096 32 :=
  subi (broadcastInDim S4096x4096 ![0, 1] bcast_S4096x1_S4096x4096_0_1 (broadcastInDim S4096x1 ![0] bcast_S4096_S4096x1_0 n))
    (broadcastInDim S4096x4096 ![0, 1] bcast_S1x4096_S4096x4096_0_1 (broadcastInDim S1x4096 ![1] bcast_S4096_S1x4096_1 n))

/-- The number of every row's block of 64. -/
def chunk : IVec S4096 32 := shapeCast _ (iotaInDim S64x64 32 0) shapeCasts_S64x64_S4096

/-- The band: a query sees its own block of 64 rows and the eight before it. -/
def inBand : IVec S4096x4096 1 :=
  andi (cmpi .sge (diff chunk) (broadcastInDim S4096x4096 ![] bcast_S_S4096x4096 (constantI S_ 32 0#32)))
    (cmpi .sle (diff chunk) (broadcastInDim S4096x4096 ![] bcast_S_S4096x4096 (constantI S_ 32 8#32)))

/-- The clipped distance of a query and a key. -/
def dist : IVec S4096x4096 32 :=
  addi (minsi (maxsi (diff (iotaInDim S4096 32 0)) (broadcastInDim S4096x4096 ![] bcast_S_S4096x4096 (constantI S_ 32 4294967168#32)))
    (broadcastInDim S4096x4096 ![] bcast_S_S4096x4096 (constantI S_ 32 128#32))) (broadcastInDim S4096x4096 ![] bcast_S_S4096x4096 (constantI S_ 32 128#32))

/-- The bias's column for a query and a key. -/
def columns : IVec S4096x4096x1 32 :=
  broadcastInDim S4096x4096x1 ![0, 1] bcast_S4096x4096_S4096x4096x1_0_1
    (select (cmpi .slt dist (broadcastInDim S4096x4096 ![] bcast_S_S4096x4096 (constantI S_ 32 0#32)))
      (addi dist (broadcastInDim S4096x4096 ![] bcast_S_S4096x4096 (constantI S_ 32 257#32))) dist)

/-- The masked scores. -/
def scores (X : FVec Ideal S2x4096x10240 .f32) (R : FVec Ideal S24x257 .f32) : FVec Ideal S2x24x4096x4096 .f32 :=
  select (broadcastInDim S2x24x4096x4096 ![0, 1, 2, 3] bcast_S1x1x4096x4096_S2x24x4096x4096_0_1_2_3 (broadcastInDim S1x1x4096x4096 ![2, 3] bcast_S4096x4096_S1x1x4096x4096_2_3 inBand))
    (addf (mulf (Host.dotGeneral dot_S2x4096x24x128_S2x4096x24x128_S2x24x4096x4096_3_3_1_1_02_02 none
        (shapeCast _ (extractStridedSlice S2x4096x3072 ![0, 0, 0] X slices_S2x4096x10240_S2x4096x3072_0_0_0) shapeCasts_S2x4096x3072_S2x4096x24x128)
        (shapeCast _ (extractStridedSlice S2x4096x3072 ![0, 0, 3072] X slices_S2x4096x10240_S2x4096x3072_0_0_3072) shapeCasts_S2x4096x3072_S2x4096x24x128))
      (broadcastInDim S2x24x4096x4096 ![] bcast_S_S2x24x4096x4096 (constant S_ .f32 0x3DB504F3#32)))
      (broadcastInDim S2x24x4096x4096 ![0, 1, 2, 3] bcast_S1x24x4096x4096_S2x24x4096x4096_0_1_2_3 (broadcastInDim S1x24x4096x4096 ![1, 2, 3] bcast_S24x4096x4096_S1x24x4096x4096_1_2_3
        (Host.gather gather_S24x257_S4096x4096x1_S24x4096x4096_0_1_n_n_1_2_241 R columns))))
    (broadcastInDim S2x24x4096x4096 ![] bcast_S_S2x24x4096x4096 (constant S_ .f32 0xFF800000#32))

/-- Each row's largest score. -/
def tops (S : FVec Ideal S2x24x4096x4096 .f32) : FVec Ideal S2x24x4096 .f32 :=
  maximumf (broadcastInDim S2x24x4096 ![] bcast_S_S2x24x4096 (constant S_ .f32 0xFF800000#32))
    (Host.reduce FloatOps.maximumf S (constant S_ .f32 0xFF800000#32) reducesTo_S2x24x4096x4096_S2x24x4096_d3 h_S_)

/-- A row's number spread over the row. -/
def rows (T : FVec Ideal S2x24x4096 .f32) : FVec Ideal S2x24x4096x4096 .f32 :=
  broadcastInDim S2x24x4096x4096 ![0, 1, 2, 3] bcast_S2x24x4096x1_S2x24x4096x4096_0_1_2_3 (broadcastInDim S2x24x4096x1 ![0, 1, 2] bcast_S2x24x4096_S2x24x4096x1_0_1_2 T)

/-- The exponentials over each row's largest score. -/
def exps (S : FVec Ideal S2x24x4096x4096 .f32) : FVec Ideal S2x24x4096x4096 .f32 :=
  Host.exp (subf S (rows (tops S)))

/-- The weights: each row's exponentials over their sum. -/
def weights (E : FVec Ideal S2x24x4096x4096 .f32) : FVec Ideal S2x24x4096x4096 .f32 :=
  Host.divf E (rows (Host.reduceAdd E (constant S_ .f32 0x00000000#32) reducesTo_S2x24x4096x4096_S2x24x4096_d3 h_S_))

/-- The values under the weights, heads side by side. -/
def mixed (X : FVec Ideal S2x4096x10240 .f32) (W : FVec Ideal S2x24x4096x4096 .f32) : FVec Ideal S2x4096x3072 .bf16 :=
  truncf .bf16 (shapeCast _ (transpose S2x4096x24x128 [0, 3, 1, 2] (Host.dotGeneral dot_S2x4096x24x128_S2x24x4096x4096_S2x24x128x4096_1_3_3_2_02_01 none
    (shapeCast _ (extractStridedSlice S2x4096x3072 ![0, 0, 6144] X slices_S2x4096x10240_S2x4096x3072_0_0_6144) shapeCasts_S2x4096x3072_S2x4096x24x128) W)
    transposes_S2x24x128x4096_S2x4096x24x128_0_3_1_2) shapeCasts_S2x4096x24x128_S2x4096x3072) bitsLt_bf16_f32

/-- The reference's term of its two arguments. -/
def ref (X : FVec Ideal S2x4096x10240 .f32) (R : FVec Ideal S24x257 .f32) : FVec Ideal S2x4096x3072 .bf16 :=
  mixed X (weights (exps (scores X R)))

theorem res_eq (m : (ℓ : Loc nD τ sig) → Buf (Elt Ideal) ℓ) (c : Dev nD) :
    Value.res_main_v61 m c = ref (m ((c.tc : Thread nD τ).loc main_arg0)) (m ((c.tc : Thread nD τ).loc main_arg1)) := rfl

theorem diff_at (n : IVec S4096 32) (q k : Fin 4096) : diff n (ix2 q k) = n (ix1 q) - n (ix1 k) := by
  pointwise [diff]
  rfl

theorem chunk_at (q : Fin 4096) : chunk (ix1 q) = BitVec.ofNat 32 (q.val / 64) := by
  pointwise [chunk]

theorem rows_at (T : FVec Ideal S2x24x4096 .f32) (b : Fin 2) (h : Fin 24) (q k : Fin 4096) : rows T (ix4 b h q k) = T (ix3 b h q) := by
  pointwise [rows]

theorem tops_at (S : FVec Ideal S2x24x4096x4096 .f32) (b : Fin 2) (h : Fin 24) (q : Fin 4096) :
    tops S (ix3 b h q) = max (Ideal.ofBits .f32 0xFF800000#32)
      (Finset.univ.fold max (Ideal.ofBits .f32 0xFF800000#32) fun l : Fin 4096 => S (ix4 b h q l)) := by
  exact Softmax.row_max S 0xFF800000#32 0xFF800000#32 bcast_S_S2x24x4096 reducesTo_S2x24x4096x4096_S2x24x4096_d3 h_S_ b h q

theorem exps_at (S : FVec Ideal S2x24x4096x4096 .f32) (b : Fin 2) (h : Fin 24) (q k : Fin 4096) :
    exps S (ix4 b h q k) = Ideal.exp (S (ix4 b h q k) - tops S (ix3 b h q)) := by
  rw [← rows_at (tops S) b h q k]
  rfl

theorem weights_at (E : FVec Ideal S2x24x4096x4096 .f32) (b : Fin 2) (h : Fin 24) (q k : Fin 4096) :
    weights E (ix4 b h q k) = Ideal.div (E (ix4 b h q k)) (∑ l : Fin 4096, E (ix4 b h q l)) := by
  pointwise [weights, rows]

theorem mixed_at (X : FVec Ideal S2x4096x10240 .f32) (W : FVec Ideal S2x24x4096x4096 .f32) (b : Fin 2) (h : Fin 24) (q : Fin 4096) (d : Fin 128) :
    mixed X W (ix3 b q ⟨h.val * 128 + d.val, by omega⟩) = ∑ k : Fin 4096, W (ix4 b h q k) * X (ix3 b k (col 6144 h d (by omega))) := by
  unfold col
  pointwise [mixed]
  exact Finset.sum_congr rfl fun k _ => (mul_comm _ _).trans (congrArg (W (ix4 b h q k) * ·) (congrArg X (congrArg (ix3 b k) (Fin.ext (Nat.add_assoc _ _ _).symm))))

end Cert.BandRefIdeal.Attn
-- ==== Proof.BandScore.lean ====
module

public import proofs.«01_k».proof.Proof.BandRef

@[expose] public section

set_option maxRecDepth 16384

noncomputable section

open Idealize.ShloMosaic

namespace Cert.BandRefIdeal.Attn

open Cert.BandRefIdeal Cert.BandRefIdeal.Gen Cert.Band

theorem scores_at (X : FVec Ideal S2x4096x10240 .f32) (R : FVec Ideal S24x257 .f32) (b : Fin 2) (h : Fin 24) (q k : Fin 4096) :
    scores X R (ix4 b h q k) = Scalar.select (inBand (ix2 q k))
      ((∑ e : Fin 128, X (ix3 b q (col 0 h e (by omega))) * X (ix3 b k (col 3072 h e (by omega)))) * Ideal.ofBits .f32 0x3DB504F3#32
        + R (ix2 h ⟨min (columns (ix3 q k (0 : Fin 1))).toInt.toNat 256, by omega⟩)) (Ideal.ofBits .f32 0xFF800000#32) := by
  rw [← gather_at R columns h q k]
  unfold col
  pointwise [scores]
  simp only [Nat.add_assoc]

end Cert.BandRefIdeal.Attn
-- ==== Proof.BandMask.lean ====
module

public import proofs.«01_k».proof.Proof.BandScore

@[expose] public section

set_option maxRecDepth 16384

noncomputable section

open Idealize.ShloMosaic

namespace Cert.BandRefIdeal.Attn

open Cert.BandRefIdeal Cert.BandRefIdeal.Gen Cert.Band

/-- The band's two comparisons on block numbers. -/
def near (a b : BitVec 32) : BitVec 1 := IntOp.andi (IntOp.cmpi .sge (a - b) 0#32) (IntOp.cmpi .sle (a - b) 8#32)

theorem near_eq : ∀ a b : Fin 64, near (BitVec.ofNat 32 a.val) (BitVec.ofNat 32 b.val) = if b.val ≤ a.val ∧ a.val ≤ b.val + 8 then 1#1 else 0#1 := by
  decide +kernel

theorem inBand_at (q k : Fin 4096) : inBand (ix2 q k) = if k.val / 64 ≤ q.val / 64 ∧ q.val / 64 ≤ k.val / 64 + 8 then 1#1 else 0#1 := by
  have e : inBand (ix2 q k) = near (chunk (ix1 q)) (chunk (ix1 k)) := by
    rw [near, ← diff_at]
    rfl
  rw [e, chunk_at, chunk_at]
  exact near_eq ⟨q.val / 64, by omega⟩ ⟨k.val / 64, by omega⟩

/-- The clipped distance as a column number, from the difference of two positions. -/
def clip (a : BitVec 32) : BitVec 32 :=
  Scalar.select (IntOp.cmpi .slt (IntOp.addi (IntOp.minsi (IntOp.maxsi a 4294967168#32) 128#32) 128#32) 0#32)
    (IntOp.addi (IntOp.addi (IntOp.minsi (IntOp.maxsi a 4294967168#32) 128#32) 128#32) 257#32)
    (IntOp.addi (IntOp.minsi (IntOp.maxsi a 4294967168#32) 128#32) 128#32)

theorem clip_up : ∀ n : Fin 4096, (clip (BitVec.ofNat 32 n.val)).toInt.toNat = min (n.val + 128) 256 := by
  decide +kernel

theorem clip_down : ∀ n : Fin 4096, (clip (-BitVec.ofNat 32 n.val)).toInt.toNat = 128 - n.val := by
  decide +kernel

theorem columns_at (q k : Fin 4096) : (columns (ix3 q k (0 : Fin 1))).toInt.toNat = min (q.val + 128 - k.val) 256 := by
  have e : columns (ix3 q k (0 : Fin 1)) = clip (BitVec.ofNat 32 q.val - BitVec.ofNat 32 k.val) := by
    have hd : diff (iotaInDim S4096 32 0) (ix2 q k) = BitVec.ofNat 32 q.val - BitVec.ofNat 32 k.val := by
      rw [diff_at]
      pointwise
    rw [← hd]
    pointwise [columns, dist, clip]
  rw [e]
  by_cases h : k.val ≤ q.val
  · have e2 : BitVec.ofNat 32 q.val - BitVec.ofNat 32 k.val = BitVec.ofNat 32 (q.val - k.val) := by
      apply BitVec.eq_of_toNat_eq
      simp only [BitVec.toNat_sub, BitVec.toNat_ofNat]
      omega
    rw [e2]
    refine (clip_up ⟨q.val - k.val, by omega⟩).trans ?_
    show min (q.val - k.val + 128) 256 = _
    omega
  · have e2 : BitVec.ofNat 32 q.val - BitVec.ofNat 32 k.val = -BitVec.ofNat 32 (k.val - q.val) := by
      apply BitVec.eq_of_toNat_eq
      simp only [BitVec.toNat_sub, BitVec.toNat_neg, BitVec.toNat_ofNat]
      omega
    rw [e2]
    refine (clip_down ⟨k.val - q.val, by omega⟩).trans ?_
    show 128 - (k.val - q.val) = _
    omega

/-- The reference's masked score is the score. -/
theorem score_at (X : FVec Ideal S2x4096x10240 .f32) (R : FVec Ideal S24x257 .f32) (b : Fin 2) (h : Fin 24) (q k : Fin 4096) :
    scores X R (ix4 b h q k) = score X R b h q k := by
  rw [scores_at, inBand_at]
  unfold score
  by_cases hb : k.val / 64 ≤ q.val / 64 ∧ q.val / 64 ≤ k.val / 64 + 8
  · rw [if_pos hb, if_pos hb, ValueIdx.select_one]
    refine congrArg (_ + ·) (congrArg R (congrArg (ix2 h) (Fin.ext ?_)))
    show min (columns (ix3 q k (0 : Fin 1))).toInt.toNat 256 = min (q.val + 128 - k.val) 256
    rw [columns_at]
    omega
  · rw [if_neg hb, if_neg hb, ValueIdx.select_zero, low]

/-- The reference's result is every query's attention over all keys. -/
theorem ref_at (X : FVec Ideal S2x4096x10240 .f32) (R : FVec Ideal S24x257 .f32) (b : Fin 2) (h : Fin 24) (q : Fin 4096) (d : Fin 128) :
    ref X R (ix3 b q ⟨h.val * 128 + d.val, by omega⟩) = attend X R b h q d := by
  unfold ref
  rw [mixed_at]
  unfold attend Softmax.allKeys
  have hx : ∀ k, exps (scores X R) (ix4 b h q k) = Ideal.exp (score X R b h q k - max (Ideal.ofBits .f32 0xFF800000#32)
      (Finset.univ.fold max (Ideal.ofBits .f32 0xFF800000#32) (score X R b h q))) := fun k => by
    rw [exps_at, tops_at, score_at]
    exact congrArg (fun T => Ideal.exp (_ - max _ (Finset.univ.fold max _ T))) (funext fun l => score_at X R b h q l)
  refine Finset.sum_congr rfl fun k _ => congrArg (· * _) ?_
  rw [weights_at, hx]
  exact congrArg (Ideal.div _) (Finset.sum_congr rfl fun l _ => hx l)

end Cert.BandRefIdeal.Attn
-- ==== Proof.BandFinite.lean ====
module

public import proofs.«01_k».proof.Proof.BandSpec
public import proofs.«01_k».proof.Proof.Softmax
public import proofs.«01_k».proof.Pre_finite
public import Idealize.ShloMosaic.Lib.ReduceAll

@[expose] public section

set_option maxRecDepth 16384

noncomputable section

open Idealize.ShloMosaic

namespace Cert.Band

/-- A number whose size is below the upper end is neither end. -/
theorem real_of_lt (x : Ideal .f32) (h : FloatOps.cmpf .olt (FloatOps.hostAbsf x) (FloatOps.ofBits .f32 0x7F800000#32) = 1#1) : ∃ r : ℝ, x = (r : EReal) := by
  have ht : Ideal.ofBits .f32 0x7F800000#32 = ⊤ := by simp [Ideal.ofBits, Ideal.ieee]
  induction x using EReal.rec with
  | bot => exact absurd h (by
      show ¬ Ideal.cmp .olt (max (⊥ : EReal) (-⊥)) (Ideal.ofBits .f32 0x7F800000#32) = 1#1
      rw [ht]; simp [Ideal.cmp])
  | top => exact absurd h (by
      show ¬ Ideal.cmp .olt (max (⊤ : EReal) (-⊤)) (Ideal.ofBits .f32 0x7F800000#32) = 1#1
      rw [ht]; simp [Ideal.cmp])
  | coe r => exact ⟨r, rfl⟩

variable [Cert.Pre_finite.Facts]

/-- The precondition gives real queries, keys and biases. -/
theorem finite_rows (X : Rows) (R : Bias) (h : Cert.Pre_finite.fn (F := Ideal) X R = fun _ => 1#1) (b : Fin 2) (q : Fin 4096) (j : Fin 10240) (hj : j.val < 6144) :
    ∃ r : ℝ, X (ix3 b q j) = (r : EReal) := by
  have h0 := (IntOp.andi_eq_one.1 (congrFun h ix0)).1
  have h1 := Host.reduce_andi_all _ _ _ _ ix0 h0 (ix3 b q (⟨j.val, hj⟩ : Fin 6144))
  refine real_of_lt _ (Eq.trans (congrArg (fun x : Ideal .f32 => FloatOps.cmpf .olt (FloatOps.hostAbsf x) (FloatOps.ofBits .f32 0x7F800000#32)) ?_) h1)
  pointwise

theorem finite_bias (X : Rows) (R : Bias) (h : Cert.Pre_finite.fn (F := Ideal) X R = fun _ => 1#1) (g : Fin 24) (j : Fin 257) :
    ∃ r : ℝ, R (ix2 g j) = (r : EReal) := by
  have h0 := (IntOp.andi_eq_one.1 (congrFun h ix0)).2
  exact real_of_lt _ (Host.reduce_andi_all _ _ _ _ ix0 h0 (ix2 g j))

/-- A score in the band is a real number. -/
theorem score_real (X : Rows) (R : Bias) (hf : Cert.Pre_finite.fn (F := Ideal) X R = fun _ => 1#1) (b : Fin 2) (h : Fin 24) (q k : Fin 4096)
    (hb : k.val / 64 ≤ q.val / 64 ∧ q.val / 64 ≤ k.val / 64 + 8) : ∃ r : ℝ, score X R b h q k = (r : EReal) := by
  unfold score
  rw [if_pos hb]
  have hl : ∃ r : ℝ, Ideal.ofBits .f32 0x3DB504F3#32 = (r : EReal) := ⟨_, by simp [Ideal.ofBits, Ideal.ieee]; rfl⟩
  obtain ⟨l, hl⟩ := hl
  obtain ⟨g, hg⟩ := finite_bias X R hf h (rel q k)
  choose x hx using fun e : Fin 128 => finite_rows X R hf b q (col 0 h e (by omega)) (by show 0 + h.val * 128 + e.val < 6144; omega)
  choose y hy using fun e : Fin 128 => finite_rows X R hf b k (col 3072 h e (by omega)) (by show 3072 + h.val * 128 + e.val < 6144; omega)
  refine ⟨(∑ e, x e * y e) * l + g, ?_⟩
  rw [hg, hl, Finset.sum_congr rfl fun e _ => (show X _ * X _ = ((x e * y e : ℝ) : EReal) by rw [hx, hy]; rfl), ← Softmax.coe_sum Finset.univ fun e => x e * y e]
  rfl

theorem score_ne_top (X : Rows) (R : Bias) (hf : Cert.Pre_finite.fn (F := Ideal) X R = fun _ => 1#1) (b : Fin 2) (h : Fin 24) (q k : Fin 4096) :
    score X R b h q k ≠ ⊤ := by
  by_cases hb : k.val / 64 ≤ q.val / 64 ∧ q.val / 64 ≤ k.val / 64 + 8
  · obtain ⟨r, hr⟩ := score_real X R hf b h q k hb
    rw [hr]
    exact EReal.coe_ne_top r
  · unfold score
    rw [if_neg hb]
    exact bot_ne_top

theorem score_self (X : Rows) (R : Bias) (hf : Cert.Pre_finite.fn (F := Ideal) X R = fun _ => 1#1) (b : Fin 2) (h : Fin 24) (q : Fin 4096) :
    score X R b h q q ≠ ⊥ := by
  obtain ⟨r, hr⟩ := score_real X R hf b h q q ⟨le_rfl, Nat.le_add_right _ _⟩
  rw [hr]
  exact EReal.coe_ne_bot r

end Cert.Band
-- ==== Proof.Band.lean ====
module

public import proofs.«01_k».proof.Defs
public import proofs.«01_k».proof.Proof.BandPoint
public import proofs.«01_k».proof.Proof.BandMask
public import proofs.«01_k».proof.Proof.BandFinite
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BandIdeal.Attn

open Cert.BandIdeal Cert.BandIdeal.Gen Cert.Band

variable (m : (ℓ : Loc nD τ sig) → Buf (Elt Ideal) ℓ)

/-- What a point leaves at an index of its block is the reference's entry there. -/
theorem point_eq [Cert.Pre_finite.Facts] (c : Dev nD) (hf : Cert.Pre_finite.fn (F := Ideal) (X m c) (R m c) = fun _ => 1#1) (t : Fin cfg0.N)
    (y : (⟨3, ![1, 512, 512]⟩ : Shape).Idx) (z : (⟨3, ![2, 4096, 3072]⟩ : Shape).Idx)
    (h0 : (z 0).val = t.val / 8 % 2) (h1 : (z 1).val = t.val % 8 * 512 + (y 1).val) (h2 : (z 2).val = t.val / 16 * 512 + (y 2).val) :
    (outsAt0 m c t.val t.isLt).1 y = Cert.BandRefIdeal.Attn.ref (X m c) (R m c) z := by
  have ht : t.val < 96 := t.isLt
  have y0 : (y 0).val < 1 := (y 0).isLt
  have y1 : (y 1).val < 512 := (y 1).isLt
  have y2 : (y 2).val < 512 := (y 2).isLt
  have q0 : (y 2).val / 128 < 4 := by omega
  have q1 : (y 2).val % 128 < 128 := by omega
  have q2 : (y 2).val / 128 * 128 + (y 2).val % 128 < 512 := by omega
  have q3 : t.val % 8 * 512 + (y 1).val < 4096 := by omega
  have q4 : (hd t ⟨(y 2).val / 128, q0⟩).val * 128 + (y 2).val % 128 < 3072 := by
    show (t.val / 16 * 4 + (y 2).val / 128) * 128 + (y 2).val % 128 < 3072
    omega
  have e0 : (y 0).val = 0 := by omega
  have e2 : (y 2).val = (y 2).val / 128 * 128 + (y 2).val % 128 := by omega
  have z2 : (z 2).val = (hd t ⟨(y 2).val / 128, q0⟩).val * 128 + (y 2).val % 128 := by
    show (z 2).val = (t.val / 16 * 4 + (y 2).val / 128) * 128 + (y 2).val % 128
    omega
  have ey : y = ix3 (0 : Fin 1) (⟨(y 1).val, y1⟩ : Fin 512) (⟨(y 2).val / 128 * 128 + (y 2).val % 128, q2⟩ : Fin 512) :=
    (eq_ix3 y).trans (congr (congr (congrArg ix3 (Fin.ext e0)) (Fin.ext rfl)) (Fin.ext e2))
  have ez : z = ix3 (bat t) (⟨t.val % 8 * 512 + (y 1).val, q3⟩ : Fin 4096) (⟨(hd t ⟨(y 2).val / 128, q0⟩).val * 128 + (y 2).val % 128, q4⟩ : Fin 3072) :=
    (eq_ix3 z).trans (congr (congr (congrArg ix3 (Fin.ext h0)) (Fin.ext h1)) (Fin.ext z2))
  rw [out_eq, ez]
  refine (congrArg _ ey).trans ?_
  refine (out_at _ _ _ _ _ _ _ ⟨(y 2).val / 128, by omega⟩ ⟨(y 1).val, y1⟩ ⟨(y 2).val % 128, by omega⟩).trans ?_
  refine (point_at m c t _ _ _ ⟨t.val % 8 * 512 + (y 1).val, by omega⟩ rfl (fun k => score_ne_top _ _ hf _ _ _ k) (score_self _ _ hf _ _ _)).trans ?_
  exact (Cert.BandRefIdeal.Attn.ref_at (X m c) (R m c) (bat t) _ _ ⟨(y 2).val % 128, by omega⟩).symm

theorem final [Cert.Pre_finite.Facts] (c : Dev nD) (hf : Cert.Pre_finite.fn (F := Ideal) (X m c) (R m c) = fun _ => 1#1) :
    (dats m 0 c).arrAt 6 (cfgs 0).N = Cert.BandRefIdeal.Attn.ref (X m c) (R m c) := by
  refine (dats m 0 c).arrAt_eq_of_covers 6 _ (by decide +kernel) fun t _ y => ?_
  blk_simp
  rw [after0_6]
  refine point_eq m c hf t y _ ?_ ?_ ?_
  · blk_simp [idx t]
  · blk_simp [idx t]
  · blk_simp [idx t]

end Cert.BandIdeal.Attn

/-- The kernel's result is the attention of the reference, whenever queries, keys and bias are real numbers. -/
theorem Cert.Proof.band [Cert.Pre_finite.Facts] : Cert.algebraic_BandIdeal_BandRefIdeal_pre_finite := by
  pair_intro
  · run_from Cert.BandIdeal.Gen.run_main m g
  · run_from Cert.BandRefIdeal.Value.run m' g'
    rw [Cert.BandIdeal.Attn.final m c (hpre c)]
    refine (Cert.BandRefIdeal.Attn.res_eq m' c).trans ?_
    exact congrArg₂ Cert.BandRefIdeal.Attn.ref (hagree c).1 (hagree c).2
-- ==== Proof.BandSampleKernel.lean ====
module

public import proofs.«01_k».proof.Defs
public import proofs.«01_k».proof.Proof.Gen.BandSampleIdeal.Value
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BandSampleIdeal.Attn

open Cert.BandSampleIdeal Cert.BandSampleIdeal.Gen

/-- One head's bias rows: the head's table row rolled and cut. -/
def biasRows (x : FVec Ideal S1x1x2048 .f32) : FVec Ideal S1x32x544 .f32 := k0_pay2 x

/-- One head's output block: the queries against the cached and the new keys. -/
def head (q : FVec Ideal S1x32x128 .f32) (kp : FVec Ideal S1x512x128 .f32) (kc : FVec Ideal S1x32x128 .f32) (vp : FVec Ideal S1x512x128 .f32) (vc : FVec Ideal S1x32x128 .f32)
    (w0 : FVec Ideal S1x32x512 .f32) (w1 : FVec Ideal S1x32x32 .f32) : FVec Ideal S1x32x128 .bf16 :=
  k0_pay34 (k0_pay30 vp) (k0_pay31 q kp w0) (k0_pay32 q kc w1) (k0_pay33 q kp w0) vc

/-- Every twenty-fourth row of a block of cached keys: one head's columns. -/
def every (x : Vec Ideal S1x12288x128 .f32) (o : ℕ) (inb : ∀ a, S1x512x128.size a = 0 ∨ (![0, o, 0] : Fin 3 → ℕ) a + (![1, 24, 1] : Fin 3 → ℕ) a * (S1x512x128.size a - 1) < S1x12288x128.size a) : FVec Ideal S1x512x128 .f32 :=
  fun j => x ((⟨![0, o, 0], S1x512x128.size, ![1, 24, 1], inb⟩ : LoadRect S1x12288x128).idx j)

/-- One head's output block from the point's blocks and the columns and rows where the head begins. -/
def piece (q : Vec Ideal S1x32x3072 .f32) (kp : Vec Ideal S1x12288x128 .f32) (kc : Vec Ideal S1x32x3072 .f32) (vp : Vec Ideal S1x12288x128 .f32) (vc : Vec Ideal S1x32x3072 .f32) (s : Vec Ideal S24x32x544 .f32)
    (o n : ℕ) (inb : ∀ a, (![0, 0, o] : Fin 3 → ℕ) a + (![1, 32, 128] : Fin 3 → ℕ) a ≤ S1x32x3072.size a)
    (every24 : ∀ a, S1x512x128.size a = 0 ∨ (![0, n, 0] : Fin 3 → ℕ) a + (![1, 24, 1] : Fin 3 → ℕ) a * (S1x512x128.size a - 1) < S1x12288x128.size a)
    (inb0 : ∀ a, (![n, 0, 0] : Fin 3 → ℕ) a + (![1, 32, 512] : Fin 3 → ℕ) a ≤ S24x32x544.size a)
    (inb1 : ∀ a, (![n, 0, 512] : Fin 3 → ℕ) a + (![1, 32, 32] : Fin 3 → ℕ) a ≤ S24x32x544.size a) : FVec Ideal S1x32x128 .bf16 :=
  head (View.ld q (Rect.unit ![0, 0, o] ![1, 32, 128] inb)) (every kp n every24) (View.ld kc (Rect.unit ![0, 0, o] ![1, 32, 128] inb))
    (every vp n every24) (View.ld vc (Rect.unit ![0, 0, o] ![1, 32, 128] inb))
    (View.ld s (Rect.unit ![n, 0, 0] ![1, 32, 512] inb0)) (View.ld s (Rect.unit ![n, 0, 512] ![1, 32, 32] inb1))

/-- The carried scratch: the heads' bias rows. -/
def scr (x : Vec Ideal S24x1x2048 .f32) : Vec Ideal S24x32x544 .f32 :=
  View.canon (Val := Elt Ideal) (s := S24x32x544) (e := .f32) [
    ⟨Rect.unit ![23, 0, 0] ![1, 32, 544] inb_S24x32x544_S1x32x544_23_0_0, biasRows (View.ld x (Rect.unit ![23, 0, 0] ![1, 1, 2048] inb_S24x1x2048_S1x1x2048_23_0_0))⟩,
    ⟨Rect.unit ![22, 0, 0] ![1, 32, 544] inb_S24x32x544_S1x32x544_22_0_0, biasRows (View.ld x (Rect.unit ![22, 0, 0] ![1, 1, 2048] inb_S24x1x2048_S1x1x2048_22_0_0))⟩,
    ⟨Rect.unit ![21, 0, 0] ![1, 32, 544] inb_S24x32x544_S1x32x544_21_0_0, biasRows (View.ld x (Rect.unit ![21, 0, 0] ![1, 1, 2048] inb_S24x1x2048_S1x1x2048_21_0_0))⟩,
    ⟨Rect.unit ![20, 0, 0] ![1, 32, 544] inb_S24x32x544_S1x32x544_20_0_0, biasRows (View.ld x (Rect.unit ![20, 0, 0] ![1, 1, 2048] inb_S24x1x2048_S1x1x2048_20_0_0))⟩,
    ⟨Rect.unit ![19, 0, 0] ![1, 32, 544] inb_S24x32x544_S1x32x544_19_0_0, biasRows (View.ld x (Rect.unit ![19, 0, 0] ![1, 1, 2048] inb_S24x1x2048_S1x1x2048_19_0_0))⟩,
    ⟨Rect.unit ![18, 0, 0] ![1, 32, 544] inb_S24x32x544_S1x32x544_18_0_0, biasRows (View.ld x (Rect.unit ![18, 0, 0] ![1, 1, 2048] inb_S24x1x2048_S1x1x2048_18_0_0))⟩,
    ⟨Rect.unit ![17, 0, 0] ![1, 32, 544] inb_S24x32x544_S1x32x544_17_0_0, biasRows (View.ld x (Rect.unit ![17, 0, 0] ![1, 1, 2048] inb_S24x1x2048_S1x1x2048_17_0_0))⟩,
    ⟨Rect.unit ![16, 0, 0] ![1, 32, 544] inb_S24x32x544_S1x32x544_16_0_0, biasRows (View.ld x (Rect.unit ![16, 0, 0] ![1, 1, 2048] inb_S24x1x2048_S1x1x2048_16_0_0))⟩,
    ⟨Rect.unit ![15, 0, 0] ![1, 32, 544] inb_S24x32x544_S1x32x544_15_0_0, biasRows (View.ld x (Rect.unit ![15, 0, 0] ![1, 1, 2048] inb_S24x1x2048_S1x1x2048_15_0_0))⟩,
    ⟨Rect.unit ![14, 0, 0] ![1, 32, 544] inb_S24x32x544_S1x32x544_14_0_0, biasRows (View.ld x (Rect.unit ![14, 0, 0] ![1, 1, 2048] inb_S24x1x2048_S1x1x2048_14_0_0))⟩,
    ⟨Rect.unit ![13, 0, 0] ![1, 32, 544] inb_S24x32x544_S1x32x544_13_0_0, biasRows (View.ld x (Rect.unit ![13, 0, 0] ![1, 1, 2048] inb_S24x1x2048_S1x1x2048_13_0_0))⟩,
    ⟨Rect.unit ![12, 0, 0] ![1, 32, 544] inb_S24x32x544_S1x32x544_12_0_0, biasRows (View.ld x (Rect.unit ![12, 0, 0] ![1, 1, 2048] inb_S24x1x2048_S1x1x2048_12_0_0))⟩,
    ⟨Rect.unit ![11, 0, 0] ![1, 32, 544] inb_S24x32x544_S1x32x544_11_0_0, biasRows (View.ld x (Rect.unit ![11, 0, 0] ![1, 1, 2048] inb_S24x1x2048_S1x1x2048_11_0_0))⟩,
    ⟨Rect.unit ![10, 0, 0] ![1, 32, 544] inb_S24x32x544_S1x32x544_10_0_0, biasRows (View.ld x (Rect.unit ![10, 0, 0] ![1, 1, 2048] inb_S24x1x2048_S1x1x2048_10_0_0))⟩,
    ⟨Rect.unit ![9, 0, 0] ![1, 32, 544] inb_S24x32x544_S1x32x544_9_0_0, biasRows (View.ld x (Rect.unit ![9, 0, 0] ![1, 1, 2048] inb_S24x1x2048_S1x1x2048_9_0_0))⟩,
    ⟨Rect.unit ![8, 0, 0] ![1, 32, 544] inb_S24x32x544_S1x32x544_8_0_0, biasRows (View.ld x (Rect.unit ![8, 0, 0] ![1, 1, 2048] inb_S24x1x2048_S1x1x2048_8_0_0))⟩,
    ⟨Rect.unit ![7, 0, 0] ![1, 32, 544] inb_S24x32x544_S1x32x544_7_0_0, biasRows (View.ld x (Rect.unit ![7, 0, 0] ![1, 1, 2048] inb_S24x1x2048_S1x1x2048_7_0_0))⟩,
    ⟨Rect.unit ![6, 0, 0] ![1, 32, 544] inb_S24x32x544_S1x32x544_6_0_0, biasRows (View.ld x (Rect.unit ![6, 0, 0] ![1, 1, 2048] inb_S24x1x2048_S1x1x2048_6_0_0))⟩,
    ⟨Rect.unit ![5, 0, 0] ![1, 32, 544] inb_S24x32x544_S1x32x544_5_0_0, biasRows (View.ld x (Rect.unit ![5, 0, 0] ![1, 1, 2048] inb_S24x1x2048_S1x1x2048_5_0_0))⟩,
    ⟨Rect.unit ![4, 0, 0] ![1, 32, 544] inb_S24x32x544_S1x32x544_4_0_0, biasRows (View.ld x (Rect.unit ![4, 0, 0] ![1, 1, 2048] inb_S24x1x2048_S1x1x2048_4_0_0))⟩,
    ⟨Rect.unit ![3, 0, 0] ![1, 32, 544] inb_S24x32x544_S1x32x544_3_0_0, biasRows (View.ld x (Rect.unit ![3, 0, 0] ![1, 1, 2048] inb_S24x1x2048_S1x1x2048_3_0_0))⟩,
    ⟨Rect.unit ![2, 0, 0] ![1, 32, 544] inb_S24x32x544_S1x32x544_2_0_0, biasRows (View.ld x (Rect.unit ![2, 0, 0] ![1, 1, 2048] inb_S24x1x2048_S1x1x2048_2_0_0))⟩,
    ⟨Rect.unit ![1, 0, 0] ![1, 32, 544] inb_S24x32x544_S1x32x544_1_0_0, biasRows (View.ld x (Rect.unit ![1, 0, 0] ![1, 1, 2048] inb_S24x1x2048_S1x1x2048_1_0_0))⟩,
    ⟨Rect.unit ![0, 0, 0] ![1, 32, 544] inb_S24x32x544_S1x32x544_0_0_0, biasRows (View.ld x (Rect.unit ![0, 0, 0] ![1, 1, 2048] inb_S24x1x2048_S1x1x2048_0_0_0))⟩]

/-- The output block: the heads side by side. -/
def out (q : Vec Ideal S1x32x3072 .f32) (kp : Vec Ideal S1x12288x128 .f32) (kc : Vec Ideal S1x32x3072 .f32) (vp : Vec Ideal S1x12288x128 .f32) (vc : Vec Ideal S1x32x3072 .f32) (s : Vec Ideal S24x32x544 .f32) : Vec Ideal S1x32x3072 .bf16 :=
  View.canon (Val := Elt Ideal) (s := S1x32x3072) (e := .bf16) [
    ⟨Rect.unit ![0, 0, 2944] ![1, 32, 128] inb_S1x32x3072_S1x32x128_0_0_2944,
      piece q kp kc vp vc s 2944 23 inb_S1x32x3072_S1x32x128_0_0_2944 inb_S1x12288x128_S1x512x128_0_23_0_s_1_24_1 inb_S24x32x544_S1x32x512_23_0_0 inb_S24x32x544_S1x32x32_23_0_512⟩,
    ⟨Rect.unit ![0, 0, 2816] ![1, 32, 128] inb_S1x32x3072_S1x32x128_0_0_2816,
      piece q kp kc vp vc s 2816 22 inb_S1x32x3072_S1x32x128_0_0_2816 inb_S1x12288x128_S1x512x128_0_22_0_s_1_24_1 inb_S24x32x544_S1x32x512_22_0_0 inb_S24x32x544_S1x32x32_22_0_512⟩,
    ⟨Rect.unit ![0, 0, 2688] ![1, 32, 128] inb_S1x32x3072_S1x32x128_0_0_2688,
      piece q kp kc vp vc s 2688 21 inb_S1x32x3072_S1x32x128_0_0_2688 inb_S1x12288x128_S1x512x128_0_21_0_s_1_24_1 inb_S24x32x544_S1x32x512_21_0_0 inb_S24x32x544_S1x32x32_21_0_512⟩,
    ⟨Rect.unit ![0, 0, 2560] ![1, 32, 128] inb_S1x32x3072_S1x32x128_0_0_2560,
      piece q kp kc vp vc s 2560 20 inb_S1x32x3072_S1x32x128_0_0_2560 inb_S1x12288x128_S1x512x128_0_20_0_s_1_24_1 inb_S24x32x544_S1x32x512_20_0_0 inb_S24x32x544_S1x32x32_20_0_512⟩,
    ⟨Rect.unit ![0, 0, 2432] ![1, 32, 128] inb_S1x32x3072_S1x32x128_0_0_2432,
      piece q kp kc vp vc s 2432 19 inb_S1x32x3072_S1x32x128_0_0_2432 inb_S1x12288x128_S1x512x128_0_19_0_s_1_24_1 inb_S24x32x544_S1x32x512_19_0_0 inb_S24x32x544_S1x32x32_19_0_512⟩,
    ⟨Rect.unit ![0, 0, 2304] ![1, 32, 128] inb_S1x32x3072_S1x32x128_0_0_2304,
      piece q kp kc vp vc s 2304 18 inb_S1x32x3072_S1x32x128_0_0_2304 inb_S1x12288x128_S1x512x128_0_18_0_s_1_24_1 inb_S24x32x544_S1x32x512_18_0_0 inb_S24x32x544_S1x32x32_18_0_512⟩,
    ⟨Rect.unit ![0, 0, 2176] ![1, 32, 128] inb_S1x32x3072_S1x32x128_0_0_2176,
      piece q kp kc vp vc s 2176 17 inb_S1x32x3072_S1x32x128_0_0_2176 inb_S1x12288x128_S1x512x128_0_17_0_s_1_24_1 inb_S24x32x544_S1x32x512_17_0_0 inb_S24x32x544_S1x32x32_17_0_512⟩,
    ⟨Rect.unit ![0, 0, 2048] ![1, 32, 128] inb_S1x32x3072_S1x32x128_0_0_2048,
      piece q kp kc vp vc s 2048 16 inb_S1x32x3072_S1x32x128_0_0_2048 inb_S1x12288x128_S1x512x128_0_16_0_s_1_24_1 inb_S24x32x544_S1x32x512_16_0_0 inb_S24x32x544_S1x32x32_16_0_512⟩,
    ⟨Rect.unit ![0, 0, 1920] ![1, 32, 128] inb_S1x32x3072_S1x32x128_0_0_1920,
      piece q kp kc vp vc s 1920 15 inb_S1x32x3072_S1x32x128_0_0_1920 inb_S1x12288x128_S1x512x128_0_15_0_s_1_24_1 inb_S24x32x544_S1x32x512_15_0_0 inb_S24x32x544_S1x32x32_15_0_512⟩,
    ⟨Rect.unit ![0, 0, 1792] ![1, 32, 128] inb_S1x32x3072_S1x32x128_0_0_1792,
      piece q kp kc vp vc s 1792 14 inb_S1x32x3072_S1x32x128_0_0_1792 inb_S1x12288x128_S1x512x128_0_14_0_s_1_24_1 inb_S24x32x544_S1x32x512_14_0_0 inb_S24x32x544_S1x32x32_14_0_512⟩,
    ⟨Rect.unit ![0, 0, 1664] ![1, 32, 128] inb_S1x32x3072_S1x32x128_0_0_1664,
      piece q kp kc vp vc s 1664 13 inb_S1x32x3072_S1x32x128_0_0_1664 inb_S1x12288x128_S1x512x128_0_13_0_s_1_24_1 inb_S24x32x544_S1x32x512_13_0_0 inb_S24x32x544_S1x32x32_13_0_512⟩,
    ⟨Rect.unit ![0, 0, 1536] ![1, 32, 128] inb_S1x32x3072_S1x32x128_0_0_1536,
      piece q kp kc vp vc s 1536 12 inb_S1x32x3072_S1x32x128_0_0_1536 inb_S1x12288x128_S1x512x128_0_12_0_s_1_24_1 inb_S24x32x544_S1x32x512_12_0_0 inb_S24x32x544_S1x32x32_12_0_512⟩,
    ⟨Rect.unit ![0, 0, 1408] ![1, 32, 128] inb_S1x32x3072_S1x32x128_0_0_1408,
      piece q kp kc vp vc s 1408 11 inb_S1x32x3072_S1x32x128_0_0_1408 inb_S1x12288x128_S1x512x128_0_11_0_s_1_24_1 inb_S24x32x544_S1x32x512_11_0_0 inb_S24x32x544_S1x32x32_11_0_512⟩,
    ⟨Rect.unit ![0, 0, 1280] ![1, 32, 128] inb_S1x32x3072_S1x32x128_0_0_1280,
      piece q kp kc vp vc s 1280 10 inb_S1x32x3072_S1x32x128_0_0_1280 inb_S1x12288x128_S1x512x128_0_10_0_s_1_24_1 inb_S24x32x544_S1x32x512_10_0_0 inb_S24x32x544_S1x32x32_10_0_512⟩,
    ⟨Rect.unit ![0, 0, 1152] ![1, 32, 128] inb_S1x32x3072_S1x32x128_0_0_1152,
      piece q kp kc vp vc s 1152 9 inb_S1x32x3072_S1x32x128_0_0_1152 inb_S1x12288x128_S1x512x128_0_9_0_s_1_24_1 inb_S24x32x544_S1x32x512_9_0_0 inb_S24x32x544_S1x32x32_9_0_512⟩,
    ⟨Rect.unit ![0, 0, 1024] ![1, 32, 128] inb_S1x32x3072_S1x32x128_0_0_1024,
      piece q kp kc vp vc s 1024 8 inb_S1x32x3072_S1x32x128_0_0_1024 inb_S1x12288x128_S1x512x128_0_8_0_s_1_24_1 inb_S24x32x544_S1x32x512_8_0_0 inb_S24x32x544_S1x32x32_8_0_512⟩,
    ⟨Rect.unit ![0, 0, 896] ![1, 32, 128] inb_S1x32x3072_S1x32x128_0_0_896,
      piece q kp kc vp vc s 896 7 inb_S1x32x3072_S1x32x128_0_0_896 inb_S1x12288x128_S1x512x128_0_7_0_s_1_24_1 inb_S24x32x544_S1x32x512_7_0_0 inb_S24x32x544_S1x32x32_7_0_512⟩,
    ⟨Rect.unit ![0, 0, 768] ![1, 32, 128] inb_S1x32x3072_S1x32x128_0_0_768,
      piece q kp kc vp vc s 768 6 inb_S1x32x3072_S1x32x128_0_0_768 inb_S1x12288x128_S1x512x128_0_6_0_s_1_24_1 inb_S24x32x544_S1x32x512_6_0_0 inb_S24x32x544_S1x32x32_6_0_512⟩,
    ⟨Rect.unit ![0, 0, 640] ![1, 32, 128] inb_S1x32x3072_S1x32x128_0_0_640,
      piece q kp kc vp vc s 640 5 inb_S1x32x3072_S1x32x128_0_0_640 inb_S1x12288x128_S1x512x128_0_5_0_s_1_24_1 inb_S24x32x544_S1x32x512_5_0_0 inb_S24x32x544_S1x32x32_5_0_512⟩,
    ⟨Rect.unit ![0, 0, 512] ![1, 32, 128] inb_S1x32x3072_S1x32x128_0_0_512,
      piece q kp kc vp vc s 512 4 inb_S1x32x3072_S1x32x128_0_0_512 inb_S1x12288x128_S1x512x128_0_4_0_s_1_24_1 inb_S24x32x544_S1x32x512_4_0_0 inb_S24x32x544_S1x32x32_4_0_512⟩,
    ⟨Rect.unit ![0, 0, 384] ![1, 32, 128] inb_S1x32x3072_S1x32x128_0_0_384,
      piece q kp kc vp vc s 384 3 inb_S1x32x3072_S1x32x128_0_0_384 inb_S1x12288x128_S1x512x128_0_3_0_s_1_24_1 inb_S24x32x544_S1x32x512_3_0_0 inb_S24x32x544_S1x32x32_3_0_512⟩,
    ⟨Rect.unit ![0, 0, 256] ![1, 32, 128] inb_S1x32x3072_S1x32x128_0_0_256,
      piece q kp kc vp vc s 256 2 inb_S1x32x3072_S1x32x128_0_0_256 inb_S1x12288x128_S1x512x128_0_2_0_s_1_24_1 inb_S24x32x544_S1x32x512_2_0_0 inb_S24x32x544_S1x32x32_2_0_512⟩,
    ⟨Rect.unit ![0, 0, 128] ![1, 32, 128] inb_S1x32x3072_S1x32x128_0_0_128,
      piece q kp kc vp vc s 128 1 inb_S1x32x3072_S1x32x128_0_0_128 inb_S1x12288x128_S1x512x128_0_1_0_s_1_24_1 inb_S24x32x544_S1x32x512_1_0_0 inb_S24x32x544_S1x32x32_1_0_512⟩,
    ⟨Rect.unit ![0, 0, 0] ![1, 32, 128] inb_S1x32x3072_S1x32x128_0_0_0,
      piece q kp kc vp vc s 0 0 inb_S1x32x3072_S1x32x128_0_0_0 inb_S1x12288x128_S1x512x128_0_0_0_s_1_24_1 inb_S24x32x544_S1x32x512_0_0_0 inb_S24x32x544_S1x32x32_0_0_512⟩]

/-- A load of every twenty-fourth row of a whole block. -/
theorem load_every {sp : Space} (r : Memref sig .tc sp S1x12288x128 .f32) (hr : r.IsWhole) (x : Vec Ideal S1x12288x128 .f32) (o : ℕ) (inb : ∀ a, S1x512x128.size a = 0 ∨ (![0, o, 0] : Fin 3 → ℕ) a + (![1, 24, 1] : Fin 3 → ℕ) a * (S1x512x128.size a - 1) < S1x12288x128.size a) :
    r.view.readAt (Elt Ideal) ⟨![0, o, 0], ![1, 512, 128], ![1, 24, 1], inb⟩ (hr.unread x) = every x o inb :=
  funext fun j => congrFun (hr.read_unread (Val := Elt Ideal) x) _

variable (m : (ℓ : Loc nD τ sig) → Buf (Elt Ideal) ℓ)

/-- The windows' blocks at a grid point: one sample each. -/
theorem idx : ∀ t : Fin cfg0.N, win0_0.index t = ![t.val, 0, 0] ∧ win0_1.index t = ![t.val, 0, 0] ∧ win0_2.index t = ![t.val, 0, 1]
    ∧ win0_3.index t = ![t.val, 0, 0] ∧ win0_4.index t = ![t.val, 0, 2] ∧ win0_5.index t = ![0, 0, 0] ∧ win0_6.index t = ![t.val, 0, 0] :=
  (by decide +kernel : ∀ t : Fin grid0.N, _)

/-- The table's window stays where it is. -/
theorem iblk_pred (c : Dev nD) (t t' : Fin cfg0.N) : iblk m c 5 t' = iblk m c 5 t := by
  funext y
  blk_point [iblk, V, idx t, idx t']

theorem scr_A (c : Dev nD) (t : Fin cfg0.N) (h0 : t.val % 16 = 0) : (outsAt0 m c t.val t.isLt).2 = scr (iblk m c 5 t) := by
  rw [outsAt0_A m c t h0]
  frame_out
  rfl

/-- The scratch holds the bias rows from the first point on. -/
theorem scratch (c : Dev nD) : ∀ (n : ℕ) (h : n < cfg0.N), (outsAt0 m c n h).2 = scr (iblk m c 5 ⟨n, h⟩)
  | n, h => by
    by_cases h0 : n % 16 = 0
    · exact scr_A m c ⟨n, h⟩ h0
    · rw [outsAt0_B m c ⟨n, h⟩ h0]
      frame_out
      have hn : n - 1 < cfg0.N := lt_of_le_of_lt (Nat.sub_le _ _) h
      show (outsAt0 m c (n - 1) hn).2 = _
      rw [show (outsAt0 m c (n - 1) hn).2 = _ from scratch c (n - 1) hn, iblk_pred m c ⟨n, h⟩ ⟨n - 1, hn⟩]
      rfl
  termination_by n => n
  decreasing_by omega

/-- What every point leaves in the output's buffer. -/
theorem out_eq (c : Dev nD) (t : Fin cfg0.N) :
    (outsAt0 m c t.val t.isLt).1 = out (X0_0 m c t) (iblk m c 1 t) (X0_2 m c t) (iblk m c 3 t) (X0_4 m c t) (scr (iblk m c 5 t)) := by
  by_cases h0 : t.val % 16 = 0
  · rw [outsAt0_A m c t h0]
    frame_out
    simp only [View.readCov_eq_canon', load_every]
    rfl
  · rw [outsAt0_B m c t h0]
    frame_out
    have hn : t.val - 1 < cfg0.N := lt_of_le_of_lt (Nat.sub_le _ _) t.isLt
    rw [scratch m c (t.val - 1) hn, iblk_pred m c t ⟨t.val - 1, hn⟩]
    rw [show View.read (Elt Ideal) (View.whole cc0_scratch0) ((Memref.isWhole_whole _).unread (scr (iblk m c 5 t))) = scr (iblk m c 5 t) from
      Memref.IsWhole.read_unread (Memref.isWhole_whole _) _]
    simp only [load_every]
    rfl

end Cert.BandSampleIdeal.Attn
-- ==== Proof.BandSampleSpec.lean ====
module

public import proofs.«01_k».proof.Proof.BandFinite
public import proofs.«01_k».proof.Pre_band_sample_finite

@[expose] public section

set_option maxRecDepth 16384

noncomputable section

open Idealize.ShloMosaic

namespace Cert.Softmax

/-- A row of softmax attention over two parts of the keys, the weights normalized at the end. -/
def twoParts {n p : ℕ} (b0 b1 : EReal) (s0 v0 : Fin n → EReal) (s1 v1 : Fin p → EReal) : EReal :=
  Ideal.div
    ((∑ c, Ideal.exp (s0 c - max (Finset.univ.fold max b0 s0) (Finset.univ.fold max b1 s1)) * v0 c)
      + ∑ c, Ideal.exp (s1 c - max (Finset.univ.fold max b0 s0) (Finset.univ.fold max b1 s1)) * v1 c)
    ((∑ c, Ideal.exp (s0 c - max (Finset.univ.fold max b0 s0) (Finset.univ.fold max b1 s1)))
      + ∑ c, Ideal.exp (s1 c - max (Finset.univ.fold max b0 s0) (Finset.univ.fold max b1 s1)))

/-- A row of softmax attention over all keys, the weights normalized first. -/
def whole {n : ℕ} (b2 b3 : EReal) (S V : Fin n → EReal) : EReal :=
  ∑ k, Ideal.div (Ideal.exp (S k - max b2 (Finset.univ.fold max b3 S)))
    (∑ l, Ideal.exp (S l - max b2 (Finset.univ.fold max b3 S))) * V k

/-- Two parts of the keys, normalized at the end, give the row of all keys. -/
theorem parts_row {n p : ℕ} (b0 b1 b2 b3 : EReal) (hb0 : b0 ≠ ⊤) (hb1 : b1 ≠ ⊤) (hb2 : b2 ≠ ⊤) (hb3 : b3 ≠ ⊤)
    (S V : Fin (n + p) → EReal) (hS : ∀ k, ∃ r : ℝ, S k = (r : EReal)) (j : Fin p) :
    twoParts b0 b1 (fun c => S (Fin.castAdd p c)) (fun c => V (Fin.castAdd p c)) (fun c => S (Fin.natAdd n c)) (fun c => V (Fin.natAdd n c))
      = whole b2 b3 S V := by
  unfold twoParts whole
  have ht : ∀ k, S k ≠ ⊤ := fun k => by obtain ⟨r, hr⟩ := hS k; rw [hr]; exact EReal.coe_ne_top r
  have hj : S (Fin.natAdd n j) ≠ ⊥ := by obtain ⟨r, hr⟩ := hS (Fin.natAdd n j); rw [hr]; exact EReal.coe_ne_bot r
  have hE : 0 < ∑ k, wt (S k) := wt_sum_pos _ S (fun k _ => ht k) (Fin.natAdd n j) (Finset.mem_univ _) hj
  have t0 : ∀ c ∈ (Finset.univ : Finset (Fin n)), S (Fin.castAdd p c) ≠ ⊤ := fun c _ => ht _
  have t1 : ∀ c ∈ (Finset.univ : Finset (Fin p)), S (Fin.natAdd n c) ≠ ⊤ := fun c _ => ht _
  obtain ⟨M, hM⟩ := exists_real (max (Finset.univ.fold max b0 fun c => S (Fin.castAdd p c)) (Finset.univ.fold max b1 fun c => S (Fin.natAdd n c)))
    (max_lt (lt_top_iff_ne_top.2 (fold_max_ne_top _ _ _ hb0 t0)) (lt_top_iff_ne_top.2 (fold_max_ne_top _ _ _ hb1 t1))).ne
    (fun e => hj (le_bot_iff.1 (by
      rw [← e]
      exact (le_fold _ (fun c => S (Fin.natAdd n c)) b1 j (Finset.mem_univ _)).trans (le_max_right _ _))))
  obtain ⟨N, hN⟩ := exists_real (max b2 (Finset.univ.fold max b3 S))
    (max_lt (lt_top_iff_ne_top.2 hb2) (lt_top_iff_ne_top.2 (fold_max_ne_top _ _ _ hb3 fun k _ => ht k))).ne
    (fun e => hj (le_bot_iff.1 (by
      rw [← e]
      exact (le_fold _ S b3 _ (Finset.mem_univ _)).trans (le_max_right _ _))))
  rw [hM, hN, normal_first _ S V (fun k _ => ht k) N _ rfl hE,
    two_parts _ _ _ _ _ _ t0 t1 M (∑ k, wt (S k)) (Fin.sum_univ_add fun k => wt (S k)).symm hE]
  exact (Fin.sum_univ_add fun k => ((wt (S k) / ∑ l, wt (S l) : ℝ) : EReal) * V k).symm

end Cert.Softmax

/-! The samples' scores against the 512 cached keys and the 32 new ones. -/

namespace Cert.BandS

open Cert.Band (Bias col)

/-- The samples' projected rows: queries, keys, values and the attention's other columns. -/
abbrev Rows := FVec Ideal ⟨3, ![16, 32, 10240]⟩ .f32
/-- The cached keys, or the cached values. -/
abbrev Slots := FVec Ideal ⟨4, ![16, 512, 24, 128]⟩ .f32

/-- The bias's column for a query and a key: their distance, clipped to 128 either way; the queries follow 512 cached keys. -/
def rel (q : Fin 32) (k : Fin 544) : Fin 257 := ⟨min (640 + q.val - k.val) 256, by omega⟩

/-- A key, or a value: the cached ones come first, then the new rows' columns from `o` on. -/
def entry (K : Slots) (X : Rows) (o : ℕ) (ho : o ≤ 6144) (b : Fin 16) (h : Fin 24) (k : Fin 544) (e : Fin 128) : EReal :=
  if hk : k.val < 512 then K (ix4 b ⟨k.val, hk⟩ h e) else X (ix3 b ⟨k.val - 512, by omega⟩ (col o h e ho))

/-- A query's score against a key. -/
def score (X : Rows) (K : Slots) (R : Bias) (b : Fin 16) (h : Fin 24) (q : Fin 32) (k : Fin 544) : EReal :=
  (∑ e : Fin 128, X (ix3 b q (col 0 h e (by omega))) * entry K X 3072 (by omega) b h k e) * Ideal.ofBits .f32 0x3DB504F3#32 + R (ix2 h (rel q k))

/-- A query's attention over cached and new keys. -/
def attend (X : Rows) (K U : Slots) (R : Bias) (b : Fin 16) (h : Fin 24) (q : Fin 32) (d : Fin 128) : EReal :=
  Softmax.whole (Ideal.ofBits .f32 0xFF800000#32) (Ideal.ofBits .f32 0xFF800000#32) (score X K R b h q) fun k => entry U X 6144 (by omega) b h k d

section
variable [Cert.Pre_band_sample_finite.Facts]

/-- The precondition gives real queries, keys and biases. -/
theorem finite_rows (X : Rows) (K U : Slots) (R : Bias) (h : Cert.Pre_band_sample_finite.fn (F := Ideal) X K U R = fun _ => 1#1) (b : Fin 16) (q : Fin 32) (j : Fin 10240) (hj : j.val < 6144) :
    ∃ r : ℝ, X (ix3 b q j) = (r : EReal) := by
  have h0 := (IntOp.andi_eq_one.1 (IntOp.andi_eq_one.1 (congrFun h ix0)).1).1
  have h1 := Host.reduce_andi_all _ _ _ _ ix0 h0 (ix3 b q (⟨j.val, hj⟩ : Fin 6144))
  refine Cert.Band.real_of_lt _ (Eq.trans (congrArg (fun x : Ideal .f32 => FloatOps.cmpf .olt (FloatOps.hostAbsf x) (FloatOps.ofBits .f32 0x7F800000#32)) ?_) h1)
  pointwise

theorem finite_keys (X : Rows) (K U : Slots) (R : Bias) (h : Cert.Pre_band_sample_finite.fn (F := Ideal) X K U R = fun _ => 1#1) (b : Fin 16) (k : Fin 512) (p : Fin 24) (n : Fin 128) :
    ∃ r : ℝ, K (ix4 b k p n) = (r : EReal) := by
  have h0 := (IntOp.andi_eq_one.1 (IntOp.andi_eq_one.1 (congrFun h ix0)).1).2
  exact Cert.Band.real_of_lt _ (Host.reduce_andi_all _ _ _ _ ix0 h0 (ix4 b k p n))

theorem finite_bias (X : Rows) (K U : Slots) (R : Bias) (h : Cert.Pre_band_sample_finite.fn (F := Ideal) X K U R = fun _ => 1#1) (g : Fin 24) (j : Fin 257) :
    ∃ r : ℝ, R (ix2 g j) = (r : EReal) := by
  have h0 := (IntOp.andi_eq_one.1 (congrFun h ix0)).2
  exact Cert.Band.real_of_lt _ (Host.reduce_andi_all _ _ _ _ ix0 h0 (ix2 g j))

/-- Every score is a real number. -/
theorem score_real (X : Rows) (K U : Slots) (R : Bias) (hf : Cert.Pre_band_sample_finite.fn (F := Ideal) X K U R = fun _ => 1#1) (b : Fin 16) (h : Fin 24) (q : Fin 32) (k : Fin 544) :
    ∃ r : ℝ, score X K R b h q k = (r : EReal) := by
  unfold score
  have hl : ∃ r : ℝ, Ideal.ofBits .f32 0x3DB504F3#32 = (r : EReal) := ⟨_, by simp [Ideal.ofBits, Ideal.ieee]; rfl⟩
  obtain ⟨l, hl⟩ := hl
  obtain ⟨g, hg⟩ := finite_bias X K U R hf h (rel q k)
  have hk : ∀ e : Fin 128, ∃ r : ℝ, entry K X 3072 (by omega) b h k e = (r : EReal) := fun e => by
    unfold entry
    split
    · exact finite_keys X K U R hf b _ h e
    · exact finite_rows X K U R hf b _ _ (by show 3072 + h.val * 128 + e.val < 6144; omega)
  choose x hx using fun e : Fin 128 => finite_rows X K U R hf b q (col 0 h e (by omega)) (by show 0 + h.val * 128 + e.val < 6144; omega)
  choose y hy using hk
  refine ⟨(∑ e, x e * y e) * l + g, ?_⟩
  rw [hg, hl, Finset.sum_congr rfl fun e _ => (show X _ * entry K X 3072 (by omega) b h k e = ((x e * y e : ℝ) : EReal) by rw [hx, hy]; rfl), ← Softmax.coe_sum Finset.univ fun e => x e * y e]
  rfl

end

end Cert.BandS
-- ==== Proof.BandSampleHead.lean ====
module

public import proofs.«01_k».proof.Proof.BandSampleKernel
public import proofs.«01_k».proof.Proof.BandSampleSpec

@[expose] public section

set_option maxRecDepth 16384

noncomputable section

open Idealize.ShloMosaic Idealize.ShloMosaic.TcCoe Idealize.SL.Sem
open Idealize.ShloMosaic.Pipeline (Dat)

namespace Cert.BandSampleIdeal.Attn

open Cert.BandSampleIdeal Cert.BandSampleIdeal.Gen

theorem rot_at (x : FVec Ideal S1x1x2048 .f32) (r : Fin 32) (j : Fin 544) :
    extractStridedSlice S32x544 ![0, 512] (dynamicRotate 1 0#32 (some (1, 0)) (broadcastTo S32x2048 (shapeCast S1x2048 (shapeCast S1x2048 x shapeCasts_S1x1x2048_S1x2048) shapeCasts_S1x2048_S1x2048) broadcasts_S1x2048_S32x2048) rotates_S32x2048_d1s1a0) slices_S32x2048_o0_512_S32x544 (ix2 r j)
      = x (ix3 0 0 ⟨512 + j.val - r.val, by omega⟩) := by
  have e : ∀ y : FVec Ideal S32x2048 .f32, extractStridedSlice S32x544 ![0, 512] (dynamicRotate 1 0#32 (some (1, 0)) y rotates_S32x2048_d1s1a0) slices_S32x2048_o0_512_S32x544 (ix2 r j)
      = y (ix2 r ⟨512 + j.val - r.val, by omega⟩) := by
    intro y
    unfold extractStridedSlice dynamicRotate
    refine congrArg y (funext fun a => ?_)
    fin_cases a
    · exact (if_neg (by decide)).trans (Fin.ext (by show 0 + r.val = r.val; omega))
    · apply Fin.ext
      show (512 + j.val + 2048 - (0 + 1 * (0 + r.val)) % 2048) % 2048 = 512 + j.val - r.val
      omega
  rw [e]
  pointwise

theorem cast_at (y : FVec Ideal S32x544 .f32) (r : Fin 32) (j : Fin 544) :
    shapeCast S1x32x544 y shapeCasts_S32x544_S1x32x544 (ix3 0 r j) = y (ix2 r j) := by
  pointwise

/-- One entry of a head's bias rows. -/
theorem bias_at (x : FVec Ideal S1x1x2048 .f32) (r : Fin 32) (j : Fin 544) :
    biasRows x (ix3 0 r j) = x (ix3 0 0 ⟨512 + j.val - r.val, by omega⟩) := by
  unfold biasRows k0_pay2
  dsimp only
  rw [cast_at, rot_at]

theorem head_at (q : FVec Ideal S1x32x128 .f32) (kp : FVec Ideal S1x512x128 .f32) (kc : FVec Ideal S1x32x128 .f32) (vp : FVec Ideal S1x512x128 .f32) (vc : FVec Ideal S1x32x128 .f32)
    (w0 : FVec Ideal S1x32x512 .f32) (w1 : FVec Ideal S1x32x32 .f32) (r : Fin 32) (d : Fin 128) :
    head q kp kc vp vc w0 w1 (ix3 0 r d) = Cert.Softmax.twoParts (Ideal.ofBits FTy.f32 0xFF800000#32) (Ideal.ofBits FTy.f32 0xFF800000#32)
      (fun c : Fin 512 => (∑ e : Fin 128, q (ix3 0 r e) * kp (ix3 0 c e)) * Ideal.ofBits FTy.f32 0x3DB504F3#32 + w0 (ix3 0 r c)) (fun c => vp (ix3 0 c d))
      (fun c : Fin 32 => (∑ e : Fin 128, q (ix3 0 r e) * kc (ix3 0 c e)) * Ideal.ofBits FTy.f32 0x3DB504F3#32 + w1 (ix3 0 r c)) (fun c => vc (ix3 0 c d)) := by
  pointwise [head, k0_pay29, k0_pay30, k0_pay31, k0_pay32, k0_pay33, k0_pay34, Cert.Softmax.twoParts]

/-- A head's columns of a block, read at an index. -/
theorem ld_cols (x : Vec Ideal S1x32x3072 .f32) (o : ℕ) (inb : ∀ a, (![0, 0, o] : Fin 3 → ℕ) a + (![1, 32, 128] : Fin 3 → ℕ) a ≤ S1x32x3072.size a) (r : Fin 32) (e : Fin 128) (E : Fin 3072)
    (hE : o + e.val = E.val) :
    View.ld x (Rect.unit ![0, 0, o] ![1, 32, 128] inb) (ix3 (0 : Fin 1) r e) = x (ix3 (0 : Fin 1) r E) := by
  refine congrArg x (funext fun a => Fin.ext ?_)
  fin_cases a
  · rfl
  · show 0 + 1 * r.val = r.val; omega
  · show o + 1 * e.val = E.val; omega

/-- A head's rows of a block of cached keys, read at an index. -/
theorem every_at (x : Vec Ideal S1x12288x128 .f32) (o : ℕ) (inb : ∀ a, S1x512x128.size a = 0 ∨ (![0, o, 0] : Fin 3 → ℕ) a + (![1, 24, 1] : Fin 3 → ℕ) a * (S1x512x128.size a - 1) < S1x12288x128.size a)
    (j : Fin 512) (e : Fin 128) (J : Fin 12288) (hJ : J.val = j.val * 24 + o) : every x o inb (ix3 (0 : Fin 1) j e) = x (ix3 (0 : Fin 1) J e) := by
  refine congrArg x (funext fun a => Fin.ext ?_)
  fin_cases a
  · rfl
  · show o + 24 * j.val = J.val; omega
  · show 0 + 1 * e.val = e.val; omega

/-- A head's columns of the scratch, read at an index. -/
theorem ld_scr (x : Vec Ideal S24x32x544 .f32) (n o w : ℕ) (inb : ∀ a, (![n, 0, o] : Fin 3 → ℕ) a + (![1, 32, w] : Fin 3 → ℕ) a ≤ S24x32x544.size a) (h : Fin 24) (hn : n = h.val)
    (r : Fin 32) (e : Fin w) (E : Fin 544) (hE : o + e.val = E.val) :
    View.ld x (Rect.unit ![n, 0, o] ![1, 32, w] inb) (ix3 (0 : Fin 1) r e) = x (ix3 h r E) := by
  refine congrArg x (funext fun a => Fin.ext ?_)
  fin_cases a
  · exact hn
  · show 0 + 1 * r.val = r.val; omega
  · show o + 1 * e.val = E.val; omega

/-- A head's table row, read at an index. -/
theorem ld_table (x : Vec Ideal S24x1x2048 .f32) (n : ℕ) (inb : ∀ a, (![n, 0, 0] : Fin 3 → ℕ) a + (![1, 1, 2048] : Fin 3 → ℕ) a ≤ S24x1x2048.size a) (h : Fin 24) (hn : n = h.val) (e : Fin 2048) :
    View.ld x (Rect.unit ![n, 0, 0] ![1, 1, 2048] inb) (ix3 (0 : Fin 1) (0 : Fin 1) e) = x (ix3 h (0 : Fin 1) e) := by
  refine congrArg x (funext fun a => Fin.ext ?_)
  fin_cases a
  · exact hn
  · rfl
  · show 0 + 1 * e.val = e.val; omega

/-- A head's bias rows from its row of the table. -/
theorem scr_piece (x : Vec Ideal S24x1x2048 .f32) (n : ℕ) (inb : ∀ a, (![n, 0, 0] : Fin 3 → ℕ) a + (![1, 1, 2048] : Fin 3 → ℕ) a ≤ S24x1x2048.size a) (h : Fin 24) (r : Fin 32) (j : Fin 544) (y : S1x32x544.Idx)
    (h0 : h.val = n + (y 0).val) (y0 : (y 0).val < 1) (h1 : r.val = (y 1).val) (h2 : j.val = (y 2).val) :
    biasRows (View.ld x (Rect.unit ![n, 0, 0] ![1, 1, 2048] inb)) y = x (ix3 h 0 ⟨512 + j.val - r.val, by omega⟩) := by
  have e : y = ix3 0 r j := by
    have e0 : y 0 = (0 : Fin 1) := Fin.ext (by show (y 0).val = 0; omega)
    have e1 : y 1 = r := Fin.ext h1.symm
    have e2 : y 2 = j := Fin.ext h2.symm
    exact (eq_ix3 y).trans (by rw [e0, e1, e2])
  subst e
  refine (bias_at _ r j).trans ?_
  rw [ld_table x n inb h (by omega)]

/-- The carried scratch, read at a head, a row and a column. -/
theorem scr_at (x : Vec Ideal S24x1x2048 .f32) (h : Fin 24) (r : Fin 32) (j : Fin 544) :
    scr x (ix3 h r j) = x (ix3 h 0 ⟨512 + j.val - r.val, by omega⟩) := by
  unfold scr
  canon_tiles y hy
  · exact scr_piece x 23 _ h r j y hy0 y0_lt hy1 hy2
  · exact scr_piece x 22 _ h r j y hy0 y0_lt hy1 hy2
  · exact scr_piece x 21 _ h r j y hy0 y0_lt hy1 hy2
  · exact scr_piece x 20 _ h r j y hy0 y0_lt hy1 hy2
  · exact scr_piece x 19 _ h r j y hy0 y0_lt hy1 hy2
  · exact scr_piece x 18 _ h r j y hy0 y0_lt hy1 hy2
  · exact scr_piece x 17 _ h r j y hy0 y0_lt hy1 hy2
  · exact scr_piece x 16 _ h r j y hy0 y0_lt hy1 hy2
  · exact scr_piece x 15 _ h r j y hy0 y0_lt hy1 hy2
  · exact scr_piece x 14 _ h r j y hy0 y0_lt hy1 hy2
  · exact scr_piece x 13 _ h r j y hy0 y0_lt hy1 hy2
  · exact scr_piece x 12 _ h r j y hy0 y0_lt hy1 hy2
  · exact scr_piece x 11 _ h r j y hy0 y0_lt hy1 hy2
  · exact scr_piece x 10 _ h r j y hy0 y0_lt hy1 hy2
  · exact scr_piece x 9 _ h r j y hy0 y0_lt hy1 hy2
  · exact scr_piece x 8 _ h r j y hy0 y0_lt hy1 hy2
  · exact scr_piece x 7 _ h r j y hy0 y0_lt hy1 hy2
  · exact scr_piece x 6 _ h r j y hy0 y0_lt hy1 hy2
  · exact scr_piece x 5 _ h r j y hy0 y0_lt hy1 hy2
  · exact scr_piece x 4 _ h r j y hy0 y0_lt hy1 hy2
  · exact scr_piece x 3 _ h r j y hy0 y0_lt hy1 hy2
  · exact scr_piece x 2 _ h r j y hy0 y0_lt hy1 hy2
  · exact scr_piece x 1 _ h r j y hy0 y0_lt hy1 hy2
  · exact scr_piece x 0 _ h r j y (hy0.trans (Nat.zero_add _).symm) y0_lt hy1 hy2

/-- A query's score against a cached key, from the point's blocks. -/
def dot0 (q : Vec Ideal S1x32x3072 .f32) (kp : Vec Ideal S1x12288x128 .f32) (s : Vec Ideal S24x32x544 .f32) (h : Fin 24) (r : Fin 32) (c : Fin 512) : EReal :=
  (∑ e : Fin 128, q (ix3 0 r ⟨h.val * 128 + e.val, by omega⟩) * kp (ix3 0 ⟨c.val * 24 + h.val, by omega⟩ e)) * Ideal.ofBits FTy.f32 0x3DB504F3#32 + s (ix3 h r ⟨c.val, by omega⟩)

/-- A query's score against a new key, from the point's blocks. -/
def dot1 (q kc : Vec Ideal S1x32x3072 .f32) (s : Vec Ideal S24x32x544 .f32) (h : Fin 24) (r : Fin 32) (c : Fin 32) : EReal :=
  (∑ e : Fin 128, q (ix3 0 r ⟨h.val * 128 + e.val, by omega⟩) * kc (ix3 0 c ⟨h.val * 128 + e.val, by omega⟩)) * Ideal.ofBits FTy.f32 0x3DB504F3#32 + s (ix3 h r ⟨512 + c.val, by omega⟩)

/-- One row of one head's attention at a point, from the point's blocks. -/
def point (q : Vec Ideal S1x32x3072 .f32) (kp : Vec Ideal S1x12288x128 .f32) (kc : Vec Ideal S1x32x3072 .f32) (vp : Vec Ideal S1x12288x128 .f32) (vc : Vec Ideal S1x32x3072 .f32) (s : Vec Ideal S24x32x544 .f32)
    (h : Fin 24) (r : Fin 32) (d : Fin 128) : EReal :=
  Cert.Softmax.twoParts (Ideal.ofBits FTy.f32 0xFF800000#32) (Ideal.ofBits FTy.f32 0xFF800000#32)
    (dot0 q kp s h r) (fun c => vp (ix3 0 ⟨c.val * 24 + h.val, by omega⟩ d))
    (dot1 q kc s h r) (fun c => vc (ix3 0 c ⟨h.val * 128 + d.val, by omega⟩))

theorem out_piece (q : Vec Ideal S1x32x3072 .f32) (kp : Vec Ideal S1x12288x128 .f32) (kc : Vec Ideal S1x32x3072 .f32) (vp : Vec Ideal S1x12288x128 .f32) (vc : Vec Ideal S1x32x3072 .f32) (s : Vec Ideal S24x32x544 .f32)
    (o n : ℕ) (inb : ∀ a, (![0, 0, o] : Fin 3 → ℕ) a + (![1, 32, 128] : Fin 3 → ℕ) a ≤ S1x32x3072.size a)
    (every24 : ∀ a, S1x512x128.size a = 0 ∨ (![0, n, 0] : Fin 3 → ℕ) a + (![1, 24, 1] : Fin 3 → ℕ) a * (S1x512x128.size a - 1) < S1x12288x128.size a)
    (inb0 : ∀ a, (![n, 0, 0] : Fin 3 → ℕ) a + (![1, 32, 512] : Fin 3 → ℕ) a ≤ S24x32x544.size a)
    (inb1 : ∀ a, (![n, 0, 512] : Fin 3 → ℕ) a + (![1, 32, 32] : Fin 3 → ℕ) a ≤ S24x32x544.size a)
    (h : Fin 24) (r : Fin 32) (d : Fin 128) (y : S1x32x128.Idx) (hn : o = n * 128)
    (y0 : (y 0).val < 1) (h1 : r.val = (y 1).val) (y2 : (y 2).val < 128) (h2 : h.val * 128 + d.val = o + (y 2).val) :
    piece q kp kc vp vc s o n inb every24 inb0 inb1 y = point q kp kc vp vc s h r d := by
  have e : y = ix3 0 r d := by
    have e0 : y 0 = (0 : Fin 1) := Fin.ext (by show (y 0).val = 0; omega)
    have e1 : y 1 = r := Fin.ext h1.symm
    have e2 : y 2 = d := Fin.ext (by omega)
    exact (eq_ix3 y).trans (by rw [e0, e1, e2])
  have hh : n = h.val := by omega
  have hc : ∀ (x : Vec Ideal S1x32x3072 .f32) (r : Fin 32) (e : Fin 128), View.ld x (Rect.unit ![0, 0, o] ![1, 32, 128] inb) (ix3 0 r e) = x (ix3 0 r ⟨h.val * 128 + e.val, by omega⟩) :=
    fun x r e => ld_cols x o inb r e _ (by show o + e.val = h.val * 128 + e.val; omega)
  have hp : ∀ (x : Vec Ideal S1x12288x128 .f32) (c : Fin 512) (e : Fin 128), every x n every24 (ix3 0 c e) = x (ix3 0 ⟨c.val * 24 + h.val, by omega⟩ e) :=
    fun x c e => every_at x n every24 c e _ (by show c.val * 24 + h.val = c.val * 24 + n; omega)
  subst e
  refine (head_at _ _ _ _ _ _ _ r d).trans ?_
  unfold point
  have g0 : ∀ c : Fin 512, _ = dot0 q kp s h r c := fun c => congrArg₂ (· + ·) (congrArg (· * Ideal.ofBits FTy.f32 0x3DB504F3#32) (Finset.sum_congr rfl fun e _ => congrArg₂ (· * ·) (hc q r e) (hp kp c e)))
    (ld_scr s n 0 512 inb0 h hh r c ⟨c.val, by omega⟩ (by show 0 + c.val = c.val; omega))
  have g1 : ∀ c : Fin 32, _ = dot1 q kc s h r c := fun c => congrArg₂ (· + ·) (congrArg (· * Ideal.ofBits FTy.f32 0x3DB504F3#32) (Finset.sum_congr rfl fun e _ => congrArg₂ (· * ·) (hc q r e) (hc kc c e)))
    (ld_scr s n 512 32 inb1 h hh r c ⟨512 + c.val, by omega⟩ rfl)
  exact congr (congr (congr (congrArg (Cert.Softmax.twoParts _ _) (funext g0)) (funext fun c => hp vp c d)) (funext g1)) (funext fun c => hc vc c d)

theorem out_at (q : Vec Ideal S1x32x3072 .f32) (kp : Vec Ideal S1x12288x128 .f32) (kc : Vec Ideal S1x32x3072 .f32) (vp : Vec Ideal S1x12288x128 .f32) (vc : Vec Ideal S1x32x3072 .f32) (s : Vec Ideal S24x32x544 .f32)
    (h : Fin 24) (r : Fin 32) (d : Fin 128) :
    out q kp kc vp vc s (ix3 0 r ⟨h.val * 128 + d.val, by omega⟩) = point q kp kc vp vc s h r d := by
  unfold out
  canon_tiles y hy
  · exact out_piece q kp kc vp vc s 2944 23 _ _ _ _ h r d y rfl y0_lt hy1 y2_lt hy2
  · exact out_piece q kp kc vp vc s 2816 22 _ _ _ _ h r d y rfl y0_lt hy1 y2_lt hy2
  · exact out_piece q kp kc vp vc s 2688 21 _ _ _ _ h r d y rfl y0_lt hy1 y2_lt hy2
  · exact out_piece q kp kc vp vc s 2560 20 _ _ _ _ h r d y rfl y0_lt hy1 y2_lt hy2
  · exact out_piece q kp kc vp vc s 2432 19 _ _ _ _ h r d y rfl y0_lt hy1 y2_lt hy2
  · exact out_piece q kp kc vp vc s 2304 18 _ _ _ _ h r d y rfl y0_lt hy1 y2_lt hy2
  · exact out_piece q kp kc vp vc s 2176 17 _ _ _ _ h r d y rfl y0_lt hy1 y2_lt hy2
  · exact out_piece q kp kc vp vc s 2048 16 _ _ _ _ h r d y rfl y0_lt hy1 y2_lt hy2
  · exact out_piece q kp kc vp vc s 1920 15 _ _ _ _ h r d y rfl y0_lt hy1 y2_lt hy2
  · exact out_piece q kp kc vp vc s 1792 14 _ _ _ _ h r d y rfl y0_lt hy1 y2_lt hy2
  · exact out_piece q kp kc vp vc s 1664 13 _ _ _ _ h r d y rfl y0_lt hy1 y2_lt hy2
  · exact out_piece q kp kc vp vc s 1536 12 _ _ _ _ h r d y rfl y0_lt hy1 y2_lt hy2
  · exact out_piece q kp kc vp vc s 1408 11 _ _ _ _ h r d y rfl y0_lt hy1 y2_lt hy2
  · exact out_piece q kp kc vp vc s 1280 10 _ _ _ _ h r d y rfl y0_lt hy1 y2_lt hy2
  · exact out_piece q kp kc vp vc s 1152 9 _ _ _ _ h r d y rfl y0_lt hy1 y2_lt hy2
  · exact out_piece q kp kc vp vc s 1024 8 _ _ _ _ h r d y rfl y0_lt hy1 y2_lt hy2
  · exact out_piece q kp kc vp vc s 896 7 _ _ _ _ h r d y rfl y0_lt hy1 y2_lt hy2
  · exact out_piece q kp kc vp vc s 768 6 _ _ _ _ h r d y rfl y0_lt hy1 y2_lt hy2
  · exact out_piece q kp kc vp vc s 640 5 _ _ _ _ h r d y rfl y0_lt hy1 y2_lt hy2
  · exact out_piece q kp kc vp vc s 512 4 _ _ _ _ h r d y rfl y0_lt hy1 y2_lt hy2
  · exact out_piece q kp kc vp vc s 384 3 _ _ _ _ h r d y rfl y0_lt hy1 y2_lt hy2
  · exact out_piece q kp kc vp vc s 256 2 _ _ _ _ h r d y rfl y0_lt hy1 y2_lt hy2
  · exact out_piece q kp kc vp vc s 128 1 _ _ _ _ h r d y rfl y0_lt hy1 y2_lt hy2
  · exact out_piece q kp kc vp vc s 0 0 _ _ _ _ h r d y rfl y0_lt hy1 y2_lt (hy2.trans (Nat.zero_add _).symm)

end Cert.BandSampleIdeal.Attn
-- ==== Proof.BandSampleGather.lean ====
module

public import proofs.«01_k».proof.Proof.Gen.BandSampleRefIdeal.Run
public import Idealize.ShloMosaic.Lib.Pointwise

@[expose] public section

set_option maxRecDepth 16384

noncomputable section

open Idealize.ShloMosaic

namespace Cert.BandSampleRefIdeal.Attn

open Cert.BandSampleRefIdeal Cert.BandSampleRefIdeal.Gen

/-- The columns of a table taken at an array of column numbers, read at an index: the table at the number there,
    read as a signed integer and kept inside the table. -/
theorem gather_at (x : FVec Ideal S24x257 .f32) (i : IVec S32x544x1 32) (h : Fin 24) (q : Fin 32) (k : Fin 544) :
    Host.gather gather_S24x257_S32x544x1_S24x32x544_0_1_n_n_1_2_241 x i (ix3 h q k)
      = x (ix2 h ⟨min (i (ix3 q k (0 : Fin 1))).toInt.toNat 256, by omega⟩) := by
  unfold Host.gather
  refine congrArg x (funext fun a => Fin.ext ?_)
  generalize hG : gather_S24x257_S32x544x1_S24x32x544_0_1_n_n_1_2_241 = G
  show G.start (ix3 h q k) i a + G.batchCoord (ix3 h q k) a + G.offCoord (ix3 h q k) a = _
  subst hG
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin S24x257.rank) ∉ gather_S24x257_S32x544x1_S24x32x544_0_1_n_n_1_2_241.startIndexMap from by decide), Nat.zero_add]
    unfold GatherDims.offCoord
    rw [dif_pos ((GatherDims.mem_sKept _ _).mpr ⟨show (0 : Fin 2) ∉ ([1] : List (Fin 2)) by decide, List.not_mem_nil⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin S24x257.rank) ∈ gather_S24x257_S32x544x1_S24x32x544_0_1_n_n_1_2_241.startIndexMap from List.mem_singleton.mpr rfl)]
    refine congrArg (fun z => min (i z).toInt.toNat 256) (funext fun b => Fin.ext ?_)
    match b with
    | ⟨0, _⟩ => rfl
    | ⟨1, _⟩ => rfl
    | ⟨2, _⟩ => rfl

end Cert.BandSampleRefIdeal.Attn
-- ==== Proof.BandSampleRef.lean ====
module

public import proofs.«01_k».proof.Proof.BandSampleGather
public import proofs.«01_k».proof.Proof.BandSampleSpec
public import proofs.«01_k».proof.Proof.BandMask
public import proofs.«01_k».proof.Proof.RowMax

@[expose] public section

set_option maxRecDepth 16384

noncomputable section

open Idealize.ShloMosaic

namespace Cert.BandSampleRefIdeal.Attn

open Cert.BandSampleRefIdeal Cert.BandSampleRefIdeal.Gen Cert.BandS
open Cert.Band (col)
open Cert.BandRefIdeal.Attn (clip clip_up clip_down)

/-- The queries' positions: they follow the 512 cached keys. -/
def later : IVec S32 32 := addi (broadcastInDim S32 ![] bcast_S_S32 (constantI S_ 32 512#32)) (iotaInDim S32 32 0)

/-- The differences of the queries' and the keys' positions. -/
def gap : IVec S32x544 32 :=
  subi (broadcastInDim S32x544 ![0, 1] bcast_S32x1_S32x544_0_1 (broadcastInDim S32x1 ![0] bcast_S32_S32x1_0 later))
    (broadcastInDim S32x544 ![0, 1] bcast_S1x544_S32x544_0_1 (broadcastInDim S1x544 ![1] bcast_S544_S1x544_1 (iotaInDim S544 32 0)))

/-- The clipped distance of a query and a key. -/
def dist : IVec S32x544 32 :=
  addi (minsi (maxsi gap (broadcastInDim S32x544 ![] bcast_S_S32x544 (constantI S_ 32 4294967168#32)))
    (broadcastInDim S32x544 ![] bcast_S_S32x544 (constantI S_ 32 128#32))) (broadcastInDim S32x544 ![] bcast_S_S32x544 (constantI S_ 32 128#32))

/-- The bias's column for a query and a key. -/
def columns : IVec S32x544x1 32 :=
  broadcastInDim S32x544x1 ![0, 1] bcast_S32x544_S32x544x1_0_1
    (select (cmpi .slt dist (broadcastInDim S32x544 ![] bcast_S_S32x544 (constantI S_ 32 0#32)))
      (addi dist (broadcastInDim S32x544 ![] bcast_S_S32x544 (constantI S_ 32 257#32))) dist)

/-- Cached keys and new ones, or values, one after the other. -/
def joined (K : FVec Ideal S16x512x24x128 .f32) (Y : FVec Ideal S16x32x3072 .f32) : FVec Ideal S16x544x24x128 .f32 :=
  concatenate S16x544x24x128 1 [⟨S16x512x24x128, K⟩, ⟨S16x32x24x128, shapeCast _ Y shapeCasts_S16x32x3072_S16x32x24x128⟩] concatenates_S16x512x24x128_S16x32x24x128_S16x544x24x128_d1

/-- The scores from the queries, the keys and the bias. -/
def scores (X : FVec Ideal S16x32x10240 .f32) (J : FVec Ideal S16x544x24x128 .f32) (R : FVec Ideal S24x257 .f32) : FVec Ideal S16x24x32x544 .f32 :=
  addf (mulf (Host.dotGeneral dot_S16x32x24x128_S16x544x24x128_S16x24x32x544_3_3_1_1_02_02 none
      (shapeCast _ (extractStridedSlice S16x32x3072 ![0, 0, 0] X slices_S16x32x10240_S16x32x3072_0_0_0) shapeCasts_S16x32x3072_S16x32x24x128) J)
    (broadcastInDim S16x24x32x544 ![] bcast_S_S16x24x32x544 (constant S_ .f32 0x3DB504F3#32)))
    (broadcastInDim S16x24x32x544 ![0, 1, 2, 3] bcast_S1x24x32x544_S16x24x32x544_0_1_2_3 (broadcastInDim S1x24x32x544 ![1, 2, 3] bcast_S24x32x544_S1x24x32x544_1_2_3
      (Host.gather gather_S24x257_S32x544x1_S24x32x544_0_1_n_n_1_2_241 R columns)))

/-- Each row's largest score. -/
def tops (S : FVec Ideal S16x24x32x544 .f32) : FVec Ideal S16x24x32 .f32 :=
  maximumf (broadcastInDim S16x24x32 ![] bcast_S_S16x24x32 (constant S_ .f32 0xFF800000#32))
    (Host.reduce FloatOps.maximumf S (constant S_ .f32 0xFF800000#32) reducesTo_S16x24x32x544_S16x24x32_d3 h_S_)

/-- A row's number spread over the row. -/
def rows (T : FVec Ideal S16x24x32 .f32) : FVec Ideal S16x24x32x544 .f32 :=
  broadcastInDim S16x24x32x544 ![0, 1, 2, 3] bcast_S16x24x32x1_S16x24x32x544_0_1_2_3 (broadcastInDim S16x24x32x1 ![0, 1, 2] bcast_S16x24x32_S16x24x32x1_0_1_2 T)

/-- The exponentials over each row's largest score. -/
def exps (S : FVec Ideal S16x24x32x544 .f32) : FVec Ideal S16x24x32x544 .f32 :=
  Host.exp (subf S (rows (tops S)))

/-- The weights: each row's exponentials over their sum. -/
def weights (E : FVec Ideal S16x24x32x544 .f32) : FVec Ideal S16x24x32x544 .f32 :=
  Host.divf E (rows (Host.reduceAdd E (constant S_ .f32 0x00000000#32) reducesTo_S16x24x32x544_S16x24x32_d3 h_S_))

/-- The values under the weights, heads side by side. -/
def mixed (J : FVec Ideal S16x544x24x128 .f32) (W : FVec Ideal S16x24x32x544 .f32) : FVec Ideal S16x32x3072 .bf16 :=
  truncf .bf16 (shapeCast _ (transpose S16x32x24x128 [0, 3, 1, 2] (Host.dotGeneral dot_S16x544x24x128_S16x24x32x544_S16x24x128x32_1_3_3_2_02_01 none J W)
    transposes_S16x24x128x32_S16x32x24x128_0_3_1_2) shapeCasts_S16x32x24x128_S16x32x3072) bitsLt_bf16_f32

/-- The keys' or the values' columns of the rows. -/
def part (o : Fin 3 → ℕ) (h : S16x32x10240.Slices o S16x32x3072) (X : FVec Ideal S16x32x10240 .f32) : FVec Ideal S16x32x3072 .f32 :=
  extractStridedSlice S16x32x3072 o X h

/-- The reference's term of its four arguments. -/
def ref (X : FVec Ideal S16x32x10240 .f32) (K U : FVec Ideal S16x512x24x128 .f32) (R : FVec Ideal S24x257 .f32) : FVec Ideal S16x32x3072 .bf16 :=
  mixed (joined U (part ![0, 0, 6144] slices_S16x32x10240_S16x32x3072_0_0_6144 X))
    (weights (exps (scores X (joined K (part ![0, 0, 3072] slices_S16x32x10240_S16x32x3072_0_0_3072 X)) R)))

theorem res_eq (m : (ℓ : Loc nD τ sig) → Buf (Elt Ideal) ℓ) (c : Dev nD) :
    Value.res_main_v50 m c = ref (m ((c.tc : Thread nD τ).loc main_arg0)) (m ((c.tc : Thread nD τ).loc main_arg1)) (m ((c.tc : Thread nD τ).loc main_arg2)) (m ((c.tc : Thread nD τ).loc main_arg3)) := rfl

theorem gap_at (q : Fin 32) (k : Fin 544) : gap (ix2 q k) = BitVec.ofNat 32 (512 + q.val) - BitVec.ofNat 32 k.val := by
  have h : ∀ q : Fin 32, later (ix1 q) = BitVec.ofNat 32 (512 + q.val) := by decide +kernel
  rw [← h q]
  pointwise [gap]
  rfl

theorem columns_at (q : Fin 32) (k : Fin 544) : (columns (ix3 q k (0 : Fin 1))).toInt.toNat = min (640 + q.val - k.val) 256 := by
  have e : columns (ix3 q k (0 : Fin 1)) = clip (BitVec.ofNat 32 (512 + q.val) - BitVec.ofNat 32 k.val) := by
    rw [← gap_at]
    pointwise [columns, dist, clip]
  rw [e]
  by_cases h : k.val ≤ 512 + q.val
  · have e2 : BitVec.ofNat 32 (512 + q.val) - BitVec.ofNat 32 k.val = BitVec.ofNat 32 (512 + q.val - k.val) := by
      apply BitVec.eq_of_toNat_eq
      simp only [BitVec.toNat_sub, BitVec.toNat_ofNat]
      omega
    rw [e2]
    refine (clip_up ⟨512 + q.val - k.val, by omega⟩).trans ?_
    show min (512 + q.val - k.val + 128) 256 = _
    omega
  · have e2 : BitVec.ofNat 32 (512 + q.val) - BitVec.ofNat 32 k.val = -BitVec.ofNat 32 (k.val - (512 + q.val)) := by
      apply BitVec.eq_of_toNat_eq
      simp only [BitVec.toNat_sub, BitVec.toNat_neg, BitVec.toNat_ofNat]
      omega
    rw [e2]
    refine (clip_down ⟨k.val - (512 + q.val), by omega⟩).trans ?_
    show 128 - (k.val - (512 + q.val)) = _
    omega

theorem joined_at (K : FVec Ideal S16x512x24x128 .f32) (Y : FVec Ideal S16x32x3072 .f32) (b : Fin 16) (k : Fin 544) (h : Fin 24) (e : Fin 128) :
    joined K Y (ix4 b k h e) = if hk : k.val < 512 then K (ix4 b ⟨k.val, hk⟩ h e) else Y (ix3 b ⟨k.val - 512, by omega⟩ ⟨h.val * 128 + e.val, by omega⟩) := by
  pointwise [joined]

theorem keys_at (K : FVec Ideal S16x512x24x128 .f32) (X : FVec Ideal S16x32x10240 .f32) (b : Fin 16) (k : Fin 544) (h : Fin 24) (e : Fin 128) :
    joined K (part ![0, 0, 3072] slices_S16x32x10240_S16x32x3072_0_0_3072 X) (ix4 b k h e) = entry K X 3072 (by omega) b h k e := by
  rw [joined_at]
  unfold entry col
  refine dite_congr rfl (fun _ => rfl) fun _ => ?_
  pointwise [part]
  simp only [Nat.add_assoc]

theorem values_at (K : FVec Ideal S16x512x24x128 .f32) (X : FVec Ideal S16x32x10240 .f32) (b : Fin 16) (k : Fin 544) (h : Fin 24) (e : Fin 128) :
    joined K (part ![0, 0, 6144] slices_S16x32x10240_S16x32x3072_0_0_6144 X) (ix4 b k h e) = entry K X 6144 (by omega) b h k e := by
  rw [joined_at]
  unfold entry col
  refine dite_congr rfl (fun _ => rfl) fun _ => ?_
  pointwise [part]
  simp only [Nat.add_assoc]

theorem scores_at (X : FVec Ideal S16x32x10240 .f32) (J : FVec Ideal S16x544x24x128 .f32) (R : FVec Ideal S24x257 .f32) (b : Fin 16) (h : Fin 24) (q : Fin 32) (k : Fin 544) :
    scores X J R (ix4 b h q k) = (∑ e : Fin 128, X (ix3 b q (col 0 h e (by omega))) * J (ix4 b k h e)) * Ideal.ofBits .f32 0x3DB504F3#32
        + R (ix2 h ⟨min (columns (ix3 q k (0 : Fin 1))).toInt.toNat 256, by omega⟩) := by
  rw [← gather_at R columns h q k]
  unfold col
  pointwise [scores]

theorem score_at (X : FVec Ideal S16x32x10240 .f32) (K : FVec Ideal S16x512x24x128 .f32) (R : FVec Ideal S24x257 .f32) (b : Fin 16) (h : Fin 24) (q : Fin 32) (k : Fin 544) :
    scores X (joined K (part ![0, 0, 3072] slices_S16x32x10240_S16x32x3072_0_0_3072 X)) R (ix4 b h q k) = score X K R b h q k := by
  rw [scores_at]
  unfold score
  refine congrArg₂ (· + ·) (congrArg (· * _) (Finset.sum_congr rfl fun e _ => congrArg (_ * ·) (keys_at K X b k h e))) (congrArg R (congrArg (ix2 h) (Fin.ext ?_)))
  show min (columns (ix3 q k (0 : Fin 1))).toInt.toNat 256 = min (640 + q.val - k.val) 256
  rw [columns_at]
  omega

theorem rows_at (T : FVec Ideal S16x24x32 .f32) (b : Fin 16) (h : Fin 24) (q : Fin 32) (k : Fin 544) : rows T (ix4 b h q k) = T (ix3 b h q) := by
  pointwise [rows]

theorem tops_at (S : FVec Ideal S16x24x32x544 .f32) (b : Fin 16) (h : Fin 24) (q : Fin 32) :
    tops S (ix3 b h q) = max (Ideal.ofBits .f32 0xFF800000#32)
      (Finset.univ.fold max (Ideal.ofBits .f32 0xFF800000#32) fun l : Fin 544 => S (ix4 b h q l)) := by
  exact Softmax.row_max S 0xFF800000#32 0xFF800000#32 bcast_S_S16x24x32 reducesTo_S16x24x32x544_S16x24x32_d3 h_S_ b h q

theorem exps_at (S : FVec Ideal S16x24x32x544 .f32) (b : Fin 16) (h : Fin 24) (q : Fin 32) (k : Fin 544) :
    exps S (ix4 b h q k) = Ideal.exp (S (ix4 b h q k) - tops S (ix3 b h q)) := by
  rw [← rows_at (tops S) b h q k]
  rfl

theorem weights_at (E : FVec Ideal S16x24x32x544 .f32) (b : Fin 16) (h : Fin 24) (q : Fin 32) (k : Fin 544) :
    weights E (ix4 b h q k) = Ideal.div (E (ix4 b h q k)) (∑ l : Fin 544, E (ix4 b h q l)) := by
  pointwise [weights, rows]

theorem mixed_at (J : FVec Ideal S16x544x24x128 .f32) (W : FVec Ideal S16x24x32x544 .f32) (b : Fin 16) (h : Fin 24) (q : Fin 32) (d : Fin 128) :
    mixed J W (ix3 b q ⟨h.val * 128 + d.val, by omega⟩) = ∑ k : Fin 544, W (ix4 b h q k) * J (ix4 b k h d) := by
  pointwise [mixed]
  exact Finset.sum_congr rfl fun k _ => mul_comm _ _

/-- The reference's result is every query's attention over cached and new keys. -/
theorem ref_at (X : FVec Ideal S16x32x10240 .f32) (K U : FVec Ideal S16x512x24x128 .f32) (R : FVec Ideal S24x257 .f32) (b : Fin 16) (h : Fin 24) (q : Fin 32) (d : Fin 128) :
    ref X K U R (ix3 b q ⟨h.val * 128 + d.val, by omega⟩) = attend X K U R b h q d := by
  unfold ref
  rw [mixed_at]
  simp only [weights_at, exps_at, tops_at, score_at, values_at]
  rfl

end Cert.BandSampleRefIdeal.Attn
-- ==== Proof.BandSamplePoint.lean ====
module

public import proofs.«01_k».proof.Proof.BandSampleHead
public import proofs.«01_k».proof.Proof.BandSampleRef
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.BandSampleIdeal.Attn

open Cert.BandSampleIdeal Cert.BandSampleIdeal.Gen Cert.BandS
open Cert.Band (Bias col)

variable (m : (ℓ : Loc nD τ sig) → Buf (Elt Ideal) ℓ)

/-- The rows a device was given. -/
abbrev X (c : Dev nD) : Rows := m ((c : Thread nD τ).loc main_arg0)
/-- The cached keys a device was given. -/
abbrev K (c : Dev nD) : Slots := m ((c : Thread nD τ).loc main_arg1)
/-- The cached values a device was given. -/
abbrev U (c : Dev nD) : Slots := m ((c : Thread nD τ).loc main_arg2)
/-- The bias a device was given. -/
abbrev R (c : Dev nD) : Bias := m ((c : Thread nD τ).loc main_arg3)

/-- The sample of a grid point. -/
def bat (t : Fin cfg0.N) : Fin 16 := ⟨t.val, t.isLt⟩

theorem q_at (c : Dev nD) (t : Fin cfg0.N) (h : Fin 24) (r : Fin 32) (e : Fin 128) :
    X0_0 m c t (ix3 0 r ⟨h.val * 128 + e.val, by omega⟩) = X m c (ix3 (bat t) r (col 0 h e (by omega))) := by
  unfold bat col X0_0 Pipeline.Window.fill
  rw [dif_pos (moved0_0 t _)]
  blk_ext [iblk, V, idx t]

theorem kc_at (c : Dev nD) (t : Fin cfg0.N) (h : Fin 24) (r : Fin 32) (e : Fin 128) :
    X0_2 m c t (ix3 0 r ⟨h.val * 128 + e.val, by omega⟩) = X m c (ix3 (bat t) r (col 3072 h e (by omega))) := by
  unfold bat col X0_2 Pipeline.Window.fill
  rw [dif_pos (moved0_2 t _)]
  blk_ext [iblk, V, idx t]

theorem vc_at (c : Dev nD) (t : Fin cfg0.N) (h : Fin 24) (r : Fin 32) (e : Fin 128) :
    X0_4 m c t (ix3 0 r ⟨h.val * 128 + e.val, by omega⟩) = X m c (ix3 (bat t) r (col 6144 h e (by omega))) := by
  unfold bat col X0_4 Pipeline.Window.fill
  rw [dif_pos (moved0_4 t _)]
  blk_ext [iblk, V, idx t]

/-- The cached keys laid out in rows of 128 columns, read at an index. -/
theorem rows_at (a : FVec Ideal S16x512x24x128 .f32) (b : Fin 16) (P : Fin 12288) (e : Fin 128) :
    shapeCast S16x12288x128 a shapeCasts_S16x512x24x128_S16x12288x128 (ix3 b P e) = a (ix4 b ⟨P.val / 24, by omega⟩ ⟨P.val % 24, by omega⟩ e) := by
  pointwise

theorem slot_at (a : FVec Ideal S16x512x24x128 .f32) (b : Fin 16) (j : Fin 512) (h : Fin 24) (e : Fin 128) :
    shapeCast S16x12288x128 a shapeCasts_S16x512x24x128_S16x12288x128 (ix3 b ⟨j.val * 24 + h.val, by omega⟩ e) = a (ix4 b j h e) := by
  refine (rows_at a b _ e).trans (congrArg a ?_)
  have e1 : (⟨(j.val * 24 + h.val) / 24, by omega⟩ : Fin 512) = j := Fin.ext (by show (j.val * 24 + h.val) / 24 = j.val; omega)
  have e2 : (⟨(j.val * 24 + h.val) % 24, by omega⟩ : Fin 24) = h := Fin.ext (by show (j.val * 24 + h.val) % 24 = h.val; omega)
  exact congr (congr (congrArg (ix4 b) e1) e2) rfl

theorem kp_at (c : Dev nD) (t : Fin cfg0.N) (j : Fin 512) (h : Fin 24) (e : Fin 128) :
    iblk m c 1 t (ix3 0 ⟨j.val * 24 + h.val, by omega⟩ e) = K m c (ix4 (bat t) j h e) := by
  have e0 : V m c main_v0 = shapeCast S16x12288x128 (K m c) shapeCasts_S16x512x24x128_S16x12288x128 := by
    entry_read
    rfl
  have e1 : ∀ (P : Fin 12288) (L : Fin 128), iblk m c 1 t (ix3 0 P L) = V m c main_v0 (ix3 (bat t) P L) := by
    intro P L
    unfold bat
    blk_ext [iblk, idx t]
  exact (e1 _ _).trans ((congrFun e0 _).trans (slot_at _ (bat t) j h e))

theorem vp_at (c : Dev nD) (t : Fin cfg0.N) (j : Fin 512) (h : Fin 24) (e : Fin 128) :
    iblk m c 3 t (ix3 0 ⟨j.val * 24 + h.val, by omega⟩ e) = U m c (ix4 (bat t) j h e) := by
  have e0 : V m c main_v1 = shapeCast S16x12288x128 (U m c) shapeCasts_S16x512x24x128_S16x12288x128 := by
    entry_read
    rfl
  have e1 : ∀ (P : Fin 12288) (L : Fin 128), iblk m c 3 t (ix3 0 P L) = V m c main_v1 (ix3 (bat t) P L) := by
    intro P L
    unfold bat
    blk_ext [iblk, idx t]
  exact (e1 _ _).trans ((congrFun e0 _).trans (slot_at _ (bat t) j h e))

/-- The host's table of the bias, laid out by distance. -/
def table (a : Bias) : FVec Ideal S24x1x2048 .f32 :=
  broadcastInDim S24x1x2048 ![0, 2] bcast_S24x2048_S24x1x2048_0_2
    (concatenate S24x2048 1 [⟨S24x896, broadcastInDim S24x896 ![0, 1] bcast_S24x1_S24x896_0_1 (extractStridedSlice S24x1 ![0, 256] a slices_S24x257_S24x1_0_256)⟩,
      ⟨S24x257, Host.reverse [1] a⟩,
      ⟨S24x895, broadcastInDim S24x895 ![0, 1] bcast_S24x1_S24x895_0_1 (extractStridedSlice S24x1 ![0, 0] a slices_S24x257_S24x1_0_0)⟩] concatenates_S24x896_S24x257_S24x895_S24x2048_d1)

set_option maxHeartbeats 2000000 in
/-- The host's lines leave the table of the bias where the kernel's window reads. -/
theorem entry_table (σ : Valuation τ sig (Elt Ideal)) : StableHlo.after hostOps0 σ (main_v8 : Ref sig .tc) = table (σ (main_arg3 : Ref sig .tc)) := by
  unfold hostOps0 table
  after_results_entrywise (rounds := 1) []

theorem table_at (a : Bias) (H : Fin 24) (x : Fin 2048) :
    table a (ix3 H 0 x) = a (ix2 H ⟨min (1152 - x.val) 256, by omega⟩) := by
  pointwise [table]
  by_cases h1 : x.val < 896
  · rw [dif_pos h1]
    exact congrArg a (congrArg (ix2 H) (Fin.ext (by show 256 = min (1152 - x.val) 256; omega)))
  · rw [dif_neg h1]
    by_cases h2 : x.val - 896 < 257
    · rw [dif_pos h2]
      exact congrArg a (congrArg₂ ix2 (if_neg (by decide)) ((if_pos (by decide)).trans
        (Fin.ext (by show 257 - (x.val - 896 + 1) = min (1152 - x.val) 256; omega))))
    · rw [dif_neg h2]
      exact congrArg a (congrArg (ix2 H) (Fin.ext (by show 0 = min (1152 - x.val) 256; omega)))

theorem tab_at (c : Dev nD) (t : Fin cfg0.N) (h : Fin 24) (x : Fin 2048) :
    iblk m c 5 t (ix3 h 0 x) = R m c (ix2 h ⟨min (1152 - x.val) 256, by omega⟩) := by
  have e1 : V m c main_v8 = table (R m c) := entry_table (fun b => m (c, b))
  have e2 : iblk m c 5 t (ix3 h 0 x) = V m c main_v8 (ix3 h 0 x) := by
    blk_ext [iblk, idx t]
  rw [e2, e1, table_at]

/-- The scratch's entry for a query and a key is the bias of their distance. -/
theorem scr_rel (c : Dev nD) (t : Fin cfg0.N) (h : Fin 24) (r : Fin 32) (j : Fin 544) :
    scr (iblk m c 5 t) (ix3 h r j) = R m c (ix2 h (rel r j)) := by
  rw [scr_at, tab_at]
  exact congrArg (R m c) (congrArg (ix2 h) (Fin.ext (by
    show min (1152 - (512 + j.val - r.val)) 256 = min (640 + r.val - j.val) 256
    omega)))

theorem entry_old (A : Slots) (Y : Rows) (o : ℕ) (ho : o ≤ 6144) (b : Fin 16) (h : Fin 24) (k : Fin 512) (e : Fin 128) :
    entry A Y o ho b h (Fin.castAdd 32 k) e = A (ix4 b k h e) := dif_pos k.isLt

theorem entry_new (A : Slots) (Y : Rows) (o : ℕ) (ho : o ≤ 6144) (b : Fin 16) (h : Fin 24) (k : Fin 32) (e : Fin 128) :
    entry A Y o ho b h (Fin.natAdd 512 k) e = Y (ix3 b k (col o h e ho)) :=
  (dif_neg (Nat.not_lt.2 (Nat.le_add_right 512 k.val))).trans (congrArg (fun z => Y (ix3 b z (col o h e ho))) (Fin.ext (Nat.add_sub_cancel_left 512 k.val)))

theorem low_ne_top : Ideal.ofBits .f32 0xFF800000#32 ≠ ⊤ := by
  rw [Cert.Band.low]
  exact bot_ne_top

/-- A grid point's row of a head is that query's attention over cached and new keys. -/
theorem point_at (c : Dev nD) (t : Fin cfg0.N) (h : Fin 24) (r : Fin 32) (d : Fin 128)
    (hS : ∀ k, ∃ x : ℝ, score (X m c) (K m c) (R m c) (bat t) h r k = (x : EReal)) :
    point (X0_0 m c t) (iblk m c 1 t) (X0_2 m c t) (iblk m c 3 t) (X0_4 m c t) (scr (iblk m c 5 t)) h r d
      = attend (X m c) (K m c) (U m c) (R m c) (bat t) h r d := by
  refine Eq.trans ?_ (Softmax.parts_row (n := 512) (p := 32) (Ideal.ofBits .f32 0xFF800000#32) (Ideal.ofBits .f32 0xFF800000#32) _ _ low_ne_top low_ne_top low_ne_top low_ne_top
    (score (X m c) (K m c) (R m c) (bat t) h r) (fun k => entry (U m c) (X m c) 6144 (by omega) (bat t) h k d) hS 0)
  unfold point
  refine congr (congr (congr (congrArg (Softmax.twoParts _ _) (funext fun k => ?_)) (funext fun k => ?_)) (funext fun k => ?_)) (funext fun k => ?_)
  · refine congrArg₂ (· + ·) (congrArg (· * _) (Finset.sum_congr rfl fun e _ => congrArg₂ (· * ·) (q_at m c t h r e) ?_)) (scr_rel m c t h r _)
    exact (kp_at m c t k h e).trans (entry_old _ _ _ _ _ _ k e).symm
  · exact (vp_at m c t k h d).trans (entry_old _ _ _ _ _ _ k d).symm
  · refine congrArg₂ (· + ·) (congrArg (· * _) (Finset.sum_congr rfl fun e _ => congrArg₂ (· * ·) (q_at m c t h r e) ?_)) (scr_rel m c t h r _)
    exact (kc_at m c t h k e).trans (entry_new _ _ _ _ _ _ k e).symm
  · exact (vc_at m c t h k d).trans (entry_new _ _ _ _ _ _ k d).symm

end Cert.BandSampleIdeal.Attn
-- ==== Proof.BandSample.lean ====
module

public import proofs.«01_k».proof.Proof.BandSamplePoint
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BandSampleIdeal.Attn

open Cert.BandSampleIdeal Cert.BandSampleIdeal.Gen Cert.BandS

variable (m : (ℓ : Loc nD τ sig) → Buf (Elt Ideal) ℓ)

/-- What a point leaves at an index of its block is the reference's entry there. -/
theorem point_eq [Cert.Pre_band_sample_finite.Facts] (c : Dev nD) (hf : Cert.Pre_band_sample_finite.fn (F := Ideal) (X m c) (K m c) (U m c) (R m c) = fun _ => 1#1) (t : Fin cfg0.N)
    (y : (⟨3, ![1, 32, 3072]⟩ : Shape).Idx) (z : (⟨3, ![16, 32, 3072]⟩ : Shape).Idx)
    (h0 : (z 0).val = t.val) (h1 : (z 1).val = (y 1).val) (h2 : (z 2).val = (y 2).val) :
    (outsAt0 m c t.val t.isLt).1 y = Cert.BandSampleRefIdeal.Attn.ref (X m c) (K m c) (U m c) (R m c) z := by
  have y0 : (y 0).val < 1 := (y 0).isLt
  have y1 : (y 1).val < 32 := (y 1).isLt
  have y2 : (y 2).val < 3072 := (y 2).isLt
  have q0 : (y 2).val / 128 < 24 := by omega
  have q1 : (y 2).val % 128 < 128 := by omega
  have q2 : (y 2).val / 128 * 128 + (y 2).val % 128 < 3072 := by omega
  have e0 : (y 0).val = 0 := by omega
  have e2 : (y 2).val = (y 2).val / 128 * 128 + (y 2).val % 128 := by omega
  have ey : y = ix3 (0 : Fin 1) (⟨(y 1).val, y1⟩ : Fin 32) (⟨(y 2).val / 128 * 128 + (y 2).val % 128, q2⟩ : Fin 3072) :=
    (eq_ix3 y).trans (congr (congr (congrArg ix3 (Fin.ext e0)) (Fin.ext rfl)) (Fin.ext e2))
  have ez : z = ix3 (bat t) (⟨(y 1).val, y1⟩ : Fin 32) (⟨(y 2).val / 128 * 128 + (y 2).val % 128, q2⟩ : Fin 3072) :=
    (eq_ix3 z).trans (congr (congr (congrArg ix3 (Fin.ext h0)) (Fin.ext h1)) (Fin.ext (h2.trans e2)))
  rw [out_eq, ez]
  refine (congrArg _ ey).trans ?_
  refine (out_at _ _ _ _ _ _ ⟨(y 2).val / 128, q0⟩ ⟨(y 1).val, y1⟩ ⟨(y 2).val % 128, q1⟩).trans ?_
  refine (point_at m c t _ _ _ (score_real _ _ _ _ hf _ _ _)).trans ?_
  exact (Cert.BandSampleRefIdeal.Attn.ref_at (X m c) (K m c) (U m c) (R m c) (bat t) _ _ ⟨(y 2).val % 128, q1⟩).symm

theorem final [Cert.Pre_band_sample_finite.Facts] (c : Dev nD) (hf : Cert.Pre_band_sample_finite.fn (F := Ideal) (X m c) (K m c) (U m c) (R m c) = fun _ => 1#1) :
    (dats m 0 c).arrAt 6 (cfgs 0).N = Cert.BandSampleRefIdeal.Attn.ref (X m c) (K m c) (U m c) (R m c) := by
  refine (dats m 0 c).arrAt_eq_of_covers 6 _ (by decide +kernel) fun t _ y => ?_
  blk_simp
  rw [after0_6]
  refine point_eq m c hf t y _ ?_ ?_ ?_
  · blk_simp [idx t]
  · blk_simp [idx t]
  · blk_simp [idx t]

end Cert.BandSampleIdeal.Attn

/-- The kernel's result is the attention of the reference on the samples, whenever queries, keys and bias are real numbers. -/
theorem Cert.Proof.band_sample [Cert.Pre_band_sample_finite.Facts] : Cert.algebraic_BandSampleIdeal_BandSampleRefIdeal_pre_band_sample_finite := by
  pair_intro
  · run_from Cert.BandSampleIdeal.Gen.run_main m g
  · run_from Cert.BandSampleRefIdeal.Value.run m' g'
    rw [Cert.BandSampleIdeal.Attn.final m c (hpre c)]
    refine (Cert.BandSampleRefIdeal.Attn.res_eq m' c).trans ?_
    exact congr (congr (congr (congrArg Cert.BandSampleRefIdeal.Attn.ref (hagree c).1) (hagree c).2.1) (hagree c).2.2.1) (hagree c).2.2.2
-- ==== Proof.Cast.lean ====
module

public import proofs.«01_k».proof.Defs
public import proofs.«01_k».proof.Proof.Gen.KvWeightFirstIdeal.Value
public import proofs.«01_k».proof.Proof.Gen.KvWeightFirstRefIdeal.Run
public import proofs.«01_k».proof.Proof.Gen.KvWeightSecondIdeal.Value
public import proofs.«01_k».proof.Proof.Gen.KvWeightSecondRefIdeal.Run
public import proofs.«01_k».proof.Proof.Gen.InAWeightIdeal.Value
public import proofs.«01_k».proof.Proof.Gen.InAWeightRefIdeal.Run
public import proofs.«01_k».proof.Proof.Gen.InBWeightIdeal.Value
public import proofs.«01_k».proof.Proof.Gen.InBWeightRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvWeightFirstIdeal.Cast

open Cert.KvWeightFirstIdeal Cert.KvWeightFirstIdeal.Gen

variable (m : (ℓ : Loc nD τ sig) → Buf (Elt Ideal) ℓ)

/-- The blocks at a grid point: consecutive row blocks of one layer. -/
theorem idx : ∀ t : Fin cfg0.N, win0_0.index t = ![0, t.val, 0] ∧ win0_1.index t = ![t.val, 0] :=
  (by decide +kernel : ∀ t : Fin grid0.N, _)

/-- The reference's term of the stacked weights. -/
abbrev ref (w : FVec Ideal S2x4096x2048 .f32) : FVec Ideal S4096x2048 .bf16 :=
  truncf .bf16 (shapeCast Cert.KvWeightFirstRefIdeal.S4096x2048 (extractStridedSlice Cert.KvWeightFirstRefIdeal.S1x4096x2048 ![0, 0, 0] w Cert.KvWeightFirstRefIdeal.Gen.slices_S2x4096x2048_S1x4096x2048_0_0_0) Cert.KvWeightFirstRefIdeal.Gen.shapeCasts_S1x4096x2048_S4096x2048) Cert.KvWeightFirstRefIdeal.Gen.bitsLt_bf16_f32

theorem point (c : Dev nD) (t : Fin cfg0.N) (y) :
    k0_pay1 (iblk m c 0 t) y = ref (m ((c : Thread nD τ).loc main_arg0)) (((cfg0.win 1).blk t).view.emb y) := by
  pointwise [k0_pay1, ref]
  blk_point [iblk, V, idx t]

theorem final (c : Dev nD) : (dats m 0 c).arrAt 1 (cfgs 0).N = ref (m ((c : Thread nD τ).loc main_arg0)) := by
  refine (dats m 0 c).arrAt_eq_of_covers 1 _ (by decide +kernel) fun t _ y => ?_
  blk_simp
  rw [after0_1]
  frame_out
  exact point m c t y

end Cert.KvWeightFirstIdeal.Cast

theorem Cert.Proof.kv_weight_first : Cert.algebraic_KvWeightFirstIdeal_KvWeightFirstRefIdeal := by
  pair_intro
  · run_from Cert.KvWeightFirstIdeal.Gen.run_main m g
  · hlo_run
    exact (Cert.KvWeightFirstIdeal.Cast.final m c).symm

namespace Cert.KvWeightSecondIdeal.Cast

open Cert.KvWeightSecondIdeal Cert.KvWeightSecondIdeal.Gen

variable (m : (ℓ : Loc nD τ sig) → Buf (Elt Ideal) ℓ)

/-- The blocks at a grid point: consecutive row blocks of one layer. -/
theorem idx : ∀ t : Fin cfg0.N, win0_0.index t = ![1, t.val, 0] ∧ win0_1.index t = ![t.val, 0] :=
  (by decide +kernel : ∀ t : Fin grid0.N, _)

/-- The reference's term of the stacked weights. -/
abbrev ref (w : FVec Ideal S2x4096x2048 .f32) : FVec Ideal S4096x2048 .bf16 :=
  truncf .bf16 (shapeCast Cert.KvWeightSecondRefIdeal.S4096x2048 (extractStridedSlice Cert.KvWeightSecondRefIdeal.S1x4096x2048 ![1, 0, 0] w Cert.KvWeightSecondRefIdeal.Gen.slices_S2x4096x2048_S1x4096x2048_1_0_0) Cert.KvWeightSecondRefIdeal.Gen.shapeCasts_S1x4096x2048_S4096x2048) Cert.KvWeightSecondRefIdeal.Gen.bitsLt_bf16_f32

theorem point (c : Dev nD) (t : Fin cfg0.N) (y) :
    k0_pay1 (iblk m c 0 t) y = ref (m ((c : Thread nD τ).loc main_arg0)) (((cfg0.win 1).blk t).view.emb y) := by
  pointwise [k0_pay1, ref]
  blk_point [iblk, V, idx t]

theorem final (c : Dev nD) : (dats m 0 c).arrAt 1 (cfgs 0).N = ref (m ((c : Thread nD τ).loc main_arg0)) := by
  refine (dats m 0 c).arrAt_eq_of_covers 1 _ (by decide +kernel) fun t _ y => ?_
  blk_simp
  rw [after0_1]
  frame_out
  exact point m c t y

end Cert.KvWeightSecondIdeal.Cast

theorem Cert.Proof.kv_weight_second : Cert.algebraic_KvWeightSecondIdeal_KvWeightSecondRefIdeal := by
  pair_intro
  · run_from Cert.KvWeightSecondIdeal.Gen.run_main m g
  · hlo_run
    exact (Cert.KvWeightSecondIdeal.Cast.final m c).symm

namespace Cert.InAWeightIdeal.Cast

open Cert.InAWeightIdeal Cert.InAWeightIdeal.Gen

variable (m : (ℓ : Loc nD τ sig) → Buf (Elt Ideal) ℓ)

/-- The blocks at a grid point: consecutive row blocks of one layer. -/
theorem idx : ∀ t : Fin cfg0.N, win0_0.index t = ![0, t.val, 0] ∧ win0_1.index t = ![t.val, 0] :=
  (by decide +kernel : ∀ t : Fin grid0.N, _)

/-- The reference's term of the stacked weights. -/
abbrev ref (w : FVec Ideal S1x4096x7168 .f32) : FVec Ideal S4096x7168 .bf16 :=
  truncf .bf16 (shapeCast Cert.InAWeightRefIdeal.S4096x7168 w Cert.InAWeightRefIdeal.Gen.shapeCasts_S1x4096x7168_S4096x7168) Cert.InAWeightRefIdeal.Gen.bitsLt_bf16_f32

theorem point (c : Dev nD) (t : Fin cfg0.N) (y) :
    k0_pay1 (iblk m c 0 t) y = ref (m ((c : Thread nD τ).loc main_arg0)) (((cfg0.win 1).blk t).view.emb y) := by
  pointwise [k0_pay1, ref]
  blk_point [iblk, V, idx t]

theorem final (c : Dev nD) : (dats m 0 c).arrAt 1 (cfgs 0).N = ref (m ((c : Thread nD τ).loc main_arg0)) := by
  refine (dats m 0 c).arrAt_eq_of_covers 1 _ (by decide +kernel) fun t _ y => ?_
  blk_simp
  rw [after0_1]
  frame_out
  exact point m c t y

end Cert.InAWeightIdeal.Cast

theorem Cert.Proof.in_a_weight : Cert.algebraic_InAWeightIdeal_InAWeightRefIdeal := by
  pair_intro
  · run_from Cert.InAWeightIdeal.Gen.run_main m g
  · hlo_run
    exact (Cert.InAWeightIdeal.Cast.final m c).symm

namespace Cert.InBWeightIdeal.Cast

open Cert.InBWeightIdeal Cert.InBWeightIdeal.Gen

variable (m : (ℓ : Loc nD τ sig) → Buf (Elt Ideal) ℓ)

/-- The blocks at a grid point: consecutive row blocks of one layer. -/
theorem idx : ∀ t : Fin cfg0.N, win0_0.index t = ![0, t.val, 0] ∧ win0_1.index t = ![t.val, 0] :=
  (by decide +kernel : ∀ t : Fin grid0.N, _)

/-- The reference's term of the stacked weights. -/
abbrev ref (w : FVec Ideal S1x4096x10240 .f32) : FVec Ideal S4096x10240 .bf16 :=
  truncf .bf16 (shapeCast Cert.InBWeightRefIdeal.S4096x10240 w Cert.InBWeightRefIdeal.Gen.shapeCasts_S1x4096x10240_S4096x10240) Cert.InBWeightRefIdeal.Gen.bitsLt_bf16_f32

theorem point (c : Dev nD) (t : Fin cfg0.N) (y) :
    k0_pay1 (iblk m c 0 t) y = ref (m ((c : Thread nD τ).loc main_arg0)) (((cfg0.win 1).blk t).view.emb y) := by
  pointwise [k0_pay1, ref]
  blk_point [iblk, V, idx t]

theorem final (c : Dev nD) : (dats m 0 c).arrAt 1 (cfgs 0).N = ref (m ((c : Thread nD τ).loc main_arg0)) := by
  refine (dats m 0 c).arrAt_eq_of_covers 1 _ (by decide +kernel) fun t _ y => ?_
  blk_simp
  rw [after0_1]
  frame_out
  exact point m c t y

end Cert.InBWeightIdeal.Cast

theorem Cert.Proof.in_b_weight : Cert.algebraic_InBWeightIdeal_InBWeightRefIdeal := by
  pair_intro
  · run_from Cert.InBWeightIdeal.Gen.run_main m g
  · hlo_run
    exact (Cert.InBWeightIdeal.Cast.final m c).symm
-- ==== Proof.InA.lean ====
module

public import proofs.«01_k».proof.Defs
public import proofs.«01_k».proof.Proof.Gen.InAProductIdeal.Value
public import proofs.«01_k».proof.Proof.Gen.InARefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InAProductIdeal.Product

open Cert.InAProductIdeal Cert.InAProductIdeal.Gen

variable (m : (ℓ : Loc nD τ sig) → Buf (Elt Ideal) ℓ)

/-- The windows' blocks at a grid point: rows by the slow coordinate, columns by the fast one. -/
theorem idx : ∀ t : Fin cfg0.N, win0_0.index t = ![t.val / 7, 0] ∧ win0_1.index t = ![0, t.val % 7]
    ∧ win0_2.index t = ![t.val / 7, t.val % 7] :=
  (by decide +kernel : ∀ t : Fin grid0.N, _)

/-- The reference's term of the two arguments. -/
abbrev ref (a : FVec Ideal S2x4096x4096 .f32) (w : FVec Ideal S4096x7168 .bf16) : FVec Ideal S8192x7168 .f32 :=
  shapeCast Cert.InARefIdeal.S8192x7168 (Host.dotGeneral Cert.InARefIdeal.dot_S2x4096x4096_S4096x7168_S2x4096x7168_2_0_01_1_n_n none
    a (extf .f32 w Cert.InARefIdeal.Gen.bitsLt_bf16_f32)) Cert.InARefIdeal.Gen.shapeCasts_S2x4096x7168_S8192x7168

/-- Inside one row of blocks the left window stays where it is. -/
theorem iblk_pred (c : Dev nD) (t t' : Fin cfg0.N) (h : t'.val / 7 = t.val / 7) : iblk m c 0 t' = iblk m c 0 t := by
  funext y
  blk_point [iblk, V, idx t, idx t', h]

/-- The scratch holds the rounded left block from the first point of each row of blocks on. -/
theorem scratch (c : Dev nD) : ∀ (n : ℕ) (h : n < cfg0.N), (outsAt0 m c n h).2 = k0_pay1 (iblk m c 0 ⟨n, h⟩)
  | n, h => by
    by_cases h0 : n % 7 = 0
    · rw [outsAt0_A m c ⟨n, h⟩ h0]
      frame_out
    · rw [outsAt0_B m c ⟨n, h⟩ h0]
      frame_out
      have hn : n - 1 < cfg0.N := lt_of_le_of_lt (Nat.sub_le _ _) h
      show (outsAt0 m c (n - 1) hn).2 = _
      rw [show (outsAt0 m c (n - 1) hn).2 = _ from scratch c (n - 1) hn, iblk_pred m c ⟨n, h⟩ ⟨n - 1, hn⟩ (by show (n - 1) / 7 = n / 7; omega)]
  termination_by n => n
  decreasing_by omega

/-- What every point leaves in the output's buffer. -/
theorem out_eq (c : Dev nD) (t : Fin cfg0.N) :
    (outsAt0 m c t.val t.isLt).1 = k0_pay2 (k0_pay1 (iblk m c 0 t)) (iblk m c 1 t) := by
  by_cases h0 : t.val % 7 = 0
  · rw [outsAt0_A m c t h0]
    frame_out
  · rw [outsAt0_B m c t h0]
    frame_out
    have hn : t.val - 1 < cfg0.N := lt_of_le_of_lt (Nat.sub_le _ _) t.isLt
    rw [scratch m c (t.val - 1) hn, iblk_pred m c t ⟨t.val - 1, hn⟩ (by show (t.val - 1) / 7 = t.val / 7; omega)]
    exact congrArg (k0_pay2 · _) (Memref.IsWhole.read_unread (Memref.isWhole_whole _) _)

/-- The stored product, read at an index. -/
theorem pay_at (x : FVec Ideal S512x4096 .f32) (w : FVec Ideal S4096x1024 .bf16) (r : Fin 512) (j : Fin 1024) :
    k0_pay2 (k0_pay1 x) w (ix2 r j) = ∑ k : Fin 4096, x (ix2 r k) * w (ix2 k j) := by
  pointwise! [k0_pay1, k0_pay2]

/-- The reference's term, read at an index. -/
theorem ref_at (a : FVec Ideal S2x4096x4096 .f32) (w : FVec Ideal S4096x7168 .bf16) (r : Fin 8192) (j : Fin 7168) :
    ref a w (ix2 r j) = ∑ k : Fin 4096, a (ix3 ⟨r.val / 4096, by omega⟩ ⟨r.val % 4096, by omega⟩ k) * w (ix2 k j) := by
  pointwise! [ref]

/-- The host's merge of the two leading axes, read at an index. -/
theorem cast_at (a : FVec Ideal S2x4096x4096 .f32) (R : Fin 8192) (k : Fin 4096) :
    shapeCast S8192x4096 a shapeCasts_S2x4096x4096_S8192x4096 (ix2 R k)
      = a (ix3 ⟨R.val / 4096, by omega⟩ ⟨R.val % 4096, by omega⟩ k) := by
  pointwise

/-- The left block's rows are rows of the argument. -/
theorem row_at (c : Dev nD) (t : Fin cfg0.N) (r : Fin 512) (k : Fin 4096) (R : Fin 8192) (hR : R.val = t.val / 7 * 512 + r.val) :
    iblk m c 0 t (ix2 r k)
      = m ((c : Thread nD τ).loc main_arg0) (ix3 ⟨R.val / 4096, by omega⟩ ⟨R.val % 4096, by omega⟩ k) := by
  have e : V m c main_v0
      = shapeCast S8192x4096 (m ((c : Thread nD τ).loc main_arg0)) shapeCasts_S2x4096x4096_S8192x4096 := by
    entry_read
    rfl
  have e2 : iblk m c 0 t (ix2 r k) = V m c main_v0 (ix2 R k) := by
    blk_ext [iblk, idx t]
  rw [e2, e]
  exact cast_at _ R k

/-- The right block's columns are columns of the argument. -/
theorem col_at (c : Dev nD) (t : Fin cfg0.N) (j : Fin 1024) (k : Fin 4096) (C : Fin 7168) (hC : C.val = t.val % 7 * 1024 + j.val) :
    iblk m c 1 t (ix2 k j) = m ((c : Thread nD τ).loc main_arg1) (ix2 k C) := by
  blk_ext [iblk, V, idx t]

theorem point (c : Dev nD) (t : Fin cfg0.N) (y) :
    k0_pay2 (k0_pay1 (iblk m c 0 t)) (iblk m c 1 t) y
      = ref (m ((c : Thread nD τ).loc main_arg0)) (m ((c : Thread nD τ).loc main_arg1)) (((cfg0.win 2).blk t).view.emb y) := by
  rw [eq_ix2 (((cfg0.win 2).blk t).view.emb y), eq_ix2 y]
  refine (pay_at _ _ (y 0) (y 1)).trans (Eq.trans ?_ (ref_at _ _ _ _).symm)
  refine Finset.sum_congr rfl fun k _ => Ideal.mul_congr ?_ ?_
  · refine row_at m c t (y 0) k _ ?_
    blk_simp [idx t]
  · refine col_at m c t (y 1) k _ ?_
    blk_simp [idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.InAProductIdeal.Product

theorem Cert.Proof.in_a : Cert.algebraic_InAProductIdeal_InARefIdeal := by
  pair_intro
  · run_from Cert.InAProductIdeal.Gen.run_main m g
  · hlo_run
    exact (Cert.InAProductIdeal.Product.final m c).symm
-- ==== Proof.InASample.lean ====
module

public import proofs.«01_k».proof.Defs
public import proofs.«01_k».proof.Proof.Gen.InASampleIdeal.Value
public import proofs.«01_k».proof.Proof.Gen.InASampleRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InASampleIdeal.Product

open Cert.InASampleIdeal Cert.InASampleIdeal.Gen

variable (m : (ℓ : Loc nD τ sig) → Buf (Elt Ideal) ℓ)

/-- The windows' blocks at a grid point: rows by the slow coordinate, columns by the fast one. -/
theorem idx : ∀ t : Fin cfg0.N, win0_0.index t = ![t.val / 7, 0] ∧ win0_1.index t = ![0, t.val % 7]
    ∧ win0_2.index t = ![t.val / 7, t.val % 7] :=
  (by decide +kernel : ∀ t : Fin grid0.N, _)

/-- The reference's term of the two arguments. -/
abbrev ref (a : FVec Ideal S16x32x4096 .f32) (w : FVec Ideal S4096x7168 .bf16) : FVec Ideal S512x7168 .f32 :=
  shapeCast Cert.InASampleRefIdeal.S512x7168 (Host.dotGeneral Cert.InASampleRefIdeal.dot_S16x32x4096_S4096x7168_S16x32x7168_2_0_01_1_n_n none
    a (extf .f32 w Cert.InASampleRefIdeal.Gen.bitsLt_bf16_f32)) Cert.InASampleRefIdeal.Gen.shapeCasts_S16x32x7168_S512x7168

/-- Inside one row of blocks the left window stays where it is. -/
theorem iblk_pred (c : Dev nD) (t t' : Fin cfg0.N) (h : t'.val / 7 = t.val / 7) : iblk m c 0 t' = iblk m c 0 t := by
  funext y
  blk_point [iblk, V, idx t, idx t', h]

/-- The scratch holds the rounded left block from the first point of each row of blocks on. -/
theorem scratch (c : Dev nD) : ∀ (n : ℕ) (h : n < cfg0.N), (outsAt0 m c n h).2 = k0_pay1 (iblk m c 0 ⟨n, h⟩)
  | n, h => by
    by_cases h0 : n % 7 = 0
    · rw [outsAt0_A m c ⟨n, h⟩ h0]
      frame_out
    · rw [outsAt0_B m c ⟨n, h⟩ h0]
      frame_out
      have hn : n - 1 < cfg0.N := lt_of_le_of_lt (Nat.sub_le _ _) h
      show (outsAt0 m c (n - 1) hn).2 = _
      rw [show (outsAt0 m c (n - 1) hn).2 = _ from scratch c (n - 1) hn, iblk_pred m c ⟨n, h⟩ ⟨n - 1, hn⟩ (by show (n - 1) / 7 = n / 7; omega)]
  termination_by n => n
  decreasing_by omega

/-- What every point leaves in the output's buffer. -/
theorem out_eq (c : Dev nD) (t : Fin cfg0.N) :
    (outsAt0 m c t.val t.isLt).1 = k0_pay2 (k0_pay1 (iblk m c 0 t)) (iblk m c 1 t) := by
  by_cases h0 : t.val % 7 = 0
  · rw [outsAt0_A m c t h0]
    frame_out
  · rw [outsAt0_B m c t h0]
    frame_out
    have hn : t.val - 1 < cfg0.N := lt_of_le_of_lt (Nat.sub_le _ _) t.isLt
    rw [scratch m c (t.val - 1) hn, iblk_pred m c t ⟨t.val - 1, hn⟩ (by show (t.val - 1) / 7 = t.val / 7; omega)]
    exact congrArg (k0_pay2 · _) (Memref.IsWhole.read_unread (Memref.isWhole_whole _) _)

/-- The stored product, read at an index. -/
theorem pay_at (x : FVec Ideal S512x4096 .f32) (w : FVec Ideal S4096x1024 .bf16) (r : Fin 512) (j : Fin 1024) :
    k0_pay2 (k0_pay1 x) w (ix2 r j) = ∑ k : Fin 4096, x (ix2 r k) * w (ix2 k j) := by
  pointwise! [k0_pay1, k0_pay2]

/-- The reference's term, read at an index. -/
theorem ref_at (a : FVec Ideal S16x32x4096 .f32) (w : FVec Ideal S4096x7168 .bf16) (r : Fin 512) (j : Fin 7168) :
    ref a w (ix2 r j) = ∑ k : Fin 4096, a (ix3 ⟨r.val / 32, by omega⟩ ⟨r.val % 32, by omega⟩ k) * w (ix2 k j) := by
  pointwise! [ref]

/-- The host's merge of the two leading axes, read at an index. -/
theorem cast_at (a : FVec Ideal S16x32x4096 .f32) (R : Fin 512) (k : Fin 4096) :
    shapeCast S512x4096 a shapeCasts_S16x32x4096_S512x4096 (ix2 R k)
      = a (ix3 ⟨R.val / 32, by omega⟩ ⟨R.val % 32, by omega⟩ k) := by
  pointwise

/-- The left block's rows are rows of the argument. -/
theorem row_at (c : Dev nD) (t : Fin cfg0.N) (r : Fin 512) (k : Fin 4096) (R : Fin 512) (hR : R.val = t.val / 7 * 512 + r.val) :
    iblk m c 0 t (ix2 r k)
      = m ((c : Thread nD τ).loc main_arg0) (ix3 ⟨R.val / 32, by omega⟩ ⟨R.val % 32, by omega⟩ k) := by
  have e : V m c main_v0
      = shapeCast S512x4096 (m ((c : Thread nD τ).loc main_arg0)) shapeCasts_S16x32x4096_S512x4096 := by
    entry_read
    rfl
  have e2 : iblk m c 0 t (ix2 r k) = V m c main_v0 (ix2 R k) := by
    blk_ext [iblk, idx t]
  rw [e2, e]
  exact cast_at _ R k

/-- The right block's columns are columns of the argument. -/
theorem col_at (c : Dev nD) (t : Fin cfg0.N) (j : Fin 1024) (k : Fin 4096) (C : Fin 7168) (hC : C.val = t.val % 7 * 1024 + j.val) :
    iblk m c 1 t (ix2 k j) = m ((c : Thread nD τ).loc main_arg1) (ix2 k C) := by
  blk_ext [iblk, V, idx t]

theorem point (c : Dev nD) (t : Fin cfg0.N) (y) :
    k0_pay2 (k0_pay1 (iblk m c 0 t)) (iblk m c 1 t) y
      = ref (m ((c : Thread nD τ).loc main_arg0)) (m ((c : Thread nD τ).loc main_arg1)) (((cfg0.win 2).blk t).view.emb y) := by
  rw [eq_ix2 (((cfg0.win 2).blk t).view.emb y), eq_ix2 y]
  refine (pay_at _ _ (y 0) (y 1)).trans (Eq.trans ?_ (ref_at _ _ _ _).symm)
  refine Finset.sum_congr rfl fun k _ => Ideal.mul_congr ?_ ?_
  · refine row_at m c t (y 0) k _ ?_
    blk_simp [idx t]
  · refine col_at m c t (y 1) k _ ?_
    blk_simp [idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.InASampleIdeal.Product

theorem Cert.Proof.in_a_sample : Cert.algebraic_InASampleIdeal_InASampleRefIdeal := by
  pair_intro
  · run_from Cert.InASampleIdeal.Gen.run_main m g
  · hlo_run
    exact (Cert.InASampleIdeal.Product.final m c).symm
-- ==== Proof.InB.lean ====
module

public import proofs.«01_k».proof.Defs
public import proofs.«01_k».proof.Proof.Gen.InBProductIdeal.Value
public import proofs.«01_k».proof.Proof.Gen.InBRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InBProductIdeal.Product

open Cert.InBProductIdeal Cert.InBProductIdeal.Gen

variable (m : (ℓ : Loc nD τ sig) → Buf (Elt Ideal) ℓ)

/-- The windows' blocks at a grid point: rows by the slow coordinate, columns by the fast one. -/
theorem idx : ∀ t : Fin cfg0.N, win0_0.index t = ![t.val / 10, 0] ∧ win0_1.index t = ![0, t.val % 10]
    ∧ win0_2.index t = ![t.val / 10, t.val % 10] :=
  (by decide +kernel : ∀ t : Fin grid0.N, _)

/-- The reference's term of the two arguments. -/
abbrev ref (a : FVec Ideal S2x4096x4096 .f32) (w : FVec Ideal S4096x10240 .bf16) : FVec Ideal S8192x10240 .f32 :=
  shapeCast Cert.InBRefIdeal.S8192x10240 (Host.dotGeneral Cert.InBRefIdeal.dot_S2x4096x4096_S4096x10240_S2x4096x10240_2_0_01_1_n_n none
    a (extf .f32 w Cert.InBRefIdeal.Gen.bitsLt_bf16_f32)) Cert.InBRefIdeal.Gen.shapeCasts_S2x4096x10240_S8192x10240

/-- Inside one row of blocks the left window stays where it is. -/
theorem iblk_pred (c : Dev nD) (t t' : Fin cfg0.N) (h : t'.val / 10 = t.val / 10) : iblk m c 0 t' = iblk m c 0 t := by
  funext y
  blk_point [iblk, V, idx t, idx t', h]

/-- The scratch holds the rounded left block from the first point of each row of blocks on. -/
theorem scratch (c : Dev nD) : ∀ (n : ℕ) (h : n < cfg0.N), (outsAt0 m c n h).2 = k0_pay1 (iblk m c 0 ⟨n, h⟩)
  | n, h => by
    by_cases h0 : n % 10 = 0
    · rw [outsAt0_A m c ⟨n, h⟩ h0]
      frame_out
    · rw [outsAt0_B m c ⟨n, h⟩ h0]
      frame_out
      have hn : n - 1 < cfg0.N := lt_of_le_of_lt (Nat.sub_le _ _) h
      show (outsAt0 m c (n - 1) hn).2 = _
      rw [show (outsAt0 m c (n - 1) hn).2 = _ from scratch c (n - 1) hn, iblk_pred m c ⟨n, h⟩ ⟨n - 1, hn⟩ (by show (n - 1) / 10 = n / 10; omega)]
  termination_by n => n
  decreasing_by omega

/-- What every point leaves in the output's buffer. -/
theorem out_eq (c : Dev nD) (t : Fin cfg0.N) :
    (outsAt0 m c t.val t.isLt).1 = k0_pay2 (k0_pay1 (iblk m c 0 t)) (iblk m c 1 t) := by
  by_cases h0 : t.val % 10 = 0
  · rw [outsAt0_A m c t h0]
    frame_out
  · rw [outsAt0_B m c t h0]
    frame_out
    have hn : t.val - 1 < cfg0.N := lt_of_le_of_lt (Nat.sub_le _ _) t.isLt
    rw [scratch m c (t.val - 1) hn, iblk_pred m c t ⟨t.val - 1, hn⟩ (by show (t.val - 1) / 10 = t.val / 10; omega)]
    exact congrArg (k0_pay2 · _) (Memref.IsWhole.read_unread (Memref.isWhole_whole _) _)

/-- The stored product, read at an index. -/
theorem pay_at (x : FVec Ideal S512x4096 .f32) (w : FVec Ideal S4096x1024 .bf16) (r : Fin 512) (j : Fin 1024) :
    k0_pay2 (k0_pay1 x) w (ix2 r j) = ∑ k : Fin 4096, x (ix2 r k) * w (ix2 k j) := by
  pointwise! [k0_pay1, k0_pay2]

/-- The reference's term, read at an index. -/
theorem ref_at (a : FVec Ideal S2x4096x4096 .f32) (w : FVec Ideal S4096x10240 .bf16) (r : Fin 8192) (j : Fin 10240) :
    ref a w (ix2 r j) = ∑ k : Fin 4096, a (ix3 ⟨r.val / 4096, by omega⟩ ⟨r.val % 4096, by omega⟩ k) * w (ix2 k j) := by
  pointwise! [ref]

/-- The host's merge of the two leading axes, read at an index. -/
theorem cast_at (a : FVec Ideal S2x4096x4096 .f32) (R : Fin 8192) (k : Fin 4096) :
    shapeCast S8192x4096 a shapeCasts_S2x4096x4096_S8192x4096 (ix2 R k)
      = a (ix3 ⟨R.val / 4096, by omega⟩ ⟨R.val % 4096, by omega⟩ k) := by
  pointwise

/-- The left block's rows are rows of the argument. -/
theorem row_at (c : Dev nD) (t : Fin cfg0.N) (r : Fin 512) (k : Fin 4096) (R : Fin 8192) (hR : R.val = t.val / 10 * 512 + r.val) :
    iblk m c 0 t (ix2 r k)
      = m ((c : Thread nD τ).loc main_arg0) (ix3 ⟨R.val / 4096, by omega⟩ ⟨R.val % 4096, by omega⟩ k) := by
  have e : V m c main_v0
      = shapeCast S8192x4096 (m ((c : Thread nD τ).loc main_arg0)) shapeCasts_S2x4096x4096_S8192x4096 := by
    entry_read
    rfl
  have e2 : iblk m c 0 t (ix2 r k) = V m c main_v0 (ix2 R k) := by
    blk_ext [iblk, idx t]
  rw [e2, e]
  exact cast_at _ R k

/-- The right block's columns are columns of the argument. -/
theorem col_at (c : Dev nD) (t : Fin cfg0.N) (j : Fin 1024) (k : Fin 4096) (C : Fin 10240) (hC : C.val = t.val % 10 * 1024 + j.val) :
    iblk m c 1 t (ix2 k j) = m ((c : Thread nD τ).loc main_arg1) (ix2 k C) := by
  blk_ext [iblk, V, idx t]

theorem point (c : Dev nD) (t : Fin cfg0.N) (y) :
    k0_pay2 (k0_pay1 (iblk m c 0 t)) (iblk m c 1 t) y
      = ref (m ((c : Thread nD τ).loc main_arg0)) (m ((c : Thread nD τ).loc main_arg1)) (((cfg0.win 2).blk t).view.emb y) := by
  rw [eq_ix2 (((cfg0.win 2).blk t).view.emb y), eq_ix2 y]
  refine (pay_at _ _ (y 0) (y 1)).trans (Eq.trans ?_ (ref_at _ _ _ _).symm)
  refine Finset.sum_congr rfl fun k _ => Ideal.mul_congr ?_ ?_
  · refine row_at m c t (y 0) k _ ?_
    blk_simp [idx t]
  · refine col_at m c t (y 1) k _ ?_
    blk_simp [idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.InBProductIdeal.Product

theorem Cert.Proof.in_b : Cert.algebraic_InBProductIdeal_InBRefIdeal := by
  pair_intro
  · run_from Cert.InBProductIdeal.Gen.run_main m g
  · hlo_run
    exact (Cert.InBProductIdeal.Product.final m c).symm
-- ==== Proof.InBSample.lean ====
module

public import proofs.«01_k».proof.Defs
public import proofs.«01_k».proof.Proof.Gen.InBSampleIdeal.Value
public import proofs.«01_k».proof.Proof.Gen.InBSampleRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InBSampleIdeal.Product

open Cert.InBSampleIdeal Cert.InBSampleIdeal.Gen

variable (m : (ℓ : Loc nD τ sig) → Buf (Elt Ideal) ℓ)

/-- The windows' blocks at a grid point: rows by the slow coordinate, columns by the fast one. -/
theorem idx : ∀ t : Fin cfg0.N, win0_0.index t = ![t.val / 10, 0] ∧ win0_1.index t = ![0, t.val % 10]
    ∧ win0_2.index t = ![t.val / 10, t.val % 10] :=
  (by decide +kernel : ∀ t : Fin grid0.N, _)

/-- The reference's term of the two arguments. -/
abbrev ref (a : FVec Ideal S16x32x4096 .f32) (w : FVec Ideal S4096x10240 .bf16) : FVec Ideal S512x10240 .f32 :=
  shapeCast Cert.InBSampleRefIdeal.S512x10240 (Host.dotGeneral Cert.InBSampleRefIdeal.dot_S16x32x4096_S4096x10240_S16x32x10240_2_0_01_1_n_n none
    a (extf .f32 w Cert.InBSampleRefIdeal.Gen.bitsLt_bf16_f32)) Cert.InBSampleRefIdeal.Gen.shapeCasts_S16x32x10240_S512x10240

/-- Inside one row of blocks the left window stays where it is. -/
theorem iblk_pred (c : Dev nD) (t t' : Fin cfg0.N) (h : t'.val / 10 = t.val / 10) : iblk m c 0 t' = iblk m c 0 t := by
  funext y
  blk_point [iblk, V, idx t, idx t', h]

/-- The scratch holds the rounded left block from the first point of each row of blocks on. -/
theorem scratch (c : Dev nD) : ∀ (n : ℕ) (h : n < cfg0.N), (outsAt0 m c n h).2 = k0_pay1 (iblk m c 0 ⟨n, h⟩)
  | n, h => by
    by_cases h0 : n % 10 = 0
    · rw [outsAt0_A m c ⟨n, h⟩ h0]
      frame_out
    · rw [outsAt0_B m c ⟨n, h⟩ h0]
      frame_out
      have hn : n - 1 < cfg0.N := lt_of_le_of_lt (Nat.sub_le _ _) h
      show (outsAt0 m c (n - 1) hn).2 = _
      rw [show (outsAt0 m c (n - 1) hn).2 = _ from scratch c (n - 1) hn, iblk_pred m c ⟨n, h⟩ ⟨n - 1, hn⟩ (by show (n - 1) / 10 = n / 10; omega)]
  termination_by n => n
  decreasing_by omega

/-- What every point leaves in the output's buffer. -/
theorem out_eq (c : Dev nD) (t : Fin cfg0.N) :
    (outsAt0 m c t.val t.isLt).1 = k0_pay2 (k0_pay1 (iblk m c 0 t)) (iblk m c 1 t) := by
  by_cases h0 : t.val % 10 = 0
  · rw [outsAt0_A m c t h0]
    frame_out
  · rw [outsAt0_B m c t h0]
    frame_out
    have hn : t.val - 1 < cfg0.N := lt_of_le_of_lt (Nat.sub_le _ _) t.isLt
    rw [scratch m c (t.val - 1) hn, iblk_pred m c t ⟨t.val - 1, hn⟩ (by show (t.val - 1) / 10 = t.val / 10; omega)]
    exact congrArg (k0_pay2 · _) (Memref.IsWhole.read_unread (Memref.isWhole_whole _) _)

/-- The stored product, read at an index. -/
theorem pay_at (x : FVec Ideal S512x4096 .f32) (w : FVec Ideal S4096x1024 .bf16) (r : Fin 512) (j : Fin 1024) :
    k0_pay2 (k0_pay1 x) w (ix2 r j) = ∑ k : Fin 4096, x (ix2 r k) * w (ix2 k j) := by
  pointwise! [k0_pay1, k0_pay2]

/-- The reference's term, read at an index. -/
theorem ref_at (a : FVec Ideal S16x32x4096 .f32) (w : FVec Ideal S4096x10240 .bf16) (r : Fin 512) (j : Fin 10240) :
    ref a w (ix2 r j) = ∑ k : Fin 4096, a (ix3 ⟨r.val / 32, by omega⟩ ⟨r.val % 32, by omega⟩ k) * w (ix2 k j) := by
  pointwise! [ref]

/-- The host's merge of the two leading axes, read at an index. -/
theorem cast_at (a : FVec Ideal S16x32x4096 .f32) (R : Fin 512) (k : Fin 4096) :
    shapeCast S512x4096 a shapeCasts_S16x32x4096_S512x4096 (ix2 R k)
      = a (ix3 ⟨R.val / 32, by omega⟩ ⟨R.val % 32, by omega⟩ k) := by
  pointwise

/-- The left block's rows are rows of the argument. -/
theorem row_at (c : Dev nD) (t : Fin cfg0.N) (r : Fin 512) (k : Fin 4096) (R : Fin 512) (hR : R.val = t.val / 10 * 512 + r.val) :
    iblk m c 0 t (ix2 r k)
      = m ((c : Thread nD τ).loc main_arg0) (ix3 ⟨R.val / 32, by omega⟩ ⟨R.val % 32, by omega⟩ k) := by
  have e : V m c main_v0
      = shapeCast S512x4096 (m ((c : Thread nD τ).loc main_arg0)) shapeCasts_S16x32x4096_S512x4096 := by
    entry_read
    rfl
  have e2 : iblk m c 0 t (ix2 r k) = V m c main_v0 (ix2 R k) := by
    blk_ext [iblk, idx t]
  rw [e2, e]
  exact cast_at _ R k

/-- The right block's columns are columns of the argument. -/
theorem col_at (c : Dev nD) (t : Fin cfg0.N) (j : Fin 1024) (k : Fin 4096) (C : Fin 10240) (hC : C.val = t.val % 10 * 1024 + j.val) :
    iblk m c 1 t (ix2 k j) = m ((c : Thread nD τ).loc main_arg1) (ix2 k C) := by
  blk_ext [iblk, V, idx t]

theorem point (c : Dev nD) (t : Fin cfg0.N) (y) :
    k0_pay2 (k0_pay1 (iblk m c 0 t)) (iblk m c 1 t) y
      = ref (m ((c : Thread nD τ).loc main_arg0)) (m ((c : Thread nD τ).loc main_arg1)) (((cfg0.win 2).blk t).view.emb y) := by
  rw [eq_ix2 (((cfg0.win 2).blk t).view.emb y), eq_ix2 y]
  refine (pay_at _ _ (y 0) (y 1)).trans (Eq.trans ?_ (ref_at _ _ _ _).symm)
  refine Finset.sum_congr rfl fun k _ => Ideal.mul_congr ?_ ?_
  · refine row_at m c t (y 0) k _ ?_
    blk_simp [idx t]
  · refine col_at m c t (y 1) k _ ?_
    blk_simp [idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.InBSampleIdeal.Product

theorem Cert.Proof.in_b_sample : Cert.algebraic_InBSampleIdeal_InBSampleRefIdeal := by
  pair_intro
  · run_from Cert.InBSampleIdeal.Gen.run_main m g
  · hlo_run
    exact (Cert.InBSampleIdeal.Product.final m c).symm
-- ==== Proof.Kv.lean ====
module

public import proofs.«01_k».proof.Defs
public import proofs.«01_k».proof.Proof.Gen.KvProductIdeal.Value
public import proofs.«01_k».proof.Proof.Gen.KvRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvProductIdeal.Product

open Cert.KvProductIdeal Cert.KvProductIdeal.Gen

variable (m : (ℓ : Loc nD τ sig) → Buf (Elt Ideal) ℓ)

/-- The windows' blocks at a grid point: rows by the slow coordinate, columns by the fast one. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The reference's term of the two arguments. -/
abbrev ref (a : FVec Ideal S2x256x4096 .f32) (w : FVec Ideal S4096x2048 .bf16) : FVec Ideal S512x2048 .f32 :=
  shapeCast Cert.KvRefIdeal.S512x2048 (Host.dotGeneral Cert.KvRefIdeal.dot_S2x256x4096_S4096x2048_S2x256x2048_2_0_01_1_n_n none
    a (extf .f32 w Cert.KvRefIdeal.Gen.bitsLt_bf16_f32)) Cert.KvRefIdeal.Gen.shapeCasts_S2x256x2048_S512x2048

/-- Inside one row of blocks the left window stays where it is. -/
theorem iblk_pred (c : Dev nD) (t t' : Fin cfg0.N) (h : t'.val / 2 = t.val / 2) : iblk m c 0 t' = iblk m c 0 t := by
  funext y
  blk_point [iblk, V, idx t, idx t', h]

/-- The scratch holds the rounded left block from the first point of each row of blocks on. -/
theorem scratch (c : Dev nD) : ∀ (n : ℕ) (h : n < cfg0.N), (outsAt0 m c n h).2 = k0_pay1 (iblk m c 0 ⟨n, h⟩)
  | n, h => by
    by_cases h0 : n % 2 = 0
    · rw [outsAt0_A m c ⟨n, h⟩ h0]
      frame_out
    · rw [outsAt0_B m c ⟨n, h⟩ h0]
      frame_out
      have hn : n - 1 < cfg0.N := lt_of_le_of_lt (Nat.sub_le _ _) h
      show (outsAt0 m c (n - 1) hn).2 = _
      rw [show (outsAt0 m c (n - 1) hn).2 = _ from scratch c (n - 1) hn, iblk_pred m c ⟨n, h⟩ ⟨n - 1, hn⟩ (by show (n - 1) / 2 = n / 2; omega)]
  termination_by n => n
  decreasing_by omega

/-- What every point leaves in the output's buffer. -/
theorem out_eq (c : Dev nD) (t : Fin cfg0.N) :
    (outsAt0 m c t.val t.isLt).1 = k0_pay2 (k0_pay1 (iblk m c 0 t)) (iblk m c 1 t) := by
  by_cases h0 : t.val % 2 = 0
  · rw [outsAt0_A m c t h0]
    frame_out
  · rw [outsAt0_B m c t h0]
    frame_out
    have hn : t.val - 1 < cfg0.N := lt_of_le_of_lt (Nat.sub_le _ _) t.isLt
    rw [scratch m c (t.val - 1) hn, iblk_pred m c t ⟨t.val - 1, hn⟩ (by show (t.val - 1) / 2 = t.val / 2; omega)]
    exact congrArg (k0_pay2 · _) (Memref.IsWhole.read_unread (Memref.isWhole_whole _) _)

/-- The stored product, read at an index. -/
theorem pay_at (x : FVec Ideal S512x4096 .f32) (w : FVec Ideal S4096x1024 .bf16) (r : Fin 512) (j : Fin 1024) :
    k0_pay2 (k0_pay1 x) w (ix2 r j) = ∑ k : Fin 4096, x (ix2 r k) * w (ix2 k j) := by
  pointwise! [k0_pay1, k0_pay2]

/-- The reference's term, read at an index. -/
theorem ref_at (a : FVec Ideal S2x256x4096 .f32) (w : FVec Ideal S4096x2048 .bf16) (r : Fin 512) (j : Fin 2048) :
    ref a w (ix2 r j) = ∑ k : Fin 4096, a (ix3 ⟨r.val / 256, by omega⟩ ⟨r.val % 256, by omega⟩ k) * w (ix2 k j) := by
  pointwise! [ref]

/-- The host's merge of the two leading axes, read at an index. -/
theorem cast_at (a : FVec Ideal S2x256x4096 .f32) (R : Fin 512) (k : Fin 4096) :
    shapeCast S512x4096 a shapeCasts_S2x256x4096_S512x4096 (ix2 R k)
      = a (ix3 ⟨R.val / 256, by omega⟩ ⟨R.val % 256, by omega⟩ k) := by
  pointwise

/-- The left block's rows are rows of the argument. -/
theorem row_at (c : Dev nD) (t : Fin cfg0.N) (r : Fin 512) (k : Fin 4096) (R : Fin 512) (hR : R.val = t.val / 2 * 512 + r.val) :
    iblk m c 0 t (ix2 r k)
      = m ((c : Thread nD τ).loc main_arg0) (ix3 ⟨R.val / 256, by omega⟩ ⟨R.val % 256, by omega⟩ k) := by
  have e : V m c main_v0
      = shapeCast S512x4096 (m ((c : Thread nD τ).loc main_arg0)) shapeCasts_S2x256x4096_S512x4096 := by
    entry_read
    rfl
  have e2 : iblk m c 0 t (ix2 r k) = V m c main_v0 (ix2 R k) := by
    blk_ext [iblk, idx t]
  rw [e2, e]
  exact cast_at _ R k

/-- The right block's columns are columns of the argument. -/
theorem col_at (c : Dev nD) (t : Fin cfg0.N) (j : Fin 1024) (k : Fin 4096) (C : Fin 2048) (hC : C.val = t.val % 2 * 1024 + j.val) :
    iblk m c 1 t (ix2 k j) = m ((c : Thread nD τ).loc main_arg1) (ix2 k C) := by
  blk_ext [iblk, V, idx t]

theorem point (c : Dev nD) (t : Fin cfg0.N) (y) :
    k0_pay2 (k0_pay1 (iblk m c 0 t)) (iblk m c 1 t) y
      = ref (m ((c : Thread nD τ).loc main_arg0)) (m ((c : Thread nD τ).loc main_arg1)) (((cfg0.win 2).blk t).view.emb y) := by
  rw [eq_ix2 (((cfg0.win 2).blk t).view.emb y), eq_ix2 y]
  refine (pay_at _ _ (y 0) (y 1)).trans (Eq.trans ?_ (ref_at _ _ _ _).symm)
  refine Finset.sum_congr rfl fun k _ => Ideal.mul_congr ?_ ?_
  · refine row_at m c t (y 0) k _ ?_
    blk_simp [idx t]
  · refine col_at m c t (y 1) k _ ?_
    blk_simp [idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.KvProductIdeal.Product

theorem Cert.Proof.kv : Cert.algebraic_KvProductIdeal_KvRefIdeal := by
  pair_intro
  · run_from Cert.KvProductIdeal.Gen.run_main m g
  · hlo_run
    exact (Cert.KvProductIdeal.Product.final m c).symm
-- ==== Proof.MemSpec.lean ====
module

public import proofs.«01_k».proof.Proof.BandFinite
public import proofs.«01_k».proof.Pre_mem_finite

@[expose] public section

set_option maxRecDepth 16384

noncomputable section

open Idealize.ShloMosaic

/-! One query's row of a softmax over the 256 memory slots. -/

namespace Cert.Mem

/-- The projected rows, whose last 1024 columns are the queries of the memory. -/
abbrev Rows := FVec Ideal ⟨3, ![2, 4096, 7168]⟩ .f32
/-- The memory: keys, then values. -/
abbrev Slots := FVec Ideal ⟨3, ![2, 256, 2048]⟩ .f32

/-- Column `n` of head `h`. -/
def col (h : Fin 4) (n : Fin 256) : Fin 1024 := ⟨h.val * 256 + n.val, by omega⟩
/-- The same column among the queries, the keys and the values. -/
def qcol (n : Fin 1024) : Fin 7168 := ⟨6144 + n.val, by omega⟩
def kcol (n : Fin 1024) : Fin 2048 := ⟨n.val, by omega⟩
def vcol (n : Fin 1024) : Fin 2048 := ⟨1024 + n.val, by omega⟩

/-- A query's score against a slot. -/
def score (X : Rows) (K : Slots) (b : Fin 2) (h : Fin 4) (q : Fin 4096) (k : Fin 256) : EReal :=
  (∑ e : Fin 256, X (ix3 b q (qcol (col h e))) * K (ix3 b k (kcol (col h e)))) * Ideal.ofBits .f32 0x3D800000#32

/-- A row of softmax attention, the weights normalized at the end. -/
def rowLast (b : EReal) (s v : Fin 256 → EReal) : EReal :=
  Ideal.div (∑ k, Ideal.exp (s k - Finset.univ.fold max b s) * v k) (∑ k, Ideal.exp (s k - Finset.univ.fold max b s))

/-- A row of softmax attention, the weights normalized first. -/
def rowFirst (b b' : EReal) (s v : Fin 256 → EReal) : EReal :=
  ∑ k, Ideal.div (Ideal.exp (s k - max b (Finset.univ.fold max b' s))) (∑ l, Ideal.exp (s l - max b (Finset.univ.fold max b' s))) * v k

/-- The two rows are one when every score is a real number. -/
theorem row_eq (b b1 b2 : EReal) (hb : b ≠ ⊤) (hb1 : b1 ≠ ⊤) (hb2 : b2 ≠ ⊤) (s v : Fin 256 → EReal) (hs : ∀ k, ∃ r : ℝ, s k = (r : EReal)) :
    rowLast b s v = rowFirst b1 b2 s v := by
  have ht : ∀ k ∈ (Finset.univ : Finset (Fin 256)), s k ≠ ⊤ := fun k _ => by
    obtain ⟨r, hr⟩ := hs k
    rw [hr]
    exact EReal.coe_ne_top r
  have h0 : s 0 ≠ ⊥ := by
    obtain ⟨r, hr⟩ := hs 0
    rw [hr]
    exact EReal.coe_ne_bot r
  have hE := Softmax.wt_sum_pos Finset.univ s ht 0 (Finset.mem_univ _) h0
  obtain ⟨M, hM⟩ := Softmax.fold_max_real Finset.univ s b hb ht 0 (Finset.mem_univ _) h0
  obtain ⟨N, hN⟩ := Softmax.exists_real (max b1 (Finset.univ.fold max b2 s))
    (max_lt (lt_top_iff_ne_top.2 hb1) (lt_top_iff_ne_top.2 (Softmax.fold_max_ne_top _ _ _ hb2 ht))).ne
    (fun e => h0 (le_bot_iff.1 (by
      rw [← e]
      exact (Softmax.le_fold _ s b2 _ (Finset.mem_univ _)).trans (le_max_right _ _))))
  unfold rowLast rowFirst
  rw [hM, hN, Softmax.one_part _ s v ht M _ rfl hE, Softmax.normal_first _ s v ht N _ rfl hE]

section
variable [Cert.Pre_mem_finite.Facts]

/-- The precondition gives real queries and keys. -/
theorem finite_rows (X : Rows) (K : Slots) (h : Cert.Pre_mem_finite.fn (F := Ideal) X K = fun _ => 1#1) (b : Fin 2) (q : Fin 4096) (n : Fin 1024) :
    ∃ r : ℝ, X (ix3 b q (qcol n)) = (r : EReal) := by
  have h0 := (IntOp.andi_eq_one.1 (congrFun h ix0)).1
  have h1 := Host.reduce_andi_all _ _ _ _ ix0 h0 (ix3 b q n)
  refine Cert.Band.real_of_lt _ (Eq.trans (congrArg (fun x : Ideal .f32 => FloatOps.cmpf .olt (FloatOps.hostAbsf x) (FloatOps.ofBits .f32 0x7F800000#32)) ?_) h1)
  unfold qcol
  pointwise

theorem finite_keys (X : Rows) (K : Slots) (h : Cert.Pre_mem_finite.fn (F := Ideal) X K = fun _ => 1#1) (b : Fin 2) (k : Fin 256) (n : Fin 1024) :
    ∃ r : ℝ, K (ix3 b k (kcol n)) = (r : EReal) := by
  have h0 := (IntOp.andi_eq_one.1 (congrFun h ix0)).2
  have h1 := Host.reduce_andi_all _ _ _ _ ix0 h0 (ix3 b k n)
  refine Cert.Band.real_of_lt _ (Eq.trans (congrArg (fun x : Ideal .f32 => FloatOps.cmpf .olt (FloatOps.hostAbsf x) (FloatOps.ofBits .f32 0x7F800000#32)) ?_) h1)
  unfold kcol
  pointwise

/-- Every score is a real number. -/
theorem score_real (X : Rows) (K : Slots) (hf : Cert.Pre_mem_finite.fn (F := Ideal) X K = fun _ => 1#1) (b : Fin 2) (h : Fin 4) (q : Fin 4096) (k : Fin 256) :
    ∃ r : ℝ, score X K b h q k = (r : EReal) := by
  unfold score
  have hl : ∃ r : ℝ, Ideal.ofBits .f32 0x3D800000#32 = (r : EReal) := ⟨_, by simp [Ideal.ofBits, Ideal.ieee]; rfl⟩
  obtain ⟨l, hl⟩ := hl
  choose x hx using fun e : Fin 256 => finite_rows X K hf b q (col h e)
  choose y hy using fun e : Fin 256 => finite_keys X K hf b k (col h e)
  refine ⟨(∑ e, x e * y e) * l, ?_⟩
  rw [hl, Finset.sum_congr rfl fun e _ => (show X _ * K _ = ((x e * y e : ℝ) : EReal) by rw [hx, hy]; rfl), ← Softmax.coe_sum Finset.univ fun e => x e * y e]
  rfl

end

end Cert.Mem
-- ==== Proof.MemKernel.lean ====
module

public import proofs.«01_k».proof.Defs
public import proofs.«01_k».proof.Proof.Gen.MemAttnIdeal.Value
public import proofs.«01_k».proof.Proof.MemSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemAttnIdeal.Attn

open Cert.MemAttnIdeal Cert.MemAttnIdeal.Gen Cert.Mem

/-- One head's scaled scores, its 256 columns taken in two halves. -/
def scores (q0 : FVec Ideal S1x512x128 .f32) (k0 : FVec Ideal S1x256x128 .f32) (q1 : FVec Ideal S1x512x128 .f32) (k1 : FVec Ideal S1x256x128 .f32) : FVec Ideal S512x256 .f32 :=
  k0_pay9 q0 k0 q1 k1

/-- Half of one head's columns of the output, from the head's scores. -/
def half (s : FVec Ideal S512x256 .f32) (v : FVec Ideal S1x256x128 .f32) : FVec Ideal S1x512x128 .bf16 :=
  k0_pay14 s (multiReduction .maximumf [1] S512 s 0xFF800000#32 reduces_S512x256_S512 (.inl rfl) rfl) v

theorem scores_at (q0 : FVec Ideal S1x512x128 .f32) (k0 : FVec Ideal S1x256x128 .f32) (q1 : FVec Ideal S1x512x128 .f32) (k1 : FVec Ideal S1x256x128 .f32) (r : Fin 512) (k : Fin 256) :
    scores q0 k0 q1 k1 (ix2 r k) = ((∑ e : Fin 128, q0 (ix3 0 r e) * k0 (ix3 0 k e)) + ∑ e : Fin 128, q1 (ix3 0 r e) * k1 (ix3 0 k e)) * Ideal.ofBits .f32 0x3D800000#32 := by
  pointwise [scores, k0_pay9]

theorem half_at (s : FVec Ideal S512x256 .f32) (v : FVec Ideal S1x256x128 .f32) (r : Fin 512) (d : Fin 128) :
    half s v (ix3 0 r d) = rowLast (Ideal.ofBits .f32 0xFF800000#32) (fun k => s (ix2 r k)) fun k => v (ix3 0 k d) := by
  pointwise [half, k0_pay14, k0_pay13, k0_pay12, k0_pay11, rowLast]

end Cert.MemAttnIdeal.Attn
-- ==== Proof.MemRef.lean ====
module

public import proofs.«01_k».proof.Proof.Gen.MemAttnRefIdeal.Run
public import proofs.«01_k».proof.Proof.MemSpec
public import proofs.«01_k».proof.Proof.RowMax

@[expose] public section

set_option maxRecDepth 16384

noncomputable section

open Idealize.ShloMosaic

namespace Cert.MemAttnRefIdeal.Attn

open Cert.MemAttnRefIdeal Cert.MemAttnRefIdeal.Gen Cert.Mem

/-- The scaled scores. -/
def scores (X : FVec Ideal S2x4096x7168 .f32) (K : FVec Ideal S2x256x2048 .f32) : FVec Ideal S2x4x4096x256 .f32 :=
  mulf (Host.dotGeneral dot_S2x4096x4x256_S2x256x4x256_S2x4x4096x256_3_3_1_1_02_02 none
      (shapeCast _ (extractStridedSlice S2x4096x1024 ![0, 0, 6144] X slices_S2x4096x7168_S2x4096x1024_0_0_6144) shapeCasts_S2x4096x1024_S2x4096x4x256)
      (shapeCast _ (extractStridedSlice S2x256x1024 ![0, 0, 0] K slices_S2x256x2048_S2x256x1024_0_0_0) shapeCasts_S2x256x1024_S2x256x4x256))
    (broadcastInDim S2x4x4096x256 ![] bcast_S_S2x4x4096x256 (constant S_ .f32 0x3D800000#32))

/-- Each row's largest score. -/
def tops (S : FVec Ideal S2x4x4096x256 .f32) : FVec Ideal S2x4x4096 .f32 :=
  maximumf (broadcastInDim S2x4x4096 ![] bcast_S_S2x4x4096 (constant S_ .f32 0xFF800000#32))
    (Host.reduce FloatOps.maximumf S (constant S_ .f32 0xFF800000#32) reducesTo_S2x4x4096x256_S2x4x4096_d3 h_S_)

/-- A row's number spread over the row. -/
def rows (T : FVec Ideal S2x4x4096 .f32) : FVec Ideal S2x4x4096x256 .f32 :=
  broadcastInDim S2x4x4096x256 ![0, 1, 2, 3] bcast_S2x4x4096x1_S2x4x4096x256_0_1_2_3 (broadcastInDim S2x4x4096x1 ![0, 1, 2] bcast_S2x4x4096_S2x4x4096x1_0_1_2 T)

/-- The exponentials over each row's largest score. -/
def exps (S : FVec Ideal S2x4x4096x256 .f32) : FVec Ideal S2x4x4096x256 .f32 :=
  Host.exp (subf S (rows (tops S)))

/-- The weights: each row's exponentials over their sum. -/
def weights (E : FVec Ideal S2x4x4096x256 .f32) : FVec Ideal S2x4x4096x256 .f32 :=
  Host.divf E (rows (Host.reduceAdd E (constant S_ .f32 0x00000000#32) reducesTo_S2x4x4096x256_S2x4x4096_d3 h_S_))

/-- The values under the weights, heads side by side. -/
def mixed (K : FVec Ideal S2x256x2048 .f32) (W : FVec Ideal S2x4x4096x256 .f32) : FVec Ideal S2x4096x1024 .bf16 :=
  truncf .bf16 (shapeCast _ (transpose S2x4096x4x256 [0, 3, 1, 2] (Host.dotGeneral dot_S2x256x4x256_S2x4x4096x256_S2x4x256x4096_1_3_3_2_02_01 none
    (shapeCast _ (extractStridedSlice S2x256x1024 ![0, 0, 1024] K slices_S2x256x2048_S2x256x1024_0_0_1024) shapeCasts_S2x256x1024_S2x256x4x256) W)
    transposes_S2x4x256x4096_S2x4096x4x256_0_3_1_2) shapeCasts_S2x4096x4x256_S2x4096x1024) bitsLt_bf16_f32

/-- The reference's term of its two arguments. -/
def ref (X : FVec Ideal S2x4096x7168 .f32) (K : FVec Ideal S2x256x2048 .f32) : FVec Ideal S2x4096x1024 .bf16 :=
  mixed K (weights (exps (scores X K)))

theorem scores_at (X : FVec Ideal S2x4096x7168 .f32) (K : FVec Ideal S2x256x2048 .f32) (b : Fin 2) (h : Fin 4) (q : Fin 4096) (k : Fin 256) :
    scores X K (ix4 b h q k) = score X K b h q k := by
  unfold score qcol kcol col
  pointwise [scores]

theorem rows_at (T : FVec Ideal S2x4x4096 .f32) (b : Fin 2) (h : Fin 4) (q : Fin 4096) (k : Fin 256) : rows T (ix4 b h q k) = T (ix3 b h q) := by
  pointwise [rows]

theorem tops_at (S : FVec Ideal S2x4x4096x256 .f32) (b : Fin 2) (h : Fin 4) (q : Fin 4096) :
    tops S (ix3 b h q) = max (Ideal.ofBits .f32 0xFF800000#32)
      (Finset.univ.fold max (Ideal.ofBits .f32 0xFF800000#32) fun l : Fin 256 => S (ix4 b h q l)) := by
  exact Softmax.row_max S 0xFF800000#32 0xFF800000#32 bcast_S_S2x4x4096 reducesTo_S2x4x4096x256_S2x4x4096_d3 h_S_ b h q

theorem exps_at (S : FVec Ideal S2x4x4096x256 .f32) (b : Fin 2) (h : Fin 4) (q : Fin 4096) (k : Fin 256) :
    exps S (ix4 b h q k) = Ideal.exp (S (ix4 b h q k) - tops S (ix3 b h q)) := by
  rw [← rows_at (tops S) b h q k]
  rfl

theorem weights_at (E : FVec Ideal S2x4x4096x256 .f32) (b : Fin 2) (h : Fin 4) (q : Fin 4096) (k : Fin 256) :
    weights E (ix4 b h q k) = Ideal.div (E (ix4 b h q k)) (∑ l : Fin 256, E (ix4 b h q l)) := by
  pointwise [weights, rows]

theorem mixed_at (K : FVec Ideal S2x256x2048 .f32) (W : FVec Ideal S2x4x4096x256 .f32) (b : Fin 2) (h : Fin 4) (q : Fin 4096) (d : Fin 256) :
    mixed K W (ix3 b q (col h d)) = ∑ k : Fin 256, W (ix4 b h q k) * K (ix3 b k (vcol (col h d))) := by
  unfold vcol col
  pointwise [mixed]
  exact Finset.sum_congr rfl fun k _ => mul_comm _ _

theorem ref_at (X : FVec Ideal S2x4096x7168 .f32) (K : FVec Ideal S2x256x2048 .f32) (b : Fin 2) (h : Fin 4) (q : Fin 4096) (d : Fin 256) :
    ref X K (ix3 b q (col h d)) = rowFirst (Ideal.ofBits .f32 0xFF800000#32) (Ideal.ofBits .f32 0xFF800000#32) (score X K b h q) fun k => K (ix3 b k (vcol (col h d))) := by
  unfold ref
  rw [mixed_at]
  have e : ∀ k, scores X K (ix4 b h q k) = score X K b h q k := scores_at X K b h q
  simp only [weights_at, exps_at, tops_at, e]
  rfl

end Cert.MemAttnRefIdeal.Attn
-- ==== Proof.Mem.lean ====
module

public import proofs.«01_k».proof.Proof.MemKernel
public import proofs.«01_k».proof.Proof.MemRef

@[expose] public section

set_option maxRecDepth 16384

noncomputable section

open Idealize.ShloMosaic Idealize.ShloMosaic.TcCoe Idealize.SL.Sem
open Idealize.ShloMosaic.Pipeline (Dat)

namespace Cert.MemAttnIdeal.Attn

open Cert.MemAttnIdeal Cert.MemAttnIdeal.Gen Cert.Mem

/-- Columns of a block of queries, read at an index. -/
theorem ld_q (x : Vec Ideal S1x512x1024 .f32) (o : ℕ) (inb : ∀ a, (![0, 0, o] : Fin 3 → ℕ) a + (![1, 512, 128] : Fin 3 → ℕ) a ≤ S1x512x1024.size a) (r : Fin 512) (e : Fin 128) (E : Fin 1024)
    (hE : o + e.val = E.val) : View.ld x (Rect.unit ![0, 0, o] ![1, 512, 128] inb) (ix3 (0 : Fin 1) r e) = x (ix3 (0 : Fin 1) r E) := by
  refine congrArg x (funext fun a => Fin.ext ?_)
  fin_cases a
  · rfl
  · show 0 + 1 * r.val = r.val; omega
  · show o + 1 * e.val = E.val; omega

/-- Columns of a block of slots, read at an index. -/
theorem ld_k (x : Vec Ideal S1x256x1024 .f32) (o : ℕ) (inb : ∀ a, (![0, 0, o] : Fin 3 → ℕ) a + (![1, 256, 128] : Fin 3 → ℕ) a ≤ S1x256x1024.size a) (r : Fin 256) (e : Fin 128) (E : Fin 1024)
    (hE : o + e.val = E.val) : View.ld x (Rect.unit ![0, 0, o] ![1, 256, 128] inb) (ix3 (0 : Fin 1) r e) = x (ix3 (0 : Fin 1) r E) := by
  refine congrArg x (funext fun a => Fin.ext ?_)
  fin_cases a
  · rfl
  · show 0 + 1 * r.val = r.val; omega
  · show o + 1 * e.val = E.val; omega

/-- A query's score against a slot, from the point's blocks. -/
def dot (q : Vec Ideal S1x512x1024 .f32) (k : Vec Ideal S1x256x1024 .f32) (h : Fin 4) (r : Fin 512) (j : Fin 256) : EReal :=
  (∑ e : Fin 256, q (ix3 0 r (col h e)) * k (ix3 0 j (col h e))) * Ideal.ofBits .f32 0x3D800000#32

/-- One row of one head's attention at a point, from the point's blocks. -/
def point (q : Vec Ideal S1x512x1024 .f32) (k v : Vec Ideal S1x256x1024 .f32) (h : Fin 4) (r : Fin 512) (n : Fin 1024) : EReal :=
  rowLast (Ideal.ofBits .f32 0xFF800000#32) (dot q k h r) fun j => v (ix3 0 j n)

/-- The two halves of a head's columns make its whole product. -/
theorem dot_halves (q : Vec Ideal S1x512x1024 .f32) (k : Vec Ideal S1x256x1024 .f32) (h : Fin 4) (r : Fin 512) (j : Fin 256) (o0 o1 : ℕ) (h0 : o0 = h.val * 256) (h1 : o1 = h.val * 256 + 128)
    (a0 : ∀ a, (![0, 0, o0] : Fin 3 → ℕ) a + (![1, 512, 128] : Fin 3 → ℕ) a ≤ S1x512x1024.size a) (a1 : ∀ a, (![0, 0, o1] : Fin 3 → ℕ) a + (![1, 512, 128] : Fin 3 → ℕ) a ≤ S1x512x1024.size a)
    (b0 : ∀ a, (![0, 0, o0] : Fin 3 → ℕ) a + (![1, 256, 128] : Fin 3 → ℕ) a ≤ S1x256x1024.size a) (b1 : ∀ a, (![0, 0, o1] : Fin 3 → ℕ) a + (![1, 256, 128] : Fin 3 → ℕ) a ≤ S1x256x1024.size a) :
    scores (View.ld q (Rect.unit ![0, 0, o0] ![1, 512, 128] a0)) (View.ld k (Rect.unit ![0, 0, o0] ![1, 256, 128] b0))
      (View.ld q (Rect.unit ![0, 0, o1] ![1, 512, 128] a1)) (View.ld k (Rect.unit ![0, 0, o1] ![1, 256, 128] b1)) (ix2 r j) = dot q k h r j := by
  refine (scores_at _ _ _ _ r j).trans (congrArg (· * Ideal.ofBits .f32 0x3D800000#32) (Eq.trans ?_ (Fin.sum_univ_add (a := 128) (b := 128) fun e : Fin 256 => (q (ix3 0 r (col h e)) * k (ix3 0 j (col h e)) : EReal)).symm))
  refine congrArg₂ (· + ·) (Finset.sum_congr rfl fun e _ => ?_) (Finset.sum_congr rfl fun e _ => ?_)
  · exact congrArg₂ (· * ·) (ld_q q o0 a0 r e _ (by show o0 + e.val = h.val * 256 + e.val; omega)) (ld_k k o0 b0 j e _ (by show o0 + e.val = h.val * 256 + e.val; omega))
  · exact congrArg₂ (· * ·) (ld_q q o1 a1 r e _ (by show o1 + e.val = h.val * 256 + (128 + e.val); omega)) (ld_k k o1 b1 j e _ (by show o1 + e.val = h.val * 256 + (128 + e.val); omega))

theorem out_piece (q : Vec Ideal S1x512x1024 .f32) (k v : Vec Ideal S1x256x1024 .f32) (p o0 o1 o : ℕ) (h0 : o0 = p * 256) (h1 : o1 = p * 256 + 128) (ho : o = o0 ∨ o = o1)
    (a0 : ∀ a, (![0, 0, o0] : Fin 3 → ℕ) a + (![1, 512, 128] : Fin 3 → ℕ) a ≤ S1x512x1024.size a) (a1 : ∀ a, (![0, 0, o1] : Fin 3 → ℕ) a + (![1, 512, 128] : Fin 3 → ℕ) a ≤ S1x512x1024.size a)
    (b0 : ∀ a, (![0, 0, o0] : Fin 3 → ℕ) a + (![1, 256, 128] : Fin 3 → ℕ) a ≤ S1x256x1024.size a) (b1 : ∀ a, (![0, 0, o1] : Fin 3 → ℕ) a + (![1, 256, 128] : Fin 3 → ℕ) a ≤ S1x256x1024.size a)
    (b : ∀ a, (![0, 0, o] : Fin 3 → ℕ) a + (![1, 256, 128] : Fin 3 → ℕ) a ≤ S1x256x1024.size a)
    (h : Fin 4) (r : Fin 512) (d : Fin 256) (y : S1x512x128.Idx)
    (y0 : (y 0).val < 1) (hr : r.val = (y 1).val) (y2 : (y 2).val < 128) (hd : h.val * 256 + d.val = o + (y 2).val) :
    half (scores (View.ld q (Rect.unit ![0, 0, o0] ![1, 512, 128] a0)) (View.ld k (Rect.unit ![0, 0, o0] ![1, 256, 128] b0))
      (View.ld q (Rect.unit ![0, 0, o1] ![1, 512, 128] a1)) (View.ld k (Rect.unit ![0, 0, o1] ![1, 256, 128] b1)))
      (View.ld v (Rect.unit ![0, 0, o] ![1, 256, 128] b)) y = point q k v h r (col h d) := by
  have e : y = ix3 (0 : Fin 1) r (⟨(y 2).val, y2⟩ : Fin 128) := by
    have e0 : y 0 = (0 : Fin 1) := Fin.ext (by show (y 0).val = 0; omega)
    have e1 : y 1 = r := Fin.ext hr.symm
    exact (eq_ix3 y).trans (congr (congr (congrArg ix3 e0) e1) (Fin.ext rfl))
  have hp : p = h.val := by omega
  refine (congrArg _ e).trans ((half_at _ _ r _).trans ?_)
  exact congrArg₂ (rowLast (Ideal.ofBits .f32 0xFF800000#32)) (funext fun j => dot_halves q k h r j o0 o1 (by omega) (by omega) a0 a1 b0 b1)
    (funext fun j => ld_k v o b j _ (col h d) (by show o + (y 2).val = h.val * 256 + d.val; omega))

theorem out_at (q : Vec Ideal S1x512x1024 .f32) (k v : Vec Ideal S1x256x1024 .f32) (h : Fin 4) (r : Fin 512) (d : Fin 256) :
    out0_3 q k v (ix3 0 r (col h d)) = point q k v h r (col h d) := by
  unfold out0_3
  canon_tiles y hy
  · exact out_piece q k v 3 768 896 896 rfl rfl (.inr rfl) _ _ _ _ _ h r d y y0_lt hy1 y2_lt hy2
  · exact out_piece q k v 3 768 896 768 rfl rfl (.inl rfl) _ _ _ _ _ h r d y y0_lt hy1 y2_lt hy2
  · exact out_piece q k v 2 512 640 640 rfl rfl (.inr rfl) _ _ _ _ _ h r d y y0_lt hy1 y2_lt hy2
  · exact out_piece q k v 2 512 640 512 rfl rfl (.inl rfl) _ _ _ _ _ h r d y y0_lt hy1 y2_lt hy2
  · exact out_piece q k v 1 256 384 384 rfl rfl (.inr rfl) _ _ _ _ _ h r d y y0_lt hy1 y2_lt hy2
  · exact out_piece q k v 1 256 384 256 rfl rfl (.inl rfl) _ _ _ _ _ h r d y y0_lt hy1 y2_lt hy2
  · exact out_piece q k v 0 0 128 128 rfl rfl (.inr rfl) _ _ _ _ _ h r d y y0_lt hy1 y2_lt hy2
  · exact out_piece q k v 0 0 128 0 rfl rfl (.inl rfl) _ _ _ _ _ h r d y y0_lt hy1 y2_lt (hy2.trans (Nat.zero_add _).symm)

variable (m : (ℓ : Loc nD τ sig) → Buf (Elt Ideal) ℓ)

/-- The rows a device was given. -/
abbrev X (c : Dev nD) : Rows := m ((c : Thread nD τ).loc main_arg0)
/-- The memory a device was given. -/
abbrev K (c : Dev nD) : Slots := m ((c : Thread nD τ).loc main_arg1)

/-- The windows' blocks at a grid point: batch first, then block of queries. -/
theorem idx : ∀ t : Fin cfg0.N, win0_0.index t = ![t.val / 8, t.val % 8, 6] ∧ win0_1.index t = ![t.val / 8, 0, 0]
    ∧ win0_2.index t = ![t.val / 8, 0, 1] ∧ win0_3.index t = ![t.val / 8, t.val % 8, 0] :=
  (by decide +kernel : ∀ t : Fin grid0.N, _)

/-- The batch of a grid point. -/
def bat (t : Fin cfg0.N) : Fin 2 := ⟨t.val / 8, by have : t.val < 16 := t.isLt; omega⟩

theorem q_at (c : Dev nD) (t : Fin cfg0.N) (r : Fin 512) (n : Fin 1024) (R : Fin 4096) (hR : R.val = t.val % 8 * 512 + r.val) :
    iblk m c 0 t (ix3 0 r n) = X m c (ix3 (bat t) R (qcol n)) := by
  unfold bat qcol
  blk_ext [iblk, V, idx t]

theorem k_at (c : Dev nD) (t : Fin cfg0.N) (j : Fin 256) (n : Fin 1024) :
    iblk m c 1 t (ix3 0 j n) = K m c (ix3 (bat t) j (kcol n)) := by
  unfold bat kcol
  blk_ext [iblk, V, idx t]

theorem v_at (c : Dev nD) (t : Fin cfg0.N) (j : Fin 256) (n : Fin 1024) :
    iblk m c 2 t (ix3 0 j n) = K m c (ix3 (bat t) j (vcol n)) := by
  unfold bat vcol
  blk_ext [iblk, V, idx t]

theorem low_ne_top : Ideal.ofBits .f32 0xFF800000#32 ≠ ⊤ := by
  rw [Cert.Band.low]
  exact bot_ne_top

/-- A point's row is the reference's. -/
theorem out_point [Cert.Pre_mem_finite.Facts] (c : Dev nD) (hf : Cert.Pre_mem_finite.fn (F := Ideal) (X m c) (K m c) = fun _ => 1#1) (t : Fin cfg0.N) (h : Fin 4) (r : Fin 512) (d : Fin 256)
    (R : Fin 4096) (hR : R.val = t.val % 8 * 512 + r.val) :
    out0_3 (iblk m c 0 t) (iblk m c 1 t) (iblk m c 2 t) (ix3 0 r (col h d)) = Cert.MemAttnRefIdeal.Attn.ref (X m c) (K m c) (ix3 (bat t) R (col h d)) := by
  refine (out_at _ _ _ h r d).trans (Eq.trans ?_ (Cert.MemAttnRefIdeal.Attn.ref_at (X m c) (K m c) (bat t) h R d).symm)
  refine Eq.trans ?_ (row_eq _ _ _ low_ne_top low_ne_top low_ne_top _ _ (score_real (X m c) (K m c) hf (bat t) h R))
  refine congrArg₂ (rowLast (Ideal.ofBits .f32 0xFF800000#32)) (funext fun j => ?_) (funext fun j => v_at m c t j _)
  exact congrArg (· * Ideal.ofBits .f32 0x3D800000#32) (Finset.sum_congr rfl fun e _ => congrArg₂ (· * ·) (q_at m c t r _ R hR) (k_at m c t j _))

theorem point_eq [Cert.Pre_mem_finite.Facts] (c : Dev nD) (hf : Cert.Pre_mem_finite.fn (F := Ideal) (X m c) (K m c) = fun _ => 1#1) (t : Fin cfg0.N)
    (y : (⟨3, ![1, 512, 1024]⟩ : Shape).Idx) (z : (⟨3, ![2, 4096, 1024]⟩ : Shape).Idx)
    (h0 : (z 0).val = t.val / 8) (h1 : (z 1).val = t.val % 8 * 512 + (y 1).val) (h2 : (z 2).val = (y 2).val) :
    out0_3 (iblk m c 0 t) (iblk m c 1 t) (iblk m c 2 t) y = Cert.MemAttnRefIdeal.Attn.ref (X m c) (K m c) z := by
  have y0 : (y 0).val < 1 := (y 0).isLt
  have y1 : (y 1).val < 512 := (y 1).isLt
  have y2 : (y 2).val < 1024 := (y 2).isLt
  have q0 : (y 2).val / 256 < 4 := by omega
  have q1 : (y 2).val % 256 < 256 := by omega
  have q3 : t.val % 8 * 512 + (y 1).val < 4096 := by omega
  have e0 : (y 0).val = 0 := by omega
  have e2 : (y 2).val = (y 2).val / 256 * 256 + (y 2).val % 256 := by omega
  have ey : y = ix3 (0 : Fin 1) (⟨(y 1).val, y1⟩ : Fin 512) (col ⟨(y 2).val / 256, q0⟩ ⟨(y 2).val % 256, q1⟩) :=
    (eq_ix3 y).trans (congr (congr (congrArg ix3 (Fin.ext e0)) (Fin.ext rfl)) (Fin.ext e2))
  have ez : z = ix3 (bat t) (⟨t.val % 8 * 512 + (y 1).val, q3⟩ : Fin 4096) (col ⟨(y 2).val / 256, q0⟩ ⟨(y 2).val % 256, q1⟩) :=
    (eq_ix3 z).trans (congr (congr (congrArg ix3 (Fin.ext h0)) (Fin.ext h1)) (Fin.ext (h2.trans e2)))
  rw [ez]
  exact (congrArg _ ey).trans (out_point m c hf t _ _ _ _ rfl)

theorem final [Cert.Pre_mem_finite.Facts] (c : Dev nD) (hf : Cert.Pre_mem_finite.fn (F := Ideal) (X m c) (K m c) = fun _ => 1#1) :
    (dats m 0 c).arrAt 3 (cfgs 0).N = Cert.MemAttnRefIdeal.Attn.ref (X m c) (K m c) := by
  refine (dats m 0 c).arrAt_eq_of_covers 3 _ (by decide +kernel) fun t _ y => ?_
  blk_simp
  rw [after0_3]
  refine point_eq m c hf t y _ ?_ ?_ ?_
  · blk_simp [idx t]
  · blk_simp [idx t]
  · blk_simp [idx t]

end Cert.MemAttnIdeal.Attn

/-- The kernel's result is the attention of the reference, whenever queries and keys are real numbers. -/
theorem Cert.Proof.mem [Cert.Pre_mem_finite.Facts] : Cert.algebraic_MemAttnIdeal_MemAttnRefIdeal_pre_mem_finite := by
  pair_intro
  · run_from Cert.MemAttnIdeal.Gen.run_main m g
  · run_from Cert.MemAttnRefIdeal.Value.run m' g'
    rw [Cert.MemAttnIdeal.Attn.final m c (hpre c)]
    rfl
-- ==== Proof.MemSampleSpec.lean ====
module

public import proofs.«01_k».proof.Proof.MemSpec
public import proofs.«01_k».proof.Pre_mem_sample_finite

@[expose] public section

set_option maxRecDepth 16384

noncomputable section

open Idealize.ShloMosaic

/-! The samples' scores against the 256 memory slots, whose keys and values are kept head by head. -/

namespace Cert.MemS

open Cert.Mem

/-- The samples' projected rows, whose last 1024 columns are the queries of the memory. -/
abbrev Rows := FVec Ideal ⟨3, ![16, 32, 7168]⟩ .f32
/-- The keys of the memory, or its values. -/
abbrev Slots := FVec Ideal ⟨4, ![16, 256, 4, 256]⟩ .f32

/-- A query's score against a slot. -/
def score (X : Rows) (K : Slots) (b : Fin 16) (h : Fin 4) (q : Fin 32) (k : Fin 256) : EReal :=
  (∑ e : Fin 256, X (ix3 b q (qcol (col h e))) * K (ix4 b k h e)) * Ideal.ofBits .f32 0x3D800000#32

section
variable [Cert.Pre_mem_sample_finite.Facts]

/-- The precondition gives real queries and keys. -/
theorem finite_rows (X : Rows) (K V : Slots) (h : Cert.Pre_mem_sample_finite.fn (F := Ideal) X K V = fun _ => 1#1) (b : Fin 16) (q : Fin 32) (n : Fin 1024) :
    ∃ r : ℝ, X (ix3 b q (qcol n)) = (r : EReal) := by
  have h0 := (IntOp.andi_eq_one.1 (congrFun h ix0)).1
  have h1 := Host.reduce_andi_all _ _ _ _ ix0 h0 (ix3 b q n)
  refine Cert.Band.real_of_lt _ (Eq.trans (congrArg (fun x : Ideal .f32 => FloatOps.cmpf .olt (FloatOps.hostAbsf x) (FloatOps.ofBits .f32 0x7F800000#32)) ?_) h1)
  unfold qcol
  pointwise

theorem finite_keys (X : Rows) (K V : Slots) (h : Cert.Pre_mem_sample_finite.fn (F := Ideal) X K V = fun _ => 1#1) (b : Fin 16) (k : Fin 256) (p : Fin 4) (n : Fin 256) :
    ∃ r : ℝ, K (ix4 b k p n) = (r : EReal) := by
  have h0 := (IntOp.andi_eq_one.1 (congrFun h ix0)).2
  have h1 := Host.reduce_andi_all _ _ _ _ ix0 h0 (ix4 b k p n)
  exact Cert.Band.real_of_lt _ h1

/-- Every score is a real number. -/
theorem score_real (X : Rows) (K V : Slots) (hf : Cert.Pre_mem_sample_finite.fn (F := Ideal) X K V = fun _ => 1#1) (b : Fin 16) (h : Fin 4) (q : Fin 32) (k : Fin 256) :
    ∃ r : ℝ, score X K b h q k = (r : EReal) := by
  unfold score
  have hl : ∃ r : ℝ, Ideal.ofBits .f32 0x3D800000#32 = (r : EReal) := ⟨_, by simp [Ideal.ofBits, Ideal.ieee]; rfl⟩
  obtain ⟨l, hl⟩ := hl
  choose x hx using fun e : Fin 256 => finite_rows X K V hf b q (col h e)
  choose y hy using fun e : Fin 256 => finite_keys X K V hf b k h e
  refine ⟨(∑ e, x e * y e) * l, ?_⟩
  rw [hl, Finset.sum_congr rfl fun e _ => (show X _ * K _ = ((x e * y e : ℝ) : EReal) by rw [hx, hy]; rfl), ← Softmax.coe_sum Finset.univ fun e => x e * y e]
  rfl

end

end Cert.MemS
-- ==== Proof.MemSampleKernel.lean ====
module

public import proofs.«01_k».proof.Defs
public import proofs.«01_k».proof.Proof.Gen.MemSampleIdeal.Value
public import proofs.«01_k».proof.Proof.MemSampleSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemSampleIdeal.Attn

open Cert.MemSampleIdeal Cert.MemSampleIdeal.Gen Cert.Mem

/-- One head's scaled scores, its 256 columns taken in two halves. -/
def scores (q0 : FVec Ideal S1x32x128 .f32) (k0 : FVec Ideal S1x256x128 .f32) (q1 : FVec Ideal S1x32x128 .f32) (k1 : FVec Ideal S1x256x128 .f32) : FVec Ideal S32x256 .f32 :=
  k0_pay9 q0 k0 q1 k1

/-- Half of one head's columns of the output, from the head's scores. -/
def half (s : FVec Ideal S32x256 .f32) (v : FVec Ideal S1x256x128 .f32) : FVec Ideal S1x32x128 .bf16 :=
  k0_pay14 s (multiReduction .maximumf [1] S32 s 0xFF800000#32 reduces_S32x256_S32 (.inl rfl) rfl) v

theorem scores_at (q0 : FVec Ideal S1x32x128 .f32) (k0 : FVec Ideal S1x256x128 .f32) (q1 : FVec Ideal S1x32x128 .f32) (k1 : FVec Ideal S1x256x128 .f32) (r : Fin 32) (k : Fin 256) :
    scores q0 k0 q1 k1 (ix2 r k) = ((∑ e : Fin 128, q0 (ix3 0 r e) * k0 (ix3 0 k e)) + ∑ e : Fin 128, q1 (ix3 0 r e) * k1 (ix3 0 k e)) * Ideal.ofBits .f32 0x3D800000#32 := by
  pointwise [scores, k0_pay9]

theorem half_at (s : FVec Ideal S32x256 .f32) (v : FVec Ideal S1x256x128 .f32) (r : Fin 32) (d : Fin 128) :
    half s v (ix3 0 r d) = rowLast (Ideal.ofBits .f32 0xFF800000#32) (fun k => s (ix2 r k)) fun k => v (ix3 0 k d) := by
  pointwise [half, k0_pay14, k0_pay13, k0_pay12, k0_pay11, rowLast]

/-- Every eighth row of a block of slots: half of one head's columns. -/
def every (x : Vec Ideal S1x2048x128 .f32) (o : ℕ) (inb : ∀ a, S1x256x128.size a = 0 ∨ (![0, o, 0] : Fin 3 → ℕ) a + (![1, 8, 1] : Fin 3 → ℕ) a * (S1x256x128.size a - 1) < S1x2048x128.size a) : FVec Ideal S1x256x128 .f32 :=
  fun j => x ((⟨![0, o, 0], S1x256x128.size, ![1, 8, 1], inb⟩ : LoadRect S1x2048x128).idx j)

/-- The scores of a head from the columns and the rows its two halves start at. -/
def head (q : Vec Ideal S1x32x1024 .f32) (k : Vec Ideal S1x2048x128 .f32) (o0 o1 p0 p1 : ℕ) (a0 : ∀ a, (![0, 0, o0] : Fin 3 → ℕ) a + S1x32x128.size a ≤ S1x32x1024.size a) (a1 : ∀ a, (![0, 0, o1] : Fin 3 → ℕ) a + S1x32x128.size a ≤ S1x32x1024.size a)
    (b0 : ∀ a, S1x256x128.size a = 0 ∨ (![0, p0, 0] : Fin 3 → ℕ) a + (![1, 8, 1] : Fin 3 → ℕ) a * (S1x256x128.size a - 1) < S1x2048x128.size a)
    (b1 : ∀ a, S1x256x128.size a = 0 ∨ (![0, p1, 0] : Fin 3 → ℕ) a + (![1, 8, 1] : Fin 3 → ℕ) a * (S1x256x128.size a - 1) < S1x2048x128.size a) : FVec Ideal S32x256 .f32 :=
  scores (View.ld q (Rect.unit ![0, 0, o0] S1x32x128.size a0)) (every k p0 b0) (View.ld q (Rect.unit ![0, 0, o1] S1x32x128.size a1)) (every k p1 b1)

/-- The block a point stores: the heads' halves side by side. -/
def out (q : Vec Ideal S1x32x1024 .f32) (k v : Vec Ideal S1x2048x128 .f32) : Vec Ideal S1x32x1024 .bf16 :=
  View.canon (Val := Elt Ideal) (s := S1x32x1024) (e := .bf16) [
    ⟨Rect.unit ![0, 0, 896] ![1, 32, 128] inb_S1x32x1024_S1x32x128_0_0_896, half (head q k 768 896 6 7 inb_S1x32x1024_S1x32x128_0_0_768 inb_S1x32x1024_S1x32x128_0_0_896 inb_S1x2048x128_S1x256x128_0_6_0_s_1_8_1 inb_S1x2048x128_S1x256x128_0_7_0_s_1_8_1) (every v 7 inb_S1x2048x128_S1x256x128_0_7_0_s_1_8_1)⟩,
    ⟨Rect.unit ![0, 0, 768] ![1, 32, 128] inb_S1x32x1024_S1x32x128_0_0_768, half (head q k 768 896 6 7 inb_S1x32x1024_S1x32x128_0_0_768 inb_S1x32x1024_S1x32x128_0_0_896 inb_S1x2048x128_S1x256x128_0_6_0_s_1_8_1 inb_S1x2048x128_S1x256x128_0_7_0_s_1_8_1) (every v 6 inb_S1x2048x128_S1x256x128_0_6_0_s_1_8_1)⟩,
    ⟨Rect.unit ![0, 0, 640] ![1, 32, 128] inb_S1x32x1024_S1x32x128_0_0_640, half (head q k 512 640 4 5 inb_S1x32x1024_S1x32x128_0_0_512 inb_S1x32x1024_S1x32x128_0_0_640 inb_S1x2048x128_S1x256x128_0_4_0_s_1_8_1 inb_S1x2048x128_S1x256x128_0_5_0_s_1_8_1) (every v 5 inb_S1x2048x128_S1x256x128_0_5_0_s_1_8_1)⟩,
    ⟨Rect.unit ![0, 0, 512] ![1, 32, 128] inb_S1x32x1024_S1x32x128_0_0_512, half (head q k 512 640 4 5 inb_S1x32x1024_S1x32x128_0_0_512 inb_S1x32x1024_S1x32x128_0_0_640 inb_S1x2048x128_S1x256x128_0_4_0_s_1_8_1 inb_S1x2048x128_S1x256x128_0_5_0_s_1_8_1) (every v 4 inb_S1x2048x128_S1x256x128_0_4_0_s_1_8_1)⟩,
    ⟨Rect.unit ![0, 0, 384] ![1, 32, 128] inb_S1x32x1024_S1x32x128_0_0_384, half (head q k 256 384 2 3 inb_S1x32x1024_S1x32x128_0_0_256 inb_S1x32x1024_S1x32x128_0_0_384 inb_S1x2048x128_S1x256x128_0_2_0_s_1_8_1 inb_S1x2048x128_S1x256x128_0_3_0_s_1_8_1) (every v 3 inb_S1x2048x128_S1x256x128_0_3_0_s_1_8_1)⟩,
    ⟨Rect.unit ![0, 0, 256] ![1, 32, 128] inb_S1x32x1024_S1x32x128_0_0_256, half (head q k 256 384 2 3 inb_S1x32x1024_S1x32x128_0_0_256 inb_S1x32x1024_S1x32x128_0_0_384 inb_S1x2048x128_S1x256x128_0_2_0_s_1_8_1 inb_S1x2048x128_S1x256x128_0_3_0_s_1_8_1) (every v 2 inb_S1x2048x128_S1x256x128_0_2_0_s_1_8_1)⟩,
    ⟨Rect.unit ![0, 0, 128] ![1, 32, 128] inb_S1x32x1024_S1x32x128_0_0_128, half (head q k 0 128 0 1 inb_S1x32x1024_S1x32x128_0_0_0 inb_S1x32x1024_S1x32x128_0_0_128 inb_S1x2048x128_S1x256x128_0_0_0_s_1_8_1 inb_S1x2048x128_S1x256x128_0_1_0_s_1_8_1) (every v 1 inb_S1x2048x128_S1x256x128_0_1_0_s_1_8_1)⟩,
    ⟨Rect.unit ![0, 0, 0] ![1, 32, 128] inb_S1x32x1024_S1x32x128_0_0_0, half (head q k 0 128 0 1 inb_S1x32x1024_S1x32x128_0_0_0 inb_S1x32x1024_S1x32x128_0_0_128 inb_S1x2048x128_S1x256x128_0_0_0_s_1_8_1 inb_S1x2048x128_S1x256x128_0_1_0_s_1_8_1) (every v 0 inb_S1x2048x128_S1x256x128_0_0_0_s_1_8_1)⟩]

/-- A load of every eighth row of a whole block. -/
theorem load_every {sp : Space} (r : Memref sig .tc sp S1x2048x128 .f32) (hr : r.IsWhole) (x : Vec Ideal S1x2048x128 .f32) (o : ℕ) (inb : ∀ a, S1x256x128.size a = 0 ∨ (![0, o, 0] : Fin 3 → ℕ) a + (![1, 8, 1] : Fin 3 → ℕ) a * (S1x256x128.size a - 1) < S1x2048x128.size a) :
    r.view.readAt (Elt Ideal) ⟨![0, o, 0], ![1, 256, 128], ![1, 8, 1], inb⟩ (hr.unread x) = every x o inb :=
  funext fun j => congrFun (hr.read_unread (Val := Elt Ideal) x) _

variable (m : (ℓ : Loc nD τ sig) → Buf (Elt Ideal) ℓ)

theorem out_eq (c : Dev nD) (t : Fin cfg0.N) : outsAt0 m c t = out (iblk m c 0 t) (iblk m c 1 t) (iblk m c 2 t) := by
  unfold outsAt0
  frame_out
  simp only [load_every]
  rfl

end Cert.MemSampleIdeal.Attn
-- ==== Proof.MemSampleRef.lean ====
module

public import proofs.«01_k».proof.Proof.Gen.MemSampleRefIdeal.Run
public import proofs.«01_k».proof.Proof.MemSampleSpec
public import proofs.«01_k».proof.Proof.RowMax

@[expose] public section

set_option maxRecDepth 16384

noncomputable section

open Idealize.ShloMosaic

namespace Cert.MemSampleRefIdeal.Attn

open Cert.MemSampleRefIdeal Cert.MemSampleRefIdeal.Gen Cert.Mem Cert.MemS

/-- The scaled scores. -/
def scores (X : FVec Ideal S16x32x7168 .f32) (K : FVec Ideal S16x256x4x256 .f32) : FVec Ideal S16x4x32x256 .f32 :=
  mulf (Host.dotGeneral dot_S16x32x4x256_S16x256x4x256_S16x4x32x256_3_3_1_1_02_02 none
      (shapeCast _ (extractStridedSlice S16x32x1024 ![0, 0, 6144] X slices_S16x32x7168_S16x32x1024_0_0_6144) shapeCasts_S16x32x1024_S16x32x4x256)
      K)
    (broadcastInDim S16x4x32x256 ![] bcast_S_S16x4x32x256 (constant S_ .f32 0x3D800000#32))

/-- Each row's largest score. -/
def tops (S : FVec Ideal S16x4x32x256 .f32) : FVec Ideal S16x4x32 .f32 :=
  maximumf (broadcastInDim S16x4x32 ![] bcast_S_S16x4x32 (constant S_ .f32 0xFF800000#32))
    (Host.reduce FloatOps.maximumf S (constant S_ .f32 0xFF800000#32) reducesTo_S16x4x32x256_S16x4x32_d3 h_S_)

/-- A row's number spread over the row. -/
def rows (T : FVec Ideal S16x4x32 .f32) : FVec Ideal S16x4x32x256 .f32 :=
  broadcastInDim S16x4x32x256 ![0, 1, 2, 3] bcast_S16x4x32x1_S16x4x32x256_0_1_2_3 (broadcastInDim S16x4x32x1 ![0, 1, 2] bcast_S16x4x32_S16x4x32x1_0_1_2 T)

/-- The exponentials over each row's largest score. -/
def exps (S : FVec Ideal S16x4x32x256 .f32) : FVec Ideal S16x4x32x256 .f32 :=
  Host.exp (subf S (rows (tops S)))

/-- The weights: each row's exponentials over their sum. -/
def weights (E : FVec Ideal S16x4x32x256 .f32) : FVec Ideal S16x4x32x256 .f32 :=
  Host.divf E (rows (Host.reduceAdd E (constant S_ .f32 0x00000000#32) reducesTo_S16x4x32x256_S16x4x32_d3 h_S_))

/-- The values under the weights, heads side by side. -/
def mixed (K : FVec Ideal S16x256x4x256 .f32) (W : FVec Ideal S16x4x32x256 .f32) : FVec Ideal S16x32x1024 .bf16 :=
  truncf .bf16 (shapeCast _ (transpose S16x32x4x256 [0, 3, 1, 2] (Host.dotGeneral dot_S16x256x4x256_S16x4x32x256_S16x4x256x32_1_3_3_2_02_01 none
    K W)
    transposes_S16x4x256x32_S16x32x4x256_0_3_1_2) shapeCasts_S16x32x4x256_S16x32x1024) bitsLt_bf16_f32

/-- The reference's term of its three arguments. -/
def ref (X : FVec Ideal S16x32x7168 .f32) (K V : FVec Ideal S16x256x4x256 .f32) : FVec Ideal S16x32x1024 .bf16 :=
  mixed V (weights (exps (scores X K)))

theorem scores_at (X : FVec Ideal S16x32x7168 .f32) (K : FVec Ideal S16x256x4x256 .f32) (b : Fin 16) (h : Fin 4) (q : Fin 32) (k : Fin 256) :
    scores X K (ix4 b h q k) = Cert.MemS.score X K b h q k := by
  unfold Cert.MemS.score qcol col
  pointwise [scores]

theorem rows_at (T : FVec Ideal S16x4x32 .f32) (b : Fin 16) (h : Fin 4) (q : Fin 32) (k : Fin 256) : rows T (ix4 b h q k) = T (ix3 b h q) := by
  pointwise [rows]

theorem tops_at (S : FVec Ideal S16x4x32x256 .f32) (b : Fin 16) (h : Fin 4) (q : Fin 32) :
    tops S (ix3 b h q) = max (Ideal.ofBits .f32 0xFF800000#32)
      (Finset.univ.fold max (Ideal.ofBits .f32 0xFF800000#32) fun l : Fin 256 => S (ix4 b h q l)) := by
  exact Softmax.row_max S 0xFF800000#32 0xFF800000#32 bcast_S_S16x4x32 reducesTo_S16x4x32x256_S16x4x32_d3 h_S_ b h q

theorem exps_at (S : FVec Ideal S16x4x32x256 .f32) (b : Fin 16) (h : Fin 4) (q : Fin 32) (k : Fin 256) :
    exps S (ix4 b h q k) = Ideal.exp (S (ix4 b h q k) - tops S (ix3 b h q)) := by
  rw [← rows_at (tops S) b h q k]
  rfl

theorem weights_at (E : FVec Ideal S16x4x32x256 .f32) (b : Fin 16) (h : Fin 4) (q : Fin 32) (k : Fin 256) :
    weights E (ix4 b h q k) = Ideal.div (E (ix4 b h q k)) (∑ l : Fin 256, E (ix4 b h q l)) := by
  pointwise [weights, rows]

theorem mixed_at (K : FVec Ideal S16x256x4x256 .f32) (W : FVec Ideal S16x4x32x256 .f32) (b : Fin 16) (h : Fin 4) (q : Fin 32) (d : Fin 256) :
    mixed K W (ix3 b q (col h d)) = ∑ k : Fin 256, W (ix4 b h q k) * K (ix4 b k h d) := by
  unfold col
  pointwise [mixed]
  exact Finset.sum_congr rfl fun k _ => mul_comm _ _

theorem ref_at (X : FVec Ideal S16x32x7168 .f32) (K V : FVec Ideal S16x256x4x256 .f32) (b : Fin 16) (h : Fin 4) (q : Fin 32) (d : Fin 256) :
    ref X K V (ix3 b q (col h d)) = rowFirst (Ideal.ofBits .f32 0xFF800000#32) (Ideal.ofBits .f32 0xFF800000#32) (Cert.MemS.score X K b h q) fun k => V (ix4 b k h d) := by
  unfold ref
  rw [mixed_at]
  have e : ∀ k, scores X K (ix4 b h q k) = Cert.MemS.score X K b h q k := scores_at X K b h q
  simp only [weights_at, exps_at, tops_at, e]
  rfl

end Cert.MemSampleRefIdeal.Attn
-- ==== Proof.MemSample.lean ====
module

public import proofs.«01_k».proof.Proof.MemSampleKernel
public import proofs.«01_k».proof.Proof.MemSampleRef

@[expose] public section

set_option maxRecDepth 16384

noncomputable section

open Idealize.ShloMosaic Idealize.ShloMosaic.TcCoe Idealize.SL.Sem
open Idealize.ShloMosaic.Pipeline (Dat)

namespace Cert.MemSampleIdeal.Attn

open Cert.MemSampleIdeal Cert.MemSampleIdeal.Gen Cert.Mem

/-- Columns of a block of queries, read at an index. -/
theorem ld_q (x : Vec Ideal S1x32x1024 .f32) (o : ℕ) (inb : ∀ a, (![0, 0, o] : Fin 3 → ℕ) a + S1x32x128.size a ≤ S1x32x1024.size a) (r : Fin 32) (e : Fin 128) (E : Fin 1024)
    (hE : o + e.val = E.val) : View.ld x (Rect.unit ![0, 0, o] S1x32x128.size inb) (ix3 (0 : Fin 1) r e) = x (ix3 (0 : Fin 1) r E) := by
  refine congrArg x (funext fun a => Fin.ext ?_)
  fin_cases a
  · rfl
  · show 0 + 1 * r.val = r.val; omega
  · show o + 1 * e.val = E.val; omega

/-- A column of a slot: a block keeps a slot's 1024 columns as eight rows. -/
def slot (x : Vec Ideal S1x2048x128 .f32) (j : Fin 256) (n : Fin 1024) : EReal :=
  x (ix3 0 ⟨j.val * 8 + n.val / 128, by omega⟩ ⟨n.val % 128, by omega⟩)

/-- Every eighth row of a block of slots, read at an index. -/
theorem every_at (x : Vec Ideal S1x2048x128 .f32) (o : ℕ) (inb : ∀ a, S1x256x128.size a = 0 ∨ (![0, o, 0] : Fin 3 → ℕ) a + (![1, 8, 1] : Fin 3 → ℕ) a * (S1x256x128.size a - 1) < S1x2048x128.size a)
    (j : Fin 256) (e : Fin 128) (E : Fin 1024) (hE : o * 128 + e.val = E.val) : every x o inb (ix3 (0 : Fin 1) j e) = slot x j E := by
  refine congrArg x (funext fun a => Fin.ext ?_)
  fin_cases a
  · rfl
  · show o + 8 * j.val = j.val * 8 + E.val / 128; omega
  · show 0 + 1 * e.val = E.val % 128; omega

/-- A query's score against a slot, from the point's blocks. -/
def dot (q : Vec Ideal S1x32x1024 .f32) (k : Vec Ideal S1x2048x128 .f32) (h : Fin 4) (r : Fin 32) (j : Fin 256) : EReal :=
  (∑ e : Fin 256, q (ix3 0 r (col h e)) * slot k j (col h e)) * Ideal.ofBits .f32 0x3D800000#32

/-- One row of one head's attention at a point, from the point's blocks. -/
def point (q : Vec Ideal S1x32x1024 .f32) (k v : Vec Ideal S1x2048x128 .f32) (h : Fin 4) (r : Fin 32) (n : Fin 1024) : EReal :=
  rowLast (Ideal.ofBits .f32 0xFF800000#32) (dot q k h r) fun j => slot v j n

/-- The two halves of a head's columns make its whole product. -/
theorem dot_halves (q : Vec Ideal S1x32x1024 .f32) (k : Vec Ideal S1x2048x128 .f32) (h : Fin 4) (r : Fin 32) (j : Fin 256) (o0 o1 p0 p1 : ℕ)
    (h0 : o0 = h.val * 256) (h1 : o1 = h.val * 256 + 128) (g0 : p0 = h.val * 2) (g1 : p1 = h.val * 2 + 1)
    (a0 : ∀ a, (![0, 0, o0] : Fin 3 → ℕ) a + S1x32x128.size a ≤ S1x32x1024.size a) (a1 : ∀ a, (![0, 0, o1] : Fin 3 → ℕ) a + S1x32x128.size a ≤ S1x32x1024.size a)
    (b0 : ∀ a, S1x256x128.size a = 0 ∨ (![0, p0, 0] : Fin 3 → ℕ) a + (![1, 8, 1] : Fin 3 → ℕ) a * (S1x256x128.size a - 1) < S1x2048x128.size a)
    (b1 : ∀ a, S1x256x128.size a = 0 ∨ (![0, p1, 0] : Fin 3 → ℕ) a + (![1, 8, 1] : Fin 3 → ℕ) a * (S1x256x128.size a - 1) < S1x2048x128.size a) :
    head q k o0 o1 p0 p1 a0 a1 b0 b1 (ix2 r j) = dot q k h r j := by
  refine (scores_at _ _ _ _ r j).trans (congrArg (· * Ideal.ofBits .f32 0x3D800000#32) (Eq.trans ?_ (Fin.sum_univ_add (a := 128) (b := 128) fun e : Fin 256 => (q (ix3 0 r (col h e)) * slot k j (col h e) : EReal)).symm))
  refine congrArg₂ (· + ·) (Finset.sum_congr rfl fun e _ => ?_) (Finset.sum_congr rfl fun e _ => ?_)
  · exact congrArg₂ (· * ·) (ld_q q o0 a0 r e _ (by show o0 + e.val = h.val * 256 + e.val; omega)) (every_at k p0 b0 j e _ (by show p0 * 128 + e.val = h.val * 256 + e.val; omega))
  · exact congrArg₂ (· * ·) (ld_q q o1 a1 r e _ (by show o1 + e.val = h.val * 256 + (128 + e.val); omega)) (every_at k p1 b1 j e _ (by show p1 * 128 + e.val = h.val * 256 + (128 + e.val); omega))

theorem out_piece (q : Vec Ideal S1x32x1024 .f32) (k v : Vec Ideal S1x2048x128 .f32) (p o0 o1 p0 p1 o : ℕ)
    (h0 : o0 = p * 256) (h1 : o1 = p * 256 + 128) (g0 : p0 = p * 2) (g1 : p1 = p * 2 + 1) (ho : o = p0 ∨ o = p1)
    (a0 : ∀ a, (![0, 0, o0] : Fin 3 → ℕ) a + S1x32x128.size a ≤ S1x32x1024.size a) (a1 : ∀ a, (![0, 0, o1] : Fin 3 → ℕ) a + S1x32x128.size a ≤ S1x32x1024.size a)
    (b0 : ∀ a, S1x256x128.size a = 0 ∨ (![0, p0, 0] : Fin 3 → ℕ) a + (![1, 8, 1] : Fin 3 → ℕ) a * (S1x256x128.size a - 1) < S1x2048x128.size a)
    (b1 : ∀ a, S1x256x128.size a = 0 ∨ (![0, p1, 0] : Fin 3 → ℕ) a + (![1, 8, 1] : Fin 3 → ℕ) a * (S1x256x128.size a - 1) < S1x2048x128.size a)
    (b : ∀ a, S1x256x128.size a = 0 ∨ (![0, o, 0] : Fin 3 → ℕ) a + (![1, 8, 1] : Fin 3 → ℕ) a * (S1x256x128.size a - 1) < S1x2048x128.size a)
    (h : Fin 4) (r : Fin 32) (d : Fin 256) (y : S1x32x128.Idx)
    (y0 : (y 0).val < 1) (hr : r.val = (y 1).val) (y2 : (y 2).val < 128) (hd : h.val * 256 + d.val = o * 128 + (y 2).val) :
    half (head q k o0 o1 p0 p1 a0 a1 b0 b1) (every v o b) y = point q k v h r (col h d) := by
  have e : y = ix3 (0 : Fin 1) r (⟨(y 2).val, y2⟩ : Fin 128) := by
    have e0 : y 0 = (0 : Fin 1) := Fin.ext (by show (y 0).val = 0; omega)
    have e1 : y 1 = r := Fin.ext hr.symm
    exact (eq_ix3 y).trans (congr (congr (congrArg ix3 e0) e1) (Fin.ext rfl))
  have hp : p = h.val := by omega
  refine (congrArg _ e).trans ((half_at _ _ r _).trans ?_)
  exact congrArg₂ (rowLast (Ideal.ofBits .f32 0xFF800000#32)) (funext fun j => dot_halves q k h r j o0 o1 p0 p1 (by omega) (by omega) (by omega) (by omega) a0 a1 b0 b1)
    (funext fun j => every_at v o b j _ (col h d) (by show o * 128 + (y 2).val = h.val * 256 + d.val; omega))

theorem out_at (q : Vec Ideal S1x32x1024 .f32) (k v : Vec Ideal S1x2048x128 .f32) (h : Fin 4) (r : Fin 32) (d : Fin 256) :
    out q k v (ix3 0 r (col h d)) = point q k v h r (col h d) := by
  unfold out
  canon_tiles y hy
  · exact out_piece q k v 3 768 896 6 7 7 rfl rfl rfl rfl (.inr rfl) _ _ _ _ _ h r d y y0_lt hy1 y2_lt hy2
  · exact out_piece q k v 3 768 896 6 7 6 rfl rfl rfl rfl (.inl rfl) _ _ _ _ _ h r d y y0_lt hy1 y2_lt hy2
  · exact out_piece q k v 2 512 640 4 5 5 rfl rfl rfl rfl (.inr rfl) _ _ _ _ _ h r d y y0_lt hy1 y2_lt hy2
  · exact out_piece q k v 2 512 640 4 5 4 rfl rfl rfl rfl (.inl rfl) _ _ _ _ _ h r d y y0_lt hy1 y2_lt hy2
  · exact out_piece q k v 1 256 384 2 3 3 rfl rfl rfl rfl (.inr rfl) _ _ _ _ _ h r d y y0_lt hy1 y2_lt hy2
  · exact out_piece q k v 1 256 384 2 3 2 rfl rfl rfl rfl (.inl rfl) _ _ _ _ _ h r d y y0_lt hy1 y2_lt hy2
  · exact out_piece q k v 0 0 128 0 1 1 rfl rfl rfl rfl (.inr rfl) _ _ _ _ _ h r d y y0_lt hy1 y2_lt hy2
  · exact out_piece q k v 0 0 128 0 1 0 rfl rfl rfl rfl (.inl rfl) _ _ _ _ _ h r d y y0_lt hy1 y2_lt (hy2.trans (Nat.zero_add _).symm)

variable (m : (ℓ : Loc nD τ sig) → Buf (Elt Ideal) ℓ)

/-- The rows a device was given. -/
abbrev X (c : Dev nD) : Cert.MemS.Rows := m ((c : Thread nD τ).loc main_arg0)
/-- The keys a device was given. -/
abbrev K (c : Dev nD) : Cert.MemS.Slots := m ((c : Thread nD τ).loc main_arg1)
/-- The values a device was given. -/
abbrev U (c : Dev nD) : Cert.MemS.Slots := m ((c : Thread nD τ).loc main_arg2)

/-- The windows' blocks at a grid point: one sample each. -/
theorem idx : ∀ t : Fin cfg0.N, win0_0.index t = ![t.val, 0, 6] ∧ win0_1.index t = ![t.val, 0, 0]
    ∧ win0_2.index t = ![t.val, 0, 0] ∧ win0_3.index t = ![t.val, 0, 0] :=
  (by decide +kernel : ∀ t : Fin grid0.N, _)

/-- The sample of a grid point. -/
def bat (t : Fin cfg0.N) : Fin 16 := ⟨t.val, t.isLt⟩

theorem q_at (c : Dev nD) (t : Fin cfg0.N) (r : Fin 32) (n : Fin 1024) :
    iblk m c 0 t (ix3 0 r n) = X m c (ix3 (bat t) r (qcol n)) := by
  unfold bat qcol
  blk_ext [iblk, V, idx t]

/-- The slots laid out in rows of 128 columns, read at an index. -/
theorem cast_at (a : FVec Ideal S16x256x4x256 .f32) (b : Fin 16) (R : Fin 2048) (L : Fin 128) :
    shapeCast S16x2048x128 a shapeCasts_S16x256x4x256_S16x2048x128 (ix3 b R L)
      = a (ix4 b ⟨R.val / 8, by omega⟩ ⟨R.val / 2 % 4, by omega⟩ ⟨R.val % 2 * 128 + L.val, by omega⟩) := by
  pointwise

theorem slot_at (a : FVec Ideal S16x256x4x256 .f32) (b : Fin 16) (j : Fin 256) (h : Fin 4) (e : Fin 256) :
    shapeCast S16x2048x128 a shapeCasts_S16x256x4x256_S16x2048x128
      (ix3 b ⟨j.val * 8 + (col h e).val / 128, by omega⟩ ⟨(col h e).val % 128, by omega⟩) = a (ix4 b j h e) := by
  have v : (col h e).val = h.val * 256 + e.val := rfl
  refine (cast_at a b _ _).trans (congrArg a ?_)
  have e1 : (⟨(j.val * 8 + (col h e).val / 128) / 8, by omega⟩ : Fin 256) = j := Fin.ext (by show (j.val * 8 + (col h e).val / 128) / 8 = j.val; omega)
  have e2 : (⟨(j.val * 8 + (col h e).val / 128) / 2 % 4, by omega⟩ : Fin 4) = h := Fin.ext (by show (j.val * 8 + (col h e).val / 128) / 2 % 4 = h.val; omega)
  have e3 : (⟨(j.val * 8 + (col h e).val / 128) % 2 * 128 + (col h e).val % 128, by omega⟩ : Fin 256) = e :=
    Fin.ext (by show (j.val * 8 + (col h e).val / 128) % 2 * 128 + (col h e).val % 128 = e.val; omega)
  exact congr (congr (congrArg (ix4 b) e1) e2) e3

theorem k_at (c : Dev nD) (t : Fin cfg0.N) (j : Fin 256) (h : Fin 4) (e : Fin 256) :
    slot (iblk m c 1 t) j (col h e) = K m c (ix4 (bat t) j h e) := by
  have e0 : V m c main_v0 = shapeCast S16x2048x128 (K m c) shapeCasts_S16x256x4x256_S16x2048x128 := by
    entry_read
    rfl
  have e1 : ∀ (R : Fin 2048) (L : Fin 128), iblk m c 1 t (ix3 0 R L) = V m c main_v0 (ix3 (bat t) R L) := by
    intro R L
    unfold bat
    blk_ext [iblk, idx t]
  exact (e1 _ _).trans ((congrFun e0 _).trans (slot_at _ (bat t) j h e))

theorem v_at (c : Dev nD) (t : Fin cfg0.N) (j : Fin 256) (h : Fin 4) (e : Fin 256) :
    slot (iblk m c 2 t) j (col h e) = U m c (ix4 (bat t) j h e) := by
  have e0 : V m c main_v1 = shapeCast S16x2048x128 (U m c) shapeCasts_S16x256x4x256_S16x2048x128 := by
    entry_read
    rfl
  have e1 : ∀ (R : Fin 2048) (L : Fin 128), iblk m c 2 t (ix3 0 R L) = V m c main_v1 (ix3 (bat t) R L) := by
    intro R L
    unfold bat
    blk_ext [iblk, idx t]
  exact (e1 _ _).trans ((congrFun e0 _).trans (slot_at _ (bat t) j h e))

theorem low_ne_top : Ideal.ofBits .f32 0xFF800000#32 ≠ ⊤ := by
  rw [Cert.Band.low]
  exact bot_ne_top

/-- A point's row is the reference's. -/
theorem out_point [Cert.Pre_mem_sample_finite.Facts] (c : Dev nD) (hf : Cert.Pre_mem_sample_finite.fn (F := Ideal) (X m c) (K m c) (U m c) = fun _ => 1#1) (t : Fin cfg0.N) (h : Fin 4) (r : Fin 32) (d : Fin 256) :
    out (iblk m c 0 t) (iblk m c 1 t) (iblk m c 2 t) (ix3 0 r (col h d)) = Cert.MemSampleRefIdeal.Attn.ref (X m c) (K m c) (U m c) (ix3 (bat t) r (col h d)) := by
  refine (out_at _ _ _ h r d).trans (Eq.trans ?_ (Cert.MemSampleRefIdeal.Attn.ref_at (X m c) (K m c) (U m c) (bat t) h r d).symm)
  refine Eq.trans ?_ (row_eq _ _ _ low_ne_top low_ne_top low_ne_top _ _ (Cert.MemS.score_real (X m c) (K m c) (U m c) hf (bat t) h r))
  refine congrArg₂ (rowLast (Ideal.ofBits .f32 0xFF800000#32)) (funext fun j => ?_) (funext fun j => v_at m c t j h d)
  exact congrArg (· * Ideal.ofBits .f32 0x3D800000#32) (Finset.sum_congr rfl fun e _ => congrArg₂ (· * ·) (q_at m c t r _) (k_at m c t j h e))

theorem point_eq [Cert.Pre_mem_sample_finite.Facts] (c : Dev nD) (hf : Cert.Pre_mem_sample_finite.fn (F := Ideal) (X m c) (K m c) (U m c) = fun _ => 1#1) (t : Fin cfg0.N)
    (y : (⟨3, ![1, 32, 1024]⟩ : Shape).Idx) (z : (⟨3, ![16, 32, 1024]⟩ : Shape).Idx)
    (h0 : (z 0).val = t.val) (h1 : (z 1).val = (y 1).val) (h2 : (z 2).val = (y 2).val) :
    out (iblk m c 0 t) (iblk m c 1 t) (iblk m c 2 t) y = Cert.MemSampleRefIdeal.Attn.ref (X m c) (K m c) (U m c) z := by
  have y0 : (y 0).val < 1 := (y 0).isLt
  have y1 : (y 1).val < 32 := (y 1).isLt
  have y2 : (y 2).val < 1024 := (y 2).isLt
  have q0 : (y 2).val / 256 < 4 := by omega
  have q1 : (y 2).val % 256 < 256 := by omega
  have e0 : (y 0).val = 0 := by omega
  have e2 : (y 2).val = (y 2).val / 256 * 256 + (y 2).val % 256 := by omega
  have ey : y = ix3 (0 : Fin 1) (⟨(y 1).val, y1⟩ : Fin 32) (col ⟨(y 2).val / 256, q0⟩ ⟨(y 2).val % 256, q1⟩) :=
    (eq_ix3 y).trans (congr (congr (congrArg ix3 (Fin.ext e0)) (Fin.ext rfl)) (Fin.ext e2))
  have ez : z = ix3 (bat t) (⟨(y 1).val, y1⟩ : Fin 32) (col ⟨(y 2).val / 256, q0⟩ ⟨(y 2).val % 256, q1⟩) :=
    (eq_ix3 z).trans (congr (congr (congrArg ix3 (Fin.ext h0)) (Fin.ext h1)) (Fin.ext (h2.trans e2)))
  rw [ez]
  exact (congrArg _ ey).trans (out_point m c hf t _ _ _)

theorem final [Cert.Pre_mem_sample_finite.Facts] (c : Dev nD) (hf : Cert.Pre_mem_sample_finite.fn (F := Ideal) (X m c) (K m c) (U m c) = fun _ => 1#1) :
    (dats m 0 c).arrAt 3 (cfgs 0).N = Cert.MemSampleRefIdeal.Attn.ref (X m c) (K m c) (U m c) := by
  refine (dats m 0 c).arrAt_eq_of_covers 3 _ (by decide +kernel) fun t _ y => ?_
  blk_simp
  rw [after0_3, out_eq]
  refine point_eq m c hf t y _ ?_ ?_ ?_
  · blk_simp [idx t]
  · blk_simp [idx t]
  · blk_simp [idx t]

end Cert.MemSampleIdeal.Attn

/-- The kernel's result is the attention of the reference on the samples, whenever queries and keys are real numbers. -/
theorem Cert.Proof.mem_sample [Cert.Pre_mem_sample_finite.Facts] : Cert.algebraic_MemSampleIdeal_MemSampleRefIdeal_pre_mem_sample_finite := by
  pair_intro
  · run_from Cert.MemSampleIdeal.Gen.run_main m g
  · run_from Cert.MemSampleRefIdeal.Value.run m' g'
    rw [Cert.MemSampleIdeal.Attn.final m c (hpre c)]
    rfl
-- ==== Proof.OutLnRun.lean ====
module

public import proofs.«01_k».proof.Proof.Gen.OutLnIdeal.Frame
public import proofs.«01_k».proof.Proof.Gen.OutLnIdeal.Skeleton
public import Idealize.ShloMosaic.Lib.VecWindow

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.OutLnIdeal.Rows

open Cert.OutLnIdeal Cert.OutLnIdeal.Gen

variable {F : FTy → Type} [FloatOps F]

local notation "𝕄" => MT nD τ sig Unit (Elt F) ℕ (UR sig nD τ) ℕ

/-- The last point of each row of blocks is the one that normalizes. -/
theorem cond : ∀ t : Fin cfg0.N, k0_cond1 (grid0.coords t) = 1#1 ↔ t.val % 8 = 7 :=
  (by decide +kernel : ∀ t : Fin grid0.N, k0_cond1 (grid0.coords t) = 1#1 ↔ t.val % 8 = 7)

/-- Each point stores its 512 columns of the row block. -/
theorem off : ∀ t : Fin cfg0.N, k0_off1 (grid0.coords t) = ![0, t.val % 8 * 512] :=
  (by decide +kernel : ∀ t : Fin grid0.N, k0_off1 (grid0.coords t) = ![0, t.val % 8 * 512])

/-- A row block with the columns of one point replaced. -/
def put (i : grid0.Coords) (Y : Vec F S512x4096 .f32) (z : Vec F S512x512 .f32) : Vec F S512x4096 .f32 :=
  VecWindow.put Y (k0_off1 i) S512x512.size z

set_option maxHeartbeats 1000000 in
/-- A point that is not the last of its row of blocks replaces its columns and leaves everything else. -/
theorem run_part (c : Dev nD) (i : grid0.Coords) (arg2 : Memref sig .tc .vmem S512x3072 .bf16) (harg2 : arg2.IsWhole) (arg3 : Memref sig .tc .vmem S512x1024 .bf16) (harg3 : arg3.IsWhole) (arg4 : Memref sig .tc .vmem S3072x512 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S512x4096 .f32) (harg9 : arg9.IsWhole) (arg10 : Memref sig .tc .vmem S512x4096 .bf16) (harg10 : arg10.IsWhole)
    (hc0 : ¬k0_cond1 i = 1#1)
    (x0 : Vec F S512x3072 .bf16) (x1 : Vec F S512x1024 .bf16) (x2 : Vec F S3072x512 .bf16) (x3 : Vec F S1024x512 .bf16) (x4 : Vec F S512x512 .f32) (x5 x6 : Vec F S1x4096 .f32) (Y : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare Y ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (put i Y (k0_pay1 x0 x2 x1 x3 x4)) ∗ (∃ d, owns (c : Thread nD τ) arg10 fullShare d)) -∗ K ⟨⟩))
      ⊢ wp frame (wpE (defs₀ (F := F)) Variants.none c none) E (cc0__out_ln_kernel i arg2 harg2 arg3 harg3 arg4 harg4 arg5 harg5 arg6 harg6 arg7 harg7 arg8 harg8 arg9 harg9 arg10 harg10) K := by
  simp only [cc0__out_ln_kernel_eq_skeleton]; unfold cc0__out_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [View.read_writes_cons_put _ _ _ _ _ rfl, View.writes_nil, hf7]
    exact congrArg (put i Y) (congr (congr (congr (congr (congrArg k0_pay1 ((View.readAt_full _ _ _).trans hf0)) ((View.readAt_full _ _ _).trans hf2))
      ((View.readAt_full _ _ _).trans hf1)) ((View.readAt_full _ _ _).trans hf3)) ((View.readAt_full _ _ _).trans hf4))
  iexists _; iexists _; isplitr
  swap; · iexact H8
  ipureintro; rfl

set_option maxHeartbeats 1000000 in
/-- The last point of a row of blocks replaces its columns, normalizes the rows, and stores them twice, once rounded. -/
theorem run_last (c : Dev nD) (i : grid0.Coords) (arg2 : Memref sig .tc .vmem S512x3072 .bf16) (harg2 : arg2.IsWhole) (arg3 : Memref sig .tc .vmem S512x1024 .bf16) (harg3 : arg3.IsWhole) (arg4 : Memref sig .tc .vmem S3072x512 .bf16) (harg4 : arg4.IsWhole) (arg5 : Memref sig .tc .vmem S1024x512 .bf16) (harg5 : arg5.IsWhole) (arg6 : Memref sig .tc .vmem S512x512 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S512x4096 .f32) (harg9 : arg9.IsWhole) (arg10 : Memref sig .tc .vmem S512x4096 .bf16) (harg10 : arg10.IsWhole)
    (hc0 : k0_cond1 i = 1#1)
    (x0 : Vec F S512x3072 .bf16) (x1 : Vec F S512x1024 .bf16) (x2 : Vec F S3072x512 .bf16) (x3 : Vec F S1024x512 .bf16) (x4 : Vec F S512x512 .f32) (x5 x6 : Vec F S1x4096 .f32) (Y : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare Y ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (put i Y (k0_pay1 x0 x2 x1 x3 x4)) x5 x6) ∗ owns (c : Thread nD τ) arg10 fullShare (k0_pay3 (put i Y (k0_pay1 x0 x2 x1 x3 x4)) x5 x6)) -∗ K ⟨⟩))
      ⊢ wp frame (wpE (defs₀ (F := F)) Variants.none c none) E (cc0__out_ln_kernel i arg2 harg2 arg3 harg3 arg4 harg4 arg5 harg5 arg6 harg6 arg7 harg7 arg8 harg8 arg9 harg9 arg10 harg10) K := by
  simp only [cc0__out_ln_kernel_eq_skeleton]; unfold cc0__out_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [View.read_writes_full]
    refine congr (congr (congrArg k0_pay2 ?_) ((View.readAt_full _ _ _).trans hf5)) ((View.readAt_full _ _ _).trans hf6)
    unfold run_last.sl.v18 run_last.sl.H7_1
    refine (View.readAt_full _ _ _).trans ?_
    rw [View.read_writes_cons_put _ _ _ _ _ rfl, View.writes_nil, hf7]
    exact congrArg (put i Y) (congr (congr (congr (congr (congrArg k0_pay1 ((View.readAt_full _ _ _).trans hf0)) ((View.readAt_full _ _ _).trans hf2))
      ((View.readAt_full _ _ _).trans hf1)) ((View.readAt_full _ _ _).trans hf3)) ((View.readAt_full _ _ _).trans hf4))
  iexists _; isplitr
  swap; · iexact H8
  ipureintro
  rw [View.read_writes_full]
  refine congr (congr (congrArg k0_pay3 ?_) ((View.readAt_full _ _ _).trans hf5)) ((View.readAt_full _ _ _).trans hf6)
  unfold run_last.sl.v18 run_last.sl.H7_1
  refine (View.readAt_full _ _ _).trans ?_
  rw [View.read_writes_cons_put _ _ _ _ _ rfl, View.writes_nil, hf7]
  exact congrArg (put i Y) (congr (congr (congr (congr (congrArg k0_pay1 ((View.readAt_full _ _ _).trans hf0)) ((View.readAt_full _ _ _).trans hf2))
    ((View.readAt_full _ _ _).trans hf1)) ((View.readAt_full _ _ _).trans hf3)) ((View.readAt_full _ _ _).trans hf4))

end Cert.OutLnIdeal.Rows
-- ==== Proof.OutLnFrame.lean ====
module

public import proofs.«01_k».proof.Defs
public import proofs.«01_k».proof.Proof.OutLnRun
public import Idealize.ShloMosaic.Lib.Pointwise
public import Idealize.ShloMosaic.Lib.Pipeline.DatRel
public import Idealize.ShloMosaic.Lib.Pipeline.ArrRel

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

namespace Cert.OutLnIdeal.Rows

open Cert.OutLnIdeal Cert.OutLnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The columns that one point computes. -/
def part (c : Dev nD) (t : Fin cfg0.N) : Vec F S512x512 .f32 :=
  k0_pay1 (iblk m c 0 t) (X0_2 m c t) (iblk m c 1 t) (iblk m c 3 t) (iblk m c 4 t)

/-- The point of `t`'s row of blocks that computes column `j`. -/
def pt (t : Fin cfg0.N) (j : Fin 4096) : Fin cfg0.N :=
  ⟨t.val / 8 * 8 + j.val / 512, by
    have h := lt_of_lt_of_eq t.isLt (show cfg0.N = 128 from N_0)
    have e : cfg0.N = 128 := N_0
    omega⟩

/-- The whole row block, every point of the row of blocks having stored its columns. -/
def full (c : Dev nD) (t : Fin cfg0.N) : Vec F S512x4096 .f32 :=
  fun y => part m c (pt t (y 1)) (ix2 (y 0) ⟨(y 1).val % 512, Nat.mod_lt _ (by decide)⟩)

/-- The two outputs, whose contents are held to a relation. -/
def held : Fin cfg0.W → Bool
  | ⟨7, _⟩ => true
  | ⟨8, _⟩ => true
  | _ => false

/-- What a point leaves in the outputs: the columns stored so far, and at the last point of a row of blocks the
    normalized rows, unrounded and rounded. -/
def Holds (c : Dev nD) : (w : Fin cfg0.W) → Fin cfg0.N → ((cfg0.win w).block.Idx → Elt F (cfg0.win w).elt) → Prop
  | ⟨7, _⟩, t, X => (t.val % 8 = 7 → X = k0_pay2 (full m c t) (iblk m c 5 t) (iblk m c 6 t))
      ∧ (t.val % 8 ≠ 7 → ∀ y : S512x4096.Idx, (y 1).val < 512 * (t.val % 8 + 1) → X y = full m c t y)
  | ⟨8, _⟩, t, X => t.val % 8 = 7 → X = k0_pay3 (full m c t) (iblk m c 5 t) (iblk m c 6 t)
  | _, _, _ => True

/-- The exact part of the proof data: every input stays as it is. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => k0_pay2 (full m c t) (iblk m c 5 t) (iblk m c 6 t)
    | ⟨8, _⟩ => k0_pay3 (full m c t) (iblk m c 5 t) (iblk m c 6 t)
  Φ _ := Pipeline.ΦA spec0 c
  q w := Pipeline.shareOf spec0 w
  owed _ := 0

theorem A_eq (c : Dev nD) (w : Fin cfg0.W) : (dats m c).A w = V m c (Pipeline.arrRef spec0 w) := by
  dsimp only [dats]

theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = X0_2 m c t := by dsimp only [dats]
theorem after3 (c : Dev nD) (t : Fin cfg0.N) : (dats m c).after 3 t = iblk m c 3 t := by dsimp only [dats]
theorem after4 (c : Dev nD) (t : Fin cfg0.N) : (dats m c).after 4 t = iblk m c 4 t := by dsimp only [dats]
theorem after5 (c : Dev nD) (t : Fin cfg0.N) : (dats m c).after 5 t = iblk m c 5 t := by dsimp only [dats]
theorem after6 (c : Dev nD) (t : Fin cfg0.N) : (dats m c).after 6 t = iblk m c 6 t := by dsimp only [dats]

/-- The data with the outputs held to their relation. -/
abbrev rel (c : Dev nD) : RDat τ (Elt F) Unit ℕ (UR sig nD τ) ℕ cfg0 c := (dats m c).toRRel held (Holds m c)

/-- The columns that a point leaves, over a row block that already holds the columns of the points before it. -/
theorem put_full (c : Dev nD) (t : Fin cfg0.N) (Y : Vec F S512x4096 .f32)
    (hY : ∀ y : S512x4096.Idx, (y 1).val < 512 * (t.val % 8) → Y y = full m c t y) (y : S512x4096.Idx)
    (hy : (y 1).val < 512 * (t.val % 8 + 1)) : put (grid0.coords t) Y (part m c t) y = full m c t y := by
  have ho := off t
  unfold put VecWindow.put
  by_cases h : ∀ a, k0_off1 (grid0.coords t) a ≤ (y a).val ∧ (y a).val < k0_off1 (grid0.coords t) a + S512x512.size a
  · rw [dif_pos h]
    have h1 := h 1
    rw [ho] at h1
    have h1' : t.val % 8 * 512 ≤ (y 1).val ∧ (y 1).val < t.val % 8 * 512 + 512 := h1
    unfold full
    have hp : pt t (y 1) = t := Fin.ext (by show t.val / 8 * 8 + (y 1).val / 512 = t.val; omega)
    rw [hp]
    refine congrArg (part m c t) (funext fun a => Fin.ext ?_)
    fin_cases a
    · show (y 0).val - k0_off1 (grid0.coords t) 0 = (y 0).val
      rw [ho]; rfl
    · show (y 1).val - k0_off1 (grid0.coords t) 1 = (y 1).val % 512
      rw [ho]
      show (y 1).val - t.val % 8 * 512 = (y 1).val % 512
      omega
  · rw [dif_neg h]
    refine hY y ?_
    by_contra hlt
    refine h fun a => ?_
    rw [ho]
    fin_cases a
    · exact ⟨Nat.zero_le _, by show (y 0).val < 0 + 512; have := (y 0).isLt; have e : S512x4096.size 0 = 512 := rfl; omega⟩
    · exact ⟨by show t.val % 8 * 512 ≤ (y 1).val; omega, by show (y 1).val < t.val % 8 * 512 + 512; omega⟩

/-- Inside one row of blocks the row block is the same. -/
theorem full_pred (c : Dev nD) (t t' : Fin cfg0.N) (h : t'.val / 8 = t.val / 8) : full m c t' = full m c t := by
  funext y
  unfold full
  rw [show pt t' (y 1) = pt t (y 1) from Fin.ext (by show t'.val / 8 * 8 + _ = t.val / 8 * 8 + _; rw [h])]

/-- What a point finds in the output: the columns of the points before it in its row of blocks. -/
theorem found (c : Dev nD) (t : Fin cfg0.N) (Y : (cfg0.win 7).block.Idx → Elt F (cfg0.win 7).elt) (h : (rel m c).Finds 7 t Y)
    (y : S512x4096.Idx) (hy : (y 1).val < 512 * (t.val % 8)) : Y y = full m c t y := by
  have ht : t.val ≠ 0 := fun e => by rw [e] at hy; omega
  have h0 : t.val % 8 ≠ 0 := fun e => by rw [e] at hy; omega
  have hlt : t.val - 1 < cfg0.N := Nat.lt_of_le_of_lt (Nat.sub_le _ _) t.isLt
  rcases ((rel m c).finds_of_pos rfl ht Y).mp h with hf | hl
  · have := (flush0_7 ⟨t.val - 1, hlt⟩).mp hf
    have e : (t.val - 1) % 8 = 7 := this
    omega
  · have hh : Holds m c 7 ⟨t.val - 1, hlt⟩ Y := (dats m c).toRRel_leaves (by rfl) hl
    have h2 := hh.2 (by show (t.val - 1) % 8 ≠ 7; omega) y (by show (y 1).val < 512 * ((t.val - 1) % 8 + 1); omega)
    rw [h2, full_pred m c t ⟨t.val - 1, hlt⟩ (by show (t.val - 1) / 8 = t.val / 8; omega)]

theorem before0 (c : Dev nD) (t : Fin cfg0.N) (d) : (dats m c).before 0 t d = iblk m c 0 t :=
  before0_0_of m (dats m c) (A_eq m c 0) (after0 m c) t d
theorem before1 (c : Dev nD) (t : Fin cfg0.N) (d) : (dats m c).before 1 t d = iblk m c 1 t :=
  before0_1_of m (dats m c) (A_eq m c 1) (after1 m c) t d
theorem before2 (c : Dev nD) (t : Fin cfg0.N) (d) : (dats m c).before 2 t d = X0_2 m c t :=
  before0_2_of m (dats m c) (A_eq m c 2) (after2 m c) t d
theorem before3 (c : Dev nD) (t : Fin cfg0.N) (d) : (dats m c).before 3 t d = iblk m c 3 t :=
  before0_3_of m (dats m c) (A_eq m c 3) (after3 m c) t d
theorem before4 (c : Dev nD) (t : Fin cfg0.N) (d) : (dats m c).before 4 t d = iblk m c 4 t :=
  before0_4_of m (dats m c) (A_eq m c 4) (after4 m c) t d
theorem before5 (c : Dev nD) (t : Fin cfg0.N) (d) : (dats m c).before 5 t d = iblk m c 5 t :=
  before0_5_of m (dats m c) (A_eq m c 5) (after5 m c) t d
theorem before6 (c : Dev nD) (t : Fin cfg0.N) (d) : (dats m c).before 6 t d = iblk m c 6 t :=
  before0_6_of m (dats m c) (A_eq m c 6) (after6 m c) t d

/-- What the body is called with at a point. -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ d, owns (c : Thread nD τ) (st0_5 t) fullShare ((dats m c).before 5 t d))
    ∗ (∃ d, owns (c : Thread nD τ) (st0_6 t) fullShare ((dats m c).before 6 t d))
    ∗ (∃ Y, ⌜(rel m c).Finds 7 t Y⌝ ∗ owns (c : Thread nD τ) (st0_7 t) fullShare Y)
    ∗ (∃ Y, ⌜(rel m c).Finds 8 t Y⌝ ∗ owns (c : Thread nD τ) (st0_8 t) fullShare Y))

/-- What it returns. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ (∃ d, owns (c : Thread nD τ) (st0_2 t) fullShare ((cfg0.win 2).fill (cfg0.grid.coords t) d ((cfg0.win 2).cut (cfg0.grid.coords t) ((dats m c).after 2 t))))
    ∗ owns (c : Thread nD τ) (st0_3 t) fullShare ((dats m c).after 3 t)
    ∗ owns (c : Thread nD τ) (st0_4 t) fullShare ((dats m c).after 4 t)
    ∗ owns (c : Thread nD τ) (st0_5 t) fullShare ((dats m c).after 5 t)
    ∗ owns (c : Thread nD τ) (st0_6 t) fullShare ((dats m c).after 6 t)
    ∗ (∃ X, ⌜Holds m c 7 t X⌝ ∗ owns (c : Thread nD τ) (st0_7 t) fullShare X)
    ∗ (∃ X, ⌜Holds m c 8 t X⌝ ∗ owns (c : Thread nD τ) (st0_8 t) fullShare X))

theorem cut2 (c : Dev nD) (t : Fin cfg0.N) :
    (cfg0.win 2).fill (cfg0.grid.coords t) dflt0_2 ((cfg0.win 2).cut (cfg0.grid.coords t) (X0_2 m c t)) = X0_2 m c t := by
  unfold X0_2
  exact congrArg _ ((cfg0.win 2).cut_fill _ _ _)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m c).Φ t.succ = (dats m c).Φ t.castSucc from rfl,
    show (dats m c).owesAt () t.succ = (dats m c).owesAt () t.castSucc from rfl, after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩⟩
  have hfound := found m c t Y7 hY7
  by_cases hc : k0_cond1 (grid0.coords t) = 1#1
  · have hl := (cond t).mp hc
    have hfull : put (grid0.coords t) Y7 (part m c t) = full m c t := funext fun y =>
      put_full m c t Y7 hfound y (by have := (y 1).isLt; have e : S512x4096.size 1 = 4096 := rfl; omega)
    iapply (run_last c (grid0.coords t) _ _ _ _ _ _ _ _ _ _ _ _ _ _ _ _ _ _ hc (iblk m c 0 t) (iblk m c 1 t) (X0_2 m c t) (iblk m c 3 t) (iblk m c 4 t) (iblk m c 5 t) (iblk m c 6 t) Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexists dflt0_2; rw [cut2]; iexact H2
    isplitl [H3]; · iexact H3
    isplitl [H4]; · iexact H4
    isplitl [H5]; · iexact H5
    isplitl [H6]; · iexact H6
    isplitl [H7]
    · iexists _; isplitr
      swap; · iexact H7
      ipureintro
      exact ⟨fun _ => congrArg (fun z => k0_pay2 z (iblk m c 5 t) (iblk m c 6 t)) hfull, fun h => absurd hl h⟩
    · iexists _; isplitr
      swap; · iexact H8
      ipureintro
      exact fun _ => congrArg (fun z => k0_pay3 z (iblk m c 5 t) (iblk m c 6 t)) hfull
  · have hl : t.val % 8 ≠ 7 := fun h => hc ((cond t).mpr h)
    iapply (run_part c (grid0.coords t) _ _ _ _ _ _ _ _ _ _ _ _ _ _ _ _ _ _ hc (iblk m c 0 t) (iblk m c 1 t) (X0_2 m c t) (iblk m c 3 t) (iblk m c 4 t) (iblk m c 5 t) (iblk m c 6 t) Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%d8, H8⟩⟩
    isplitl [HΦ]; · iexact HΦ
    isplitl [Ho]; · iexact Ho
    isplitl [H0]; · iexact H0
    isplitl [H1]; · iexact H1
    isplitl [H2]; · iexists dflt0_2; rw [cut2]; iexact H2
    isplitl [H3]; · iexact H3
    isplitl [H4]; · iexact H4
    isplitl [H5]; · iexact H5
    isplitl [H6]; · iexact H6
    isplitl [H7]
    · iexists _; isplitr
      swap; · iexact H7
      ipureintro
      exact ⟨fun h => absurd h hl, fun _ y hy => put_full m c t Y7 hfound y hy⟩
    · iexists d8; isplitr
      swap; · iexact H8
      ipureintro
      exact fun h => absurd h hl

theorem defs_row (t : Fin cfg0.N) :
    defs₀ (F := F) .tc cfg0.body (cfg0.bodyArgs t (cfg0.slots t)) = bodyAt0 t := by
  unfold defs₀; rw [Defs.onTc_tc]

/-- The body obligation of the library, at every point. -/
theorem body_obligation (c : Dev nD) :
    BodyObligationRel (dats (F := F) m c) (defs₀ (F := F)) Variants.none () Set.univ held (Holds m c) := fun t => by
  rw [bigSep_W0, bigSep_W0, defs_row]
  exact triple_restated (sound_body m c t) rfl .rfl fun _ => .rfl

-- the implicit arguments are found by unifying the conclusion with this one
set_option backward.isDefEq.respectTransparency.types false in
/-- The run: the arrays by their relation, and every semaphore counter at zero. -/
theorem run_main : θ_run defs (onTc (τ := τ) (main (F := F))) (s₀ m ρ)
    (fun r => Pipeline.RDat.FramePost (cfgs 0) (rel m) (V m) r ∧ r.2.sem = fun _ => 0) :=
  Pipeline.RDat.θ_run_frame_track_shared (Q' := _) cfgs (0 : Fin 1) launch₀0 defs₀ Variants.none (rel m) m ρ main
    (hbody := fun c => (body_obligation m c).toRRel) (hq := fun _ _ _ => rfl)
    (howed := fun _ _ => rfl) (V := V m) (hmain := hmain m Variants.none) (hA := A_eq m)
    (hin := fun _ => .rfl) (hout := fun _ => .rfl) (hQ' := fun _ h => h)

/-- The arguments after the run, and every counter at zero. -/
theorem args_kept : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      (h.1.arr_in c 3 rfl).trans ((A_eq m c 3).trans (V_main_arg2 m c)),
      (h.1.arr_in c 4 rfl).trans ((A_eq m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.OutLnIdeal.Rows

namespace Cert.Proof

/-- The output projection with the layer norm runs and leaves its arguments as they were. -/
theorem out_ln_frame : Cert.quiescent_OutLnIdeal := fun m ρ _ => Cert.OutLnIdeal.Rows.args_kept m ρ

end Cert.Proof
-- ==== Proof.OutLnSpec.lean ====
module

public import Idealize.ShloMosaic.Lib.Pointwise

@[expose] public section

set_option maxRecDepth 16384

noncomputable section

open Idealize.ShloMosaic

namespace Cert.OutLnSpec

/-- One entry of a row before the norm: the scaled residual and the products of the two inputs with their rows of the weights. -/
def entry (x : EReal) (tok : Fin 3072 → EReal) (mo : Fin 1024 → EReal) (w : Fin 4096 → EReal) : EReal :=
  Ideal.ofBits FTy.f32 0x3FB504F3#32 * x + (∑ k : Fin 3072, tok k * w ⟨k.val, by omega⟩ + ∑ k : Fin 1024, mo k * w ⟨3072 + k.val, by omega⟩)

/-- A row's mean. -/
def mean (v : Fin 4096 → EReal) : EReal := Ideal.div (∑ k, v k) (Ideal.ofBits FTy.f32 0x45800000#32)

/-- One entry of a layer-normed row. -/
def normed (v g b : Fin 4096 → EReal) (n : Fin 4096) : EReal :=
  (v n - mean v) * Ideal.rsqrt (mean (fun k => (v k - mean v) * (v k - mean v)) + Ideal.ofBits FTy.f32 0x3727C5AC#32) * g n + b n

/-- A vector as a one-row matrix, read at an index. -/
theorem row_at {k : ℕ} (v : FVec Ideal ⟨1, ![k]⟩ .f32) (h : Shape.ShapeCasts ⟨1, ![k]⟩ ⟨2, ![1, k]⟩) (n : Fin k) :
    shapeCast ⟨2, ![1, k]⟩ v h (ix2 0 n) = v (ix1 n) := by
  have e : Shape.reshapeEquiv h (ix2 (0 : Fin 1) n) = ix1 n :=
    Shape.reshapeEquiv_eq_of_rowMajor h (by rw [Shape.rowMajor_val_two, Shape.rowMajor_val_one]; show n.val = (0 : ℕ) * k + n.val; omega)
  exact congrArg v e

end Cert.OutLnSpec
-- ==== Proof.OutLnKernel.lean ====
module

public import proofs.«01_k».proof.Proof.OutLnFrame
public import proofs.«01_k».proof.Proof.OutLnSpec
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutLnIdeal.Rows

open Cert.OutLnIdeal Cert.OutLnIdeal.Gen Cert.OutLnSpec

/-- The columns a point stores, read at an index. -/
theorem pay1_at (v0 : Vec Ideal S512x3072 .bf16) (v1 : Vec Ideal S3072x512 .bf16) (v3 : Vec Ideal S512x1024 .bf16) (v4 : Vec Ideal S1024x512 .bf16)
    (v9 : Vec Ideal S512x512 .f32) (r j : Fin 512) :
    k0_pay1 v0 v1 v3 v4 v9 (ix2 r j) = Ideal.ofBits FTy.f32 0x3FB504F3#32 * v9 (ix2 r j)
      + (∑ k : Fin 3072, v0 (ix2 r k) * v1 (ix2 k j) + ∑ k : Fin 1024, v3 (ix2 r k) * v4 (ix2 k j)) := by
  pointwise! [k0_pay1]

/-- The normed rows, read at an index. -/
theorem pay2_at (v : Vec Ideal S512x4096 .f32) (g b : Vec Ideal S1x4096 .f32) (r : Fin 512) (n : Fin 4096) :
    k0_pay2 v g b (ix2 r n) = normed (fun k => v (ix2 r k)) (fun k => g (ix2 0 k)) (fun k => b (ix2 0 k)) n := by
  pointwise [k0_pay2, normed, mean]

variable (m : (ℓ : Loc nD τ sig) → Buf (Elt Ideal) ℓ)

/-- The windows' blocks at a grid point. -/
theorem idx : ∀ t : Fin cfg0.N, win0_0.index t = ![t.val / 8, 0] ∧ win0_1.index t = ![t.val / 8, 0] ∧ win0_2.index t = ![0, t.val % 8] ∧ win0_3.index t = ![3, t.val % 8]
    ∧ win0_4.index t = ![t.val / 8, t.val % 8] ∧ win0_5.index t = ![0, 0] ∧ win0_6.index t = ![0, 0] ∧ win0_7.index t = ![t.val / 8, 0] ∧ win0_8.index t = ![t.val / 8, 0] :=
  (by decide +kernel : ∀ t : Fin grid0.N, _)

theorem tok_at (c : Dev nD) (t : Fin cfg0.N) (r : Fin 512) (k : Fin 3072) (R : Fin 8192) (hR : R.val = t.val / 8 * 512 + r.val) :
    iblk m c 0 t (ix2 r k) = m ((c : Thread nD τ).loc main_arg0) (ix2 R k) := by
  blk_ext [iblk, V, idx t]

theorem mo_at (c : Dev nD) (t : Fin cfg0.N) (r : Fin 512) (k : Fin 1024) (R : Fin 8192) (hR : R.val = t.val / 8 * 512 + r.val) :
    iblk m c 1 t (ix2 r k) = m ((c : Thread nD τ).loc main_arg1) (ix2 R k) := by
  blk_ext [iblk, V, idx t]

theorem w1_at (c : Dev nD) (t : Fin cfg0.N) (k : Fin 3072) (j : Fin 512) (n : Fin 4096) (hn : n.val = t.val % 8 * 512 + j.val) :
    X0_2 m c t (ix2 k j) = m ((c : Thread nD τ).loc main_arg2) (ix2 ⟨k.val, by omega⟩ n) := by
  unfold X0_2 Pipeline.Window.fill
  rw [dif_pos (moved0_2 t _)]
  blk_ext [iblk, V, idx t]

theorem w2_at (c : Dev nD) (t : Fin cfg0.N) (k : Fin 1024) (j : Fin 512) (n : Fin 4096) (hn : n.val = t.val % 8 * 512 + j.val) :
    iblk m c 3 t (ix2 k j) = m ((c : Thread nD τ).loc main_arg2) (ix2 ⟨3072 + k.val, by omega⟩ n) := by
  blk_ext [iblk, V, idx t]

theorem x_at (c : Dev nD) (t : Fin cfg0.N) (r j : Fin 512) (R : Fin 8192) (hR : R.val = t.val / 8 * 512 + r.val) (n : Fin 4096) (hn : n.val = t.val % 8 * 512 + j.val) :
    iblk m c 4 t (ix2 r j) = m ((c : Thread nD τ).loc main_arg3) (ix2 R n) := by
  blk_ext [iblk, V, idx t]

theorem g_at (c : Dev nD) (t : Fin cfg0.N) (n : Fin 4096) : iblk m c 5 t (ix2 0 n) = m ((c : Thread nD τ).loc main_arg4) (ix1 n) := by
  have e : V m c main_v0 = shapeCast S1x4096 (m ((c : Thread nD τ).loc main_arg4)) shapeCasts_S4096_S1x4096 := by
    entry_read
    rfl
  have e2 : iblk m c 5 t (ix2 0 n) = V m c main_v0 (ix2 0 n) := by
    blk_ext [iblk, idx t]
  rw [e2, e]
  exact row_at _ _ n

theorem b_at (c : Dev nD) (t : Fin cfg0.N) (n : Fin 4096) : iblk m c 6 t (ix2 0 n) = m ((c : Thread nD τ).loc main_arg5) (ix1 n) := by
  have e : V m c main_v1 = shapeCast S1x4096 (m ((c : Thread nD τ).loc main_arg5)) shapeCasts_S4096_S1x4096 := by
    entry_read
    rfl
  have e2 : iblk m c 6 t (ix2 0 n) = V m c main_v1 (ix2 0 n) := by
    blk_ext [iblk, idx t]
  rw [e2, e]
  exact row_at _ _ n

/-- The whole row block, read at an index. -/
theorem full_at (c : Dev nD) (t : Fin cfg0.N) (r : Fin 512) (n : Fin 4096) (R : Fin 8192) (hR : R.val = t.val / 8 * 512 + r.val) :
    full m c t (ix2 r n) = entry (m ((c : Thread nD τ).loc main_arg3) (ix2 R n)) (fun k => m ((c : Thread nD τ).loc main_arg0) (ix2 R k))
      (fun k => m ((c : Thread nD τ).loc main_arg1) (ix2 R k)) (fun k => m ((c : Thread nD τ).loc main_arg2) (ix2 k n)) := by
  have hp : (pt t n).val = t.val / 8 * 8 + n.val / 512 := rfl
  have h1 : R.val = (pt t n).val / 8 * 512 + r.val := by rw [hp]; omega
  have h2 : n.val = (pt t n).val % 8 * 512 + (⟨n.val % 512, Nat.mod_lt _ (by decide)⟩ : Fin 512).val := by
    rw [hp]; show n.val = (t.val / 8 * 8 + n.val / 512) % 8 * 512 + n.val % 512; omega
  refine (pay1_at _ _ _ _ _ r ⟨n.val % 512, Nat.mod_lt _ (by decide)⟩).trans ?_
  exact congrArg₂ (· + ·) (congrArg (Ideal.ofBits FTy.f32 0x3FB504F3#32 * ·) (x_at m c _ r _ R h1 n h2))
    (congrArg₂ (· + ·) (Finset.sum_congr rfl fun k _ => congrArg₂ (· * ·) (tok_at m c _ r k R h1) (w1_at m c _ k _ n h2))
      (Finset.sum_congr rfl fun k _ => congrArg₂ (· * ·) (mo_at m c _ r k R h1) (w2_at m c _ k _ n h2)))

/-- The normed rows of a row of blocks, read at an index. -/
theorem rows_at (c : Dev nD) (t : Fin cfg0.N) (r : Fin 512) (n : Fin 4096) (R : Fin 8192) (hR : R.val = t.val / 8 * 512 + r.val) :
    k0_pay2 (full m c t) (iblk m c 5 t) (iblk m c 6 t) (ix2 r n)
      = normed (fun k => entry (m ((c : Thread nD τ).loc main_arg3) (ix2 R k)) (fun l => m ((c : Thread nD τ).loc main_arg0) (ix2 R l))
          (fun l => m ((c : Thread nD τ).loc main_arg1) (ix2 R l)) (fun l => m ((c : Thread nD τ).loc main_arg2) (ix2 l k)))
          (fun k => m ((c : Thread nD τ).loc main_arg4) (ix1 k)) (fun k => m ((c : Thread nD τ).loc main_arg5) (ix1 k)) n := by
  refine (pay2_at _ _ _ r n).trans ?_
  exact congr (congr (congr (congrArg normed (funext fun k => full_at m c t r k R hR)) (funext fun k => g_at m c t k)) (funext fun k => b_at m c t k)) rfl

end Cert.OutLnIdeal.Rows
-- ==== Proof.OutLnRef.lean ====
module

public import proofs.«01_k».proof.Defs
public import proofs.«01_k».proof.Proof.Gen.OutLnRefIdeal.Run
public import proofs.«01_k».proof.Proof.OutLnSpec
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.OutLnRefIdeal.Rows

open Cert.OutLnRefIdeal Cert.OutLnRefIdeal.Gen Cert.OutLnSpec

/-- A constant at every entry. -/
abbrev const (s : Shape) (h : S_.BroadcastsInDim s ![]) (b : BitVec 32) : FVec Ideal s .f32 := broadcastInDim s ![] h (constant S_ .f32 b)

/-- The two inputs side by side. -/
def both (tok : FVec Ideal S8192x3072 .bf16) (mo : FVec Ideal S8192x1024 .bf16) : FVec Ideal S8192x4096 .bf16 :=
  concatenate S8192x4096 1 [⟨S8192x3072, tok⟩, ⟨S8192x1024, mo⟩] concatenates_S8192x3072_S8192x1024_S8192x4096_d1

/-- The rows before the norm. -/
def rows (tok : FVec Ideal S8192x3072 .bf16) (mo : FVec Ideal S8192x1024 .bf16) (w : FVec Ideal S4096x4096 .bf16) (x : FVec Ideal S8192x4096 .f32) : FVec Ideal S8192x4096 .f32 :=
  addf (mulf (const _ bcast_S_S8192x4096 0x3FB504F3#32) x)
    (Host.dotGeneral dot_S8192x4096_S4096x4096_S8192x4096_1_0_0_1_n_n none (extf .f32 (both tok mo) bitsLt_bf16_f32) (extf .f32 w bitsLt_bf16_f32))

/-- Each row's mean. -/
def means (v : FVec Ideal S8192x4096 .f32) : FVec Ideal S8192x1 .f32 :=
  Host.divf (broadcastInDim S8192x1 ![0] bcast_S8192_S8192x1_0 (Host.reduceAdd v (constant S_ .f32 0x00000000#32) reducesTo_S8192x4096_S8192_d1 h_S_)) (const _ bcast_S_S8192x1 0x45800000#32)

/-- A row's number spread over the row. -/
def spread (v : FVec Ideal S8192x1 .f32) : FVec Ideal S8192x4096 .f32 := broadcastInDim S8192x4096 ![0, 1] bcast_S8192x1_S8192x4096_0_1 v

/-- A row's numbers spread over the rows. -/
def along (g : FVec Ideal S4096 .f32) : FVec Ideal S8192x4096 .f32 :=
  broadcastInDim S8192x4096 ![0, 1] bcast_S1x4096_S8192x4096_0_1 (broadcastInDim S1x4096 ![1] bcast_S4096_S1x4096_1 g)

/-- The rows layer-normed. -/
def norm (v : FVec Ideal S8192x4096 .f32) (g b : FVec Ideal S4096 .f32) : FVec Ideal S8192x4096 .f32 :=
  addf (mulf (mulf (subf v (spread (means v))) (spread (Host.rsqrt (addf (means (mulf (subf v (spread (means v))) (subf v (spread (means v)))))
    (const _ bcast_S_S8192x1 0x3727C5AC#32))))) (along g)) (along b)

/-- The reference's first result. -/
def ref0 (tok : FVec Ideal S8192x3072 .bf16) (mo : FVec Ideal S8192x1024 .bf16) (w : FVec Ideal S4096x4096 .bf16) (x : FVec Ideal S8192x4096 .f32)
    (g b : FVec Ideal S4096 .f32) : FVec Ideal S8192x4096 .f32 := norm (rows tok mo w x) g b

/-- The reference's second result. -/
def ref1 (tok : FVec Ideal S8192x3072 .bf16) (mo : FVec Ideal S8192x1024 .bf16) (w : FVec Ideal S4096x4096 .bf16) (x : FVec Ideal S8192x4096 .f32)
    (g b : FVec Ideal S4096 .f32) : FVec Ideal S8192x4096 .bf16 := truncf .bf16 (ref0 tok mo w x g b) bitsLt_bf16_f32

theorem res0_eq (m : (ℓ : Loc nD τ sig) → Buf (Elt Ideal) ℓ) (c : Dev nD) :
    Value.res_main_v30 m c = ref0 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem res1_eq (m : (ℓ : Loc nD τ sig) → Buf (Elt Ideal) ℓ) (c : Dev nD) :
    Value.res_main_v31 m c = ref1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem both_left (tok : FVec Ideal S8192x3072 .bf16) (mo : FVec Ideal S8192x1024 .bf16) (R : Fin 8192) (k : Fin 3072) :
    both tok mo (ix2 R ⟨k.val, by omega⟩) = tok (ix2 R k) := by
  pointwise [both]

theorem both_right (tok : FVec Ideal S8192x3072 .bf16) (mo : FVec Ideal S8192x1024 .bf16) (R : Fin 8192) (k : Fin 1024) :
    both tok mo (ix2 R ⟨3072 + k.val, by omega⟩) = mo (ix2 R k) := by
  pointwise [both]

theorem rows_dot (y : FVec Ideal S8192x4096 .bf16) (w : FVec Ideal S4096x4096 .bf16) (R : Fin 8192) (n : Fin 4096) :
    Host.dotGeneral (F := Ideal) dot_S8192x4096_S4096x4096_S8192x4096_1_0_0_1_n_n none (extf .f32 y bitsLt_bf16_f32) (extf .f32 w bitsLt_bf16_f32) (ix2 R n)
      = ∑ k : Fin 4096, y (ix2 R k) * w (ix2 k n) := by
  pointwise!

theorem rows_at (tok : FVec Ideal S8192x3072 .bf16) (mo : FVec Ideal S8192x1024 .bf16) (w : FVec Ideal S4096x4096 .bf16) (x : FVec Ideal S8192x4096 .f32) (R : Fin 8192) (n : Fin 4096) :
    rows tok mo w x (ix2 R n) = entry (x (ix2 R n)) (fun k => tok (ix2 R k)) (fun k => mo (ix2 R k)) (fun k => w (ix2 k n)) := by
  refine congrArg (Ideal.ofBits FTy.f32 0x3FB504F3#32 * x (ix2 R n) + ·) ((rows_dot _ w R n).trans ?_)
  refine (Fin.sum_univ_add (M := EReal) (a := 3072) (b := 1024) fun k : Fin 4096 => both tok mo (ix2 R k) * w (ix2 k n)).trans ?_
  exact congrArg₂ (· + ·) (Finset.sum_congr rfl fun k _ => congrArg (· * _) (both_left tok mo R k))
    (Finset.sum_congr rfl fun k _ => congrArg (· * _) (both_right tok mo R k))

theorem means_at (v : FVec Ideal S8192x4096 .f32) (R : Fin 8192) : means v (ix2 R 0) = mean fun n => v (ix2 R n) := by
  pointwise [means, mean]

theorem spread_at (v : FVec Ideal S8192x1 .f32) (R : Fin 8192) (n : Fin 4096) : spread v (ix2 R n) = v (ix2 R 0) := by
  pointwise [spread]

theorem along_at (g : FVec Ideal S4096 .f32) (R : Fin 8192) (n : Fin 4096) : along g (ix2 R n) = g (ix1 n) := by
  pointwise [along]

theorem norm_at (v : FVec Ideal S8192x4096 .f32) (g b : FVec Ideal S4096 .f32) (R : Fin 8192) (n : Fin 4096) :
    norm v g b (ix2 R n) = normed (fun k => v (ix2 R k)) (fun k => g (ix1 k)) (fun k => b (ix1 k)) n := by
  have d : ∀ k, subf v (spread (means v)) (ix2 R k) = v (ix2 R k) - mean fun n => v (ix2 R n) := fun k =>
    congrArg (v (ix2 R k) - ·) ((spread_at _ R k).trans (means_at v R))
  have s : means (mulf (subf v (spread (means v))) (subf v (spread (means v)))) (ix2 R 0)
      = mean fun k => (v (ix2 R k) - mean fun n => v (ix2 R n)) * (v (ix2 R k) - mean fun n => v (ix2 R n)) :=
    (means_at _ R).trans (congrArg mean (funext fun k => congrArg₂ (· * ·) (d k) (d k)))
  have q : spread (Host.rsqrt (addf (means (mulf (subf v (spread (means v))) (subf v (spread (means v))))) (const _ bcast_S_S8192x1 0x3727C5AC#32))) (ix2 R n)
      = Ideal.rsqrt ((mean fun k => (v (ix2 R k) - mean fun n => v (ix2 R n)) * (v (ix2 R k) - mean fun n => v (ix2 R n))) + Ideal.ofBits FTy.f32 0x3727C5AC#32) := by
    refine (spread_at _ R n).trans ?_
    rw [← s]
    rfl
  exact congrArg₂ (· + ·) (congrArg₂ (· * ·) (congrArg₂ (· * ·) (d n) q) (along_at g R n)) (along_at b R n)

theorem ref0_at (tok : FVec Ideal S8192x3072 .bf16) (mo : FVec Ideal S8192x1024 .bf16) (w : FVec Ideal S4096x4096 .bf16) (x : FVec Ideal S8192x4096 .f32)
    (g b : FVec Ideal S4096 .f32) (R : Fin 8192) (n : Fin 4096) :
    ref0 tok mo w x g b (ix2 R n) = normed (fun k => entry (x (ix2 R k)) (fun l => tok (ix2 R l)) (fun l => mo (ix2 R l)) (fun l => w (ix2 l k))) (fun k => g (ix1 k)) (fun k => b (ix1 k)) n :=
  (norm_at _ g b R n).trans (congrArg (normed · _ _ n) (funext fun k => rows_at tok mo w x R k))

end Cert.OutLnRefIdeal.Rows
-- ==== Proof.OutLn.lean ====
module

public import proofs.«01_k».proof.Proof.OutLnKernel
public import proofs.«01_k».proof.Proof.OutLnRef

@[expose] public section

set_option maxRecDepth 16384

noncomputable section

open Idealize.ShloMosaic Idealize.ShloMosaic.TcCoe Idealize.SL.Sem
open Idealize.ShloMosaic.Pipeline (Dat RDat)

namespace Cert.OutLnIdeal.Rows

open Cert.OutLnIdeal Cert.OutLnIdeal.Gen Cert.OutLnSpec

variable (m : (ℓ : Loc nD τ sig) → Buf (Elt Ideal) ℓ) (ρ : Dev nD → PrngReg)

/-- The reference's first result of this memory's arguments. -/
abbrev val0 (c : Dev nD) : FVec Ideal S8192x4096 .f32 :=
  Cert.OutLnRefIdeal.Rows.ref0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Its second result. -/
abbrev val1 (c : Dev nD) : FVec Ideal S8192x4096 .bf16 :=
  Cert.OutLnRefIdeal.Rows.ref1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The normed rows of a row of blocks are the reference's. -/
theorem rows_point (c : Dev nD) (t : Fin cfg0.N) (r : Fin 512) (n : Fin 4096) (R : Fin 8192) (hR : R.val = t.val / 8 * 512 + r.val) :
    k0_pay2 (full m c t) (iblk m c 5 t) (iblk m c 6 t) (ix2 r n) = val0 m c (ix2 R n) :=
  (rows_at m c t r n R hR).trans (Cert.OutLnRefIdeal.Rows.ref0_at _ _ _ _ _ _ R n).symm

/-- The first result's array, for any contents the points may leave. -/
theorem final7 (c : Dev nD) (after : (w : Fin cfg0.W) → Fin cfg0.N → (cfg0.win w).block.Idx → Elt Ideal (cfg0.win w).elt)
    (hl : ∀ w u, (cfg0.win w).flush u = true → (rel m c).Leaves w u (after w u)) : ((rel m c).withAfter after).arrAt 7 cfg0.N = val0 m c := by
  refine ((rel m c).withAfter after).arrAt_eq_of_covers 7 _ (by decide +kernel) fun t ht y => ?_
  have hh : Holds m c 7 t (after 7 t) := (dats m c).toRRel_leaves (by rfl) (hl 7 t ht)
  have ha : ((rel m c).withAfter after).after 7 t = k0_pay2 (full m c t) (iblk m c 5 t) (iblk m c 6 t) := hh.1 ((flush0_7 t).mp ht)
  blk_simp
  rw [ha, eq_ix2 (((cfg0.win 7).blk t).view.emb y)]
  have e2 : (((cfg0.win 7).blk t).view.emb y) 1 = y 1 := by
    refine Fin.ext ?_
    blk_simp [idx t]
  refine Eq.trans (congrArg _ (eq_ix2 y)) (Eq.trans (rows_point m c t (y 0) (y 1) _ ?_) (congrArg _ (congrArg (ix2 _) e2.symm)))
  blk_simp [idx t]

/-- The second result's array. -/
theorem final8 (c : Dev nD) (after : (w : Fin cfg0.W) → Fin cfg0.N → (cfg0.win w).block.Idx → Elt Ideal (cfg0.win w).elt)
    (hl : ∀ w u, (cfg0.win w).flush u = true → (rel m c).Leaves w u (after w u)) : ((rel m c).withAfter after).arrAt 8 cfg0.N = val1 m c := by
  refine ((rel m c).withAfter after).arrAt_eq_of_covers 8 _ (by decide +kernel) fun t ht y => ?_
  have hh : Holds m c 8 t (after 8 t) := (dats m c).toRRel_leaves (by rfl) (hl 8 t ht)
  have ha : ((rel m c).withAfter after).after 8 t = k0_pay3 (full m c t) (iblk m c 5 t) (iblk m c 6 t) := hh ((flush0_8 t).mp ht)
  blk_simp
  rw [ha, eq_ix2 (((cfg0.win 8).blk t).view.emb y)]
  have e2 : (((cfg0.win 8).blk t).view.emb y) 1 = y 1 := by
    refine Fin.ext ?_
    blk_simp [idx t]
  have e3 : ∀ z : S512x4096.Idx, k0_pay3 (full m c t) (iblk m c 5 t) (iblk m c 6 t) z = k0_pay2 (full m c t) (iblk m c 5 t) (iblk m c 6 t) z := fun _ => rfl
  have e4 : ∀ z : S8192x4096.Idx, val1 m c z = val0 m c z := fun _ => rfl
  refine Eq.trans (e3 _) (Eq.trans ?_ (e4 _).symm)
  refine Eq.trans (congrArg _ (eq_ix2 y)) (Eq.trans (rows_point m c t (y 0) (y 1) _ ?_) (congrArg _ (congrArg (ix2 _) e2.symm)))
  blk_simp [idx t]

/-- The run: both results, and the arguments as they were. -/
theorem run_value : θ_run defs (onTc (τ := τ) (main (F := Ideal))) (s₀ m ρ) (fun r => ∀ c : Dev nD,
      r.2.mem ((c.tc : Thread nD τ).loc main_v2_0) = val0 m c ∧ r.2.mem ((c.tc : Thread nD τ).loc main_v2_1) = val1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hl, ha⟩ := h.1.exists_exact c
    exact ⟨(ha 7).trans (final7 m c after hl), (ha 8).trans (final8 m c after hl),
      (h.1.arr_in c 0 rfl).trans ((A_eq m c 0).trans (V_main_arg0 m c)),
      (h.1.arr_in c 1 rfl).trans ((A_eq m c 1).trans (V_main_arg1 m c)),
      (h.1.arr_in c 3 rfl).trans ((A_eq m c 3).trans (V_main_arg2 m c)),
      (h.1.arr_in c 4 rfl).trans ((A_eq m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.OutLnIdeal.Rows

/-- The kernel's normed rows, unrounded and rounded, are the reference's. -/
theorem Cert.Proof.out_ln : Cert.algebraic_OutLnIdeal_OutLnRefIdeal := fun m g m' g' _ hagree =>
  ⟨Cert.OutLnIdeal.Rows.val0 m, Cert.OutLnIdeal.Rows.val1 m, Cert.OutLnIdeal.Rows.run_value m g,
    (θ_run Cert.OutLnRefIdeal.defs _ _).mono (fun r h c => by
      obtain ⟨h0, h1, h2, h3, h4, h5⟩ := hagree c
      refine ⟨(h c).1.trans ((Cert.OutLnRefIdeal.Rows.res0_eq m' c).trans ?_), (h c).2.1.trans ((Cert.OutLnRefIdeal.Rows.res1_eq m' c).trans ?_), (h c).2.2⟩
      · exact congr (congr (congr (congr (congr (congrArg Cert.OutLnRefIdeal.Rows.ref0 h0) h1) h2) h3) h4) h5
      · exact congr (congr (congr (congr (congr (congrArg Cert.OutLnRefIdeal.Rows.ref1 h0) h1) h2) h3) h4) h5) (Cert.OutLnRefIdeal.Value.run m' g')⟩
-- ==== Proof.Query.lean ====
module

public import proofs.«01_k».proof.Defs
public import proofs.«01_k».proof.Proof.Gen.QueryProductIdeal.Value
public import proofs.«01_k».proof.Proof.Gen.QueryRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QueryProductIdeal.Product

open Cert.QueryProductIdeal Cert.QueryProductIdeal.Gen

variable (m : (ℓ : Loc nD τ sig) → Buf (Elt Ideal) ℓ)

/-- Both inputs' blocks and the output's at a grid point: rows by the slow coordinate, columns by the fast one. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The reference's term of the two arguments: the product of the widened arrays. -/
abbrev ref (a : FVec Ideal S8192x4096 .bf16) (w : FVec Ideal S4096x2048 .bf16) : FVec Ideal S8192x2048 .f32 :=
  Host.dotGeneral Cert.QueryRefIdeal.dot_S8192x4096_S4096x2048_S8192x2048_1_0_0_1_n_n none
    (extf .f32 a Cert.QueryRefIdeal.Gen.bitsLt_bf16_f32) (extf .f32 w Cert.QueryRefIdeal.Gen.bitsLt_bf16_f32)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb y) := by
  pointwise [k0_pay1, ref]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.QueryProductIdeal.Product

theorem Cert.Proof.query : Cert.algebraic_QueryProductIdeal_QueryRefIdeal := by
  pair_intro
  · run_from Cert.QueryProductIdeal.Gen.run_main m g
  · hlo_run
    exact (Cert.QueryProductIdeal.Product.final m c).symm
-- ==== Proof.QuerySample.lean ====
module

public import proofs.«01_k».proof.Defs
public import proofs.«01_k».proof.Proof.Gen.QuerySampleIdeal.Value
public import proofs.«01_k».proof.Proof.Gen.QuerySampleRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QuerySampleIdeal.Product

open Cert.QuerySampleIdeal Cert.QuerySampleIdeal.Gen

variable (m : (ℓ : Loc nD τ sig) → Buf (Elt Ideal) ℓ)

/-- Both inputs' blocks and the output's at a grid point: rows by the slow coordinate, columns by the fast one. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The reference's term of the two arguments: the product of the widened arrays. -/
abbrev ref (a : FVec Ideal S512x4096 .bf16) (w : FVec Ideal S4096x2048 .bf16) : FVec Ideal S512x2048 .f32 :=
  Host.dotGeneral Cert.QuerySampleRefIdeal.dot_S512x4096_S4096x2048_S512x2048_1_0_0_1_n_n none
    (extf .f32 a Cert.QuerySampleRefIdeal.Gen.bitsLt_bf16_f32) (extf .f32 w Cert.QuerySampleRefIdeal.Gen.bitsLt_bf16_f32)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb y) := by
  pointwise [k0_pay1, ref]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.QuerySampleIdeal.Product

theorem Cert.Proof.query_sample : Cert.algebraic_QuerySampleIdeal_QuerySampleRefIdeal := by
  pair_intro
  · run_from Cert.QuerySampleIdeal.Gen.run_main m g
  · hlo_run
    exact (Cert.QuerySampleIdeal.Product.final m c).symm
-- ==== Proof.SguSpec.lean ====
module

public import Idealize.ShloMosaic.Lib.Pointwise

@[expose] public section

set_option maxRecDepth 16384

noncomputable section

open Idealize.ShloMosaic

namespace Cert.Sgu

/-- The activation, as both programs compute it. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * (x * x))))))

/-- A row's mean. -/
def mean (v : Fin 3072 → EReal) : EReal := Ideal.div (∑ k, v k) (Ideal.ofBits FTy.f32 0x45400000#32)

/-- One entry of a layer-normed row. -/
def normed (v g b : Fin 3072 → EReal) (n : Fin 3072) : EReal :=
  (v n - mean v) * Ideal.rsqrt (mean (fun k => (v k - mean v) * (v k - mean v)) + Ideal.ofBits FTy.f32 0x3727C5AC#32) * g n + b n

/-- A token's weighted sum over the tokens up to it. -/
def mixed {s : ℕ} (r : Fin s) (w v : Fin s → EReal) : EReal := ∑ k, (if k.val ≤ r.val then w k else 0) * v k

end Cert.Sgu
-- ==== Proof.SguKernel.lean ====
module

public import proofs.«01_k».proof.Defs
public import proofs.«01_k».proof.Proof.Gen.SguSampleIdeal.Value
public import proofs.«01_k».proof.Proof.SguSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SguSampleIdeal.Unit

open Cert.SguSampleIdeal Cert.SguSampleIdeal.Gen Cert.Sgu

/-- Which tokens a token sees: those up to it. -/
def causal : IVec S32x32 1 := k0_pay4 (iota .tc S32x32 32 [1] iota_S32x32_d1_w32) (iota .tc S32x32 32 [0] iota_S32x32_d0_w32)

/-- One group's columns: the gate's activation times the mixed tokens plus the bias. -/
def group (vs : FVec Ideal S32x384 .f32) (w : Vec Ideal S1x32x32 .f32) (b u : Vec Ideal S32x384 .f32) : FVec Ideal S32x384 .bf16 :=
  k0_pay7 (matmul dot_S32x32_S32x384_S32x384_1_0_0_1_n_n none
    (truncf .bf16 (select causal (shapeCast S32x32 w shapeCasts_S1x32x32_S32x32) (broadcast S32x32 (Scalar.ofBits .f32 0x00000000#32))) bitsLt_bf16_f32)
    (truncf .bf16 vs bitsLt_bf16_f32) (constant S32x384 .f32 0x00000000#32)) b u

/-- The normed rows a point stores. -/
abbrev rows (v : Vec Ideal S32x3072 .f32) (g b : Vec Ideal S1x3072 .f32) : FVec Ideal S32x3072 .f32 := k0_pay3 v g b

/-- The gated block a point stores: the eight groups side by side. -/
def out (u : Vec Ideal S32x3072 .f32) (vn : FVec Ideal S32x3072 .f32) (w : Vec Ideal S8x32x32 .f32) (b : Vec Ideal S32x3072 .f32) : Vec Ideal S32x3072 .bf16 :=
  View.canon (Val := Elt Ideal) (s := S32x3072) (e := .bf16) [
    ⟨Rect.unit ![0, 2688] ![32, 384] inb_S32x3072_S32x384_0_2688, group (extractStridedSlice S32x384 ![0, 2688] vn slices_S32x3072_o0_2688_S32x384)
      (View.ld w (Rect.unit ![7, 0, 0] ![1, 32, 32] inb_S8x32x32_S1x32x32_7_0_0)) (View.ld b (Rect.unit ![0, 2688] ![32, 384] inb_S32x3072_S32x384_0_2688)) (View.ld u (Rect.unit ![0, 2688] ![32, 384] inb_S32x3072_S32x384_0_2688))⟩,
    ⟨Rect.unit ![0, 2304] ![32, 384] inb_S32x3072_S32x384_0_2304, group (extractStridedSlice S32x384 ![0, 2304] vn slices_S32x3072_o0_2304_S32x384)
      (View.ld w (Rect.unit ![6, 0, 0] ![1, 32, 32] inb_S8x32x32_S1x32x32_6_0_0)) (View.ld b (Rect.unit ![0, 2304] ![32, 384] inb_S32x3072_S32x384_0_2304)) (View.ld u (Rect.unit ![0, 2304] ![32, 384] inb_S32x3072_S32x384_0_2304))⟩,
    ⟨Rect.unit ![0, 1920] ![32, 384] inb_S32x3072_S32x384_0_1920, group (extractStridedSlice S32x384 ![0, 1920] vn slices_S32x3072_o0_1920_S32x384)
      (View.ld w (Rect.unit ![5, 0, 0] ![1, 32, 32] inb_S8x32x32_S1x32x32_5_0_0)) (View.ld b (Rect.unit ![0, 1920] ![32, 384] inb_S32x3072_S32x384_0_1920)) (View.ld u (Rect.unit ![0, 1920] ![32, 384] inb_S32x3072_S32x384_0_1920))⟩,
    ⟨Rect.unit ![0, 1536] ![32, 384] inb_S32x3072_S32x384_0_1536, group (extractStridedSlice S32x384 ![0, 1536] vn slices_S32x3072_o0_1536_S32x384)
      (View.ld w (Rect.unit ![4, 0, 0] ![1, 32, 32] inb_S8x32x32_S1x32x32_4_0_0)) (View.ld b (Rect.unit ![0, 1536] ![32, 384] inb_S32x3072_S32x384_0_1536)) (View.ld u (Rect.unit ![0, 1536] ![32, 384] inb_S32x3072_S32x384_0_1536))⟩,
    ⟨Rect.unit ![0, 1152] ![32, 384] inb_S32x3072_S32x384_0_1152, group (extractStridedSlice S32x384 ![0, 1152] vn slices_S32x3072_o0_1152_S32x384)
      (View.ld w (Rect.unit ![3, 0, 0] ![1, 32, 32] inb_S8x32x32_S1x32x32_3_0_0)) (View.ld b (Rect.unit ![0, 1152] ![32, 384] inb_S32x3072_S32x384_0_1152)) (View.ld u (Rect.unit ![0, 1152] ![32, 384] inb_S32x3072_S32x384_0_1152))⟩,
    ⟨Rect.unit ![0, 768] ![32, 384] inb_S32x3072_S32x384_0_768, group (extractStridedSlice S32x384 ![0, 768] vn slices_S32x3072_o0_768_S32x384)
      (View.ld w (Rect.unit ![2, 0, 0] ![1, 32, 32] inb_S8x32x32_S1x32x32_2_0_0)) (View.ld b (Rect.unit ![0, 768] ![32, 384] inb_S32x3072_S32x384_0_768)) (View.ld u (Rect.unit ![0, 768] ![32, 384] inb_S32x3072_S32x384_0_768))⟩,
    ⟨Rect.unit ![0, 384] ![32, 384] inb_S32x3072_S32x384_0_384, group (extractStridedSlice S32x384 ![0, 384] vn slices_S32x3072_o0_384_S32x384)
      (View.ld w (Rect.unit ![1, 0, 0] ![1, 32, 32] inb_S8x32x32_S1x32x32_1_0_0)) (View.ld b (Rect.unit ![0, 384] ![32, 384] inb_S32x3072_S32x384_0_384)) (View.ld u (Rect.unit ![0, 384] ![32, 384] inb_S32x3072_S32x384_0_384))⟩,
    ⟨Rect.unit ![0, 0] ![32, 384] inb_S32x3072_S32x384_0_0, group (extractStridedSlice S32x384 ![0, 0] vn slices_S32x3072_o0_0_S32x384)
      (View.ld w (Rect.unit ![0, 0, 0] ![1, 32, 32] inb_S8x32x32_S1x32x32_0_0_0)) (View.ld b (Rect.unit ![0, 0] ![32, 384] inb_S32x3072_S32x384_0_0)) (View.ld u (Rect.unit ![0, 0] ![32, 384] inb_S32x3072_S32x384_0_0))⟩]

variable (m : (ℓ : Loc nD τ sig) → Buf (Elt Ideal) ℓ)

theorem rows_eq (c : Dev nD) (t : Fin cfg0.N) : (outsAt0 m c t).2 = rows (X0_1 m c t) (iblk m c 2 t) (iblk m c 3 t) := by
  unfold outsAt0
  frame_out

theorem out_eq (c : Dev nD) (t : Fin cfg0.N) :
    (outsAt0 m c t).1 = out (X0_0 m c t) (rows (X0_1 m c t) (iblk m c 2 t) (iblk m c 3 t)) (iblk m c 4 t) (iblk m c 5 t) := by
  unfold outsAt0
  frame_out
  rfl

theorem causal_at (r k : Fin 32) : causal (ix2 r k) = if k.val ≤ r.val then 1#1 else 0#1 := by
  have h : ∀ r k : Fin 32, causal (ix2 r k) = if k.val ≤ r.val then 1#1 else 0#1 := by decide +kernel
  exact h r k

/-- The stored rows, read at an index. -/
theorem rows_at (v : Vec Ideal S32x3072 .f32) (g b : Vec Ideal S1x3072 .f32) (r : Fin 32) (n : Fin 3072) :
    rows v g b (ix2 r n) = normed (fun k => gelu (v (ix2 r k))) (fun k => g (ix2 0 k)) (fun k => b (ix2 0 k)) n := by
  pointwise [rows, k0_pay3, normed, mean, gelu]

/-- A group's columns, read at an index. -/
theorem group_at (vs : FVec Ideal S32x384 .f32) (w : Vec Ideal S1x32x32 .f32) (b u : Vec Ideal S32x384 .f32) (r : Fin 32) (d : Fin 384) :
    group vs w b u (ix2 r d) = gelu (u (ix2 r d)) * (mixed r (fun k => w (ix3 0 r k)) (fun k => vs (ix2 k d)) + b (ix2 r d)) := by
  have e : ∀ k : Fin 32, select causal (shapeCast S32x32 w shapeCasts_S1x32x32_S32x32) (broadcast S32x32 (Scalar.ofBits (F := Ideal) .f32 0x00000000#32)) (ix2 r k)
      = if k.val ≤ r.val then w (ix3 0 r k) else 0 := by
    intro k
    refine (show _ = Scalar.select (causal (ix2 r k)) (shapeCast S32x32 w shapeCasts_S1x32x32_S32x32 (ix2 r k)) (Ideal.ofBits .f32 0#32) from rfl).trans ?_
    rw [causal_at]
    have e1 : shapeCast S32x32 w shapeCasts_S1x32x32_S32x32 (ix2 r k) = w (ix3 0 r k) := by pointwise
    rw [e1]
    by_cases p : k.val ≤ r.val
    · simp only [p, if_true]; rfl
    · simp only [p, if_false]; pointwise
  unfold mixed
  simp only [← e]
  pointwise [group, k0_pay7, gelu]

end Cert.SguSampleIdeal.Unit
-- ==== Proof.SguRef.lean ====
module

public import proofs.«01_k».proof.Defs
public import proofs.«01_k».proof.Proof.Gen.SguSampleRefIdeal.Run
public import proofs.«01_k».proof.Proof.SguSpec
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.SguSampleRefIdeal.Unit

open Cert.SguSampleRefIdeal Cert.SguSampleRefIdeal.Gen Cert.Sgu

/-- A constant at every entry. -/
abbrev const (s : Shape) (h : S_.BroadcastsInDim s ![]) (b : BitVec 32) : FVec Ideal s .f32 := broadcastInDim s ![] h (constant S_ .f32 b)

/-- The activation, batch by batch. -/
def act (H : FVec Ideal S512x7168 .f32) : FVec Ideal S16x32x6144 .f32 :=
  let x := extractStridedSlice S16x32x6144 ![0, 0, 0] (shapeCast S16x32x7168 H shapeCasts_S512x7168_S16x32x7168) slices_S16x32x7168_S16x32x6144_0_0_0
  mulf x (mulf (const _ bcast_S_S16x32x6144 0x3F000000#32) (addf (const _ bcast_S_S16x32x6144 0x3F800000#32) (Host.tanh
    (mulf (const _ bcast_S_S16x32x6144 0x3F4C422A#32) (addf x (mulf (const _ bcast_S_S16x32x6144 0x3D372713#32) (mulf (mulf x x) x)))))))

/-- The gate's half of the activation. -/
def gate (H : FVec Ideal S512x7168 .f32) : FVec Ideal S16x32x3072 .f32 := extractStridedSlice S16x32x3072 ![0, 0, 0] (act H) slices_S16x32x6144_S16x32x3072_0_0_0

/-- The other half. -/
def half (H : FVec Ideal S512x7168 .f32) : FVec Ideal S16x32x3072 .f32 := extractStridedSlice S16x32x3072 ![0, 0, 3072] (act H) slices_S16x32x6144_S16x32x3072_0_0_3072

/-- Each row's mean. -/
def means (v : FVec Ideal S16x32x3072 .f32) : FVec Ideal S16x32x1 .f32 :=
  Host.divf (broadcastInDim S16x32x1 ![0, 1] bcast_S16x32_S16x32x1_0_1 (Host.reduceAdd v (constant S_ .f32 0x00000000#32) reducesTo_S16x32x3072_S16x32_d2 h_S_)) (const _ bcast_S_S16x32x1 0x45400000#32)

/-- A row's number spread over the row. -/
def spread (v : FVec Ideal S16x32x1 .f32) : FVec Ideal S16x32x3072 .f32 := broadcastInDim S16x32x3072 ![0, 1, 2] bcast_S16x32x1_S16x32x3072_0_1_2 v

/-- A row's numbers spread over the rows. -/
def along (g : FVec Ideal S3072 .f32) : FVec Ideal S16x32x3072 .f32 :=
  broadcastInDim S16x32x3072 ![0, 1, 2] bcast_S1x1x3072_S16x32x3072_0_1_2 (broadcastInDim S1x1x3072 ![2] bcast_S3072_S1x1x3072_2 g)

/-- The rows layer-normed. -/
def norm (v : FVec Ideal S16x32x3072 .f32) (g b : FVec Ideal S3072 .f32) : FVec Ideal S16x32x3072 .f32 :=
  addf (mulf (mulf (subf v (spread (means v))) (spread (Host.rsqrt (addf (means (mulf (subf v (spread (means v))) (subf v (spread (means v)))))
    (const _ bcast_S_S16x32x1 0x3727C5AC#32))))) (along g)) (along b)

/-- The tokens a token sees. -/
def seen : IVec S32x32 1 :=
  select (cmpi .sge (addi (iotaInDim S32x32 32 0) (broadcastInDim S32x32 ![] bcast_S_S32x32 (constantI S_ 32 0#32))) (iotaInDim S32x32 32 1))
    (broadcastInDim S32x32 ![] bcast_S_S32x32 (constantI S_ 1 1#1)) (broadcastInDim S32x32 ![] bcast_S_S32x32 (constantI S_ 1 0#1))

/-- The mixing weights under the mask. -/
def masked (w : FVec Ideal S8x128x128 .f32) : FVec Ideal S8x32x32 .f32 :=
  select (broadcastInDim S8x32x32 ![0, 1, 2] bcast_S1x32x32_S8x32x32_0_1_2 (broadcastInDim S1x32x32 ![1, 2] bcast_S32x32_S1x32x32_1_2 seen))
    (extractStridedSlice S8x32x32 ![0, 0, 0] w slices_S8x128x128_S8x32x32_0_0_0) (const _ bcast_S_S8x32x32 0x00000000#32)

/-- The tokens mixed, group by group. -/
def mix (v : FVec Ideal S16x32x3072 .f32) (w : FVec Ideal S8x32x32 .f32) : FVec Ideal S16x1x32x8x384 .f32 :=
  transpose S16x1x32x8x384 [1, 2, 4, 0, 3] (Host.dotGeneral dot_S16x1x32x8x384_S8x32x32_S8x16x1x384x32_2_2_014_1_3_0 none
    (shapeCast _ v shapeCasts_S16x32x3072_S16x1x32x8x384) w) transposes_S8x16x1x384x32_S16x1x32x8x384_1_2_4_0_3

/-- The bias of a token and a group. -/
def shift (b : FVec Ideal S8x128 .f32) : FVec Ideal S16x1x32x8x384 .f32 :=
  broadcastInDim S16x1x32x8x384 ![0, 1, 2, 3, 4] bcast_S1x1x32x8x1_S16x1x32x8x384_0_1_2_3_4 (broadcastInDim S1x1x32x8x1 ![2, 3] bcast_S32x8_S1x1x32x8x1_2_3
    (transpose S32x8 [1, 0] (extractStridedSlice S8x32 ![0, 0] b slices_S8x128_S8x32_0_0) transposes_S8x32_S32x8_1_0))

/-- The gated rows. -/
def gated (u v : FVec Ideal S16x32x3072 .f32) (w : FVec Ideal S8x128x128 .f32) (b : FVec Ideal S8x128 .f32) : FVec Ideal S512x3072 .bf16 :=
  truncf .bf16 (shapeCast S512x3072 (mulf u (shapeCast S16x32x3072 (addf (mix v (masked w)) (shift b)) shapeCasts_S16x1x32x8x384_S16x32x3072)) shapeCasts_S16x32x3072_S512x3072) bitsLt_bf16_f32

/-- The normed rows, as the reference's second result. -/
def ref1 (H : FVec Ideal S512x7168 .f32) (g b : FVec Ideal S3072 .f32) : FVec Ideal S512x3072 .f32 :=
  shapeCast S512x3072 (norm (half H) g b) shapeCasts_S16x32x3072_S512x3072

/-- The gated rows, as the reference's first result. -/
def ref0 (H : FVec Ideal S512x7168 .f32) (g b : FVec Ideal S3072 .f32) (w : FVec Ideal S8x128x128 .f32) (b' : FVec Ideal S8x128 .f32) : FVec Ideal S512x3072 .bf16 :=
  gated (gate H) (norm (half H) g b) w b'

theorem res0_eq (m : (ℓ : Loc nD τ sig) → Buf (Elt Ideal) ℓ) (c : Dev nD) :
    Value.res_main_v59 m c = ref0 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem res1_eq (m : (ℓ : Loc nD τ sig) → Buf (Elt Ideal) ℓ) (c : Dev nD) :
    Value.res_main_v60 m c = ref1 (m ((c.tc : Thread nD τ).loc main_arg0)) (m ((c.tc : Thread nD τ).loc main_arg1)) (m ((c.tc : Thread nD τ).loc main_arg2)) := rfl

theorem act_at (H : FVec Ideal S512x7168 .f32) (B : Fin 16) (T : Fin 32) (n : Fin 6144) :
    act H (ix3 B T n) = gelu (H (ix2 ⟨B.val * 32 + T.val, by omega⟩ ⟨n.val, by omega⟩)) := by
  have e0 : extractStridedSlice S16x32x6144 ![0, 0, 0] (shapeCast S16x32x7168 H shapeCasts_S512x7168_S16x32x7168) slices_S16x32x7168_S16x32x6144_0_0_0 (ix3 B T n)
      = H (ix2 ⟨B.val * 32 + T.val, by omega⟩ ⟨n.val, by omega⟩) := by
    pointwise
  rw [← e0]
  unfold act gelu
  generalize extractStridedSlice S16x32x6144 ![0, 0, 0] (shapeCast S16x32x7168 H shapeCasts_S512x7168_S16x32x7168) slices_S16x32x7168_S16x32x6144_0_0_0 = x
  rw [← mul_comm (x (ix3 B T n) * x (ix3 B T n))]
  pointwise

theorem gate_at (H : FVec Ideal S512x7168 .f32) (B : Fin 16) (T : Fin 32) (n : Fin 3072) :
    gate H (ix3 B T n) = gelu (H (ix2 ⟨B.val * 32 + T.val, by omega⟩ ⟨n.val, by omega⟩)) := by
  have e : gate H (ix3 B T n) = act H (ix3 B T ⟨n.val, by omega⟩) := by
    unfold gate
    generalize act H = y
    pointwise
  exact e.trans (act_at H B T _)

theorem half_at (H : FVec Ideal S512x7168 .f32) (B : Fin 16) (T : Fin 32) (n : Fin 3072) :
    half H (ix3 B T n) = gelu (H (ix2 ⟨B.val * 32 + T.val, by omega⟩ ⟨3072 + n.val, by omega⟩)) := by
  have e : half H (ix3 B T n) = act H (ix3 B T ⟨3072 + n.val, by omega⟩) := by
    unfold half
    generalize act H = y
    pointwise
  exact e.trans (act_at H B T _)

theorem means_at (v : FVec Ideal S16x32x3072 .f32) (B : Fin 16) (T : Fin 32) : means v (ix3 B T 0) = mean fun n => v (ix3 B T n) := by
  pointwise [means, mean]

theorem spread_at (v : FVec Ideal S16x32x1 .f32) (B : Fin 16) (T : Fin 32) (n : Fin 3072) : spread v (ix3 B T n) = v (ix3 B T 0) := by
  pointwise [spread]

theorem along_at (g : FVec Ideal S3072 .f32) (B : Fin 16) (T : Fin 32) (n : Fin 3072) : along g (ix3 B T n) = g (ix1 n) := by
  pointwise [along]

theorem norm_at (v : FVec Ideal S16x32x3072 .f32) (g b : FVec Ideal S3072 .f32) (B : Fin 16) (T : Fin 32) (n : Fin 3072) :
    norm v g b (ix3 B T n) = normed (fun k => v (ix3 B T k)) (fun k => g (ix1 k)) (fun k => b (ix1 k)) n := by
  have d : ∀ k, subf v (spread (means v)) (ix3 B T k) = v (ix3 B T k) - mean fun n => v (ix3 B T n) := fun k =>
    congrArg (v (ix3 B T k) - ·) ((spread_at _ B T k).trans (means_at v B T))
  have s : means (mulf (subf v (spread (means v))) (subf v (spread (means v)))) (ix3 B T 0)
      = mean fun k => (v (ix3 B T k) - mean fun n => v (ix3 B T n)) * (v (ix3 B T k) - mean fun n => v (ix3 B T n)) :=
    (means_at _ B T).trans (congrArg mean (funext fun k => congrArg₂ (· * ·) (d k) (d k)))
  have q : spread (Host.rsqrt (addf (means (mulf (subf v (spread (means v))) (subf v (spread (means v))))) (const _ bcast_S_S16x32x1 0x3727C5AC#32))) (ix3 B T n)
      = Ideal.rsqrt ((mean fun k => (v (ix3 B T k) - mean fun n => v (ix3 B T n)) * (v (ix3 B T k) - mean fun n => v (ix3 B T n))) + Ideal.ofBits FTy.f32 0x3727C5AC#32) := by
    refine (spread_at _ B T n).trans ?_
    rw [← s]
    rfl
  exact congrArg₂ (· + ·) (congrArg₂ (· * ·) (congrArg₂ (· * ·) (d n) q) (along_at g B T n)) (along_at b B T n)

theorem seen_at (r k : Fin 32) : seen (ix2 r k) = if k.val ≤ r.val then 1#1 else 0#1 := by
  have h : ∀ r k : Fin 32, seen (ix2 r k) = if k.val ≤ r.val then 1#1 else 0#1 := by decide +kernel
  exact h r k

theorem masked_at (w : FVec Ideal S8x128x128 .f32) (h : Fin 8) (r k : Fin 32) :
    masked w (ix3 h r k) = if k.val ≤ r.val then w (ix3 h ⟨r.val, by omega⟩ ⟨k.val, by omega⟩) else 0 := by
  have e : masked w (ix3 h r k) = Scalar.select (seen (ix2 r k)) (w (ix3 h ⟨r.val, by omega⟩ ⟨k.val, by omega⟩)) (0 : EReal) := by
    unfold masked
    generalize seen = s
    pointwise
  rw [e, seen_at]
  by_cases p : k.val ≤ r.val
  · simp only [p, if_true]; rfl
  · simp only [p, if_false]; rfl

theorem ref1_at (H : FVec Ideal S512x7168 .f32) (g b : FVec Ideal S3072 .f32) (R : Fin 512) (n : Fin 3072) :
    ref1 H g b (ix2 R n) = normed (fun k => gelu (H (ix2 R ⟨3072 + k.val, by omega⟩))) (fun k => g (ix1 k)) (fun k => b (ix1 k)) n := by
  have e : ∀ y : FVec Ideal S16x32x3072 .f32, shapeCast S512x3072 y shapeCasts_S16x32x3072_S512x3072 (ix2 R n) = y (ix3 ⟨R.val / 32, by omega⟩ ⟨R.val % 32, by omega⟩ n) := by
    intro y
    pointwise
  refine (e _).trans ((norm_at _ g b _ _ n).trans ?_)
  refine congrArg (normed · _ _ n) (funext fun k => (half_at H _ _ k).trans ?_)
  exact congrArg (fun x => gelu (H (ix2 x _))) (Fin.ext (by show R.val / 32 * 32 + R.val % 32 = R.val; omega))

theorem mix_at (v : FVec Ideal S16x32x3072 .f32) (w : FVec Ideal S8x32x32 .f32) (B : Fin 16) (T : Fin 32) (h : Fin 8) (d : Fin 384) :
    mix v w (ix5 B 0 T h d) = ∑ k : Fin 32, w (ix3 h T k) * v (ix3 B k ⟨h.val * 384 + d.val, by omega⟩) := by
  have c : ∀ k : Fin 32, shapeCast S16x1x32x8x384 v shapeCasts_S16x32x3072_S16x1x32x8x384 (ix5 B 0 k h d) = v (ix3 B k ⟨h.val * 384 + d.val, by omega⟩) := by
    intro k
    pointwise
  refine Eq.trans ?_ (Finset.sum_congr rfl fun k _ => congrArg (w (ix3 h T k) * ·) (c k))
  unfold mix
  generalize shapeCast S16x1x32x8x384 v shapeCasts_S16x32x3072_S16x1x32x8x384 = y
  refine Eq.trans ?_ (Finset.sum_congr rfl fun k _ => mul_comm _ _)
  pointwise

theorem shift_at (b : FVec Ideal S8x128 .f32) (B : Fin 16) (T : Fin 32) (h : Fin 8) (d : Fin 384) :
    shift b (ix5 B 0 T h d) = b (ix2 h ⟨T.val, by omega⟩) := by
  pointwise [shift]

theorem ref0_at (H : FVec Ideal S512x7168 .f32) (g b : FVec Ideal S3072 .f32) (w : FVec Ideal S8x128x128 .f32) (b' : FVec Ideal S8x128 .f32) (R : Fin 512) (h : Fin 8) (d : Fin 384) :
    ref0 H g b w b' (ix2 R ⟨h.val * 384 + d.val, by omega⟩) = gelu (H (ix2 R ⟨h.val * 384 + d.val, by omega⟩))
      * (mixed (⟨R.val % 32, by omega⟩ : Fin 32) (fun k => w (ix3 h ⟨R.val % 32, by omega⟩ ⟨k.val, by omega⟩))
          (fun k : Fin 32 => ref1 H g b (ix2 ⟨R.val / 32 * 32 + k.val, by omega⟩ ⟨h.val * 384 + d.val, by omega⟩))
        + b' (ix2 h ⟨R.val % 32, by omega⟩)) := by
  have e : ∀ (u : FVec Ideal S16x32x3072 .f32) (z : FVec Ideal S16x1x32x8x384 .f32),
      (truncf .bf16 (shapeCast S512x3072 (mulf u (shapeCast S16x32x3072 z shapeCasts_S16x1x32x8x384_S16x32x3072)) shapeCasts_S16x32x3072_S512x3072) bitsLt_bf16_f32 : FVec Ideal S512x3072 .bf16) (ix2 R ⟨h.val * 384 + d.val, by omega⟩)
        = u (ix3 ⟨R.val / 32, by omega⟩ ⟨R.val % 32, by omega⟩ ⟨h.val * 384 + d.val, by omega⟩) * z (ix5 ⟨R.val / 32, by omega⟩ 0 ⟨R.val % 32, by omega⟩ h d) := by
    intro u z
    pointwise
  have e1 : ∀ (y : FVec Ideal S16x32x3072 .f32) (k : Fin 32), shapeCast S512x3072 y shapeCasts_S16x32x3072_S512x3072 (ix2 ⟨R.val / 32 * 32 + k.val, by omega⟩ ⟨h.val * 384 + d.val, by omega⟩)
      = y (ix3 ⟨R.val / 32, by omega⟩ k ⟨h.val * 384 + d.val, by omega⟩) := by
    intro y k
    pointwise
    exact congrArg (fun x => y (ix3 x k _)) (Fin.ext (by show (R.val / 32 * 32 + k.val) / 32 = R.val / 32; omega))
  have hR : (⟨R.val / 32 * 32 + R.val % 32, by omega⟩ : Fin 512) = R := Fin.ext (by show R.val / 32 * 32 + R.val % 32 = R.val; omega)
  refine (e _ _).trans (congrArg₂ (· * ·) ((gate_at H _ _ _).trans ?_) (congrArg₂ (· + ·) ((mix_at _ _ _ _ h d).trans ?_) (shift_at b' _ _ h d)))
  · exact congrArg (fun x => gelu (H (ix2 x _))) hR
  · exact Finset.sum_congr rfl fun k _ => congrArg₂ (· * ·) (masked_at w h _ k) (e1 _ k).symm

end Cert.SguSampleRefIdeal.Unit
-- ==== Proof.Sgu.lean ====
module

public import proofs.«01_k».proof.Proof.SguKernel
public import proofs.«01_k».proof.Proof.SguRef

@[expose] public section

set_option maxRecDepth 16384

noncomputable section

open Idealize.ShloMosaic Idealize.ShloMosaic.TcCoe Idealize.SL.Sem
open Idealize.ShloMosaic.Pipeline (Dat)

namespace Cert.SguSampleIdeal.Unit

open Cert.SguSampleIdeal Cert.SguSampleIdeal.Gen Cert.Sgu

/-- A group's columns of a block, read at an index. -/
theorem ld_cols (x : Vec Ideal S32x3072 .f32) (o : ℕ) (inb : ∀ a, (![0, o] : Fin 2 → ℕ) a + (![32, 384] : Fin 2 → ℕ) a ≤ S32x3072.size a) (r : Fin 32) (d : Fin 384) (n : Fin 3072)
    (hn : o + d.val = n.val) : View.ld x (Rect.unit ![0, o] ![32, 384] inb) (ix2 r d) = x (ix2 r n) := by
  refine congrArg x (funext fun a => Fin.ext ?_)
  fin_cases a
  · show 0 + 1 * r.val = r.val; omega
  · show o + 1 * d.val = n.val; omega

/-- The same of a value. -/
theorem cut_cols (x : FVec Ideal S32x3072 .f32) (o : ℕ) (sl : S32x3072.Slices ![0, o] S32x384) (r : Fin 32) (d : Fin 384) (n : Fin 3072)
    (hn : o + d.val = n.val) : extractStridedSlice S32x384 ![0, o] x sl (ix2 r d) = x (ix2 r n) := by
  refine congrArg x (funext fun a => Fin.ext ?_)
  fin_cases a
  · show 0 + r.val = r.val; omega
  · exact hn

/-- A group's weights, read at an index. -/
theorem ld_group (x : Vec Ideal S8x32x32 .f32) (p : ℕ) (inb : ∀ a, (![p, 0, 0] : Fin 3 → ℕ) a + (![1, 32, 32] : Fin 3 → ℕ) a ≤ S8x32x32.size a) (h : Fin 8) (hp : p = h.val) (r k : Fin 32) :
    View.ld x (Rect.unit ![p, 0, 0] ![1, 32, 32] inb) (ix3 (0 : Fin 1) r k) = x (ix3 h r k) := by
  refine congrArg x (funext fun a => Fin.ext ?_)
  fin_cases a
  · exact hp
  · show 0 + 1 * r.val = r.val; omega
  · show 0 + 1 * k.val = k.val; omega

/-- One entry of the gated block, from the point's blocks. -/
def point (u vn b : Vec Ideal S32x3072 .f32) (w : Vec Ideal S8x32x32 .f32) (h : Fin 8) (r : Fin 32) (n : Fin 3072) : EReal :=
  gelu (u (ix2 r n)) * (mixed r (fun k => w (ix3 h r k)) (fun k => vn (ix2 k n)) + b (ix2 r n))

theorem out_piece (u vn b : Vec Ideal S32x3072 .f32) (w : Vec Ideal S8x32x32 .f32) (p o : ℕ) (sl : S32x3072.Slices ![0, o] S32x384)
    (inb : ∀ a, (![0, o] : Fin 2 → ℕ) a + (![32, 384] : Fin 2 → ℕ) a ≤ S32x3072.size a)
    (inw : ∀ a, (![p, 0, 0] : Fin 3 → ℕ) a + (![1, 32, 32] : Fin 3 → ℕ) a ≤ S8x32x32.size a) (h : Fin 8) (r : Fin 32) (d : Fin 384) (y : S32x384.Idx)
    (ho : o = p * 384) (hr : r.val = (y 0).val) (y1 : (y 1).val < 384) (hd : h.val * 384 + d.val = o + (y 1).val) :
    group (extractStridedSlice S32x384 ![0, o] vn sl) (View.ld w (Rect.unit ![p, 0, 0] ![1, 32, 32] inw)) (View.ld b (Rect.unit ![0, o] ![32, 384] inb))
      (View.ld u (Rect.unit ![0, o] ![32, 384] inb)) y = point u vn b w h r ⟨h.val * 384 + d.val, by omega⟩ := by
  have e : y = ix2 r d := by
    have e0 : y 0 = r := Fin.ext hr.symm
    have e1 : y 1 = d := Fin.ext (by omega)
    exact (eq_ix2 y).trans (by rw [e0, e1])
  have hp : p = h.val := by omega
  have hn : o + d.val = h.val * 384 + d.val := by omega
  subst e
  refine (group_at _ _ _ _ r d).trans ?_
  refine congrArg₂ (· * ·) (congrArg gelu (ld_cols u o inb r d _ hn)) (congrArg₂ (· + ·) ?_ (ld_cols b o inb r d _ hn))
  exact congrArg₂ (mixed r) (funext fun k => ld_group w p inw h hp r k) (funext fun k => cut_cols vn o sl k d _ hn)

theorem out_at (u vn b : Vec Ideal S32x3072 .f32) (w : Vec Ideal S8x32x32 .f32) (h : Fin 8) (r : Fin 32) (d : Fin 384) :
    out u vn w b (ix2 r ⟨h.val * 384 + d.val, by omega⟩) = point u vn b w h r ⟨h.val * 384 + d.val, by omega⟩ := by
  unfold out
  canon_tiles y hy
  · exact out_piece u vn b w 7 2688 _ _ _ h r d y rfl hy0 y1_lt hy1
  · exact out_piece u vn b w 6 2304 _ _ _ h r d y rfl hy0 y1_lt hy1
  · exact out_piece u vn b w 5 1920 _ _ _ h r d y rfl hy0 y1_lt hy1
  · exact out_piece u vn b w 4 1536 _ _ _ h r d y rfl hy0 y1_lt hy1
  · exact out_piece u vn b w 3 1152 _ _ _ h r d y rfl hy0 y1_lt hy1
  · exact out_piece u vn b w 2 768 _ _ _ h r d y rfl hy0 y1_lt hy1
  · exact out_piece u vn b w 1 384 _ _ _ h r d y rfl hy0 y1_lt hy1
  · exact out_piece u vn b w 0 0 _ _ _ h r d y rfl hy0 y1_lt (hy1.trans (Nat.zero_add _).symm)

variable (m : (ℓ : Loc nD τ sig) → Buf (Elt Ideal) ℓ)

/-- The windows' blocks at a grid point. -/
theorem idx : ∀ t : Fin cfg0.N, win0_0.index t = ![t.val, 0] ∧ win0_1.index t = ![t.val, 1] ∧ win0_2.index t = ![0, 0] ∧ win0_3.index t = ![0, 0]
    ∧ win0_4.index t = ![0, 0, 0] ∧ win0_5.index t = ![0, 0] ∧ win0_6.index t = ![t.val, 0] ∧ win0_7.index t = ![t.val, 0] :=
  (by decide +kernel : ∀ t : Fin grid0.N, _)

/-- The gate's half of a point's rows. -/
theorem u_at (c : Dev nD) (t : Fin cfg0.N) (r : Fin 32) (n : Fin 3072) (R : Fin 512) (hR : R.val = t.val * 32 + r.val) :
    X0_0 m c t (ix2 r n) = m ((c : Thread nD τ).loc main_arg0) (ix2 R ⟨n.val, by omega⟩) := by
  unfold X0_0 Pipeline.Window.fill
  rw [dif_pos (moved0_0 t _)]
  blk_ext [iblk, V, idx t]

/-- The other half of a point's rows. -/
theorem v_at (c : Dev nD) (t : Fin cfg0.N) (r : Fin 32) (n : Fin 3072) (R : Fin 512) (hR : R.val = t.val * 32 + r.val) :
    X0_1 m c t (ix2 r n) = m ((c : Thread nD τ).loc main_arg0) (ix2 R ⟨3072 + n.val, by omega⟩) := by
  unfold X0_1 Pipeline.Window.fill
  rw [dif_pos (moved0_1 t _)]
  blk_ext [iblk, V, idx t]

theorem g_at (c : Dev nD) (t : Fin cfg0.N) (n : Fin 3072) : iblk m c 2 t (ix2 0 n) = m ((c : Thread nD τ).loc main_arg1) (ix1 n) := by
  have e : V m c main_v5 = shapeCast S1x3072 (m ((c : Thread nD τ).loc main_arg1)) shapeCasts_S3072_S1x3072 := by
    entry_read
    rfl
  have e2 : iblk m c 2 t (ix2 0 n) = V m c main_v5 (ix2 0 n) := by
    blk_ext [iblk, idx t]
  rw [e2, e]
  pointwise

theorem b_at (c : Dev nD) (t : Fin cfg0.N) (n : Fin 3072) : iblk m c 3 t (ix2 0 n) = m ((c : Thread nD τ).loc main_arg2) (ix1 n) := by
  have e : V m c main_v6 = shapeCast S1x3072 (m ((c : Thread nD τ).loc main_arg2)) shapeCasts_S3072_S1x3072 := by
    entry_read
    rfl
  have e2 : iblk m c 3 t (ix2 0 n) = V m c main_v6 (ix2 0 n) := by
    blk_ext [iblk, idx t]
  rw [e2, e]
  pointwise

theorem w_at (c : Dev nD) (t : Fin cfg0.N) (h : Fin 8) (r k : Fin 32) :
    iblk m c 4 t (ix3 h r k) = m ((c : Thread nD τ).loc main_arg3) (ix3 h ⟨r.val, by omega⟩ ⟨k.val, by omega⟩) := by
  have e : V m c main_v0 = extractStridedSlice S8x32x32 ![0, 0, 0] (m ((c : Thread nD τ).loc main_arg3)) slices_S8x128x128_S8x32x32_0_0_0 := by
    entry_read
    rfl
  have e2 : iblk m c 4 t (ix3 h r k) = V m c main_v0 (ix3 h r k) := by
    blk_ext [iblk, idx t]
  rw [e2, e]
  pointwise

theorem shift_at (c : Dev nD) (t : Fin cfg0.N) (h : Fin 8) (r : Fin 32) (d : Fin 384) :
    iblk m c 5 t (ix2 r ⟨h.val * 384 + d.val, by omega⟩) = m ((c : Thread nD τ).loc main_arg4) (ix2 h ⟨r.val, by omega⟩) := by
  have e : V m c main_v4 = shapeCast S32x3072 (broadcastInDim S32x8x384 ![0, 1] bcast_S32x8_S32x8x384_0_1
      (transpose S32x8 [1, 0] (extractStridedSlice S8x32 ![0, 0] (m ((c : Thread nD τ).loc main_arg4)) slices_S8x128_S8x32_0_0) transposes_S8x32_S32x8_1_0)) shapeCasts_S32x8x384_S32x3072 := by
    entry_read
    rfl
  have e2 : ∀ n : Fin 3072, iblk m c 5 t (ix2 r n) = V m c main_v4 (ix2 r n) := by
    intro n
    blk_ext [iblk, idx t]
  rw [e2, e]
  pointwise

/-- The normed rows of a point are the reference's. -/
theorem rows_point (c : Dev nD) (t : Fin cfg0.N) (r : Fin 32) (n : Fin 3072) (R : Fin 512) (hR : R.val = t.val * 32 + r.val) :
    rows (X0_1 m c t) (iblk m c 2 t) (iblk m c 3 t) (ix2 r n) = Cert.SguSampleRefIdeal.Unit.ref1 (m ((c : Thread nD τ).loc main_arg0)) (m ((c : Thread nD τ).loc main_arg1))
      (m ((c : Thread nD τ).loc main_arg2)) (ix2 R n) := by
  refine (rows_at _ _ _ r n).trans (Eq.trans ?_ (Cert.SguSampleRefIdeal.Unit.ref1_at _ _ _ R n).symm)
  exact congr (congr (congr (congrArg normed (funext fun k => congrArg gelu (v_at m c t r k R hR))) (funext fun k => g_at m c t k)) (funext fun k => b_at m c t k)) rfl

/-- The gated rows of a point are the reference's. -/
theorem out_point (c : Dev nD) (t : Fin cfg0.N) (r : Fin 32) (h : Fin 8) (d : Fin 384) (R : Fin 512) (hR : R.val = t.val * 32 + r.val) :
    out (X0_0 m c t) (rows (X0_1 m c t) (iblk m c 2 t) (iblk m c 3 t)) (iblk m c 4 t) (iblk m c 5 t) (ix2 r ⟨h.val * 384 + d.val, by omega⟩)
      = Cert.SguSampleRefIdeal.Unit.ref0 (m ((c : Thread nD τ).loc main_arg0)) (m ((c : Thread nD τ).loc main_arg1)) (m ((c : Thread nD τ).loc main_arg2))
        (m ((c : Thread nD τ).loc main_arg3)) (m ((c : Thread nD τ).loc main_arg4)) (ix2 R ⟨h.val * 384 + d.val, by omega⟩) := by
  have ht : t.val < 16 := t.isLt
  have er : (⟨R.val % 32, by omega⟩ : Fin 32) = r := Fin.ext (by show R.val % 32 = r.val; omega)
  refine (out_at _ _ _ _ h r d).trans (Eq.trans ?_ (Cert.SguSampleRefIdeal.Unit.ref0_at _ _ _ _ _ R h d).symm)
  have e8 : (⟨R.val % 32, by omega⟩ : Fin 128) = ⟨r.val, by omega⟩ := Fin.ext (by show R.val % 32 = r.val; omega)
  rw [er, e8]
  refine congrArg₂ (· * ·) (congrArg gelu (u_at m c t r _ R hR)) (congrArg₂ (· + ·) ?_ (shift_at m c t h r d))
  refine congrArg₂ (mixed r) (funext fun k => w_at m c t h r k) (funext fun k => rows_point m c t k _ _ ?_)
  show R.val / 32 * 32 + k.val = t.val * 32 + k.val
  omega

theorem final6 (c : Dev nD) : (dats m 0 c).arrAt 6 (cfgs 0).N
    = Cert.SguSampleRefIdeal.Unit.ref0 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6, out_eq, eq_ix2 (((cfg0.win 6).blk t).view.emb y)]
  have y1 : (y 1).val < 3072 := (y 1).isLt
  have e1 : y 1 = (⟨(⟨(y 1).val / 384, by omega⟩ : Fin 8).val * 384 + (⟨(y 1).val % 384, by omega⟩ : Fin 384).val, by show (y 1).val / 384 * 384 + (y 1).val % 384 < 3072; omega⟩ : Fin 3072) :=
    Fin.ext (by show (y 1).val = (y 1).val / 384 * 384 + (y 1).val % 384; omega)
  have e2 : (((cfg0.win 6).blk t).view.emb y) 1 = (⟨(⟨(y 1).val / 384, by omega⟩ : Fin 8).val * 384 + (⟨(y 1).val % 384, by omega⟩ : Fin 384).val, by show (y 1).val / 384 * 384 + (y 1).val % 384 < 3072; omega⟩ : Fin 3072) := by
    refine Eq.trans (Fin.ext ?_) e1
    blk_simp [idx t]
  refine Eq.trans (congrArg _ ((eq_ix2 y).trans (congrArg (ix2 (y 0)) e1))) (Eq.trans (out_point m c t (y 0) _ _ _ ?_) (congrArg _ (congrArg (ix2 _) e2.symm)))
  blk_simp [idx t]

theorem final7 (c : Dev nD) : (dats m 0 c).arrAt 7 (cfgs 0).N
    = Cert.SguSampleRefIdeal.Unit.ref1 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7, rows_eq, eq_ix2 (((cfg0.win 7).blk t).view.emb y)]
  have e2 : (((cfg0.win 7).blk t).view.emb y) 1 = y 1 := by
    refine Fin.ext ?_
    blk_simp [idx t]
  refine Eq.trans (congrArg _ (eq_ix2 y)) (Eq.trans (rows_point m c t (y 0) (y 1) _ ?_) (congrArg _ (congrArg (ix2 _) e2.symm)))
  blk_simp [idx t]

end Cert.SguSampleIdeal.Unit

/-- The kernel's gated and normed rows are the reference's. -/
theorem Cert.Proof.sgu : Cert.algebraic_SguSampleIdeal_SguSampleRefIdeal := by
  pair_intro
  · run_from Cert.SguSampleIdeal.Gen.run_main m g
  · run_from Cert.SguSampleRefIdeal.Value.run m' g'
    · rw [Cert.SguSampleIdeal.Unit.final6 m c]
      refine (Cert.SguSampleRefIdeal.Unit.res0_eq m' c).trans ?_
      obtain ⟨h0, h1, h2, h3, h4⟩ := hagree c
      exact congr (congr (congr (congr (congrArg Cert.SguSampleRefIdeal.Unit.ref0 h0) h1) h2) h3) h4
    · rw [Cert.SguSampleIdeal.Unit.final7 m c]
      refine (Cert.SguSampleRefIdeal.Unit.res1_eq m' c).trans ?_
      obtain ⟨h0, h1, h2, h3, h4⟩ := hagree c
      exact congr (congr (congrArg Cert.SguSampleRefIdeal.Unit.ref1 h0) h1) h2
-- ==== Proof.SguPromptKernel.lean ====
module

public import proofs.«01_k».proof.Defs
public import proofs.«01_k».proof.Proof.Gen.SguPromptIdeal.Value
public import proofs.«01_k».proof.Proof.SguSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SguPromptIdeal.Unit

open Cert.SguPromptIdeal Cert.SguPromptIdeal.Gen Cert.Sgu

/-- Which tokens a token sees: those up to it. -/
def causal : IVec S128x128 1 := k0_pay4

/-- One group's columns: the gate's activation times the mixed tokens plus the bias. -/
def group (vs : FVec Ideal S128x384 .f32) (w : Vec Ideal S1x128x128 .f32) (b u : Vec Ideal S128x384 .f32) : FVec Ideal S128x384 .bf16 :=
  k0_pay7 (addf (matmul dot_S128x128_S128x384_S128x384_1_0_0_1_n_n none
    (truncf .bf16 (select causal (shapeCast S128x128 w shapeCasts_S1x128x128_S128x128) (broadcast S128x128 (Scalar.ofBits .f32 0x00000000#32))) bitsLt_bf16_f32)
    (truncf .bf16 vs bitsLt_bf16_f32) (constant S128x384 .f32 0x00000000#32)) (shapeCast S128x384 b shapeCasts_S128x384_S128x384)) u

/-- The normed rows of a point. -/
abbrev rows (v : Vec Ideal S128x3072 .f32) (g b : Vec Ideal S1x3072 .f32) : FVec Ideal S128x3072 .f32 := k0_pay3 v g b

/-- The gated block a point stores: the eight groups side by side. -/
def out (u : Vec Ideal S128x3072 .f32) (vn : FVec Ideal S128x3072 .f32) (w : Vec Ideal S8x128x128 .f32) (b : Vec Ideal S128x3072 .f32) : Vec Ideal S128x3072 .bf16 :=
  View.canon (Val := Elt Ideal) (s := S128x3072) (e := .bf16) [
    ⟨Rect.unit ![0, 2688] ![128, 384] inb_S128x3072_S128x384_0_2688, group (extractStridedSlice S128x384 ![0, 2688] vn slices_S128x3072_o0_2688_S128x384)
      (View.ld w (Rect.unit ![7, 0, 0] ![1, 128, 128] inb_S8x128x128_S1x128x128_7_0_0)) (View.ld b (Rect.unit ![0, 2688] ![128, 384] inb_S128x3072_S128x384_0_2688)) (View.ld u (Rect.unit ![0, 2688] ![128, 384] inb_S128x3072_S128x384_0_2688))⟩,
    ⟨Rect.unit ![0, 2304] ![128, 384] inb_S128x3072_S128x384_0_2304, group (extractStridedSlice S128x384 ![0, 2304] vn slices_S128x3072_o0_2304_S128x384)
      (View.ld w (Rect.unit ![6, 0, 0] ![1, 128, 128] inb_S8x128x128_S1x128x128_6_0_0)) (View.ld b (Rect.unit ![0, 2304] ![128, 384] inb_S128x3072_S128x384_0_2304)) (View.ld u (Rect.unit ![0, 2304] ![128, 384] inb_S128x3072_S128x384_0_2304))⟩,
    ⟨Rect.unit ![0, 1920] ![128, 384] inb_S128x3072_S128x384_0_1920, group (extractStridedSlice S128x384 ![0, 1920] vn slices_S128x3072_o0_1920_S128x384)
      (View.ld w (Rect.unit ![5, 0, 0] ![1, 128, 128] inb_S8x128x128_S1x128x128_5_0_0)) (View.ld b (Rect.unit ![0, 1920] ![128, 384] inb_S128x3072_S128x384_0_1920)) (View.ld u (Rect.unit ![0, 1920] ![128, 384] inb_S128x3072_S128x384_0_1920))⟩,
    ⟨Rect.unit ![0, 1536] ![128, 384] inb_S128x3072_S128x384_0_1536, group (extractStridedSlice S128x384 ![0, 1536] vn slices_S128x3072_o0_1536_S128x384)
      (View.ld w (Rect.unit ![4, 0, 0] ![1, 128, 128] inb_S8x128x128_S1x128x128_4_0_0)) (View.ld b (Rect.unit ![0, 1536] ![128, 384] inb_S128x3072_S128x384_0_1536)) (View.ld u (Rect.unit ![0, 1536] ![128, 384] inb_S128x3072_S128x384_0_1536))⟩,
    ⟨Rect.unit ![0, 1152] ![128, 384] inb_S128x3072_S128x384_0_1152, group (extractStridedSlice S128x384 ![0, 1152] vn slices_S128x3072_o0_1152_S128x384)
      (View.ld w (Rect.unit ![3, 0, 0] ![1, 128, 128] inb_S8x128x128_S1x128x128_3_0_0)) (View.ld b (Rect.unit ![0, 1152] ![128, 384] inb_S128x3072_S128x384_0_1152)) (View.ld u (Rect.unit ![0, 1152] ![128, 384] inb_S128x3072_S128x384_0_1152))⟩,
    ⟨Rect.unit ![0, 768] ![128, 384] inb_S128x3072_S128x384_0_768, group (extractStridedSlice S128x384 ![0, 768] vn slices_S128x3072_o0_768_S128x384)
      (View.ld w (Rect.unit ![2, 0, 0] ![1, 128, 128] inb_S8x128x128_S1x128x128_2_0_0)) (View.ld b (Rect.unit ![0, 768] ![128, 384] inb_S128x3072_S128x384_0_768)) (View.ld u (Rect.unit ![0, 768] ![128, 384] inb_S128x3072_S128x384_0_768))⟩,
    ⟨Rect.unit ![0, 384] ![128, 384] inb_S128x3072_S128x384_0_384, group (extractStridedSlice S128x384 ![0, 384] vn slices_S128x3072_o0_384_S128x384)
      (View.ld w (Rect.unit ![1, 0, 0] ![1, 128, 128] inb_S8x128x128_S1x128x128_1_0_0)) (View.ld b (Rect.unit ![0, 384] ![128, 384] inb_S128x3072_S128x384_0_384)) (View.ld u (Rect.unit ![0, 384] ![128, 384] inb_S128x3072_S128x384_0_384))⟩,
    ⟨Rect.unit ![0, 0] ![128, 384] inb_S128x3072_S128x384_0_0, group (extractStridedSlice S128x384 ![0, 0] vn slices_S128x3072_o0_0_S128x384)
      (View.ld w (Rect.unit ![0, 0, 0] ![1, 128, 128] inb_S8x128x128_S1x128x128_0_0_0)) (View.ld b (Rect.unit ![0, 0] ![128, 384] inb_S128x3072_S128x384_0_0)) (View.ld u (Rect.unit ![0, 0] ![128, 384] inb_S128x3072_S128x384_0_0))⟩]

variable (m : (ℓ : Loc nD τ sig) → Buf (Elt Ideal) ℓ)

theorem out_eq (c : Dev nD) (t : Fin cfg0.N) :
    outsAt0 m c t = out (X0_0 m c t) (rows (X0_1 m c t) (iblk m c 2 t) (iblk m c 3 t)) (iblk m c 4 t) (iblk m c 5 t) := by
  unfold outsAt0
  frame_out
  rfl

theorem causal_at (r k : Fin 128) : causal (ix2 r k) = if k.val ≤ r.val then 1#1 else 0#1 := by
  have h : ∀ r k : Fin 128, causal (ix2 r k) = if k.val ≤ r.val then 1#1 else 0#1 := by decide +kernel
  exact h r k

/-- The normed rows, read at an index. -/
theorem rows_at (v : Vec Ideal S128x3072 .f32) (g b : Vec Ideal S1x3072 .f32) (r : Fin 128) (n : Fin 3072) :
    rows v g b (ix2 r n) = normed (fun k => gelu (v (ix2 r k))) (fun k => g (ix2 0 k)) (fun k => b (ix2 0 k)) n := by
  pointwise [rows, k0_pay3, normed, mean, gelu]

/-- A group's columns, read at an index. -/
theorem group_at (vs : FVec Ideal S128x384 .f32) (w : Vec Ideal S1x128x128 .f32) (b u : Vec Ideal S128x384 .f32) (r : Fin 128) (d : Fin 384) :
    group vs w b u (ix2 r d) = gelu (u (ix2 r d)) * (mixed r (fun k => w (ix3 0 r k)) (fun k => vs (ix2 k d)) + b (ix2 r d)) := by
  have e : ∀ k : Fin 128, select causal (shapeCast S128x128 w shapeCasts_S1x128x128_S128x128) (broadcast S128x128 (Scalar.ofBits (F := Ideal) .f32 0x00000000#32)) (ix2 r k)
      = if k.val ≤ r.val then w (ix3 0 r k) else 0 := by
    intro k
    refine (show _ = Scalar.select (causal (ix2 r k)) (shapeCast S128x128 w shapeCasts_S1x128x128_S128x128 (ix2 r k)) (Ideal.ofBits .f32 0#32) from rfl).trans ?_
    rw [causal_at]
    have e1 : shapeCast S128x128 w shapeCasts_S1x128x128_S128x128 (ix2 r k) = w (ix3 0 r k) := by pointwise
    rw [e1]
    by_cases p : k.val ≤ r.val
    · simp only [p, if_true]; rfl
    · simp only [p, if_false]; pointwise
  unfold mixed
  simp only [← e]
  pointwise [group, k0_pay7, gelu]

end Cert.SguPromptIdeal.Unit
-- ==== Proof.SguPromptRef.lean ====
module

public import proofs.«01_k».proof.Defs
public import proofs.«01_k».proof.Proof.Gen.SguPromptRefIdeal.Run
public import proofs.«01_k».proof.Proof.SguSpec
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.SguPromptRefIdeal.Unit

open Cert.SguPromptRefIdeal Cert.SguPromptRefIdeal.Gen Cert.Sgu

/-- A constant at every entry. -/
abbrev const (s : Shape) (h : S_.BroadcastsInDim s ![]) (b : BitVec 32) : FVec Ideal s .f32 := broadcastInDim s ![] h (constant S_ .f32 b)

/-- The activation, batch by batch. -/
def act (H : FVec Ideal S8192x7168 .f32) : FVec Ideal S2x4096x6144 .f32 :=
  let x := extractStridedSlice S2x4096x6144 ![0, 0, 0] (shapeCast S2x4096x7168 H shapeCasts_S8192x7168_S2x4096x7168) slices_S2x4096x7168_S2x4096x6144_0_0_0
  mulf x (mulf (const _ bcast_S_S2x4096x6144 0x3F000000#32) (addf (const _ bcast_S_S2x4096x6144 0x3F800000#32) (Host.tanh
    (mulf (const _ bcast_S_S2x4096x6144 0x3F4C422A#32) (addf x (mulf (const _ bcast_S_S2x4096x6144 0x3D372713#32) (mulf (mulf x x) x)))))))

/-- The gate's half of the activation. -/
def gate (H : FVec Ideal S8192x7168 .f32) : FVec Ideal S2x4096x3072 .f32 := extractStridedSlice S2x4096x3072 ![0, 0, 0] (act H) slices_S2x4096x6144_S2x4096x3072_0_0_0

/-- The other half. -/
def half (H : FVec Ideal S8192x7168 .f32) : FVec Ideal S2x4096x3072 .f32 := extractStridedSlice S2x4096x3072 ![0, 0, 3072] (act H) slices_S2x4096x6144_S2x4096x3072_0_0_3072

/-- Each row's mean. -/
def means (v : FVec Ideal S2x4096x3072 .f32) : FVec Ideal S2x4096x1 .f32 :=
  Host.divf (broadcastInDim S2x4096x1 ![0, 1] bcast_S2x4096_S2x4096x1_0_1 (Host.reduceAdd v (constant S_ .f32 0x00000000#32) reducesTo_S2x4096x3072_S2x4096_d2 h_S_)) (const _ bcast_S_S2x4096x1 0x45400000#32)

/-- A row's number spread over the row. -/
def spread (v : FVec Ideal S2x4096x1 .f32) : FVec Ideal S2x4096x3072 .f32 := broadcastInDim S2x4096x3072 ![0, 1, 2] bcast_S2x4096x1_S2x4096x3072_0_1_2 v

/-- A row's numbers spread over the rows. -/
def along (g : FVec Ideal S3072 .f32) : FVec Ideal S2x4096x3072 .f32 :=
  broadcastInDim S2x4096x3072 ![0, 1, 2] bcast_S1x1x3072_S2x4096x3072_0_1_2 (broadcastInDim S1x1x3072 ![2] bcast_S3072_S1x1x3072_2 g)

/-- The rows layer-normed. -/
def norm (v : FVec Ideal S2x4096x3072 .f32) (g b : FVec Ideal S3072 .f32) : FVec Ideal S2x4096x3072 .f32 :=
  addf (mulf (mulf (subf v (spread (means v))) (spread (Host.rsqrt (addf (means (mulf (subf v (spread (means v))) (subf v (spread (means v)))))
    (const _ bcast_S_S2x4096x1 0x3727C5AC#32))))) (along g)) (along b)

/-- The tokens a token sees. -/
def seen : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The mixing weights under the mask. -/
def masked (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 seen))
    w (const _ bcast_S_S8x128x128 0x00000000#32)

/-- The tokens mixed, group by group. -/
def mix (v : FVec Ideal S2x4096x3072 .f32) (w : FVec Ideal S8x128x128 .f32) : FVec Ideal S2x32x128x8x384 .f32 :=
  transpose S2x32x128x8x384 [1, 2, 4, 0, 3] (Host.dotGeneral dot_S2x32x128x8x384_S8x128x128_S8x2x32x384x128_2_2_014_1_3_0 none
    (shapeCast _ v shapeCasts_S2x4096x3072_S2x32x128x8x384) w) transposes_S8x2x32x384x128_S2x32x128x8x384_1_2_4_0_3

/-- The bias of a token and a group. -/
def shift (b : FVec Ideal S8x128 .f32) : FVec Ideal S2x32x128x8x384 .f32 :=
  broadcastInDim S2x32x128x8x384 ![0, 1, 2, 3, 4] bcast_S1x1x128x8x1_S2x32x128x8x384_0_1_2_3_4 (broadcastInDim S1x1x128x8x1 ![2, 3] bcast_S128x8_S1x1x128x8x1_2_3
    (transpose S128x8 [1, 0] b transposes_S8x128_S128x8_1_0))

/-- The gated rows. -/
def gated (u v : FVec Ideal S2x4096x3072 .f32) (w : FVec Ideal S8x128x128 .f32) (b : FVec Ideal S8x128 .f32) : FVec Ideal S8192x3072 .bf16 :=
  truncf .bf16 (shapeCast S8192x3072 (mulf u (shapeCast S2x4096x3072 (addf (mix v (masked w)) (shift b)) shapeCasts_S2x32x128x8x384_S2x4096x3072)) shapeCasts_S2x4096x3072_S8192x3072) bitsLt_bf16_f32

/-- The gated rows, as the reference's result. -/
def ref0 (H : FVec Ideal S8192x7168 .f32) (g b : FVec Ideal S3072 .f32) (w : FVec Ideal S8x128x128 .f32) (b' : FVec Ideal S8x128 .f32) : FVec Ideal S8192x3072 .bf16 :=
  gated (gate H) (norm (half H) g b) w b'

theorem res_eq (m : (ℓ : Loc nD τ sig) → Buf (Elt Ideal) ℓ) (c : Dev nD) :
    Value.res_main_v56 m c = ref0 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem act_at (H : FVec Ideal S8192x7168 .f32) (B : Fin 2) (T : Fin 4096) (n : Fin 6144) :
    act H (ix3 B T n) = gelu (H (ix2 ⟨B.val * 4096 + T.val, by omega⟩ ⟨n.val, by omega⟩)) := by
  have e0 : extractStridedSlice S2x4096x6144 ![0, 0, 0] (shapeCast S2x4096x7168 H shapeCasts_S8192x7168_S2x4096x7168) slices_S2x4096x7168_S2x4096x6144_0_0_0 (ix3 B T n)
      = H (ix2 ⟨B.val * 4096 + T.val, by omega⟩ ⟨n.val, by omega⟩) := by
    pointwise
  rw [← e0]
  unfold act gelu
  generalize extractStridedSlice S2x4096x6144 ![0, 0, 0] (shapeCast S2x4096x7168 H shapeCasts_S8192x7168_S2x4096x7168) slices_S2x4096x7168_S2x4096x6144_0_0_0 = x
  rw [← mul_comm (x (ix3 B T n) * x (ix3 B T n))]
  pointwise

theorem gate_at (H : FVec Ideal S8192x7168 .f32) (B : Fin 2) (T : Fin 4096) (n : Fin 3072) :
    gate H (ix3 B T n) = gelu (H (ix2 ⟨B.val * 4096 + T.val, by omega⟩ ⟨n.val, by omega⟩)) := by
  have e : gate H (ix3 B T n) = act H (ix3 B T ⟨n.val, by omega⟩) := by
    unfold gate
    generalize act H = y
    pointwise
  exact e.trans (act_at H B T _)

theorem half_at (H : FVec Ideal S8192x7168 .f32) (B : Fin 2) (T : Fin 4096) (n : Fin 3072) :
    half H (ix3 B T n) = gelu (H (ix2 ⟨B.val * 4096 + T.val, by omega⟩ ⟨3072 + n.val, by omega⟩)) := by
  have e : half H (ix3 B T n) = act H (ix3 B T ⟨3072 + n.val, by omega⟩) := by
    unfold half
    generalize act H = y
    pointwise
  exact e.trans (act_at H B T _)

theorem means_at (v : FVec Ideal S2x4096x3072 .f32) (B : Fin 2) (T : Fin 4096) : means v (ix3 B T 0) = mean fun n => v (ix3 B T n) := by
  pointwise [means, mean]

theorem spread_at (v : FVec Ideal S2x4096x1 .f32) (B : Fin 2) (T : Fin 4096) (n : Fin 3072) : spread v (ix3 B T n) = v (ix3 B T 0) := by
  pointwise [spread]

theorem along_at (g : FVec Ideal S3072 .f32) (B : Fin 2) (T : Fin 4096) (n : Fin 3072) : along g (ix3 B T n) = g (ix1 n) := by
  pointwise [along]

theorem norm_at (v : FVec Ideal S2x4096x3072 .f32) (g b : FVec Ideal S3072 .f32) (B : Fin 2) (T : Fin 4096) (n : Fin 3072) :
    norm v g b (ix3 B T n) = normed (fun k => v (ix3 B T k)) (fun k => g (ix1 k)) (fun k => b (ix1 k)) n := by
  have d : ∀ k, subf v (spread (means v)) (ix3 B T k) = v (ix3 B T k) - mean fun n => v (ix3 B T n) := fun k =>
    congrArg (v (ix3 B T k) - ·) ((spread_at _ B T k).trans (means_at v B T))
  have s : means (mulf (subf v (spread (means v))) (subf v (spread (means v)))) (ix3 B T 0)
      = mean fun k => (v (ix3 B T k) - mean fun n => v (ix3 B T n)) * (v (ix3 B T k) - mean fun n => v (ix3 B T n)) :=
    (means_at _ B T).trans (congrArg mean (funext fun k => congrArg₂ (· * ·) (d k) (d k)))
  have q : spread (Host.rsqrt (addf (means (mulf (subf v (spread (means v))) (subf v (spread (means v))))) (const _ bcast_S_S2x4096x1 0x3727C5AC#32))) (ix3 B T n)
      = Ideal.rsqrt ((mean fun k => (v (ix3 B T k) - mean fun n => v (ix3 B T n)) * (v (ix3 B T k) - mean fun n => v (ix3 B T n))) + Ideal.ofBits FTy.f32 0x3727C5AC#32) := by
    refine (spread_at _ B T n).trans ?_
    rw [← s]
    rfl
  exact congrArg₂ (· + ·) (congrArg₂ (· * ·) (congrArg₂ (· * ·) (d n) q) (along_at g B T n)) (along_at b B T n)

theorem seen_at (r k : Fin 128) : seen (ix2 r k) = if k.val ≤ r.val then 1#1 else 0#1 := by
  have h : ∀ r k : Fin 128, seen (ix2 r k) = if k.val ≤ r.val then 1#1 else 0#1 := by decide +kernel
  exact h r k

theorem masked_at (w : FVec Ideal S8x128x128 .f32) (h : Fin 8) (r k : Fin 128) :
    masked w (ix3 h r k) = if k.val ≤ r.val then w (ix3 h r k) else 0 := by
  have e : masked w (ix3 h r k) = Scalar.select (seen (ix2 r k)) (w (ix3 h r k)) (0 : EReal) := by
    unfold masked
    generalize seen = s
    pointwise
  rw [e, seen_at]
  by_cases p : k.val ≤ r.val
  · simp only [p, if_true]; rfl
  · simp only [p, if_false]; rfl

theorem mix_at (v : FVec Ideal S2x4096x3072 .f32) (w : FVec Ideal S8x128x128 .f32) (B : Fin 2) (C : Fin 32) (T : Fin 128) (h : Fin 8) (d : Fin 384) :
    mix v w (ix5 B C T h d) = ∑ k : Fin 128, w (ix3 h T k) * v (ix3 B ⟨C.val * 128 + k.val, by omega⟩ ⟨h.val * 384 + d.val, by omega⟩) := by
  have c : ∀ k : Fin 128, shapeCast S2x32x128x8x384 v shapeCasts_S2x4096x3072_S2x32x128x8x384 (ix5 B C k h d) = v (ix3 B ⟨C.val * 128 + k.val, by omega⟩ ⟨h.val * 384 + d.val, by omega⟩) := by
    intro k
    pointwise
  refine Eq.trans ?_ (Finset.sum_congr rfl fun k _ => congrArg (w (ix3 h T k) * ·) (c k))
  unfold mix
  generalize shapeCast S2x32x128x8x384 v shapeCasts_S2x4096x3072_S2x32x128x8x384 = y
  refine Eq.trans ?_ (Finset.sum_congr rfl fun k _ => mul_comm _ _)
  pointwise

theorem shift_at (b : FVec Ideal S8x128 .f32) (B : Fin 2) (C : Fin 32) (T : Fin 128) (h : Fin 8) (d : Fin 384) :
    shift b (ix5 B C T h d) = b (ix2 h T) := by
  pointwise [shift]

theorem ref0_at (H : FVec Ideal S8192x7168 .f32) (g b : FVec Ideal S3072 .f32) (w : FVec Ideal S8x128x128 .f32) (b' : FVec Ideal S8x128 .f32) (t : Fin 64) (r : Fin 128)
    (h : Fin 8) (d : Fin 384) :
    ref0 H g b w b' (ix2 ⟨t.val * 128 + r.val, by omega⟩ ⟨h.val * 384 + d.val, by omega⟩) = gelu (H (ix2 ⟨t.val * 128 + r.val, by omega⟩ ⟨h.val * 384 + d.val, by omega⟩))
      * (mixed r (fun k => w (ix3 h r k))
          (fun k => normed (fun n => gelu (H (ix2 ⟨t.val * 128 + k.val, by omega⟩ ⟨3072 + n.val, by omega⟩))) (fun n => g (ix1 n)) (fun n => b (ix1 n)) ⟨h.val * 384 + d.val, by omega⟩)
        + b' (ix2 h r)) := by
  have e : ∀ (u : FVec Ideal S2x4096x3072 .f32) (z : FVec Ideal S2x32x128x8x384 .f32),
      (truncf .bf16 (shapeCast S8192x3072 (mulf u (shapeCast S2x4096x3072 z shapeCasts_S2x32x128x8x384_S2x4096x3072)) shapeCasts_S2x4096x3072_S8192x3072) bitsLt_bf16_f32 : FVec Ideal S8192x3072 .bf16)
          (ix2 ⟨t.val * 128 + r.val, by omega⟩ ⟨h.val * 384 + d.val, by omega⟩)
        = u (ix3 ⟨t.val / 32, by omega⟩ ⟨t.val % 32 * 128 + r.val, by omega⟩ ⟨h.val * 384 + d.val, by omega⟩) * z (ix5 ⟨t.val / 32, by omega⟩ ⟨t.val % 32, by omega⟩ r h d) := by
    intro u z
    pointwise
    have e0 : (⟨(t.val * 128 + r.val) / 4096, by omega⟩ : Fin 2) = ⟨t.val / 32, by omega⟩ := Fin.ext (by show (t.val * 128 + r.val) / 4096 = t.val / 32; omega)
    have e1 : (⟨(t.val * 128 + r.val) % 4096, by omega⟩ : Fin 4096) = ⟨t.val % 32 * 128 + r.val, by omega⟩ :=
      Fin.ext (by show (t.val * 128 + r.val) % 4096 = t.val % 32 * 128 + r.val; omega)
    have e2 : (⟨(t.val * 128 + r.val) % 4096 / 128, by omega⟩ : Fin 32) = ⟨t.val % 32, by omega⟩ := Fin.ext (by show (t.val * 128 + r.val) % 4096 / 128 = t.val % 32; omega)
    exact congrArg₂ (· * ·) (congrArg₂ (fun i j => u (ix3 i j ⟨h.val * 384 + d.val, by omega⟩)) e0 e1) (congrArg₂ (fun i j => z (ix5 i j r h d)) e0 e2)
  have hR : ∀ k : Fin 128, (⟨t.val / 32 * 4096 + (t.val % 32 * 128 + k.val), by omega⟩ : Fin 8192) = ⟨t.val * 128 + k.val, by omega⟩ := fun k =>
    Fin.ext (by show t.val / 32 * 4096 + (t.val % 32 * 128 + k.val) = t.val * 128 + k.val; omega)
  refine (e _ _).trans (congrArg₂ (· * ·) ((gate_at H _ _ _).trans ?_) (congrArg₂ (· + ·) ((mix_at _ _ _ _ _ h d).trans ?_) (shift_at b' _ _ _ h d)))
  · exact congrArg (fun x => gelu (H (ix2 x _))) (hR r)
  · refine Finset.sum_congr rfl fun k _ => congrArg₂ (· * ·) (masked_at w h _ k) ((norm_at _ g b _ _ _).trans ?_)
    refine congrArg (normed · _ _ _) (funext fun n => (half_at H _ _ n).trans ?_)
    exact congrArg (fun x => gelu (H (ix2 x _))) (hR k)

end Cert.SguPromptRefIdeal.Unit
-- ==== Proof.SguPrompt.lean ====
module

public import proofs.«01_k».proof.Proof.SguPromptKernel
public import proofs.«01_k».proof.Proof.SguPromptRef

@[expose] public section

set_option maxRecDepth 16384

noncomputable section

open Idealize.ShloMosaic Idealize.ShloMosaic.TcCoe Idealize.SL.Sem
open Idealize.ShloMosaic.Pipeline (Dat)

namespace Cert.SguPromptIdeal.Unit

open Cert.SguPromptIdeal Cert.SguPromptIdeal.Gen Cert.Sgu

/-- A group's columns of a block, read at an index. -/
theorem ld_cols (x : Vec Ideal S128x3072 .f32) (o : ℕ) (inb : ∀ a, (![0, o] : Fin 2 → ℕ) a + (![128, 384] : Fin 2 → ℕ) a ≤ S128x3072.size a) (r : Fin 128) (d : Fin 384) (n : Fin 3072)
    (hn : o + d.val = n.val) : View.ld x (Rect.unit ![0, o] ![128, 384] inb) (ix2 r d) = x (ix2 r n) := by
  refine congrArg x (funext fun a => Fin.ext ?_)
  fin_cases a
  · show 0 + 1 * r.val = r.val; omega
  · show o + 1 * d.val = n.val; omega

/-- The same of a value. -/
theorem cut_cols (x : FVec Ideal S128x3072 .f32) (o : ℕ) (sl : S128x3072.Slices ![0, o] S128x384) (r : Fin 128) (d : Fin 384) (n : Fin 3072)
    (hn : o + d.val = n.val) : extractStridedSlice S128x384 ![0, o] x sl (ix2 r d) = x (ix2 r n) := by
  refine congrArg x (funext fun a => Fin.ext ?_)
  fin_cases a
  · show 0 + r.val = r.val; omega
  · exact hn

/-- A group's weights, read at an index. -/
theorem ld_group (x : Vec Ideal S8x128x128 .f32) (p : ℕ) (inb : ∀ a, (![p, 0, 0] : Fin 3 → ℕ) a + (![1, 128, 128] : Fin 3 → ℕ) a ≤ S8x128x128.size a) (h : Fin 8) (hp : p = h.val) (r k : Fin 128) :
    View.ld x (Rect.unit ![p, 0, 0] ![1, 128, 128] inb) (ix3 (0 : Fin 1) r k) = x (ix3 h r k) := by
  refine congrArg x (funext fun a => Fin.ext ?_)
  fin_cases a
  · exact hp
  · show 0 + 1 * r.val = r.val; omega
  · show 0 + 1 * k.val = k.val; omega

/-- One entry of the gated block, from the point's blocks. -/
def point (u vn b : Vec Ideal S128x3072 .f32) (w : Vec Ideal S8x128x128 .f32) (h : Fin 8) (r : Fin 128) (n : Fin 3072) : EReal :=
  gelu (u (ix2 r n)) * (mixed r (fun k => w (ix3 h r k)) (fun k => vn (ix2 k n)) + b (ix2 r n))

theorem out_piece (u vn b : Vec Ideal S128x3072 .f32) (w : Vec Ideal S8x128x128 .f32) (p o : ℕ) (sl : S128x3072.Slices ![0, o] S128x384)
    (inb : ∀ a, (![0, o] : Fin 2 → ℕ) a + (![128, 384] : Fin 2 → ℕ) a ≤ S128x3072.size a)
    (inw : ∀ a, (![p, 0, 0] : Fin 3 → ℕ) a + (![1, 128, 128] : Fin 3 → ℕ) a ≤ S8x128x128.size a) (h : Fin 8) (r : Fin 128) (d : Fin 384) (y : S128x384.Idx)
    (ho : o = p * 384) (hr : r.val = (y 0).val) (y1 : (y 1).val < 384) (hd : h.val * 384 + d.val = o + (y 1).val) :
    group (extractStridedSlice S128x384 ![0, o] vn sl) (View.ld w (Rect.unit ![p, 0, 0] ![1, 128, 128] inw)) (View.ld b (Rect.unit ![0, o] ![128, 384] inb))
      (View.ld u (Rect.unit ![0, o] ![128, 384] inb)) y = point u vn b w h r ⟨h.val * 384 + d.val, by omega⟩ := by
  have e : y = ix2 r d := by
    have e0 : y 0 = r := Fin.ext hr.symm
    have e1 : y 1 = d := Fin.ext (by omega)
    exact (eq_ix2 y).trans (by rw [e0, e1])
  have hp : p = h.val := by omega
  have hn : o + d.val = h.val * 384 + d.val := by omega
  subst e
  refine (group_at _ _ _ _ r d).trans ?_
  refine congrArg₂ (· * ·) (congrArg gelu (ld_cols u o inb r d _ hn)) (congrArg₂ (· + ·) ?_ (ld_cols b o inb r d _ hn))
  exact congrArg₂ (mixed r) (funext fun k => ld_group w p inw h hp r k) (funext fun k => cut_cols vn o sl k d _ hn)

theorem out_at (u vn b : Vec Ideal S128x3072 .f32) (w : Vec Ideal S8x128x128 .f32) (h : Fin 8) (r : Fin 128) (d : Fin 384) :
    out u vn w b (ix2 r ⟨h.val * 384 + d.val, by omega⟩) = point u vn b w h r ⟨h.val * 384 + d.val, by omega⟩ := by
  unfold out
  canon_tiles y hy
  · exact out_piece u vn b w 7 2688 _ _ _ h r d y rfl hy0 y1_lt hy1
  · exact out_piece u vn b w 6 2304 _ _ _ h r d y rfl hy0 y1_lt hy1
  · exact out_piece u vn b w 5 1920 _ _ _ h r d y rfl hy0 y1_lt hy1
  · exact out_piece u vn b w 4 1536 _ _ _ h r d y rfl hy0 y1_lt hy1
  · exact out_piece u vn b w 3 1152 _ _ _ h r d y rfl hy0 y1_lt hy1
  · exact out_piece u vn b w 2 768 _ _ _ h r d y rfl hy0 y1_lt hy1
  · exact out_piece u vn b w 1 384 _ _ _ h r d y rfl hy0 y1_lt hy1
  · exact out_piece u vn b w 0 0 _ _ _ h r d y rfl hy0 y1_lt (hy1.trans (Nat.zero_add _).symm)

variable (m : (ℓ : Loc nD τ sig) → Buf (Elt Ideal) ℓ)

/-- The windows' blocks at a grid point. -/
theorem idx : ∀ t : Fin cfg0.N, win0_0.index t = ![t.val, 0] ∧ win0_1.index t = ![t.val, 1] ∧ win0_2.index t = ![0, 0] ∧ win0_3.index t = ![0, 0]
    ∧ win0_4.index t = ![0, 0, 0] ∧ win0_5.index t = ![0, 0] ∧ win0_6.index t = ![t.val, 0] :=
  (by decide +kernel : ∀ t : Fin grid0.N, _)

/-- The gate's half of a point's rows. -/
theorem u_at (c : Dev nD) (t : Fin cfg0.N) (r : Fin 128) (n : Fin 3072) (R : Fin 8192) (hR : R.val = t.val * 128 + r.val) :
    X0_0 m c t (ix2 r n) = m ((c : Thread nD τ).loc main_arg0) (ix2 R ⟨n.val, by omega⟩) := by
  unfold X0_0 Pipeline.Window.fill
  rw [dif_pos (moved0_0 t _)]
  blk_ext [iblk, V, idx t]

/-- The other half of a point's rows. -/
theorem v_at (c : Dev nD) (t : Fin cfg0.N) (r : Fin 128) (n : Fin 3072) (R : Fin 8192) (hR : R.val = t.val * 128 + r.val) :
    X0_1 m c t (ix2 r n) = m ((c : Thread nD τ).loc main_arg0) (ix2 R ⟨3072 + n.val, by omega⟩) := by
  unfold X0_1 Pipeline.Window.fill
  rw [dif_pos (moved0_1 t _)]
  blk_ext [iblk, V, idx t]

theorem g_at (c : Dev nD) (t : Fin cfg0.N) (n : Fin 3072) : iblk m c 2 t (ix2 0 n) = m ((c : Thread nD τ).loc main_arg1) (ix1 n) := by
  have e : V m c main_v3 = shapeCast S1x3072 (m ((c : Thread nD τ).loc main_arg1)) shapeCasts_S3072_S1x3072 := by
    entry_read
    rfl
  have e2 : iblk m c 2 t (ix2 0 n) = V m c main_v3 (ix2 0 n) := by
    blk_ext [iblk, idx t]
  rw [e2, e]
  pointwise

theorem b_at (c : Dev nD) (t : Fin cfg0.N) (n : Fin 3072) : iblk m c 3 t (ix2 0 n) = m ((c : Thread nD τ).loc main_arg2) (ix1 n) := by
  have e : V m c main_v4 = shapeCast S1x3072 (m ((c : Thread nD τ).loc main_arg2)) shapeCasts_S3072_S1x3072 := by
    entry_read
    rfl
  have e2 : iblk m c 3 t (ix2 0 n) = V m c main_v4 (ix2 0 n) := by
    blk_ext [iblk, idx t]
  rw [e2, e]
  pointwise

theorem w_at (c : Dev nD) (t : Fin cfg0.N) (h : Fin 8) (r k : Fin 128) :
    iblk m c 4 t (ix3 h r k) = m ((c : Thread nD τ).loc main_arg3) (ix3 h r k) := by
  blk_ext [iblk, V, idx t]

theorem shift_at (c : Dev nD) (t : Fin cfg0.N) (h : Fin 8) (r : Fin 128) (d : Fin 384) :
    iblk m c 5 t (ix2 r ⟨h.val * 384 + d.val, by omega⟩) = m ((c : Thread nD τ).loc main_arg4) (ix2 h r) := by
  have e : V m c main_v2 = shapeCast S128x3072 (broadcastInDim S128x8x384 ![0, 1] bcast_S128x8_S128x8x384_0_1
      (transpose S128x8 [1, 0] (m ((c : Thread nD τ).loc main_arg4)) transposes_S8x128_S128x8_1_0)) shapeCasts_S128x8x384_S128x3072 := by
    entry_read
    rfl
  have e2 : ∀ n : Fin 3072, iblk m c 5 t (ix2 r n) = V m c main_v2 (ix2 r n) := by
    intro n
    blk_ext [iblk, idx t]
  rw [e2, e]
  pointwise

/-- The normed rows of a point, from the arguments. -/
theorem rows_point (c : Dev nD) (t : Fin cfg0.N) (r : Fin 128) (n : Fin 3072) (R : Fin 8192) (hR : R.val = t.val * 128 + r.val) :
    rows (X0_1 m c t) (iblk m c 2 t) (iblk m c 3 t) (ix2 r n) = normed (fun k => gelu (m ((c : Thread nD τ).loc main_arg0) (ix2 R ⟨3072 + k.val, by omega⟩)))
      (fun k => m ((c : Thread nD τ).loc main_arg1) (ix1 k)) (fun k => m ((c : Thread nD τ).loc main_arg2) (ix1 k)) n := by
  refine (rows_at _ _ _ r n).trans ?_
  exact congr (congr (congr (congrArg normed (funext fun k => congrArg gelu (v_at m c t r k R hR))) (funext fun k => g_at m c t k)) (funext fun k => b_at m c t k)) rfl

/-- The gated rows of a point are the reference's. -/
theorem out_point (c : Dev nD) (t : Fin cfg0.N) (r : Fin 128) (h : Fin 8) (d : Fin 384) (ht : t.val < 64) :
    out (X0_0 m c t) (rows (X0_1 m c t) (iblk m c 2 t) (iblk m c 3 t)) (iblk m c 4 t) (iblk m c 5 t) (ix2 r ⟨h.val * 384 + d.val, by omega⟩)
      = Cert.SguPromptRefIdeal.Unit.ref0 (m ((c : Thread nD τ).loc main_arg0)) (m ((c : Thread nD τ).loc main_arg1)) (m ((c : Thread nD τ).loc main_arg2))
        (m ((c : Thread nD τ).loc main_arg3)) (m ((c : Thread nD τ).loc main_arg4)) (ix2 ⟨t.val * 128 + r.val, by omega⟩ ⟨h.val * 384 + d.val, by omega⟩) := by
  refine (out_at _ _ _ _ h r d).trans (Eq.trans ?_ (Cert.SguPromptRefIdeal.Unit.ref0_at _ _ _ _ _ ⟨t.val, ht⟩ r h d).symm)
  refine congrArg₂ (· * ·) (congrArg gelu (u_at m c t r _ _ rfl)) (congrArg₂ (· + ·) ?_ (shift_at m c t h r d))
  exact congrArg₂ (mixed r) (funext fun k => w_at m c t h r k) (funext fun k => rows_point m c t k _ _ rfl)

theorem final (c : Dev nD) : (dats m 0 c).arrAt 6 (cfgs 0).N
    = Cert.SguPromptRefIdeal.Unit.ref0 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6, out_eq, eq_ix2 (((cfg0.win 6).blk t).view.emb y)]
  have ht : t.val < 64 := t.isLt
  have y0 : (y 0).val < 128 := (y 0).isLt
  have y1 : (y 1).val < 3072 := (y 1).isLt
  have e1 : y 1 = (⟨(⟨(y 1).val / 384, by omega⟩ : Fin 8).val * 384 + (⟨(y 1).val % 384, by omega⟩ : Fin 384).val, by show (y 1).val / 384 * 384 + (y 1).val % 384 < 3072; omega⟩ : Fin 3072) :=
    Fin.ext (by show (y 1).val = (y 1).val / 384 * 384 + (y 1).val % 384; omega)
  have e0 : (((cfg0.win 6).blk t).view.emb y) 0 = (⟨t.val * 128 + (y 0).val, by omega⟩ : Fin 8192) := by
    refine Fin.ext ?_
    blk_simp [idx t]
  have e2 : (((cfg0.win 6).blk t).view.emb y) 1 = (⟨(⟨(y 1).val / 384, by omega⟩ : Fin 8).val * 384 + (⟨(y 1).val % 384, by omega⟩ : Fin 384).val, by show (y 1).val / 384 * 384 + (y 1).val % 384 < 3072; omega⟩ : Fin 3072) := by
    refine Eq.trans (Fin.ext ?_) e1
    blk_simp [idx t]
  exact Eq.trans (congrArg _ ((eq_ix2 y).trans (congrArg (ix2 (y 0)) e1))) (Eq.trans (out_point m c t (y 0) _ _ ht) (congrArg _ (congrArg₂ ix2 e0.symm e2.symm)))

end Cert.SguPromptIdeal.Unit

/-- The kernel's gated rows of the prompt are the reference's. -/
theorem Cert.Proof.sgu_prompt : Cert.algebraic_SguPromptIdeal_SguPromptRefIdeal := by
  pair_intro
  · run_from Cert.SguPromptIdeal.Gen.run_main m g
  · run_from Cert.SguPromptRefIdeal.Value.run m' g'
    rw [Cert.SguPromptIdeal.Unit.final m c]
    refine (Cert.SguPromptRefIdeal.Unit.res_eq m' c).trans ?_
    obtain ⟨h0, h1, h2, h3, h4⟩ := hagree c
    exact congr (congr (congr (congr (congrArg Cert.SguPromptRefIdeal.Unit.ref0 h0) h1) h2) h3) h4
-- ==== Proof.lean ====
module

public import proofs.«01_k».proof.Defs
public import proofs.«01_k».proof.Proof.Gen.Band
public import proofs.«01_k».proof.Proof.Gen.BandIdeal
public import proofs.«01_k».proof.Proof.Gen.BandRefIdeal
public import proofs.«01_k».proof.Proof.Gen.MemAttn
public import proofs.«01_k».proof.Proof.Gen.MemAttnIdeal
public import proofs.«01_k».proof.Proof.Gen.MemAttnRefIdeal
public import proofs.«01_k».proof.Proof.Gen.MemSample
public import proofs.«01_k».proof.Proof.Gen.MemSampleIdeal
public import proofs.«01_k».proof.Proof.Gen.MemSampleRefIdeal
public import proofs.«01_k».proof.Proof.Gen.BandSample
public import proofs.«01_k».proof.Proof.Gen.BandSampleIdeal
public import proofs.«01_k».proof.Proof.Gen.BandSampleRefIdeal
public import proofs.«01_k».proof.Proof.Gen.KvProduct
public import proofs.«01_k».proof.Proof.Gen.KvProductIdeal
public import proofs.«01_k».proof.Proof.Gen.KvRefIdeal
public import proofs.«01_k».proof.Proof.Gen.InAProduct
public import proofs.«01_k».proof.Proof.Gen.InAProductIdeal
public import proofs.«01_k».proof.Proof.Gen.InARefIdeal
public import proofs.«01_k».proof.Proof.Gen.InBProduct
public import proofs.«01_k».proof.Proof.Gen.InBProductIdeal
public import proofs.«01_k».proof.Proof.Gen.InBRefIdeal
public import proofs.«01_k».proof.Proof.Gen.QueryProduct
public import proofs.«01_k».proof.Proof.Gen.QueryProductIdeal
public import proofs.«01_k».proof.Proof.Gen.QueryRefIdeal
public import proofs.«01_k».proof.Proof.Gen.InASample
public import proofs.«01_k».proof.Proof.Gen.InASampleIdeal
public import proofs.«01_k».proof.Proof.Gen.InASampleRefIdeal
public import proofs.«01_k».proof.Proof.Gen.InBSample
public import proofs.«01_k».proof.Proof.Gen.InBSampleIdeal
public import proofs.«01_k».proof.Proof.Gen.InBSampleRefIdeal
public import proofs.«01_k».proof.Proof.Gen.QuerySample
public import proofs.«01_k».proof.Proof.Gen.QuerySampleIdeal
public import proofs.«01_k».proof.Proof.Gen.QuerySampleRefIdeal
public import proofs.«01_k».proof.Proof.Gen.InBWeight
public import proofs.«01_k».proof.Proof.Gen.InBWeightIdeal
public import proofs.«01_k».proof.Proof.Gen.InBWeightRefIdeal
public import proofs.«01_k».proof.Proof.Gen.KvWeightFirst
public import proofs.«01_k».proof.Proof.Gen.KvWeightFirstIdeal
public import proofs.«01_k».proof.Proof.Gen.KvWeightFirstRefIdeal
public import proofs.«01_k».proof.Proof.Gen.KvWeightSecond
public import proofs.«01_k».proof.Proof.Gen.KvWeightSecondIdeal
public import proofs.«01_k».proof.Proof.Gen.KvWeightSecondRefIdeal
public import proofs.«01_k».proof.Proof.Gen.InAWeight
public import proofs.«01_k».proof.Proof.Gen.InAWeightIdeal
public import proofs.«01_k».proof.Proof.Gen.InAWeightRefIdeal
public import proofs.«01_k».proof.Proof.Gen.SguSample
public import proofs.«01_k».proof.Proof.Gen.SguSampleIdeal
public import proofs.«01_k».proof.Proof.Gen.SguSampleRefIdeal
public import proofs.«01_k».proof.Proof.Gen.SguPrompt
public import proofs.«01_k».proof.Proof.Gen.SguPromptIdeal
public import proofs.«01_k».proof.Proof.Gen.SguPromptRefIdeal
public import proofs.«01_k».proof.Proof.Gen.OutLn
public import proofs.«01_k».proof.Proof.Gen.OutLnIdeal
public import proofs.«01_k».proof.Proof.Gen.OutLnRefIdeal
public import proofs.«01_k».proof.Proof.Gen.Pre_finite
public import proofs.«01_k».proof.Proof.Gen.Pre_mem_finite
public import proofs.«01_k».proof.Proof.Gen.Pre_mem_sample_finite
public import proofs.«01_k».proof.Proof.Gen.Pre_band_sample_finite
public import proofs.«01_k».proof.Proof.Gen.Band.Frame
public import proofs.«01_k».proof.Proof.Gen.BandIdeal.Frame
public import proofs.«01_k».proof.Proof.Gen.BandRefIdeal.Run
public import proofs.«01_k».proof.Proof.Gen.BandSample.Frame
public import proofs.«01_k».proof.Proof.Gen.BandSampleIdeal.Frame
public import proofs.«01_k».proof.Proof.Gen.BandSampleRefIdeal.Run
public import proofs.«01_k».proof.Proof.Gen.InAProduct.Frame
public import proofs.«01_k».proof.Proof.Gen.InAProductIdeal.Frame
public import proofs.«01_k».proof.Proof.Gen.InARefIdeal.Run
public import proofs.«01_k».proof.Proof.Gen.InASample.Frame
public import proofs.«01_k».proof.Proof.Gen.InASampleIdeal.Frame
public import proofs.«01_k».proof.Proof.Gen.InASampleRefIdeal.Run
public import proofs.«01_k».proof.Proof.Gen.InAWeight.Frame
public import proofs.«01_k».proof.Proof.Gen.InAWeightIdeal.Frame
public import proofs.«01_k».proof.Proof.Gen.InAWeightRefIdeal.Run
public import proofs.«01_k».proof.Proof.Gen.InBProduct.Frame
public import proofs.«01_k».proof.Proof.Gen.InBProductIdeal.Frame
public import proofs.«01_k».proof.Proof.Gen.InBRefIdeal.Run
public import proofs.«01_k».proof.Proof.Gen.InBSample.Frame
public import proofs.«01_k».proof.Proof.Gen.InBSampleIdeal.Frame
public import proofs.«01_k».proof.Proof.Gen.InBSampleRefIdeal.Run
public import proofs.«01_k».proof.Proof.Gen.InBWeight.Frame
public import proofs.«01_k».proof.Proof.Gen.InBWeightIdeal.Frame
public import proofs.«01_k».proof.Proof.Gen.InBWeightRefIdeal.Run
public import proofs.«01_k».proof.Proof.Gen.KvProduct.Frame
public import proofs.«01_k».proof.Proof.Gen.KvProductIdeal.Frame
public import proofs.«01_k».proof.Proof.Gen.KvRefIdeal.Run
public import proofs.«01_k».proof.Proof.Gen.KvWeightFirst.Frame
public import proofs.«01_k».proof.Proof.Gen.KvWeightFirstIdeal.Frame
public import proofs.«01_k».proof.Proof.Gen.KvWeightFirstRefIdeal.Run
public import proofs.«01_k».proof.Proof.Gen.KvWeightSecond.Frame
public import proofs.«01_k».proof.Proof.Gen.KvWeightSecondIdeal.Frame
public import proofs.«01_k».proof.Proof.Gen.KvWeightSecondRefIdeal.Run
public import proofs.«01_k».proof.Proof.Gen.MemAttn.Frame
public import proofs.«01_k».proof.Proof.Gen.MemAttnIdeal.Frame
public import proofs.«01_k».proof.Proof.Gen.MemAttnRefIdeal.Run
public import proofs.«01_k».proof.Proof.Gen.MemSample.Frame
public import proofs.«01_k».proof.Proof.Gen.MemSampleIdeal.Frame
public import proofs.«01_k».proof.Proof.Gen.MemSampleRefIdeal.Run
public import proofs.«01_k».proof.Proof.Gen.OutLnRefIdeal.Run
public import proofs.«01_k».proof.Proof.Gen.QueryProduct.Frame
public import proofs.«01_k».proof.Proof.Gen.QueryProductIdeal.Frame
public import proofs.«01_k».proof.Proof.Gen.QueryRefIdeal.Run
public import proofs.«01_k».proof.Proof.Gen.QuerySample.Frame
public import proofs.«01_k».proof.Proof.Gen.QuerySampleIdeal.Frame
public import proofs.«01_k».proof.Proof.Gen.QuerySampleRefIdeal.Run
public import proofs.«01_k».proof.Proof.Gen.SguPrompt.Frame
public import proofs.«01_k».proof.Proof.Gen.SguPromptIdeal.Frame
public import proofs.«01_k».proof.Proof.Gen.SguPromptRefIdeal.Run
public import proofs.«01_k».proof.Proof.Gen.SguSample.Frame
public import proofs.«01_k».proof.Proof.Gen.SguSampleIdeal.Frame
public import proofs.«01_k».proof.Proof.Gen.SguSampleRefIdeal.Run
public import proofs.«01_k».proof.Proof.Band
public import proofs.«01_k».proof.Proof.BandSample
public import proofs.«01_k».proof.Proof.Cast
public import proofs.«01_k».proof.Proof.InA
public import proofs.«01_k».proof.Proof.InASample
public import proofs.«01_k».proof.Proof.InB
public import proofs.«01_k».proof.Proof.InBSample
public import proofs.«01_k».proof.Proof.Kv
public import proofs.«01_k».proof.Proof.Mem
public import proofs.«01_k».proof.Proof.MemSample
public import proofs.«01_k».proof.Proof.OutLn
public import proofs.«01_k».proof.Proof.OutLnFrame
public import proofs.«01_k».proof.Proof.OutLnWordFrame
public import proofs.«01_k».proof.Proof.Query
public import proofs.«01_k».proof.Proof.QuerySample
public import proofs.«01_k».proof.Proof.Sgu
public import proofs.«01_k».proof.Proof.SguPrompt
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

theorem frame_BandRefIdeal : Cert.quiescent_BandRefIdeal := fun m ρ _ =>
  (θ_run Cert.BandRefIdeal.defs _ _).mono (fun r h => ⟨fun c => (h c).2, sem_eq_zero_of_no_sems (by decide) r.2⟩)
    (Cert.BandRefIdeal.Value.run (F := Ideal) m ρ)

theorem frame_BandRefIdeal_pre_finite : Cert.quiescent_BandRefIdeal_pre_finite := fun m ρ _ =>
  (θ_run Cert.BandRefIdeal.defs _ _).mono (fun r h => ⟨fun c => (h c).2, sem_eq_zero_of_no_sems (by decide) r.2⟩)
    (Cert.BandRefIdeal.Value.run (F := Ideal) m ρ)

theorem frame_MemAttnRefIdeal : Cert.quiescent_MemAttnRefIdeal := fun m ρ _ =>
  (θ_run Cert.MemAttnRefIdeal.defs _ _).mono (fun r h => ⟨fun c => (h c).2, sem_eq_zero_of_no_sems (by decide) r.2⟩)
    (Cert.MemAttnRefIdeal.Value.run (F := Ideal) m ρ)

theorem frame_MemAttnRefIdeal_pre_mem_finite : Cert.quiescent_MemAttnRefIdeal_pre_mem_finite := fun m ρ _ =>
  (θ_run Cert.MemAttnRefIdeal.defs _ _).mono (fun r h => ⟨fun c => (h c).2, sem_eq_zero_of_no_sems (by decide) r.2⟩)
    (Cert.MemAttnRefIdeal.Value.run (F := Ideal) m ρ)

theorem frame_MemSampleRefIdeal : Cert.quiescent_MemSampleRefIdeal := fun m ρ _ =>
  (θ_run Cert.MemSampleRefIdeal.defs _ _).mono (fun r h => ⟨fun c => (h c).2, sem_eq_zero_of_no_sems (by decide) r.2⟩)
    (Cert.MemSampleRefIdeal.Value.run (F := Ideal) m ρ)

theorem frame_MemSampleRefIdeal_pre_mem_sample_finite : Cert.quiescent_MemSampleRefIdeal_pre_mem_sample_finite := fun m ρ _ =>
  (θ_run Cert.MemSampleRefIdeal.defs _ _).mono (fun r h => ⟨fun c => (h c).2, sem_eq_zero_of_no_sems (by decide) r.2⟩)
    (Cert.MemSampleRefIdeal.Value.run (F := Ideal) m ρ)

theorem frame_BandSampleRefIdeal : Cert.quiescent_BandSampleRefIdeal := fun m ρ _ =>
  (θ_run Cert.BandSampleRefIdeal.defs _ _).mono (fun r h => ⟨fun c => (h c).2, sem_eq_zero_of_no_sems (by decide) r.2⟩)
    (Cert.BandSampleRefIdeal.Value.run (F := Ideal) m ρ)

theorem frame_BandSampleRefIdeal_pre_band_sample_finite : Cert.quiescent_BandSampleRefIdeal_pre_band_sample_finite := fun m ρ _ =>
  (θ_run Cert.BandSampleRefIdeal.defs _ _).mono (fun r h => ⟨fun c => (h c).2, sem_eq_zero_of_no_sems (by decide) r.2⟩)
    (Cert.BandSampleRefIdeal.Value.run (F := Ideal) m ρ)

theorem frame_KvRefIdeal : Cert.quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

theorem frame_InARefIdeal : Cert.quiescent_InARefIdeal := fun m ρ _ =>
  (θ_run Cert.InARefIdeal.defs _ _).mono (fun r h => ⟨fun c => (h c).2, sem_eq_zero_of_no_sems (by decide) r.2⟩)
    (Cert.InARefIdeal.Value.run (F := Ideal) m ρ)

theorem frame_InBRefIdeal : Cert.quiescent_InBRefIdeal := fun m ρ _ =>
  (θ_run Cert.InBRefIdeal.defs _ _).mono (fun r h => ⟨fun c => (h c).2, sem_eq_zero_of_no_sems (by decide) r.2⟩)
    (Cert.InBRefIdeal.Value.run (F := Ideal) m ρ)

theorem frame_QueryRefIdeal : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

theorem frame_InASampleRefIdeal : Cert.quiescent_InASampleRefIdeal := fun m ρ _ =>
  (θ_run Cert.InASampleRefIdeal.defs _ _).mono (fun r h => ⟨fun c => (h c).2, sem_eq_zero_of_no_sems (by decide) r.2⟩)
    (Cert.InASampleRefIdeal.Value.run (F := Ideal) m ρ)

theorem frame_InBSampleRefIdeal : Cert.quiescent_InBSampleRefIdeal := fun m ρ _ =>
  (θ_run Cert.InBSampleRefIdeal.defs _ _).mono (fun r h => ⟨fun c => (h c).2, sem_eq_zero_of_no_sems (by decide) r.2⟩)
    (Cert.InBSampleRefIdeal.Value.run (F := Ideal) m ρ)

theorem frame_QuerySampleRefIdeal : Cert.quiescent_QuerySampleRefIdeal := fun m ρ _ =>
  (θ_run Cert.QuerySampleRefIdeal.defs _ _).mono (fun r h => ⟨fun c => (h c).2, sem_eq_zero_of_no_sems (by decide) r.2⟩)
    (Cert.QuerySampleRefIdeal.Value.run (F := Ideal) m ρ)

theorem frame_InBWeightRefIdeal : Cert.quiescent_InBWeightRefIdeal := fun m ρ _ =>
  (θ_run Cert.InBWeightRefIdeal.defs _ _).mono (fun r h => ⟨fun c => (h c).2, sem_eq_zero_of_no_sems (by decide) r.2⟩)
    (Cert.InBWeightRefIdeal.Value.run (F := Ideal) m ρ)

theorem frame_KvWeightFirstRefIdeal : Cert.quiescent_KvWeightFirstRefIdeal := fun m ρ _ =>
  (θ_run Cert.KvWeightFirstRefIdeal.defs _ _).mono (fun r h => ⟨fun c => (h c).2, sem_eq_zero_of_no_sems (by decide) r.2⟩)
    (Cert.KvWeightFirstRefIdeal.Value.run (F := Ideal) m ρ)

theorem frame_KvWeightSecondRefIdeal : Cert.quiescent_KvWeightSecondRefIdeal := fun m ρ _ =>
  (θ_run Cert.KvWeightSecondRefIdeal.defs _ _).mono (fun r h => ⟨fun c => (h c).2, sem_eq_zero_of_no_sems (by decide) r.2⟩)
    (Cert.KvWeightSecondRefIdeal.Value.run (F := Ideal) m ρ)

theorem frame_InAWeightRefIdeal : Cert.quiescent_InAWeightRefIdeal := fun m ρ _ =>
  (θ_run Cert.InAWeightRefIdeal.defs _ _).mono (fun r h => ⟨fun c => (h c).2, sem_eq_zero_of_no_sems (by decide) r.2⟩)
    (Cert.InAWeightRefIdeal.Value.run (F := Ideal) m ρ)

theorem frame_SguSampleRefIdeal : Cert.quiescent_SguSampleRefIdeal := fun m ρ _ =>
  (θ_run Cert.SguSampleRefIdeal.defs _ _).mono (fun r h => ⟨fun c => (h c).2.2, sem_eq_zero_of_no_sems (by decide) r.2⟩)
    (Cert.SguSampleRefIdeal.Value.run (F := Ideal) m ρ)

theorem frame_SguPromptRefIdeal : Cert.quiescent_SguPromptRefIdeal := fun m ρ _ =>
  (θ_run Cert.SguPromptRefIdeal.defs _ _).mono (fun r h => ⟨fun c => (h c).2, sem_eq_zero_of_no_sems (by decide) r.2⟩)
    (Cert.SguPromptRefIdeal.Value.run (F := Ideal) m ρ)

theorem frame_OutLnRefIdeal : Cert.quiescent_OutLnRefIdeal := fun m ρ _ =>
  (θ_run Cert.OutLnRefIdeal.defs _ _).mono (fun r h => ⟨fun c => (h c).2.2, sem_eq_zero_of_no_sems (by decide) r.2⟩)
    (Cert.OutLnRefIdeal.Value.run (F := Ideal) m ρ)

theorem claim : Cert.Claim :=
  ⟨Cert.Band.Gen.facts, Cert.BandIdeal.Gen.facts, Cert.BandRefIdeal.Gen.facts, Cert.MemAttn.Gen.facts, Cert.MemAttnIdeal.Gen.facts, Cert.MemAttnRefIdeal.Gen.facts, Cert.MemSample.Gen.facts, Cert.MemSampleIdeal.Gen.facts, Cert.MemSampleRefIdeal.Gen.facts, Cert.BandSample.Gen.facts, Cert.BandSampleIdeal.Gen.facts, Cert.BandSampleRefIdeal.Gen.facts, Cert.KvProduct.Gen.facts, Cert.KvProductIdeal.Gen.facts, Cert.KvRefIdeal.Gen.facts, Cert.InAProduct.Gen.facts, Cert.InAProductIdeal.Gen.facts, Cert.InARefIdeal.Gen.facts, Cert.InBProduct.Gen.facts, Cert.InBProductIdeal.Gen.facts, Cert.InBRefIdeal.Gen.facts, Cert.QueryProduct.Gen.facts, Cert.QueryProductIdeal.Gen.facts, Cert.QueryRefIdeal.Gen.facts, Cert.InASample.Gen.facts, Cert.InASampleIdeal.Gen.facts, Cert.InASampleRefIdeal.Gen.facts, Cert.InBSample.Gen.facts, Cert.InBSampleIdeal.Gen.facts, Cert.InBSampleRefIdeal.Gen.facts, Cert.QuerySample.Gen.facts, Cert.QuerySampleIdeal.Gen.facts, Cert.QuerySampleRefIdeal.Gen.facts, Cert.InBWeight.Gen.facts, Cert.InBWeightIdeal.Gen.facts, Cert.InBWeightRefIdeal.Gen.facts, Cert.KvWeightFirst.Gen.facts, Cert.KvWeightFirstIdeal.Gen.facts, Cert.KvWeightFirstRefIdeal.Gen.facts, Cert.KvWeightSecond.Gen.facts, Cert.KvWeightSecondIdeal.Gen.facts, Cert.KvWeightSecondRefIdeal.Gen.facts, Cert.InAWeight.Gen.facts, Cert.InAWeightIdeal.Gen.facts, Cert.InAWeightRefIdeal.Gen.facts, Cert.SguSample.Gen.facts, Cert.SguSampleIdeal.Gen.facts, Cert.SguSampleRefIdeal.Gen.facts, Cert.SguPrompt.Gen.facts, Cert.SguPromptIdeal.Gen.facts, Cert.SguPromptRefIdeal.Gen.facts, Cert.OutLn.Gen.facts, Cert.OutLnIdeal.Gen.facts, Cert.OutLnRefIdeal.Gen.facts, Cert.Pre_finite.Gen.facts, Cert.Pre_mem_finite.Gen.facts, Cert.Pre_mem_sample_finite.Gen.facts, Cert.Pre_band_sample_finite.Gen.facts,
    fun m ρ _ => Cert.Band.Gen.frame m ρ,
    fun m ρ _ => Cert.BandIdeal.Gen.frame m ρ,
    fun m ρ _ => Cert.BandIdeal.Gen.frame m ρ,
    frame_BandRefIdeal,
    frame_BandRefIdeal_pre_finite,
    fun m ρ _ => Cert.MemAttn.Gen.frame m ρ,
    fun m ρ _ => Cert.MemAttnIdeal.Gen.frame m ρ,
    fun m ρ _ => Cert.MemAttnIdeal.Gen.frame m ρ,
    frame_MemAttnRefIdeal,
    frame_MemAttnRefIdeal_pre_mem_finite,
    fun m ρ _ => Cert.MemSample.Gen.frame m ρ,
    fun m ρ _ => Cert.MemSampleIdeal.Gen.frame m ρ,
    fun m ρ _ => Cert.MemSampleIdeal.Gen.frame m ρ,
    frame_MemSampleRefIdeal,
    frame_MemSampleRefIdeal_pre_mem_sample_finite,
    fun m ρ _ => Cert.BandSample.Gen.frame m ρ,
    fun m ρ _ => Cert.BandSampleIdeal.Gen.frame m ρ,
    fun m ρ _ => Cert.BandSampleIdeal.Gen.frame m ρ,
    frame_BandSampleRefIdeal,
    frame_BandSampleRefIdeal_pre_band_sample_finite,
    fun m ρ _ => Cert.KvProduct.Gen.frame m ρ,
    fun m ρ _ => Cert.KvProductIdeal.Gen.frame m ρ,
    frame_KvRefIdeal,
    fun m ρ _ => Cert.InAProduct.Gen.frame m ρ,
    fun m ρ _ => Cert.InAProductIdeal.Gen.frame m ρ,
    frame_InARefIdeal,
    fun m ρ _ => Cert.InBProduct.Gen.frame m ρ,
    fun m ρ _ => Cert.InBProductIdeal.Gen.frame m ρ,
    frame_InBRefIdeal,
    fun m ρ _ => Cert.QueryProduct.Gen.frame m ρ,
    fun m ρ _ => Cert.QueryProductIdeal.Gen.frame m ρ,
    frame_QueryRefIdeal,
    fun m ρ _ => Cert.InASample.Gen.frame m ρ,
    fun m ρ _ => Cert.InASampleIdeal.Gen.frame m ρ,
    frame_InASampleRefIdeal,
    fun m ρ _ => Cert.InBSample.Gen.frame m ρ,
    fun m ρ _ => Cert.InBSampleIdeal.Gen.frame m ρ,
    frame_InBSampleRefIdeal,
    fun m ρ _ => Cert.QuerySample.Gen.frame m ρ,
    fun m ρ _ => Cert.QuerySampleIdeal.Gen.frame m ρ,
    frame_QuerySampleRefIdeal,
    fun m ρ _ => Cert.InBWeight.Gen.frame m ρ,
    fun m ρ _ => Cert.InBWeightIdeal.Gen.frame m ρ,
    frame_InBWeightRefIdeal,
    fun m ρ _ => Cert.KvWeightFirst.Gen.frame m ρ,
    fun m ρ _ => Cert.KvWeightFirstIdeal.Gen.frame m ρ,
    frame_KvWeightFirstRefIdeal,
    fun m ρ _ => Cert.KvWeightSecond.Gen.frame m ρ,
    fun m ρ _ => Cert.KvWeightSecondIdeal.Gen.frame m ρ,
    frame_KvWeightSecondRefIdeal,
    fun m ρ _ => Cert.InAWeight.Gen.frame m ρ,
    fun m ρ _ => Cert.InAWeightIdeal.Gen.frame m ρ,
    frame_InAWeightRefIdeal,
    fun m ρ _ => Cert.SguSample.Gen.frame m ρ,
    fun m ρ _ => Cert.SguSampleIdeal.Gen.frame m ρ,
    frame_SguSampleRefIdeal,
    fun m ρ _ => Cert.SguPrompt.Gen.frame m ρ,
    fun m ρ _ => Cert.SguPromptIdeal.Gen.frame m ρ,
    frame_SguPromptRefIdeal,
    Cert.Proof.out_ln_word_frame,
    Cert.Proof.out_ln_frame,
    frame_OutLnRefIdeal,
    IdealRules.named_const.statement Cert.BandIdeal.κ "mask" .f32 0xF149F2CA#32 ⊥ rfl,
    band,
    trivial,
    mem,
    trivial,
    mem_sample,
    trivial,
    band_sample,
    trivial,
    kv,
    trivial,
    in_a,
    trivial,
    in_b,
    trivial,
    query,
    trivial,
    in_a_sample,
    trivial,
    in_b_sample,
    trivial,
    query_sample,
    trivial,
    in_b_weight,
    trivial,
    kv_weight_first,
    trivial,
    kv_weight_second,
    trivial,
    in_a_weight,
    trivial,
    sgu,
    trivial,
    sgu_prompt,
    trivial,
    out_ln⟩

end Cert.Proof

end
